-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_ConvStep (m : (ℓ : Loc Cert.ConvStep.nD Cert.ConvStep.τ Cert.ConvStep.sig) → Buf (Elt Bits) ℓ) : Prop :=
  True

def Pre_ConvStepIdeal (m : (ℓ : Loc Cert.ConvStepIdeal.nD Cert.ConvStepIdeal.τ Cert.ConvStepIdeal.sig) → Buf (Elt Ideal) ℓ) : Prop :=
  True

def Pre_ConvStepRefIdeal (m : (ℓ : Loc Cert.ConvStepRefIdeal.nD Cert.ConvStepRefIdeal.τ Cert.ConvStepRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def Pre_InprojStep (m : (ℓ : Loc Cert.InprojStep.nD Cert.InprojStep.τ Cert.InprojStep.sig) → Buf (Elt Bits) ℓ) : Prop :=
  True

def Pre_InprojStepIdeal (m : (ℓ : Loc Cert.InprojStepIdeal.nD Cert.InprojStepIdeal.τ Cert.InprojStepIdeal.sig) → Buf (Elt Ideal) ℓ) : Prop :=
  True

def Pre_InprojStepRefIdeal (m : (ℓ : Loc Cert.InprojStepRefIdeal.nD Cert.InprojStepRefIdeal.τ Cert.InprojStepRefIdeal.sig) → Buf (Elt Ideal) ℓ) : Prop :=
  True

def Pre_DnStep (m : (ℓ : Loc Cert.DnStep.nD Cert.DnStep.τ Cert.DnStep.sig) → Buf (Elt Bits) ℓ) : Prop :=
  True

def Pre_DnStepIdeal (m : (ℓ : Loc Cert.DnStepIdeal.nD Cert.DnStepIdeal.τ Cert.DnStepIdeal.sig) → Buf (Elt Ideal) ℓ) : Prop :=
  True

def Pre_DnStepIdeal_finite [hPre_finite : Cert.Pre_finite.Facts] (m : (ℓ : Loc Cert.DnStepIdeal.nD Cert.DnStepIdeal.τ Cert.DnStepIdeal.sig) → Buf (Elt Ideal) ℓ) : Prop :=
  ∀ c : Dev Cert.DnStepIdeal.nD,
    (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).1 = (fun _ => 1#1)
    ∧ (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).2.1 = (fun _ => 1#1)
    ∧ (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).2.2.1 = (fun _ => 1#1)
    ∧ (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).2.2.2.1 = (fun _ => 1#1)
    ∧ (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).2.2.2.2.1 = (fun _ => 1#1)
    ∧ (Cert.Pre_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4)) (m ((c.tc : Thread Cert.DnStepIdeal.nD Cert.DnStepIdeal.τ).loc Cert.DnStepIdeal.main_arg5)) (m ((c.tc : Thread Cert.DnStepIdeal.nD Cert.DnStepIdeal.τ).loc Cert.DnStepIdeal.main_arg6))).2.2.2.2.2 = (fun _ => 1#1)

def Pre_DnStepRefIdeal (m : (ℓ : Loc Cert.DnStepRefIdeal.nD Cert.DnStepRefIdeal.τ Cert.DnStepRefIdeal.sig) → Buf (Elt Ideal) ℓ) : Prop :=
  True

def Pre_DnStepRefIdeal_finite [hPre_finite : Cert.Pre_finite.Facts] (m : (ℓ : Loc Cert.DnStepRefIdeal.nD Cert.DnStepRefIdeal.τ Cert.DnStepRefIdeal.sig) → Buf (Elt Ideal) ℓ) : Prop :=
  ∀ c : Dev Cert.DnStepRefIdeal.nD,
    (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).1 = (fun _ => 1#1)
    ∧ (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).2.1 = (fun _ => 1#1)
    ∧ (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).2.2.1 = (fun _ => 1#1)
    ∧ (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).2.2.2.1 = (fun _ => 1#1)
    ∧ (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).2.2.2.2.1 = (fun _ => 1#1)
    ∧ (Cert.Pre_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4)) (m ((c.tc : Thread Cert.DnStepRefIdeal.nD Cert.DnStepRefIdeal.τ).loc Cert.DnStepRefIdeal.main_arg5)) (m ((c.tc : Thread Cert.DnStepRefIdeal.nD Cert.DnStepRefIdeal.τ).loc Cert.DnStepRefIdeal.main_arg6))).2.2.2.2.2 = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_ConvStep [hConvStep : Cert.ConvStep.Facts] : Prop :=
  ∀ (m : (ℓ : Loc Cert.ConvStep.nD Cert.ConvStep.τ Cert.ConvStep.sig) → Buf (Elt Bits) ℓ) (g : Dev Cert.ConvStep.nD → PrngReg), Pre_ConvStep m →
    θ_run (Cert.ConvStep.defs (F := Bits)) (onTc (τ := Cert.ConvStep.τ) (Cert.ConvStep.main (F := Bits))) ⟨m, fun _ => 0, g⟩ (fun r => (∀ c : Dev Cert.ConvStep.nD,
      r.2.mem ((c.tc : Thread Cert.ConvStep.nD Cert.ConvStep.τ).loc Cert.ConvStep.main_arg0) = m ((c.tc : Thread Cert.ConvStep.nD Cert.ConvStep.τ).loc Cert.ConvStep.main_arg0)
      ∧ r.2.mem ((c.tc : Thread Cert.ConvStep.nD Cert.ConvStep.τ).loc Cert.ConvStep.main_arg1) = m ((c.tc : Thread Cert.ConvStep.nD Cert.ConvStep.τ).loc Cert.ConvStep.main_arg1)
      ∧ r.2.mem ((c.tc : Thread Cert.ConvStep.nD Cert.ConvStep.τ).loc Cert.ConvStep.main_arg2) = m ((c.tc : Thread Cert.ConvStep.nD Cert.ConvStep.τ).loc Cert.ConvStep.main_arg2)
      ∧ r.2.mem ((c.tc : Thread Cert.ConvStep.nD Cert.ConvStep.τ).loc Cert.ConvStep.main_arg3) = m ((c.tc : Thread Cert.ConvStep.nD Cert.ConvStep.τ).loc Cert.ConvStep.main_arg3)
      ∧ r.2.mem ((c.tc : Thread Cert.ConvStep.nD Cert.ConvStep.τ).loc Cert.ConvStep.main_arg4) = m ((c.tc : Thread Cert.ConvStep.nD Cert.ConvStep.τ).loc Cert.ConvStep.main_arg4)
      ∧ r.2.mem ((c.tc : Thread Cert.ConvStep.nD Cert.ConvStep.τ).loc Cert.ConvStep.main_arg5) = m ((c.tc : Thread Cert.ConvStep.nD Cert.ConvStep.τ).loc Cert.ConvStep.main_arg5))
      ∧ r.2.sem = fun _ => 0)

def quiescent_ConvStepIdeal [hConvStepIdeal : Cert.ConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg), Pre_ConvStepIdeal m →
    θ_run (Cert.ConvStepIdeal.defs (F := Ideal)) (onTc (τ := Cert.ConvStepIdeal.τ) (Cert.ConvStepIdeal.main (F := Ideal))) ⟨m, fun _ => 0, g⟩ (fun r => (∀ c : Dev Cert.ConvStepIdeal.nD,
      r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
      ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
      ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ r.2.sem = fun _ => 0)

def quiescent_ConvStepRefIdeal [hConvStepRefIdeal : Cert.ConvStepRefIdeal.Facts] : Prop :=
  ∀ (m : (ℓ : Loc Cert.ConvStepRefIdeal.nD Cert.ConvStepRefIdeal.τ Cert.ConvStepRefIdeal.sig) → Buf (Elt Ideal) ℓ) (g : Dev Cert.ConvStepRefIdeal.nD → PrngReg), Pre_ConvStepRefIdeal m →
    θ_run (Cert.ConvStepRefIdeal.defs (F := Ideal)) (onTc (τ := Cert.ConvStepRefIdeal.τ) (Cert.ConvStepRefIdeal.main (F := Ideal))) ⟨m, fun _ => 0, g⟩ (fun r => (∀ c : Dev Cert.ConvStepRefIdeal.nD,
      r.2.mem ((c.tc : Thread Cert.ConvStepRefIdeal.nD Cert.ConvStepRefIdeal.τ).loc Cert.ConvStepRefIdeal.main_arg0) = m ((c.tc : Thread Cert.ConvStepRefIdeal.nD Cert.ConvStepRefIdeal.τ).loc Cert.ConvStepRefIdeal.main_arg0)
      ∧ r.2.mem ((c.tc : Thread Cert.ConvStepRefIdeal.nD Cert.ConvStepRefIdeal.τ).loc Cert.ConvStepRefIdeal.main_arg1) = m ((c.tc : Thread Cert.ConvStepRefIdeal.nD Cert.ConvStepRefIdeal.τ).loc Cert.ConvStepRefIdeal.main_arg1)
      ∧ r.2.mem ((c.tc : Thread Cert.ConvStepRefIdeal.nD Cert.ConvStepRefIdeal.τ).loc Cert.ConvStepRefIdeal.main_arg2) = m ((c.tc : Thread Cert.ConvStepRefIdeal.nD Cert.ConvStepRefIdeal.τ).loc Cert.ConvStepRefIdeal.main_arg2)
      ∧ r.2.mem ((c.tc : Thread Cert.ConvStepRefIdeal.nD Cert.ConvStepRefIdeal.τ).loc Cert.ConvStepRefIdeal.main_arg3) = m ((c.tc : Thread Cert.ConvStepRefIdeal.nD Cert.ConvStepRefIdeal.τ).loc Cert.ConvStepRefIdeal.main_arg3)
      ∧ r.2.mem ((c.tc : Thread Cert.ConvStepRefIdeal.nD Cert.ConvStepRefIdeal.τ).loc Cert.ConvStepRefIdeal.main_arg4) = m ((c.tc : Thread Cert.ConvStepRefIdeal.nD Cert.ConvStepRefIdeal.τ).loc Cert.ConvStepRefIdeal.main_arg4)
      ∧ r.2.mem ((c.tc : Thread Cert.ConvStepRefIdeal.nD Cert.ConvStepRefIdeal.τ).loc Cert.ConvStepRefIdeal.main_arg5) = m ((c.tc : Thread Cert.ConvStepRefIdeal.nD Cert.ConvStepRefIdeal.τ).loc Cert.ConvStepRefIdeal.main_arg5))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6)
      ∧ r.2.mem ((c.tc : Thread Cert.FfnStep.nD Cert.FfnStep.τ).loc Cert.FfnStep.main_arg7) = m ((c.tc : Thread Cert.FfnStep.nD Cert.FfnStep.τ).loc Cert.FfnStep.main_arg7)
      ∧ r.2.mem ((c.tc : Thread Cert.FfnStep.nD Cert.FfnStep.τ).loc Cert.FfnStep.main_arg8) = m ((c.tc : Thread Cert.FfnStep.nD Cert.FfnStep.τ).loc Cert.FfnStep.main_arg8)
      ∧ r.2.mem ((c.tc : Thread Cert.FfnStep.nD Cert.FfnStep.τ).loc Cert.FfnStep.main_arg9) = m ((c.tc : Thread Cert.FfnStep.nD Cert.FfnStep.τ).loc Cert.FfnStep.main_arg9)
      ∧ r.2.mem ((c.tc : Thread Cert.FfnStep.nD Cert.FfnStep.τ).loc Cert.FfnStep.main_arg10) = m ((c.tc : Thread Cert.FfnStep.nD Cert.FfnStep.τ).loc Cert.FfnStep.main_arg10)
      ∧ r.2.mem ((c.tc : Thread Cert.FfnStep.nD Cert.FfnStep.τ).loc Cert.FfnStep.main_arg11) = m ((c.tc : Thread Cert.FfnStep.nD Cert.FfnStep.τ).loc Cert.FfnStep.main_arg11))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
      ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
      ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
      ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
      ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
      ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6)
      ∧ r.2.mem ((c.tc : Thread Cert.FfnStepRefIdeal.nD Cert.FfnStepRefIdeal.τ).loc Cert.FfnStepRefIdeal.main_arg7) = m ((c.tc : Thread Cert.FfnStepRefIdeal.nD Cert.FfnStepRefIdeal.τ).loc Cert.FfnStepRefIdeal.main_arg7)
      ∧ r.2.mem ((c.tc : Thread Cert.FfnStepRefIdeal.nD Cert.FfnStepRefIdeal.τ).loc Cert.FfnStepRefIdeal.main_arg8) = m ((c.tc : Thread Cert.FfnStepRefIdeal.nD Cert.FfnStepRefIdeal.τ).loc Cert.FfnStepRefIdeal.main_arg8)
      ∧ r.2.mem ((c.tc : Thread Cert.FfnStepRefIdeal.nD Cert.FfnStepRefIdeal.τ).loc Cert.FfnStepRefIdeal.main_arg9) = m ((c.tc : Thread Cert.FfnStepRefIdeal.nD Cert.FfnStepRefIdeal.τ).loc Cert.FfnStepRefIdeal.main_arg9)
      ∧ r.2.mem ((c.tc : Thread Cert.FfnStepRefIdeal.nD Cert.FfnStepRefIdeal.τ).loc Cert.FfnStepRefIdeal.main_arg10) = m ((c.tc : Thread Cert.FfnStepRefIdeal.nD Cert.FfnStepRefIdeal.τ).loc Cert.FfnStepRefIdeal.main_arg10)
      ∧ r.2.mem ((c.tc : Thread Cert.FfnStepRefIdeal.nD Cert.FfnStepRefIdeal.τ).loc Cert.FfnStepRefIdeal.main_arg11) = m ((c.tc : Thread Cert.FfnStepRefIdeal.nD Cert.FfnStepRefIdeal.τ).loc Cert.FfnStepRefIdeal.main_arg11))
      ∧ r.2.sem = fun _ => 0)

def quiescent_InprojStep [hInprojStep : Cert.InprojStep.Facts] : Prop :=
  ∀ (m : (ℓ : Loc Cert.InprojStep.nD Cert.InprojStep.τ Cert.InprojStep.sig) → Buf (Elt Bits) ℓ) (g : Dev Cert.InprojStep.nD → PrngReg), Pre_InprojStep m →
    θ_run (Cert.InprojStep.defs (F := Bits)) (onTc (τ := Cert.InprojStep.τ) (Cert.InprojStep.main (F := Bits))) ⟨m, fun _ => 0, g⟩ (fun r => (∀ c : Dev Cert.InprojStep.nD,
      r.2.mem ((c.tc : Thread Cert.InprojStep.nD Cert.InprojStep.τ).loc Cert.InprojStep.main_arg0) = m ((c.tc : Thread Cert.InprojStep.nD Cert.InprojStep.τ).loc Cert.InprojStep.main_arg0)
      ∧ r.2.mem ((c.tc : Thread Cert.InprojStep.nD Cert.InprojStep.τ).loc Cert.InprojStep.main_arg1) = m ((c.tc : Thread Cert.InprojStep.nD Cert.InprojStep.τ).loc Cert.InprojStep.main_arg1)
      ∧ r.2.mem ((c.tc : Thread Cert.InprojStep.nD Cert.InprojStep.τ).loc Cert.InprojStep.main_arg2) = m ((c.tc : Thread Cert.InprojStep.nD Cert.InprojStep.τ).loc Cert.InprojStep.main_arg2))
      ∧ r.2.sem = fun _ => 0)

def quiescent_InprojStepIdeal [hInprojStepIdeal : Cert.InprojStepIdeal.Facts] : Prop :=
  ∀ (m : (ℓ : Loc Cert.InprojStepIdeal.nD Cert.InprojStepIdeal.τ Cert.InprojStepIdeal.sig) → Buf (Elt Ideal) ℓ) (g : Dev Cert.InprojStepIdeal.nD → PrngReg), Pre_InprojStepIdeal m →
    θ_run (Cert.InprojStepIdeal.defs (F := Ideal)) (onTc (τ := Cert.InprojStepIdeal.τ) (Cert.InprojStepIdeal.main (F := Ideal))) ⟨m, fun _ => 0, g⟩ (fun r => (∀ c : Dev Cert.InprojStepIdeal.nD,
      r.2.mem ((c.tc : Thread Cert.InprojStepIdeal.nD Cert.InprojStepIdeal.τ).loc Cert.InprojStepIdeal.main_arg0) = m ((c.tc : Thread Cert.InprojStepIdeal.nD Cert.InprojStepIdeal.τ).loc Cert.InprojStepIdeal.main_arg0)
      ∧ r.2.mem ((c.tc : Thread Cert.InprojStepIdeal.nD Cert.InprojStepIdeal.τ).loc Cert.InprojStepIdeal.main_arg1) = m ((c.tc : Thread Cert.InprojStepIdeal.nD Cert.InprojStepIdeal.τ).loc Cert.InprojStepIdeal.main_arg1)
      ∧ r.2.mem ((c.tc : Thread Cert.InprojStepIdeal.nD Cert.InprojStepIdeal.τ).loc Cert.InprojStepIdeal.main_arg2) = m ((c.tc : Thread Cert.InprojStepIdeal.nD Cert.InprojStepIdeal.τ).loc Cert.InprojStepIdeal.main_arg2))
      ∧ r.2.sem = fun _ => 0)

def quiescent_InprojStepRefIdeal [hInprojStepRefIdeal : Cert.InprojStepRefIdeal.Facts] : Prop :=
  ∀ (m : (ℓ : Loc Cert.InprojStepRefIdeal.nD Cert.InprojStepRefIdeal.τ Cert.InprojStepRefIdeal.sig) → Buf (Elt Ideal) ℓ) (g : Dev Cert.InprojStepRefIdeal.nD → PrngReg), Pre_InprojStepRefIdeal m →
    θ_run (Cert.InprojStepRefIdeal.defs (F := Ideal)) (onTc (τ := Cert.InprojStepRefIdeal.τ) (Cert.InprojStepRefIdeal.main (F := Ideal))) ⟨m, fun _ => 0, g⟩ (fun r => (∀ c : Dev Cert.InprojStepRefIdeal.nD,
      r.2.mem ((c.tc : Thread Cert.InprojStepRefIdeal.nD Cert.InprojStepRefIdeal.τ).loc Cert.InprojStepRefIdeal.main_arg0) = m ((c.tc : Thread Cert.InprojStepRefIdeal.nD Cert.InprojStepRefIdeal.τ).loc Cert.InprojStepRefIdeal.main_arg0)
      ∧ r.2.mem ((c.tc : Thread Cert.InprojStepRefIdeal.nD Cert.InprojStepRefIdeal.τ).loc Cert.InprojStepRefIdeal.main_arg1) = m ((c.tc : Thread Cert.InprojStepRefIdeal.nD Cert.InprojStepRefIdeal.τ).loc Cert.InprojStepRefIdeal.main_arg1)
      ∧ r.2.mem ((c.tc : Thread Cert.InprojStepRefIdeal.nD Cert.InprojStepRefIdeal.τ).loc Cert.InprojStepRefIdeal.main_arg2) = m ((c.tc : Thread Cert.InprojStepRefIdeal.nD Cert.InprojStepRefIdeal.τ).loc Cert.InprojStepRefIdeal.main_arg2))
      ∧ r.2.sem = fun _ => 0)

def quiescent_DnStep [hDnStep : Cert.DnStep.Facts] : Prop :=
  ∀ (m : (ℓ : Loc Cert.DnStep.nD Cert.DnStep.τ Cert.DnStep.sig) → Buf (Elt Bits) ℓ) (g : Dev Cert.DnStep.nD → PrngReg), Pre_DnStep m →
    θ_run (Cert.DnStep.defs (F := Bits)) (onTc (τ := Cert.DnStep.τ) (Cert.DnStep.main (F := Bits))) ⟨m, fun _ => 0, g⟩ (fun r => (∀ c : Dev Cert.DnStep.nD,
      r.2.mem ((c.tc : Thread Cert.DnStep.nD Cert.DnStep.τ).loc Cert.DnStep.main_arg0) = m ((c.tc : Thread Cert.DnStep.nD Cert.DnStep.τ).loc Cert.DnStep.main_arg0)
      ∧ r.2.mem ((c.tc : Thread Cert.DnStep.nD Cert.DnStep.τ).loc Cert.DnStep.main_arg1) = m ((c.tc : Thread Cert.DnStep.nD Cert.DnStep.τ).loc Cert.DnStep.main_arg1)
      ∧ r.2.mem ((c.tc : Thread Cert.DnStep.nD Cert.DnStep.τ).loc Cert.DnStep.main_arg2) = m ((c.tc : Thread Cert.DnStep.nD Cert.DnStep.τ).loc Cert.DnStep.main_arg2)
      ∧ r.2.mem ((c.tc : Thread Cert.DnStep.nD Cert.DnStep.τ).loc Cert.DnStep.main_arg3) = m ((c.tc : Thread Cert.DnStep.nD Cert.DnStep.τ).loc Cert.DnStep.main_arg3)
      ∧ r.2.mem ((c.tc : Thread Cert.DnStep.nD Cert.DnStep.τ).loc Cert.DnStep.main_arg4) = m ((c.tc : Thread Cert.DnStep.nD Cert.DnStep.τ).loc Cert.DnStep.main_arg4)
      ∧ r.2.mem ((c.tc : Thread Cert.DnStep.nD Cert.DnStep.τ).loc Cert.DnStep.main_arg5) = m ((c.tc : Thread Cert.DnStep.nD Cert.DnStep.τ).loc Cert.DnStep.main_arg5)
      ∧ r.2.mem ((c.tc : Thread Cert.DnStep.nD Cert.DnStep.τ).loc Cert.DnStep.main_arg6) = m ((c.tc : Thread Cert.DnStep.nD Cert.DnStep.τ).loc Cert.DnStep.main_arg6))
      ∧ r.2.sem = fun _ => 0)

def quiescent_DnStepIdeal [hDnStepIdeal : Cert.DnStepIdeal.Facts] : Prop :=
  ∀ (m : (ℓ : Loc Cert.DnStepIdeal.nD Cert.DnStepIdeal.τ Cert.DnStepIdeal.sig) → Buf (Elt Ideal) ℓ) (g : Dev Cert.DnStepIdeal.nD → PrngReg), Pre_DnStepIdeal m →
    θ_run (Cert.DnStepIdeal.defs (F := Ideal)) (onTc (τ := Cert.DnStepIdeal.τ) (Cert.DnStepIdeal.main (F := Ideal))) ⟨m, fun _ => 0, g⟩ (fun r => (∀ c : Dev Cert.DnStepIdeal.nD,
      r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
      ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
      ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
      ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
      ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4)
      ∧ r.2.mem ((c.tc : Thread Cert.DnStepIdeal.nD Cert.DnStepIdeal.τ).loc Cert.DnStepIdeal.main_arg5) = m ((c.tc : Thread Cert.DnStepIdeal.nD Cert.DnStepIdeal.τ).loc Cert.DnStepIdeal.main_arg5)
      ∧ r.2.mem ((c.tc : Thread Cert.DnStepIdeal.nD Cert.DnStepIdeal.τ).loc Cert.DnStepIdeal.main_arg6) = m ((c.tc : Thread Cert.DnStepIdeal.nD Cert.DnStepIdeal.τ).loc Cert.DnStepIdeal.main_arg6))
      ∧ r.2.sem = fun _ => 0)

def quiescent_DnStepIdeal_pre_finite [hDnStepIdeal : Cert.DnStepIdeal.Facts] [hPre_finite : Cert.Pre_finite.Facts] : Prop :=
  ∀ (m : (ℓ : Loc Cert.DnStepIdeal.nD Cert.DnStepIdeal.τ Cert.DnStepIdeal.sig) → Buf (Elt Ideal) ℓ) (g : Dev Cert.DnStepIdeal.nD → PrngReg), Pre_DnStepIdeal_finite m →
    θ_run (Cert.DnStepIdeal.defs (F := Ideal)) (onTc (τ := Cert.DnStepIdeal.τ) (Cert.DnStepIdeal.main (F := Ideal))) ⟨m, fun _ => 0, g⟩ (fun r => (∀ c : Dev Cert.DnStepIdeal.nD,
      r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
      ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
      ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
      ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
      ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4)
      ∧ r.2.mem ((c.tc : Thread Cert.DnStepIdeal.nD Cert.DnStepIdeal.τ).loc Cert.DnStepIdeal.main_arg5) = m ((c.tc : Thread Cert.DnStepIdeal.nD Cert.DnStepIdeal.τ).loc Cert.DnStepIdeal.main_arg5)
      ∧ r.2.mem ((c.tc : Thread Cert.DnStepIdeal.nD Cert.DnStepIdeal.τ).loc Cert.DnStepIdeal.main_arg6) = m ((c.tc : Thread Cert.DnStepIdeal.nD Cert.DnStepIdeal.τ).loc Cert.DnStepIdeal.main_arg6))
      ∧ r.2.sem = fun _ => 0)

def quiescent_DnStepRefIdeal [hDnStepRefIdeal : Cert.DnStepRefIdeal.Facts] : Prop :=
  ∀ (m : (ℓ : Loc Cert.DnStepRefIdeal.nD Cert.DnStepRefIdeal.τ Cert.DnStepRefIdeal.sig) → Buf (Elt Ideal) ℓ) (g : Dev Cert.DnStepRefIdeal.nD → PrngReg), Pre_DnStepRefIdeal m →
    θ_run (Cert.DnStepRefIdeal.defs (F := Ideal)) (onTc (τ := Cert.DnStepRefIdeal.τ) (Cert.DnStepRefIdeal.main (F := Ideal))) ⟨m, fun _ => 0, g⟩ (fun r => (∀ c : Dev Cert.DnStepRefIdeal.nD,
      r.2.mem ((c.tc : Thread Cert.DnStepRefIdeal.nD Cert.DnStepRefIdeal.τ).loc Cert.DnStepRefIdeal.main_arg0) = m ((c.tc : Thread Cert.DnStepRefIdeal.nD Cert.DnStepRefIdeal.τ).loc Cert.DnStepRefIdeal.main_arg0)
      ∧ r.2.mem ((c.tc : Thread Cert.DnStepRefIdeal.nD Cert.DnStepRefIdeal.τ).loc Cert.DnStepRefIdeal.main_arg1) = m ((c.tc : Thread Cert.DnStepRefIdeal.nD Cert.DnStepRefIdeal.τ).loc Cert.DnStepRefIdeal.main_arg1)
      ∧ r.2.mem ((c.tc : Thread Cert.DnStepRefIdeal.nD Cert.DnStepRefIdeal.τ).loc Cert.DnStepRefIdeal.main_arg2) = m ((c.tc : Thread Cert.DnStepRefIdeal.nD Cert.DnStepRefIdeal.τ).loc Cert.DnStepRefIdeal.main_arg2)
      ∧ r.2.mem ((c.tc : Thread Cert.DnStepRefIdeal.nD Cert.DnStepRefIdeal.τ).loc Cert.DnStepRefIdeal.main_arg3) = m ((c.tc : Thread Cert.DnStepRefIdeal.nD Cert.DnStepRefIdeal.τ).loc Cert.DnStepRefIdeal.main_arg3)
      ∧ r.2.mem ((c.tc : Thread Cert.DnStepRefIdeal.nD Cert.DnStepRefIdeal.τ).loc Cert.DnStepRefIdeal.main_arg4) = m ((c.tc : Thread Cert.DnStepRefIdeal.nD Cert.DnStepRefIdeal.τ).loc Cert.DnStepRefIdeal.main_arg4)
      ∧ r.2.mem ((c.tc : Thread Cert.DnStepRefIdeal.nD Cert.DnStepRefIdeal.τ).loc Cert.DnStepRefIdeal.main_arg5) = m ((c.tc : Thread Cert.DnStepRefIdeal.nD Cert.DnStepRefIdeal.τ).loc Cert.DnStepRefIdeal.main_arg5)
      ∧ r.2.mem ((c.tc : Thread Cert.DnStepRefIdeal.nD Cert.DnStepRefIdeal.τ).loc Cert.DnStepRefIdeal.main_arg6) = m ((c.tc : Thread Cert.DnStepRefIdeal.nD Cert.DnStepRefIdeal.τ).loc Cert.DnStepRefIdeal.main_arg6))
      ∧ r.2.sem = fun _ => 0)

def quiescent_DnStepRefIdeal_pre_finite [hDnStepRefIdeal : Cert.DnStepRefIdeal.Facts] [hPre_finite : Cert.Pre_finite.Facts] : Prop :=
  ∀ (m : (ℓ : Loc Cert.DnStepRefIdeal.nD Cert.DnStepRefIdeal.τ Cert.DnStepRefIdeal.sig) → Buf (Elt Ideal) ℓ) (g : Dev Cert.DnStepRefIdeal.nD → PrngReg), Pre_DnStepRefIdeal_finite m →
    θ_run (Cert.DnStepRefIdeal.defs (F := Ideal)) (onTc (τ := Cert.DnStepRefIdeal.τ) (Cert.DnStepRefIdeal.main (F := Ideal))) ⟨m, fun _ => 0, g⟩ (fun r => (∀ c : Dev Cert.DnStepRefIdeal.nD,
      r.2.mem ((c.tc : Thread Cert.DnStepRefIdeal.nD Cert.DnStepRefIdeal.τ).loc Cert.DnStepRefIdeal.main_arg0) = m ((c.tc : Thread Cert.DnStepRefIdeal.nD Cert.DnStepRefIdeal.τ).loc Cert.DnStepRefIdeal.main_arg0)
      ∧ r.2.mem ((c.tc : Thread Cert.DnStepRefIdeal.nD Cert.DnStepRefIdeal.τ).loc Cert.DnStepRefIdeal.main_arg1) = m ((c.tc : Thread Cert.DnStepRefIdeal.nD Cert.DnStepRefIdeal.τ).loc Cert.DnStepRefIdeal.main_arg1)
      ∧ r.2.mem ((c.tc : Thread Cert.DnStepRefIdeal.nD Cert.DnStepRefIdeal.τ).loc Cert.DnStepRefIdeal.main_arg2) = m ((c.tc : Thread Cert.DnStepRefIdeal.nD Cert.DnStepRefIdeal.τ).loc Cert.DnStepRefIdeal.main_arg2)
      ∧ r.2.mem ((c.tc : Thread Cert.DnStepRefIdeal.nD Cert.DnStepRefIdeal.τ).loc Cert.DnStepRefIdeal.main_arg3) = m ((c.tc : Thread Cert.DnStepRefIdeal.nD Cert.DnStepRefIdeal.τ).loc Cert.DnStepRefIdeal.main_arg3)
      ∧ r.2.mem ((c.tc : Thread Cert.DnStepRefIdeal.nD Cert.DnStepRefIdeal.τ).loc Cert.DnStepRefIdeal.main_arg4) = m ((c.tc : Thread Cert.DnStepRefIdeal.nD Cert.DnStepRefIdeal.τ).loc Cert.DnStepRefIdeal.main_arg4)
      ∧ r.2.mem ((c.tc : Thread Cert.DnStepRefIdeal.nD Cert.DnStepRefIdeal.τ).loc Cert.DnStepRefIdeal.main_arg5) = m ((c.tc : Thread Cert.DnStepRefIdeal.nD Cert.DnStepRefIdeal.τ).loc Cert.DnStepRefIdeal.main_arg5)
      ∧ r.2.mem ((c.tc : Thread Cert.DnStepRefIdeal.nD Cert.DnStepRefIdeal.τ).loc Cert.DnStepRefIdeal.main_arg6) = m ((c.tc : Thread Cert.DnStepRefIdeal.nD Cert.DnStepRefIdeal.τ).loc Cert.DnStepRefIdeal.main_arg6))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v255) = v0 c
          ∧ r.2.mem ((c.tc : Thread Cert.ConvRefIdeal.nD Cert.ConvRefIdeal.τ).loc Cert.ConvRefIdeal.main_v256) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)) (v4 : (c : Dev Cert.InprojIdeal.nD) → Buf (Elt Ideal) ((c.tc : Thread Cert.InprojIdeal.nD Cert.InprojIdeal.τ).loc Cert.InprojIdeal.main_v11_4)) (v5 : (c : Dev Cert.InprojIdeal.nD) → Buf (Elt Ideal) ((c.tc : Thread Cert.InprojIdeal.nD Cert.InprojIdeal.τ).loc Cert.InprojIdeal.main_v11_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_v11_4) = v4 c
          ∧ r.2.mem ((c.tc : Thread Cert.InprojIdeal.nD Cert.InprojIdeal.τ).loc Cert.InprojIdeal.main_v11_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v21) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v27) = v3 c
          ∧ r.2.mem ((c.tc : Thread Cert.InprojRefIdeal.nD Cert.InprojRefIdeal.τ).loc Cert.InprojRefIdeal.main_v29) = v4 c
          ∧ r.2.mem ((c.tc : Thread Cert.InprojRefIdeal.nD Cert.InprojRefIdeal.τ).loc Cert.InprojRefIdeal.main_v30) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_ConvStep_ConvStepIdeal : Prop :=
  True

def algebraic_ConvStepIdeal_ConvStepRefIdeal [hConvStepIdeal : Cert.ConvStepIdeal.Facts] [hConvStepRefIdeal : Cert.ConvStepRefIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg)
    (m' : (ℓ : Loc Cert.ConvStepRefIdeal.nD Cert.ConvStepRefIdeal.τ Cert.ConvStepRefIdeal.sig) → Buf (Elt Ideal) ℓ) (g' : Dev Cert.ConvStepRefIdeal.nD → PrngReg), Pre_ConvStepIdeal m →
    (∀ c : Dev Cert.ConvStepIdeal.nD,
      m' ((c.tc : Thread Cert.ConvStepRefIdeal.nD Cert.ConvStepRefIdeal.τ).loc Cert.ConvStepRefIdeal.main_arg0) = m ((c.tc : Thread Cert.ConvStepIdeal.nD Cert.ConvStepIdeal.τ).loc Cert.ConvStepIdeal.main_arg0)
      ∧ m' ((c.tc : Thread Cert.ConvStepRefIdeal.nD Cert.ConvStepRefIdeal.τ).loc Cert.ConvStepRefIdeal.main_arg1) = m ((c.tc : Thread Cert.ConvStepIdeal.nD Cert.ConvStepIdeal.τ).loc Cert.ConvStepIdeal.main_arg1)
      ∧ m' ((c.tc : Thread Cert.ConvStepRefIdeal.nD Cert.ConvStepRefIdeal.τ).loc Cert.ConvStepRefIdeal.main_arg2) = m ((c.tc : Thread Cert.ConvStepIdeal.nD Cert.ConvStepIdeal.τ).loc Cert.ConvStepIdeal.main_arg2)
      ∧ m' ((c.tc : Thread Cert.ConvStepRefIdeal.nD Cert.ConvStepRefIdeal.τ).loc Cert.ConvStepRefIdeal.main_arg3) = m ((c.tc : Thread Cert.ConvStepIdeal.nD Cert.ConvStepIdeal.τ).loc Cert.ConvStepIdeal.main_arg3)
      ∧ m' ((c.tc : Thread Cert.ConvStepRefIdeal.nD Cert.ConvStepRefIdeal.τ).loc Cert.ConvStepRefIdeal.main_arg4) = m ((c.tc : Thread Cert.ConvStepIdeal.nD Cert.ConvStepIdeal.τ).loc Cert.ConvStepIdeal.main_arg4)
      ∧ m' ((c.tc : Thread Cert.ConvStepRefIdeal.nD Cert.ConvStepRefIdeal.τ).loc Cert.ConvStepRefIdeal.main_arg5) = m ((c.tc : Thread Cert.ConvStepIdeal.nD Cert.ConvStepIdeal.τ).loc Cert.ConvStepIdeal.main_arg5)) →
    ∃ (v0 : (c : Dev Cert.ConvStepIdeal.nD) → Buf (Elt Ideal) ((c.tc : Thread Cert.ConvStepIdeal.nD Cert.ConvStepIdeal.τ).loc Cert.ConvStepIdeal.main_v6)) (v1 : (c : Dev Cert.ConvStepIdeal.nD) → Buf (Elt Ideal) ((c.tc : Thread Cert.ConvStepIdeal.nD Cert.ConvStepIdeal.τ).loc Cert.ConvStepIdeal.main_v7)),
      θ_run (Cert.ConvStepIdeal.defs (F := Ideal)) (onTc (τ := Cert.ConvStepIdeal.τ) (Cert.ConvStepIdeal.main (F := Ideal))) ⟨m, fun _ => 0, g⟩ (fun r => ∀ c : Dev Cert.ConvStepIdeal.nD,
          r.2.mem ((c.tc : Thread Cert.ConvStepIdeal.nD Cert.ConvStepIdeal.τ).loc Cert.ConvStepIdeal.main_v6) = v0 c
          ∧ r.2.mem ((c.tc : Thread Cert.ConvStepIdeal.nD Cert.ConvStepIdeal.τ).loc Cert.ConvStepIdeal.main_v7) = v1 c
          ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
          ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
          ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
          ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
          ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
          ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ θ_run (Cert.ConvStepRefIdeal.defs (F := Ideal)) (onTc (τ := Cert.ConvStepRefIdeal.τ) (Cert.ConvStepRefIdeal.main (F := Ideal))) ⟨m', fun _ => 0, g'⟩ (fun r => ∀ c : Dev Cert.ConvStepRefIdeal.nD,
          r.2.mem ((c.tc : Thread Cert.ConvStepRefIdeal.nD Cert.ConvStepRefIdeal.τ).loc Cert.ConvStepRefIdeal.main_v255) = v0 c
          ∧ r.2.mem ((c.tc : Thread Cert.ConvStepRefIdeal.nD Cert.ConvStepRefIdeal.τ).loc Cert.ConvStepRefIdeal.main_v256) = v1 c
          ∧ r.2.mem ((c.tc : Thread Cert.ConvStepRefIdeal.nD Cert.ConvStepRefIdeal.τ).loc Cert.ConvStepRefIdeal.main_arg0) = m' ((c.tc : Thread Cert.ConvStepRefIdeal.nD Cert.ConvStepRefIdeal.τ).loc Cert.ConvStepRefIdeal.main_arg0)
          ∧ r.2.mem ((c.tc : Thread Cert.ConvStepRefIdeal.nD Cert.ConvStepRefIdeal.τ).loc Cert.ConvStepRefIdeal.main_arg1) = m' ((c.tc : Thread Cert.ConvStepRefIdeal.nD Cert.ConvStepRefIdeal.τ).loc Cert.ConvStepRefIdeal.main_arg1)
          ∧ r.2.mem ((c.tc : Thread Cert.ConvStepRefIdeal.nD Cert.ConvStepRefIdeal.τ).loc Cert.ConvStepRefIdeal.main_arg2) = m' ((c.tc : Thread Cert.ConvStepRefIdeal.nD Cert.ConvStepRefIdeal.τ).loc Cert.ConvStepRefIdeal.main_arg2)
          ∧ r.2.mem ((c.tc : Thread Cert.ConvStepRefIdeal.nD Cert.ConvStepRefIdeal.τ).loc Cert.ConvStepRefIdeal.main_arg3) = m' ((c.tc : Thread Cert.ConvStepRefIdeal.nD Cert.ConvStepRefIdeal.τ).loc Cert.ConvStepRefIdeal.main_arg3)
          ∧ r.2.mem ((c.tc : Thread Cert.ConvStepRefIdeal.nD Cert.ConvStepRefIdeal.τ).loc Cert.ConvStepRefIdeal.main_arg4) = m' ((c.tc : Thread Cert.ConvStepRefIdeal.nD Cert.ConvStepRefIdeal.τ).loc Cert.ConvStepRefIdeal.main_arg4)
          ∧ r.2.mem ((c.tc : Thread Cert.ConvStepRefIdeal.nD Cert.ConvStepRefIdeal.τ).loc Cert.ConvStepRefIdeal.main_arg5) = m' ((c.tc : Thread Cert.ConvStepRefIdeal.nD Cert.ConvStepRefIdeal.τ).loc Cert.ConvStepRefIdeal.main_arg5))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)
      ∧ m' ((c.tc : Thread Cert.FfnStepRefIdeal.nD Cert.FfnStepRefIdeal.τ).loc Cert.FfnStepRefIdeal.main_arg6) = m ((c.tc : Thread Cert.FfnStepIdeal.nD Cert.FfnStepIdeal.τ).loc Cert.FfnStepIdeal.main_arg6)
      ∧ m' ((c.tc : Thread Cert.FfnStepRefIdeal.nD Cert.FfnStepRefIdeal.τ).loc Cert.FfnStepRefIdeal.main_arg7) = m ((c.tc : Thread Cert.FfnStepIdeal.nD Cert.FfnStepIdeal.τ).loc Cert.FfnStepIdeal.main_arg7)
      ∧ m' ((c.tc : Thread Cert.FfnStepRefIdeal.nD Cert.FfnStepRefIdeal.τ).loc Cert.FfnStepRefIdeal.main_arg8) = m ((c.tc : Thread Cert.FfnStepIdeal.nD Cert.FfnStepIdeal.τ).loc Cert.FfnStepIdeal.main_arg8)
      ∧ m' ((c.tc : Thread Cert.FfnStepRefIdeal.nD Cert.FfnStepRefIdeal.τ).loc Cert.FfnStepRefIdeal.main_arg9) = m ((c.tc : Thread Cert.FfnStepIdeal.nD Cert.FfnStepIdeal.τ).loc Cert.FfnStepIdeal.main_arg9)
      ∧ m' ((c.tc : Thread Cert.FfnStepRefIdeal.nD Cert.FfnStepRefIdeal.τ).loc Cert.FfnStepRefIdeal.main_arg10) = m ((c.tc : Thread Cert.FfnStepIdeal.nD Cert.FfnStepIdeal.τ).loc Cert.FfnStepIdeal.main_arg10)
      ∧ m' ((c.tc : Thread Cert.FfnStepRefIdeal.nD Cert.FfnStepRefIdeal.τ).loc Cert.FfnStepRefIdeal.main_arg11) = m ((c.tc : Thread Cert.FfnStepIdeal.nD Cert.FfnStepIdeal.τ).loc Cert.FfnStepIdeal.main_arg11)) →
    ∃ (v0 : (c : Dev Cert.FfnStepIdeal.nD) → Buf (Elt Ideal) ((c.tc : Thread Cert.FfnStepIdeal.nD Cert.FfnStepIdeal.τ).loc Cert.FfnStepIdeal.main_v12)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v12) = v0 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
          ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
          ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
          ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
          ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
          ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v48) = v0 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5)
          ∧ r.2.mem ((c.tc : Thread Cert.FfnStepRefIdeal.nD Cert.FfnStepRefIdeal.τ).loc Cert.FfnStepRefIdeal.main_arg6) = m' ((c.tc : Thread Cert.FfnStepRefIdeal.nD Cert.FfnStepRefIdeal.τ).loc Cert.FfnStepRefIdeal.main_arg6)
          ∧ r.2.mem ((c.tc : Thread Cert.FfnStepRefIdeal.nD Cert.FfnStepRefIdeal.τ).loc Cert.FfnStepRefIdeal.main_arg7) = m' ((c.tc : Thread Cert.FfnStepRefIdeal.nD Cert.FfnStepRefIdeal.τ).loc Cert.FfnStepRefIdeal.main_arg7)
          ∧ r.2.mem ((c.tc : Thread Cert.FfnStepRefIdeal.nD Cert.FfnStepRefIdeal.τ).loc Cert.FfnStepRefIdeal.main_arg8) = m' ((c.tc : Thread Cert.FfnStepRefIdeal.nD Cert.FfnStepRefIdeal.τ).loc Cert.FfnStepRefIdeal.main_arg8)
          ∧ r.2.mem ((c.tc : Thread Cert.FfnStepRefIdeal.nD Cert.FfnStepRefIdeal.τ).loc Cert.FfnStepRefIdeal.main_arg9) = m' ((c.tc : Thread Cert.FfnStepRefIdeal.nD Cert.FfnStepRefIdeal.τ).loc Cert.FfnStepRefIdeal.main_arg9)
          ∧ r.2.mem ((c.tc : Thread Cert.FfnStepRefIdeal.nD Cert.FfnStepRefIdeal.τ).loc Cert.FfnStepRefIdeal.main_arg10) = m' ((c.tc : Thread Cert.FfnStepRefIdeal.nD Cert.FfnStepRefIdeal.τ).loc Cert.FfnStepRefIdeal.main_arg10)
          ∧ r.2.mem ((c.tc : Thread Cert.FfnStepRefIdeal.nD Cert.FfnStepRefIdeal.τ).loc Cert.FfnStepRefIdeal.main_arg11) = m' ((c.tc : Thread Cert.FfnStepRefIdeal.nD Cert.FfnStepRefIdeal.τ).loc Cert.FfnStepRefIdeal.main_arg11))

def preserves_InprojStep_InprojStepIdeal : Prop :=
  True

def algebraic_InprojStepIdeal_InprojStepRefIdeal [hInprojStepIdeal : Cert.InprojStepIdeal.Facts] [hInprojStepRefIdeal : Cert.InprojStepRefIdeal.Facts] : Prop :=
  ∀ (m : (ℓ : Loc Cert.InprojStepIdeal.nD Cert.InprojStepIdeal.τ Cert.InprojStepIdeal.sig) → Buf (Elt Ideal) ℓ) (g : Dev Cert.InprojStepIdeal.nD → PrngReg)
    (m' : (ℓ : Loc Cert.InprojStepRefIdeal.nD Cert.InprojStepRefIdeal.τ Cert.InprojStepRefIdeal.sig) → Buf (Elt Ideal) ℓ) (g' : Dev Cert.InprojStepRefIdeal.nD → PrngReg), Pre_InprojStepIdeal m →
    (∀ c : Dev Cert.InprojStepIdeal.nD,
      m' ((c.tc : Thread Cert.InprojStepRefIdeal.nD Cert.InprojStepRefIdeal.τ).loc Cert.InprojStepRefIdeal.main_arg0) = m ((c.tc : Thread Cert.InprojStepIdeal.nD Cert.InprojStepIdeal.τ).loc Cert.InprojStepIdeal.main_arg0)
      ∧ m' ((c.tc : Thread Cert.InprojStepRefIdeal.nD Cert.InprojStepRefIdeal.τ).loc Cert.InprojStepRefIdeal.main_arg1) = m ((c.tc : Thread Cert.InprojStepIdeal.nD Cert.InprojStepIdeal.τ).loc Cert.InprojStepIdeal.main_arg1)
      ∧ m' ((c.tc : Thread Cert.InprojStepRefIdeal.nD Cert.InprojStepRefIdeal.τ).loc Cert.InprojStepRefIdeal.main_arg2) = m ((c.tc : Thread Cert.InprojStepIdeal.nD Cert.InprojStepIdeal.τ).loc Cert.InprojStepIdeal.main_arg2)) →
    ∃ (v0 : (c : Dev Cert.InprojStepIdeal.nD) → Buf (Elt Ideal) ((c.tc : Thread Cert.InprojStepIdeal.nD Cert.InprojStepIdeal.τ).loc Cert.InprojStepIdeal.main_v11_0)) (v1 : (c : Dev Cert.InprojStepIdeal.nD) → Buf (Elt Ideal) ((c.tc : Thread Cert.InprojStepIdeal.nD Cert.InprojStepIdeal.τ).loc Cert.InprojStepIdeal.main_v11_1)) (v2 : (c : Dev Cert.InprojStepIdeal.nD) → Buf (Elt Ideal) ((c.tc : Thread Cert.InprojStepIdeal.nD Cert.InprojStepIdeal.τ).loc Cert.InprojStepIdeal.main_v11_2)) (v3 : (c : Dev Cert.InprojStepIdeal.nD) → Buf (Elt Ideal) ((c.tc : Thread Cert.InprojStepIdeal.nD Cert.InprojStepIdeal.τ).loc Cert.InprojStepIdeal.main_v11_3)) (v4 : (c : Dev Cert.InprojStepIdeal.nD) → Buf (Elt Ideal) ((c.tc : Thread Cert.InprojStepIdeal.nD Cert.InprojStepIdeal.τ).loc Cert.InprojStepIdeal.main_v11_4)) (v5 : (c : Dev Cert.InprojStepIdeal.nD) → Buf (Elt Ideal) ((c.tc : Thread Cert.InprojStepIdeal.nD Cert.InprojStepIdeal.τ).loc Cert.InprojStepIdeal.main_v11_5)),
      θ_run (Cert.InprojStepIdeal.defs (F := Ideal)) (onTc (τ := Cert.InprojStepIdeal.τ) (Cert.InprojStepIdeal.main (F := Ideal))) ⟨m, fun _ => 0, g⟩ (fun r => ∀ c : Dev Cert.InprojStepIdeal.nD,
          r.2.mem ((c.tc : Thread Cert.InprojStepIdeal.nD Cert.InprojStepIdeal.τ).loc Cert.InprojStepIdeal.main_v11_0) = v0 c
          ∧ r.2.mem ((c.tc : Thread Cert.InprojStepIdeal.nD Cert.InprojStepIdeal.τ).loc Cert.InprojStepIdeal.main_v11_1) = v1 c
          ∧ r.2.mem ((c.tc : Thread Cert.InprojStepIdeal.nD Cert.InprojStepIdeal.τ).loc Cert.InprojStepIdeal.main_v11_2) = v2 c
          ∧ r.2.mem ((c.tc : Thread Cert.InprojStepIdeal.nD Cert.InprojStepIdeal.τ).loc Cert.InprojStepIdeal.main_v11_3) = v3 c
          ∧ r.2.mem ((c.tc : Thread Cert.InprojStepIdeal.nD Cert.InprojStepIdeal.τ).loc Cert.InprojStepIdeal.main_v11_4) = v4 c
          ∧ r.2.mem ((c.tc : Thread Cert.InprojStepIdeal.nD Cert.InprojStepIdeal.τ).loc Cert.InprojStepIdeal.main_v11_5) = v5 c
          ∧ r.2.mem ((c.tc : Thread Cert.InprojStepIdeal.nD Cert.InprojStepIdeal.τ).loc Cert.InprojStepIdeal.main_arg0) = m ((c.tc : Thread Cert.InprojStepIdeal.nD Cert.InprojStepIdeal.τ).loc Cert.InprojStepIdeal.main_arg0)
          ∧ r.2.mem ((c.tc : Thread Cert.InprojStepIdeal.nD Cert.InprojStepIdeal.τ).loc Cert.InprojStepIdeal.main_arg1) = m ((c.tc : Thread Cert.InprojStepIdeal.nD Cert.InprojStepIdeal.τ).loc Cert.InprojStepIdeal.main_arg1)
          ∧ r.2.mem ((c.tc : Thread Cert.InprojStepIdeal.nD Cert.InprojStepIdeal.τ).loc Cert.InprojStepIdeal.main_arg2) = m ((c.tc : Thread Cert.InprojStepIdeal.nD Cert.InprojStepIdeal.τ).loc Cert.InprojStepIdeal.main_arg2))
      ∧ θ_run (Cert.InprojStepRefIdeal.defs (F := Ideal)) (onTc (τ := Cert.InprojStepRefIdeal.τ) (Cert.InprojStepRefIdeal.main (F := Ideal))) ⟨m', fun _ => 0, g'⟩ (fun r => ∀ c : Dev Cert.InprojStepRefIdeal.nD,
          r.2.mem ((c.tc : Thread Cert.InprojStepRefIdeal.nD Cert.InprojStepRefIdeal.τ).loc Cert.InprojStepRefIdeal.main_v21) = v0 c
          ∧ r.2.mem ((c.tc : Thread Cert.InprojStepRefIdeal.nD Cert.InprojStepRefIdeal.τ).loc Cert.InprojStepRefIdeal.main_v23) = v1 c
          ∧ r.2.mem ((c.tc : Thread Cert.InprojStepRefIdeal.nD Cert.InprojStepRefIdeal.τ).loc Cert.InprojStepRefIdeal.main_v25) = v2 c
          ∧ r.2.mem ((c.tc : Thread Cert.InprojStepRefIdeal.nD Cert.InprojStepRefIdeal.τ).loc Cert.InprojStepRefIdeal.main_v27) = v3 c
          ∧ r.2.mem ((c.tc : Thread Cert.InprojStepRefIdeal.nD Cert.InprojStepRefIdeal.τ).loc Cert.InprojStepRefIdeal.main_v29) = v4 c
          ∧ r.2.mem ((c.tc : Thread Cert.InprojStepRefIdeal.nD Cert.InprojStepRefIdeal.τ).loc Cert.InprojStepRefIdeal.main_v30) = v5 c
          ∧ r.2.mem ((c.tc : Thread Cert.InprojStepRefIdeal.nD Cert.InprojStepRefIdeal.τ).loc Cert.InprojStepRefIdeal.main_arg0) = m' ((c.tc : Thread Cert.InprojStepRefIdeal.nD Cert.InprojStepRefIdeal.τ).loc Cert.InprojStepRefIdeal.main_arg0)
          ∧ r.2.mem ((c.tc : Thread Cert.InprojStepRefIdeal.nD Cert.InprojStepRefIdeal.τ).loc Cert.InprojStepRefIdeal.main_arg1) = m' ((c.tc : Thread Cert.InprojStepRefIdeal.nD Cert.InprojStepRefIdeal.τ).loc Cert.InprojStepRefIdeal.main_arg1)
          ∧ r.2.mem ((c.tc : Thread Cert.InprojStepRefIdeal.nD Cert.InprojStepRefIdeal.τ).loc Cert.InprojStepRefIdeal.main_arg2) = m' ((c.tc : Thread Cert.InprojStepRefIdeal.nD Cert.InprojStepRefIdeal.τ).loc Cert.InprojStepRefIdeal.main_arg2))

def preserves_DnStep_DnStepIdeal : Prop :=
  True

def algebraic_DnStepIdeal_DnStepRefIdeal_pre_finite [hDnStepIdeal : Cert.DnStepIdeal.Facts] [hDnStepRefIdeal : Cert.DnStepRefIdeal.Facts] [hPre_finite : Cert.Pre_finite.Facts] : Prop :=
  ∀ (m : (ℓ : Loc Cert.DnStepIdeal.nD Cert.DnStepIdeal.τ Cert.DnStepIdeal.sig) → Buf (Elt Ideal) ℓ) (g : Dev Cert.DnStepIdeal.nD → PrngReg)
    (m' : (ℓ : Loc Cert.DnStepRefIdeal.nD Cert.DnStepRefIdeal.τ Cert.DnStepRefIdeal.sig) → Buf (Elt Ideal) ℓ) (g' : Dev Cert.DnStepRefIdeal.nD → PrngReg), Pre_DnStepIdeal_finite m →
    (∀ c : Dev Cert.DnStepIdeal.nD,
      m' ((c.tc : Thread Cert.DnStepRefIdeal.nD Cert.DnStepRefIdeal.τ).loc Cert.DnStepRefIdeal.main_arg0) = m ((c.tc : Thread Cert.DnStepIdeal.nD Cert.DnStepIdeal.τ).loc Cert.DnStepIdeal.main_arg0)
      ∧ m' ((c.tc : Thread Cert.DnStepRefIdeal.nD Cert.DnStepRefIdeal.τ).loc Cert.DnStepRefIdeal.main_arg1) = m ((c.tc : Thread Cert.DnStepIdeal.nD Cert.DnStepIdeal.τ).loc Cert.DnStepIdeal.main_arg1)
      ∧ m' ((c.tc : Thread Cert.DnStepRefIdeal.nD Cert.DnStepRefIdeal.τ).loc Cert.DnStepRefIdeal.main_arg2) = m ((c.tc : Thread Cert.DnStepIdeal.nD Cert.DnStepIdeal.τ).loc Cert.DnStepIdeal.main_arg2)
      ∧ m' ((c.tc : Thread Cert.DnStepRefIdeal.nD Cert.DnStepRefIdeal.τ).loc Cert.DnStepRefIdeal.main_arg3) = m ((c.tc : Thread Cert.DnStepIdeal.nD Cert.DnStepIdeal.τ).loc Cert.DnStepIdeal.main_arg3)
      ∧ m' ((c.tc : Thread Cert.DnStepRefIdeal.nD Cert.DnStepRefIdeal.τ).loc Cert.DnStepRefIdeal.main_arg4) = m ((c.tc : Thread Cert.DnStepIdeal.nD Cert.DnStepIdeal.τ).loc Cert.DnStepIdeal.main_arg4)
      ∧ m' ((c.tc : Thread Cert.DnStepRefIdeal.nD Cert.DnStepRefIdeal.τ).loc Cert.DnStepRefIdeal.main_arg5) = m ((c.tc : Thread Cert.DnStepIdeal.nD Cert.DnStepIdeal.τ).loc Cert.DnStepIdeal.main_arg5)
      ∧ m' ((c.tc : Thread Cert.DnStepRefIdeal.nD Cert.DnStepRefIdeal.τ).loc Cert.DnStepRefIdeal.main_arg6) = m ((c.tc : Thread Cert.DnStepIdeal.nD Cert.DnStepIdeal.τ).loc Cert.DnStepIdeal.main_arg6)) →
    ∃ (v0 : (c : Dev Cert.DnStepIdeal.nD) → Buf (Elt Ideal) ((c.tc : Thread Cert.DnStepIdeal.nD Cert.DnStepIdeal.τ).loc Cert.DnStepIdeal.main_v11_1)),
      θ_run (Cert.DnStepIdeal.defs (F := Ideal)) (onTc (τ := Cert.DnStepIdeal.τ) (Cert.DnStepIdeal.main (F := Ideal))) ⟨m, fun _ => 0, g⟩ (fun r => ∀ c : Dev Cert.DnStepIdeal.nD,
          r.2.mem ((c.tc : Thread Cert.DnStepIdeal.nD Cert.DnStepIdeal.τ).loc Cert.DnStepIdeal.main_v11_1) = v0 c
          ∧ r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
          ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
          ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
          ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
          ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4)
          ∧ r.2.mem ((c.tc : Thread Cert.DnStepIdeal.nD Cert.DnStepIdeal.τ).loc Cert.DnStepIdeal.main_arg5) = m ((c.tc : Thread Cert.DnStepIdeal.nD Cert.DnStepIdeal.τ).loc Cert.DnStepIdeal.main_arg5)
          ∧ r.2.mem ((c.tc : Thread Cert.DnStepIdeal.nD Cert.DnStepIdeal.τ).loc Cert.DnStepIdeal.main_arg6) = m ((c.tc : Thread Cert.DnStepIdeal.nD Cert.DnStepIdeal.τ).loc Cert.DnStepIdeal.main_arg6))
      ∧ θ_run (Cert.DnStepRefIdeal.defs (F := Ideal)) (onTc (τ := Cert.DnStepRefIdeal.τ) (Cert.DnStepRefIdeal.main (F := Ideal))) ⟨m', fun _ => 0, g'⟩ (fun r => ∀ c : Dev Cert.DnStepRefIdeal.nD,
          r.2.mem ((c.tc : Thread Cert.DnStepRefIdeal.nD Cert.DnStepRefIdeal.τ).loc Cert.DnStepRefIdeal.main_v92) = v0 c
          ∧ r.2.mem ((c.tc : Thread Cert.DnStepRefIdeal.nD Cert.DnStepRefIdeal.τ).loc Cert.DnStepRefIdeal.main_arg0) = m' ((c.tc : Thread Cert.DnStepRefIdeal.nD Cert.DnStepRefIdeal.τ).loc Cert.DnStepRefIdeal.main_arg0)
          ∧ r.2.mem ((c.tc : Thread Cert.DnStepRefIdeal.nD Cert.DnStepRefIdeal.τ).loc Cert.DnStepRefIdeal.main_arg1) = m' ((c.tc : Thread Cert.DnStepRefIdeal.nD Cert.DnStepRefIdeal.τ).loc Cert.DnStepRefIdeal.main_arg1)
          ∧ r.2.mem ((c.tc : Thread Cert.DnStepRefIdeal.nD Cert.DnStepRefIdeal.τ).loc Cert.DnStepRefIdeal.main_arg2) = m' ((c.tc : Thread Cert.DnStepRefIdeal.nD Cert.DnStepRefIdeal.τ).loc Cert.DnStepRefIdeal.main_arg2)
          ∧ r.2.mem ((c.tc : Thread Cert.DnStepRefIdeal.nD Cert.DnStepRefIdeal.τ).loc Cert.DnStepRefIdeal.main_arg3) = m' ((c.tc : Thread Cert.DnStepRefIdeal.nD Cert.DnStepRefIdeal.τ).loc Cert.DnStepRefIdeal.main_arg3)
          ∧ r.2.mem ((c.tc : Thread Cert.DnStepRefIdeal.nD Cert.DnStepRefIdeal.τ).loc Cert.DnStepRefIdeal.main_arg4) = m' ((c.tc : Thread Cert.DnStepRefIdeal.nD Cert.DnStepRefIdeal.τ).loc Cert.DnStepRefIdeal.main_arg4)
          ∧ r.2.mem ((c.tc : Thread Cert.DnStepRefIdeal.nD Cert.DnStepRefIdeal.τ).loc Cert.DnStepRefIdeal.main_arg5) = m' ((c.tc : Thread Cert.DnStepRefIdeal.nD Cert.DnStepRefIdeal.τ).loc Cert.DnStepRefIdeal.main_arg5)
          ∧ r.2.mem ((c.tc : Thread Cert.DnStepRefIdeal.nD Cert.DnStepRefIdeal.τ).loc Cert.DnStepRefIdeal.main_arg6) = m' ((c.tc : Thread Cert.DnStepRefIdeal.nD Cert.DnStepRefIdeal.τ).loc Cert.DnStepRefIdeal.main_arg6))

def Claim : Prop :=
  ∃ (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hConvStep : Cert.ConvStep.Facts) (hConvStepIdeal : Cert.ConvStepIdeal.Facts) (hConvStepRefIdeal : Cert.ConvStepRefIdeal.Facts) (hFfnStep : Cert.FfnStep.Facts) (hFfnStepIdeal : Cert.FfnStepIdeal.Facts) (hFfnStepRefIdeal : Cert.FfnStepRefIdeal.Facts) (hInprojStep : Cert.InprojStep.Facts) (hInprojStepIdeal : Cert.InprojStepIdeal.Facts) (hInprojStepRefIdeal : Cert.InprojStepRefIdeal.Facts) (hDnStep : Cert.DnStep.Facts) (hDnStepIdeal : Cert.DnStepIdeal.Facts) (hDnStepRefIdeal : Cert.DnStepRefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_ConvStep (hConvStep := hConvStep)
    ∧ quiescent_ConvStepIdeal (hConvStepIdeal := hConvStepIdeal)
    ∧ quiescent_ConvStepRefIdeal (hConvStepRefIdeal := hConvStepRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ quiescent_InprojStep (hInprojStep := hInprojStep)
    ∧ quiescent_InprojStepIdeal (hInprojStepIdeal := hInprojStepIdeal)
    ∧ quiescent_InprojStepRefIdeal (hInprojStepRefIdeal := hInprojStepRefIdeal)
    ∧ quiescent_DnStep (hDnStep := hDnStep)
    ∧ quiescent_DnStepIdeal (hDnStepIdeal := hDnStepIdeal)
    ∧ quiescent_DnStepIdeal_pre_finite (hDnStepIdeal := hDnStepIdeal) (hPre_finite := hPre_finite)
    ∧ quiescent_DnStepRefIdeal (hDnStepRefIdeal := hDnStepRefIdeal)
    ∧ quiescent_DnStepRefIdeal_pre_finite (hDnStepRefIdeal := hDnStepRefIdeal) (hPre_finite := hPre_finite)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_ConvStep_ConvStepIdeal
    ∧ algebraic_ConvStepIdeal_ConvStepRefIdeal (hConvStepIdeal := hConvStepIdeal) (hConvStepRefIdeal := hConvStepRefIdeal)
    ∧ preserves_FfnStep_FfnStepIdeal
    ∧ algebraic_FfnStepIdeal_FfnStepRefIdeal (hFfnStepIdeal := hFfnStepIdeal) (hFfnStepRefIdeal := hFfnStepRefIdeal)
    ∧ preserves_InprojStep_InprojStepIdeal
    ∧ algebraic_InprojStepIdeal_InprojStepRefIdeal (hInprojStepIdeal := hInprojStepIdeal) (hInprojStepRefIdeal := hInprojStepRefIdeal)
    ∧ preserves_DnStep_DnStepIdeal
    ∧ algebraic_DnStepIdeal_DnStepRefIdeal_pre_finite (hDnStepIdeal := hDnStepIdeal) (hDnStepRefIdeal := hDnStepRefIdeal) (hPre_finite := hPre_finite)
-- ==== Pre_finite.lean ====
abbrev S32x1x1152 : Shape := ⟨3, ![32, 1, 1152]⟩
abbrev S32x3x768 : Shape := ⟨3, ![32, 3, 768]⟩
abbrev S32x4x64x64 : Shape := ⟨4, ![32, 4, 64, 64]⟩
abbrev S4x768 : Shape := ⟨2, ![4, 768]⟩
abbrev S4 : Shape := ⟨1, ![4]⟩
abbrev S64 : Shape := ⟨1, ![64]⟩
abbrev S32x1x256 : Shape := ⟨3, ![32, 1, 256]⟩
abbrev S_ : Shape := ⟨0, ![]⟩
abbrev S32x1x8 : Shape := ⟨3, ![32, 1, 8]⟩
abbrev S32x3x256 : Shape := ⟨3, ![32, 3, 256]⟩
abbrev S4x256 : Shape := ⟨2, ![4, 256]⟩

class Facts : Prop where
  slices_S32x1x1152_S32x1x256_0_0_256 : S32x1x1152.Slices ![0, 0, 256] S32x1x256
  bcast_S_S32x1x256 : S_.BroadcastsInDim S32x1x256 (![] : Fin 0 → Fin S32x1x256.rank)
  slices_S32x1x1152_S32x1x8_0_0_1024 : S32x1x1152.Slices ![0, 0, 1024] S32x1x8
  bcast_S_S32x1x8 : S_.BroadcastsInDim S32x1x8 (![] : Fin 0 → Fin S32x1x8.rank)
  slices_S32x3x768_S32x3x256_0_0_256 : S32x3x768.Slices ![0, 0, 256] S32x3x256
  bcast_S_S32x3x256 : S_.BroadcastsInDim S32x3x256 (![] : Fin 0 → Fin S32x3x256.rank)
  slices_S4x768_S4x256_0_256 : S4x768.Slices ![0, 256] S4x256
  bcast_S_S4x256 : S_.BroadcastsInDim S4x256 (![] : Fin 0 → Fin S4x256.rank)
  bcast_S_S4 : S_.BroadcastsInDim S4 (![] : Fin 0 → Fin S4.rank)

variable [Facts]

def fn_part1 {F : FTy → Type} [FloatOps F] (main_arg5 : FVec F S4 .f32) (main_v3 : IVec S32x1x256 1) (main_v7 : IVec S32x1x8 1) (main_v11 : IVec S32x3x256 1) (main_v15 : IVec S4x256 1) (main_v18 : IVec S4 1) : IVec S32x1x256 1 × IVec S32x1x8 1 × IVec S32x3x256 1 × IVec S4x256 1 × IVec S4 1 × IVec S4 1 :=
  let main_v19 : FVec F S4 .f32 := Host.absf main_arg5
  let main_cst_4 : FVec F S_ .f32 := constant S_ .f32 0x7F800000#32
  let main_v20 : FVec F S4 .f32 := broadcastInDim S4 ![] bcast_S_S4 main_cst_4
  let main_v21 : IVec S4 1 := cmpf .olt main_v19 main_v20
  (main_v3, main_v7, main_v11, main_v15, main_v18, main_v21)

def fn {F : FTy → Type} [FloatOps F] (main_arg0 : FVec F S32x1x1152 .f32) (main_arg1 : FVec F S32x3x768 .f32) (main_arg2 : FVec F S32x4x64x64 .f32) (main_arg3 : FVec F S4x768 .f32) (main_arg4 : FVec F S4 .f32) (main_arg5 : FVec F S4 .f32) (main_arg6 : FVec F S64 .f32) : IVec S32x1x256 1 × IVec S32x1x8 1 × IVec S32x3x256 1 × IVec S4x256 1 × IVec S4 1 × IVec S4 1 :=
  let main_v0 : FVec F S32x1x256 .f32 := (extractStridedSlice S32x1x256 ![0, 0, 256] · slices_S32x1x1152_S32x1x256_0_0_256) main_arg0
  let main_v1 : FVec F S32x1x256 .f32 := Host.absf main_v0
  let main_cst : FVec F S_ .f32 := constant S_ .f32 0x7F800000#32
  let main_v2 : FVec F S32x1x256 .f32 := broadcastInDim S32x1x256 ![] bcast_S_S32x1x256 main_cst
  let main_v3 : IVec S32x1x256 1 := cmpf .olt main_v1 main_v2
  let main_v4 : FVec F S32x1x8 .f32 := (extractStridedSlice S32x1x8 ![0, 0, 1024] · slices_S32x1x1152_S32x1x8_0_0_1024) main_arg0
  let main_v5 : FVec F S32x1x8 .f32 := Host.absf main_v4
  let main_cst_0 : FVec F S_ .f32 := constant S_ .f32 0x7F800000#32
  let main_v6 : FVec F S32x1x8 .f32 := broadcastInDim S32x1x8 ![] bcast_S_S32x1x8 main_cst_0
  let main_v7 : IVec S32x1x8 1 := cmpf .olt main_v5 main_v6
  let main_v8 : FVec F S32x3x256 .f32 := (extractStridedSlice S32x3x256 ![0, 0, 256] · slices_S32x3x768_S32x3x256_0_0_256) main_arg1
  let main_v9 : FVec F S32x3x256 .f32 := Host.absf main_v8
  let main_cst_1 : FVec F S_ .f32 := constant S_ .f32 0x7F800000#32
  let main_v10 : FVec F S32x3x256 .f32 := broadcastInDim S32x3x256 ![] bcast_S_S32x3x256 main_cst_1
  let main_v11 : IVec S32x3x256 1 := cmpf .olt main_v9 main_v10
  let main_v12 : FVec F S4x256 .f32 := (extractStridedSlice S4x256 ![0, 256] · slices_S4x768_S4x256_0_256) main_arg3
  let main_v13 : FVec F S4x256 .f32 := Host.absf main_v12
  let main_cst_2 : FVec F S_ .f32 := constant S_ .f32 0x7F800000#32
  let main_v14 : FVec F S4x256 .f32 := broadcastInDim S4x256 ![] bcast_S_S4x256 main_cst_2
  let main_v15 : IVec S4x256 1 := cmpf .olt main_v13 main_v14
  let main_v16 : FVec F S4 .f32 := Host.absf main_arg4
  let main_cst_3 : FVec F S_ .f32 := constant S_ .f32 0x7F800000#32
  let main_v17 : FVec F S4 .f32 := broadcastInDim S4 ![] bcast_S_S4 main_cst_3
  let main_v18 : IVec S4 1 := cmpf .olt main_v16 main_v17
  fn_part1 (F := F) main_arg5 main_v3 main_v7 main_v11 main_v15 main_v18
-- ==== Conv.lean ====
abbrev S4x4096x512 : Shape := ⟨3, ![4, 4096, 512]⟩
abbrev S4x30x256 : Shape := ⟨3, ![4, 30, 256]⟩
abbrev S31x256 : Shape := ⟨2, ![31, 256]⟩
abbrev S256 : Shape := ⟨1, ![256]⟩
abbrev S_ : Shape := ⟨0, ![]⟩
abbrev S4x32x256 : Shape := ⟨3, ![4, 32, 256]⟩
abbrev S1x256 : Shape := ⟨2, ![1, 256]⟩
abbrev S4x4096x256 : Shape := ⟨3, ![4, 4096, 256]⟩
abbrev S1x512x512 : Shape := ⟨3, ![1, 512, 512]⟩
abbrev S1x32x256 : Shape := ⟨3, ![1, 32, 256]⟩
abbrev S1x512x256 : Shape := ⟨3, ![1, 512, 256]⟩
abbrev S544x256 : Shape := ⟨2, ![544, 256]⟩
abbrev S7x536x256 : Shape := ⟨3, ![7, 536, 256]⟩
abbrev S32x256 : Shape := ⟨2, ![32, 256]⟩
abbrev S512x512 : Shape := ⟨2, ![512, 512]⟩
abbrev S512x256 : Shape := ⟨2, ![512, 256]⟩
abbrev S536x256 : Shape := ⟨2, ![536, 256]⟩
abbrev S1x536x256 : Shape := ⟨3, ![1, 536, 256]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x512, .f32⟩
  | .hbm, ⟨1, _⟩ => ⟨S4x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S4x32x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S4x4096x256, .f32⟩
  | .hbm, ⟨13, _⟩ => ⟨S4x32x256, .f32⟩
  | .local _ .vmem, ⟨0, _⟩ => ⟨S1x512x512, .f32⟩
  | .local _ .vmem, ⟨1, _⟩ => ⟨S1x512x512, .f32⟩
  | .local _ .vmem, ⟨2, _⟩ => ⟨S1x32x256, .f32⟩
  | .local _ .vmem, ⟨3, _⟩ => ⟨S1x32x256, .f32⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x32x256, .f32⟩
  | .local _ .vmem, ⟨11, _⟩ => ⟨S1x32x256, .f32⟩
  | .local _ .vmem, ⟨12, _⟩ => ⟨S544x256, .f32⟩
  | .local _ .vmem, ⟨13, _⟩ => ⟨S7x536x256, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v270 : BitVec 1 := Scalar.cmpi .eq arg1 c7_i32
  let v271 : BitVec 32 := Scalar.extui v270
  let c0_i32_182 : BitVec 32 := 0#32
  let v272 : BitVec 1 := Scalar.cmpi .ne v271 c0_i32_182
  v272

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S4x4096x512 : Shape := ⟨3, ![4, 4096, 512]⟩
abbrev S4x30x256 : Shape := ⟨3, ![4, 30, 256]⟩
abbrev S31x256 : Shape := ⟨2, ![31, 256]⟩
abbrev S256 : Shape := ⟨1, ![256]⟩
abbrev S4x4096x256 : Shape := ⟨3, ![4, 4096, 256]⟩
abbrev S_ : Shape := ⟨0, ![]⟩
abbrev S4x4126x256 : Shape := ⟨3, ![4, 4126, 256]⟩
abbrev S1x256 : Shape := ⟨2, ![1, 256]⟩
abbrev S1x1x256 : Shape := ⟨3, ![1, 1, 256]⟩
abbrev S4x4096 : Shape := ⟨2, ![4, 4096]⟩
abbrev S4x4096x1 : Shape := ⟨3, ![4, 4096, 1]⟩
abbrev S4x32x256 : Shape := ⟨3, ![4, 32, 256]⟩

abbrev nBuf : Space → Nat
  | .hbm => 279
  | .vmem => 0
  | .smem => 0
  | _ => 0

abbrev hbmTy0_0 (i : Nat) : BufTy := match i % 128 with
  | 0 => ⟨S4x4096x512, .f32⟩
  | 1 => ⟨S4x30x256, .f32⟩
  | 2 => ⟨S31x256, .f32⟩
  | 3 => ⟨S256, .f32⟩
  | 4 => ⟨S256, .f32⟩
  | 5 => ⟨S256, .f32⟩
  | 6 => ⟨S4x4096x256, .f32⟩
  | 7 => ⟨S4x4096x256, .f32⟩
  | 8 => ⟨S4x4096x256, .f32⟩
  | 9 => ⟨S4x4096x256, .f32⟩
  | 10 => ⟨S_, .f32⟩
  | 11 => ⟨S4x4096x256, .f32⟩
  | 12 => ⟨S4x4096x256, .f32⟩
  | 13 => ⟨S_, .f32⟩
  | 14 => ⟨S4x4096x256, .f32⟩
  | 15 => ⟨S4x4096x256, .f32⟩
  | 16 => ⟨S4x4096x256, .f32⟩
  | 17 => ⟨S4x4126x256, .f32⟩
  | 18 => ⟨S4x4096x256, .f32⟩
  | 19 => ⟨S1x256, .f32⟩
  | 20 => ⟨S256, .f32⟩
  | 21 => ⟨S1x1x256, .f32⟩
  | 22 => ⟨S4x4096x256, .f32⟩
  | 23 => ⟨S4x4096x256, .f32⟩
  | 24 => ⟨S_, .f32⟩
  | 25 => ⟨S4x4096x256, .f32⟩
  | 26 => ⟨S4x4096x256, .f32⟩
  | 27 => ⟨S4x4096x256, .f32⟩
  | 28 => ⟨S1x256, .f32⟩
  | 29 => ⟨S256, .f32⟩
  | 30 => ⟨S1x1x256, .f32⟩
  | 31 => ⟨S4x4096x256, .f32⟩
  | 32 => ⟨S4x4096x256, .f32⟩
  | 33 => ⟨S4x4096x256, .f32⟩
  | 34 => ⟨S4x4096x256, .f32⟩
  | 35 => ⟨S1x256, .f32⟩
  | 36 => ⟨S256, .f32⟩
  | 37 => ⟨S1x1x256, .f32⟩
  | 38 => ⟨S4x4096x256, .f32⟩
  | 39 => ⟨S4x4096x256, .f32⟩
  | 40 => ⟨S4x4096x256, .f32⟩
  | 41 => ⟨S4x4096x256, .f32⟩
  | 42 => ⟨S1x256, .f32⟩
  | 43 => ⟨S256, .f32⟩
  | 44 => ⟨S1x1x256, .f32⟩
  | 45 => ⟨S4x4096x256, .f32⟩
  | 46 => ⟨S4x4096x256, .f32⟩
  | 47 => ⟨S4x4096x256, .f32⟩
  | 48 => ⟨S4x4096x256, .f32⟩
  | 49 => ⟨S1x256, .f32⟩
  | 50 => ⟨S256, .f32⟩
  | 51 => ⟨S1x1x256, .f32⟩
  | 52 => ⟨S4x4096x256, .f32⟩
  | 53 => ⟨S4x4096x256, .f32⟩
  | 54 => ⟨S4x4096x256, .f32⟩
  | 55 => ⟨S4x4096x256, .f32⟩
  | 56 => ⟨S1x256, .f32⟩
  | 57 => ⟨S256, .f32⟩
  | 58 => ⟨S1x1x256, .f32⟩
  | 59 => ⟨S4x4096x256, .f32⟩
  | 60 => ⟨S4x4096x256, .f32⟩
  | 61 => ⟨S4x4096x256, .f32⟩
  | 62 => ⟨S4x4096x256, .f32⟩
  | 63 => ⟨S1x256, .f32⟩
  | 64 => ⟨S256, .f32⟩
  | 65 => ⟨S1x1x256, .f32⟩
  | 66 => ⟨S4x4096x256, .f32⟩
  | 67 => ⟨S4x4096x256, .f32⟩
  | 68 => ⟨S4x4096x256, .f32⟩
  | 69 => ⟨S4x4096x256, .f32⟩
  | 70 => ⟨S1x256, .f32⟩
  | 71 => ⟨S256, .f32⟩
  | 72 => ⟨S1x1x256, .f32⟩
  | 73 => ⟨S4x4096x256, .f32⟩
  | 74 => ⟨S4x4096x256, .f32⟩
  | 75 => ⟨S4x4096x256, .f32⟩
  | 76 => ⟨S4x4096x256, .f32⟩
  | 77 => ⟨S1x256, .f32⟩
  | 78 => ⟨S256, .f32⟩
  | 79 => ⟨S1x1x256, .f32⟩
  | 80 => ⟨S4x4096x256, .f32⟩
  | 81 => ⟨S4x4096x256, .f32⟩
  | 82 => ⟨S4x4096x256, .f32⟩
  | 83 => ⟨S4x4096x256, .f32⟩
  | 84 => ⟨S1x256, .f32⟩
  | 85 => ⟨S256, .f32⟩
  | 86 => ⟨S1x1x256, .f32⟩
  | 87 => ⟨S4x4096x256, .f32⟩
  | 88 => ⟨S4x4096x256, .f32⟩
  | 89 => ⟨S4x4096x256, .f32⟩
  | 90 => ⟨S4x4096x256, .f32⟩
  | 91 => ⟨S1x256, .f32⟩
  | 92 => ⟨S256, .f32⟩
  | 93 => ⟨S1x1x256, .f32⟩
  | 94 => ⟨S4x4096x256, .f32⟩
  | 95 => ⟨S4x4096x256, .f32⟩
  | 96 => ⟨S4x4096x256, .f32⟩
  | 97 => ⟨S4x4096x256, .f32⟩
  | 98 => ⟨S1x256, .f32⟩
  | 99 => ⟨S256, .f32⟩
  | 100 => ⟨S1x1x256, .f32⟩
  | 101 => ⟨S4x4096x256, .f32⟩
  | 102 => ⟨S4x4096x256, .f32⟩
  | 103 => ⟨S4x4096x256, .f32⟩
  | 104 => ⟨S4x4096x256, .f32⟩
  | 105 => ⟨S1x256, .f32⟩
  | 106 => ⟨S256, .f32⟩
  | 107 => ⟨S1x1x256, .f32⟩
  | 108 => ⟨S4x4096x256, .f32⟩
  | 109 => ⟨S4x4096x256, .f32⟩
  | 110 => ⟨S4x4096x256, .f32⟩
  | 111 => ⟨S4x4096x256, .f32⟩
  | 112 => ⟨S1x256, .f32⟩
  | 113 => ⟨S256, .f32⟩
  | 114 => ⟨S1x1x256, .f32⟩
  | 115 => ⟨S4x4096x256, .f32⟩
  | 116 => ⟨S4x4096x256, .f32⟩
  | 117 => ⟨S4x4096x256, .f32⟩
  | 118 => ⟨S4x4096x256, .f32⟩
  | 119 => ⟨S1x256, .f32⟩
  | 120 => ⟨S256, .f32⟩
  | 121 => ⟨S1x1x256, .f32⟩
  | 122 => ⟨S4x4096x256, .f32⟩
  | 123 => ⟨S4x4096x256, .f32⟩
  | 124 => ⟨S4x4096x256, .f32⟩
  | 125 => ⟨S4x4096x256, .f32⟩
  | 126 => ⟨S1x256, .f32⟩
  | 127 => ⟨S256, .f32⟩
  | _ => ⟨S4x4096x512, .f32⟩

abbrev hbmTy0_1 (i : Nat) : BufTy := match i % 128 with
  | 0 => ⟨S1x1x256, .f32⟩
  | 1 => ⟨S4x4096x256, .f32⟩
  | 2 => ⟨S4x4096x256, .f32⟩
  | 3 => ⟨S4x4096x256, .f32⟩
  | 4 => ⟨S4x4096x256, .f32⟩
  | 5 => ⟨S1x256, .f32⟩
  | 6 => ⟨S256, .f32⟩
  | 7 => ⟨S1x1x256, .f32⟩
  | 8 => ⟨S4x4096x256, .f32⟩
  | 9 => ⟨S4x4096x256, .f32⟩
  | 10 => ⟨S4x4096x256, .f32⟩
  | 11 => ⟨S4x4096x256, .f32⟩
  | 12 => ⟨S1x256, .f32⟩
  | 13 => ⟨S256, .f32⟩
  | 14 => ⟨S1x1x256, .f32⟩
  | 15 => ⟨S4x4096x256, .f32⟩
  | 16 => ⟨S4x4096x256, .f32⟩
  | 17 => ⟨S4x4096x256, .f32⟩
  | 18 => ⟨S4x4096x256, .f32⟩
  | 19 => ⟨S1x256, .f32⟩
  | 20 => ⟨S256, .f32⟩
  | 21 => ⟨S1x1x256, .f32⟩
  | 22 => ⟨S4x4096x256, .f32⟩
  | 23 => ⟨S4x4096x256, .f32⟩
  | 24 => ⟨S4x4096x256, .f32⟩
  | 25 => ⟨S4x4096x256, .f32⟩
  | 26 => ⟨S1x256, .f32⟩
  | 27 => ⟨S256, .f32⟩
  | 28 => ⟨S1x1x256, .f32⟩
  | 29 => ⟨S4x4096x256, .f32⟩
  | 30 => ⟨S4x4096x256, .f32⟩
  | 31 => ⟨S4x4096x256, .f32⟩
  | 32 => ⟨S4x4096x256, .f32⟩
  | 33 => ⟨S1x256, .f32⟩
  | 34 => ⟨S256, .f32⟩
  | 35 => ⟨S1x1x256, .f32⟩
  | 36 => ⟨S4x4096x256, .f32⟩
  | 37 => ⟨S4x4096x256, .f32⟩
  | 38 => ⟨S4x4096x256, .f32⟩
  | 39 => ⟨S4x4096x256, .f32⟩
  | 40 => ⟨S1x256, .f32⟩
  | 41 => ⟨S256, .f32⟩
  | 42 => ⟨S1x1x256, .f32⟩
  | 43 => ⟨S4x4096x256, .f32⟩
  | 44 => ⟨S4x4096x256, .f32⟩
  | 45 => ⟨S4x4096x256, .f32⟩
  | 46 => ⟨S4x4096x256, .f32⟩
  | 47 => ⟨S1x256, .f32⟩
  | 48 => ⟨S256, .f32⟩
  | 49 => ⟨S1x1x256, .f32⟩
  | 50 => ⟨S4x4096x256, .f32⟩
  | 51 => ⟨S4x4096x256, .f32⟩
  | 52 => ⟨S4x4096x256, .f32⟩
  | 53 => ⟨S4x4096x256, .f32⟩
  | 54 => ⟨S1x256, .f32⟩
  | 55 => ⟨S256, .f32⟩
  | 56 => ⟨S1x1x256, .f32⟩
  | 57 => ⟨S4x4096x256, .f32⟩
  | 58 => ⟨S4x4096x256, .f32⟩
  | 59 => ⟨S4x4096x256, .f32⟩
  | 60 => ⟨S4x4096x256, .f32⟩
  | 61 => ⟨S1x256, .f32⟩
  | 62 => ⟨S256, .f32⟩
  | 63 => ⟨S1x1x256, .f32⟩
  | 64 => ⟨S4x4096x256, .f32⟩
  | 65 => ⟨S4x4096x256, .f32⟩
  | 66 => ⟨S4x4096x256, .f32⟩
  | 67 => ⟨S4x4096x256, .f32⟩
  | 68 => ⟨S1x256, .f32⟩
  | 69 => ⟨S256, .f32⟩
  | 70 => ⟨S1x1x256, .f32⟩
  | 71 => ⟨S4x4096x256, .f32⟩
  | 72 => ⟨S4x4096x256, .f32⟩
  | 73 => ⟨S4x4096x256, .f32⟩
  | 74 => ⟨S4x4096x256, .f32⟩
  | 75 => ⟨S1x256, .f32⟩
  | 76 => ⟨S256, .f32⟩
  | 77 => ⟨S1x1x256, .f32⟩
  | 78 => ⟨S4x4096x256, .f32⟩
  | 79 => ⟨S4x4096x256, .f32⟩
  | 80 => ⟨S4x4096x256, .f32⟩
  | 81 => ⟨S4x4096x256, .f32⟩
  | 82 => ⟨S1x256, .f32⟩
  | 83 => ⟨S256, .f32⟩
  | 84 => ⟨S1x1x256, .f32⟩
  | 85 => ⟨S4x4096x256, .f32⟩
  | 86 => ⟨S4x4096x256, .f32⟩
  | 87 => ⟨S4x4096x256, .f32⟩
  | 88 => ⟨S4x4096x256, .f32⟩
  | 89 => ⟨S1x256, .f32⟩
  | 90 => ⟨S256, .f32⟩
  | 91 => ⟨S1x1x256, .f32⟩
  | 92 => ⟨S4x4096x256, .f32⟩
  | 93 => ⟨S4x4096x256, .f32⟩
  | 94 => ⟨S4x4096x256, .f32⟩
  | 95 => ⟨S4x4096x256, .f32⟩
  | 96 => ⟨S1x256, .f32⟩
  | 97 => ⟨S256, .f32⟩
  | 98 => ⟨S1x1x256, .f32⟩
  | 99 => ⟨S4x4096x256, .f32⟩
  | 100 => ⟨S4x4096x256, .f32⟩
  | 101 => ⟨S4x4096x256, .f32⟩
  | 102 => ⟨S4x4096x256, .f32⟩
  | 103 => ⟨S1x256, .f32⟩
  | 104 => ⟨S256, .f32⟩
  | 105 => ⟨S1x1x256, .f32⟩
  | 106 => ⟨S4x4096x256, .f32⟩
  | 107 => ⟨S4x4096x256, .f32⟩
  | 108 => ⟨S4x4096x256, .f32⟩
  | 109 => ⟨S1x1x256, .f32⟩
  | 110 => ⟨S4x4096x256, .f32⟩
  | 111 => ⟨S4x4096x256, .f32⟩
  | 112 => ⟨S_, .f32⟩
  | 113 => ⟨S4x4096, .f32⟩
  | 114 => ⟨S4x4096x1, .f32⟩
  | 115 => ⟨S_, .f32⟩
  | 116 => ⟨S4x4096x1, .f32⟩
  | 117 => ⟨S4x4096x1, .f32⟩
  | 118 => ⟨S4x4096x256, .f32⟩
  | 119 => ⟨S4x4096x256, .f32⟩
  | 120 => ⟨S4x4096x256, .f32⟩
  | 121 => ⟨S_, .f32⟩
  | 122 => ⟨S4x4096, .f32⟩
  | 123 => ⟨S4x4096x1, .f32⟩
  | 124 => ⟨S_, .f32⟩
  | 125 => ⟨S4x4096x1, .f32⟩
  | 126 => ⟨S4x4096x1, .f32⟩
  | 127 => ⟨S4x4096x256, .f32⟩
  | _ => ⟨S4x4096x512, .f32⟩

abbrev hbmTy0_2 (i : Nat) : BufTy := match i % 128 with
  | 0 => ⟨S4x4096x256, .f32⟩
  | 1 => ⟨S_, .f32⟩
  | 2 => ⟨S4x4096x1, .f32⟩
  | 3 => ⟨S4x4096x1, .f32⟩
  | 4 => ⟨S4x4096x1, .f32⟩
  | 5 => ⟨S4x4096x256, .f32⟩
  | 6 => ⟨S4x4096x256, .f32⟩
  | 7 => ⟨S1x1x256, .f32⟩
  | 8 => ⟨S4x4096x256, .f32⟩
  | 9 => ⟨S4x4096x256, .f32⟩
  | 10 => ⟨S1x1x256, .f32⟩
  | 11 => ⟨S4x4096x256, .f32⟩
  | 12 => ⟨S4x4096x256, .f32⟩
  | 13 => ⟨S4x4096x256, .f32⟩
  | 14 => ⟨S4x4096x256, .f32⟩
  | 15 => ⟨S_, .f32⟩
  | 16 => ⟨S4x4096x256, .f32⟩
  | 17 => ⟨S4x4096x256, .f32⟩
  | 18 => ⟨S_, .f32⟩
  | 19 => ⟨S4x4096x256, .f32⟩
  | 20 => ⟨S4x4096x256, .f32⟩
  | 21 => ⟨S4x4096x256, .f32⟩
  | 22 => ⟨S4x32x256, .f32⟩
  | _ => ⟨S4x4096x512, .f32⟩

abbrev hbmTy (i : Nat) : BufTy := match i / 128 with
  | 0 => hbmTy0_0 i
  | 1 => hbmTy0_1 i
  | 2 => hbmTy0_2 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== Ffn.lean ====
abbrev S4x4096x1024 : Shape := ⟨3, ![4, 4096, 1024]⟩
abbrev S4x4096x256 : Shape := ⟨3, ![4, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S512x2816 : Shape := ⟨2, ![512, 2816]⟩

abbrev nBuf : Space → Nat
  | .hbm => 25
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S16384x1024, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1024x1024, .bf16⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnIdeal.lean ====
abbrev S4x4096x1024 : Shape := ⟨3, ![4, 4096, 1024]⟩
abbrev S4x4096x256 : Shape := ⟨3, ![4, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S512x2816 : Shape := ⟨2, ![512, 2816]⟩

abbrev nBuf : Space → Nat
  | .hbm => 25
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S16384x1024, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1024x1024, .bf16⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnRefIdeal.lean ====
abbrev S4x4096x1024 : Shape := ⟨3, ![4, 4096, 1024]⟩
abbrev S4x4096x256 : Shape := ⟨3, ![4, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Inproj.lean ====
abbrev S4x4096x1024 : Shape := ⟨3, ![4, 4096, 1024]⟩
abbrev S1024 : Shape := ⟨1, ![1024]⟩
abbrev S1024x3336 : Shape := ⟨2, ![1024, 3336]⟩
abbrev S16384x1024 : Shape := ⟨2, ![16384, 1024]⟩
abbrev S1024x1032 : Shape := ⟨2, ![1024, 1032]⟩
abbrev S1024x768 : Shape := ⟨2, ![1024, 768]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x1152 : Shape := ⟨2, ![1024, 1152]⟩
abbrev S1024x2304 : Shape := ⟨2, ![1024, 2304]⟩
abbrev S1024x3456 : Shape := ⟨2, ![1024, 3456]⟩
abbrev S1x1024 : Shape := ⟨2, ![1, 1024]⟩
abbrev S16384x256 : Shape := ⟨2, ![16384, 256]⟩
abbrev S16384x512 : Shape := ⟨2, ![16384, 512]⟩
abbrev S16384x1152 : Shape := ⟨2, ![16384, 1152]⟩
abbrev S512x1024 : Shape := ⟨2, ![512, 1024]⟩
abbrev S512x256 : Shape := ⟨2, ![512, 256]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3336, .f32⟩
  | .hbm, ⟨3, _⟩ => ⟨S16384x1024, .f32⟩
  | .hbm, ⟨4, _⟩ => ⟨S1024x1032, .f32⟩
  | .hbm, ⟨5, _⟩ => ⟨S1024x768, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x1152, .f32⟩
  | .hbm, ⟨11, _⟩ => ⟨S1024x2304, .f32⟩
  | .hbm, ⟨12, _⟩ => ⟨S1024x3456, .f32⟩
  | .hbm, ⟨13, _⟩ => ⟨S1024x3456, .bf16⟩
  | .hbm, ⟨14, _⟩ => ⟨S1x1024, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x512, .f32⟩
  | .hbm, ⟨19, _⟩ => ⟨S16384x1024, .f32⟩
  | .hbm, ⟨20, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1152, .f32⟩
  | .local _ .vmem, ⟨15, _⟩ => ⟨S512x1152, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojIdeal.lean ====
abbrev S4x4096x1024 : Shape := ⟨3, ![4, 4096, 1024]⟩
abbrev S1024 : Shape := ⟨1, ![1024]⟩
abbrev S1024x3336 : Shape := ⟨2, ![1024, 3336]⟩
abbrev S16384x1024 : Shape := ⟨2, ![16384, 1024]⟩
abbrev S1024x1032 : Shape := ⟨2, ![1024, 1032]⟩
abbrev S1024x768 : Shape := ⟨2, ![1024, 768]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x1152 : Shape := ⟨2, ![1024, 1152]⟩
abbrev S1024x2304 : Shape := ⟨2, ![1024, 2304]⟩
abbrev S1024x3456 : Shape := ⟨2, ![1024, 3456]⟩
abbrev S1x1024 : Shape := ⟨2, ![1, 1024]⟩
abbrev S16384x256 : Shape := ⟨2, ![16384, 256]⟩
abbrev S16384x512 : Shape := ⟨2, ![16384, 512]⟩
abbrev S16384x1152 : Shape := ⟨2, ![16384, 1152]⟩
abbrev S512x1024 : Shape := ⟨2, ![512, 1024]⟩
abbrev S512x256 : Shape := ⟨2, ![512, 256]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3336, .f32⟩
  | .hbm, ⟨3, _⟩ => ⟨S16384x1024, .f32⟩
  | .hbm, ⟨4, _⟩ => ⟨S1024x1032, .f32⟩
  | .hbm, ⟨5, _⟩ => ⟨S1024x768, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x1152, .f32⟩
  | .hbm, ⟨11, _⟩ => ⟨S1024x2304, .f32⟩
  | .hbm, ⟨12, _⟩ => ⟨S1024x3456, .f32⟩
  | .hbm, ⟨13, _⟩ => ⟨S1024x3456, .bf16⟩
  | .hbm, ⟨14, _⟩ => ⟨S1x1024, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x512, .f32⟩
  | .hbm, ⟨19, _⟩ => ⟨S16384x1024, .f32⟩
  | .hbm, ⟨20, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1152, .f32⟩
  | .local _ .vmem, ⟨15, _⟩ => ⟨S512x1152, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S4x4096x1024 : Shape := ⟨3, ![4, 4096, 1024]⟩
abbrev S1024 : Shape := ⟨1, ![1024]⟩
abbrev S1024x3336 : Shape := ⟨2, ![1024, 3336]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3336 : Shape := ⟨3, ![4, 4096, 3336]⟩
abbrev S4x4096x1032 : Shape := ⟨3, ![4, 4096, 1032]⟩
abbrev S4x4096x8 : Shape := ⟨3, ![4, 4096, 8]⟩
abbrev S4x4096x256 : Shape := ⟨3, ![4, 4096, 256]⟩
abbrev S4x4096x768 : Shape := ⟨3, ![4, 4096, 768]⟩
abbrev S4x4096x120 : Shape := ⟨3, ![4, 4096, 120]⟩
abbrev S4x4096x1152 : Shape := ⟨3, ![4, 4096, 1152]⟩
abbrev S16384x256 : Shape := ⟨2, ![16384, 256]⟩
abbrev S4x4096x512 : Shape := ⟨3, ![4, 4096, 512]⟩
abbrev S16384x512 : Shape := ⟨2, ![16384, 512]⟩
abbrev S16384x1024 : Shape := ⟨2, ![16384, 1024]⟩
abbrev S16384x1152 : Shape := ⟨2, ![16384, 1152]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3336, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3336, .f32⟩
  | .hbm, ⟨20, _⟩ => ⟨S4x4096x1032, .f32⟩
  | .hbm, ⟨21, _⟩ => ⟨S4x4096x8, .f32⟩
  | .hbm, ⟨22, _⟩ => ⟨S4x4096x256, .f32⟩
  | .hbm, ⟨23, _⟩ => ⟨S4x4096x768, .f32⟩
  | .hbm, ⟨24, _⟩ => ⟨S_, .f32⟩
  | .hbm, ⟨25, _⟩ => ⟨S4x4096x120, .f32⟩
  | .hbm, ⟨26, _⟩ => ⟨S4x4096x1152, .f32⟩
  | .hbm, ⟨27, _⟩ => ⟨S4x4096x256, .f32⟩
  | .hbm, ⟨28, _⟩ => ⟨S16384x256, .f32⟩
  | .hbm, ⟨29, _⟩ => ⟨S4x4096x256, .f32⟩
  | .hbm, ⟨30, _⟩ => ⟨S16384x256, .f32⟩
  | .hbm, ⟨31, _⟩ => ⟨S4x4096x256, .f32⟩
  | .hbm, ⟨32, _⟩ => ⟨S16384x256, .f32⟩
  | .hbm, ⟨33, _⟩ => ⟨S4x4096x512, .f32⟩
  | .hbm, ⟨34, _⟩ => ⟨S16384x512, .f32⟩
  | .hbm, ⟨35, _⟩ => ⟨S4x4096x1024, .f32⟩
  | .hbm, ⟨36, _⟩ => ⟨S16384x1024, .f32⟩
  | .hbm, ⟨37, _⟩ => ⟨S16384x1152, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== ConvStep.lean ====
abbrev S32x1x512 : Shape := ⟨3, ![32, 1, 512]⟩
abbrev S32x30x256 : Shape := ⟨3, ![32, 30, 256]⟩
abbrev S31x256 : Shape := ⟨2, ![31, 256]⟩
abbrev S256 : Shape := ⟨1, ![256]⟩
abbrev S_ : Shape := ⟨0, ![]⟩
abbrev S32x8x512 : Shape := ⟨3, ![32, 8, 512]⟩
abbrev S32x32x256 : Shape := ⟨3, ![32, 32, 256]⟩
abbrev S1x256 : Shape := ⟨2, ![1, 256]⟩
abbrev S32x8x256 : Shape := ⟨3, ![32, 8, 256]⟩
abbrev S1x8x512 : Shape := ⟨3, ![1, 8, 512]⟩
abbrev S1x32x256 : Shape := ⟨3, ![1, 32, 256]⟩
abbrev S1x8x256 : Shape := ⟨3, ![1, 8, 256]⟩
abbrev S40x256 : Shape := ⟨2, ![40, 256]⟩
abbrev S7x32x256 : Shape := ⟨3, ![7, 32, 256]⟩
abbrev S32x256 : Shape := ⟨2, ![32, 256]⟩
abbrev S8x512 : Shape := ⟨2, ![8, 512]⟩
abbrev S8x256 : Shape := ⟨2, ![8, 256]⟩
abbrev S8 : Shape := ⟨1, ![8]⟩
abbrev S8x1 : Shape := ⟨2, ![8, 1]⟩
abbrev S32x1x256 : Shape := ⟨3, ![32, 1, 256]⟩

abbrev nBuf : Space → Nat
  | .hbm => 19
  | .vmem => 14
  | .smem => 0
  | _ => 0

abbrev bufTy : (tb : Table) → Fin (tcTables nBuf tb) → BufTy
  | .hbm, ⟨0, _⟩ => ⟨S32x1x512, .f32⟩
  | .hbm, ⟨1, _⟩ => ⟨S32x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S32x8x512, .f32⟩
  | .hbm, ⟨9, _⟩ => ⟨S_, .i32⟩
  | .hbm, ⟨10, _⟩ => ⟨S_, .f32⟩
  | .hbm, ⟨11, _⟩ => ⟨S32x32x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S32x8x256, .f32⟩
  | .hbm, ⟨16, _⟩ => ⟨S32x32x256, .f32⟩
  | .hbm, ⟨17, _⟩ => ⟨S32x1x256, .f32⟩
  | .hbm, ⟨18, _⟩ => ⟨S32x30x256, .f32⟩
  | .local _ .vmem, ⟨0, _⟩ => ⟨S1x8x512, .f32⟩
  | .local _ .vmem, ⟨1, _⟩ => ⟨S1x8x512, .f32⟩
  | .local _ .vmem, ⟨2, _⟩ => ⟨S1x32x256, .f32⟩
  | .local _ .vmem, ⟨3, _⟩ => ⟨S1x32x256, .f32⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x8x256, .f32⟩
  | .local _ .vmem, ⟨9, _⟩ => ⟨S1x8x256, .f32⟩
  | .local _ .vmem, ⟨10, _⟩ => ⟨S1x32x256, .f32⟩
  | .local _ .vmem, ⟨11, _⟩ => ⟨S1x32x256, .f32⟩
  | .local _ .vmem, ⟨12, _⟩ => ⟨S40x256, .f32⟩
  | .local _ .vmem, ⟨13, _⟩ => ⟨S7x32x256, .f32⟩
  | _, _ => ⟨S32x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_183 : BitVec 32 := 0#32
  let v270 : BitVec 1 := Scalar.cmpi .eq arg1 c0_i32_183
  let v271 : BitVec 32 := Scalar.extui v270
  let c0_i32_184 : BitVec 32 := 0#32
  let v272 : BitVec 1 := Scalar.cmpi .ne v271 c0_i32_184
  v272

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvStepRefIdeal.lean ====
abbrev S32x1x512 : Shape := ⟨3, ![32, 1, 512]⟩
abbrev S32x30x256 : Shape := ⟨3, ![32, 30, 256]⟩
abbrev S31x256 : Shape := ⟨2, ![31, 256]⟩
abbrev S256 : Shape := ⟨1, ![256]⟩
abbrev S32x1x256 : Shape := ⟨3, ![32, 1, 256]⟩
abbrev S_ : Shape := ⟨0, ![]⟩
abbrev S32x31x256 : Shape := ⟨3, ![32, 31, 256]⟩
abbrev S1x256 : Shape := ⟨2, ![1, 256]⟩
abbrev S1x1x256 : Shape := ⟨3, ![1, 1, 256]⟩
abbrev S32x1 : Shape := ⟨2, ![32, 1]⟩
abbrev S32x1x1 : Shape := ⟨3, ![32, 1, 1]⟩

abbrev nBuf : Space → Nat
  | .hbm => 279
  | .vmem => 0
  | .smem => 0
  | _ => 0

abbrev hbmTy0_0 (i : Nat) : BufTy := match i % 128 with
  | 0 => ⟨S32x1x512, .f32⟩
  | 1 => ⟨S32x30x256, .f32⟩
  | 2 => ⟨S31x256, .f32⟩
  | 3 => ⟨S256, .f32⟩
  | 4 => ⟨S256, .f32⟩
  | 5 => ⟨S256, .f32⟩
  | 6 => ⟨S32x1x256, .f32⟩
  | 7 => ⟨S32x1x256, .f32⟩
  | 8 => ⟨S32x1x256, .f32⟩
  | 9 => ⟨S32x1x256, .f32⟩
  | 10 => ⟨S_, .f32⟩
  | 11 => ⟨S32x1x256, .f32⟩
  | 12 => ⟨S32x1x256, .f32⟩
  | 13 => ⟨S_, .f32⟩
  | 14 => ⟨S32x1x256, .f32⟩
  | 15 => ⟨S32x1x256, .f32⟩
  | 16 => ⟨S32x1x256, .f32⟩
  | 17 => ⟨S32x31x256, .f32⟩
  | 18 => ⟨S32x1x256, .f32⟩
  | 19 => ⟨S1x256, .f32⟩
  | 20 => ⟨S256, .f32⟩
  | 21 => ⟨S1x1x256, .f32⟩
  | 22 => ⟨S32x1x256, .f32⟩
  | 23 => ⟨S32x1x256, .f32⟩
  | 24 => ⟨S_, .f32⟩
  | 25 => ⟨S32x1x256, .f32⟩
  | 26 => ⟨S32x1x256, .f32⟩
  | 27 => ⟨S32x1x256, .f32⟩
  | 28 => ⟨S1x256, .f32⟩
  | 29 => ⟨S256, .f32⟩
  | 30 => ⟨S1x1x256, .f32⟩
  | 31 => ⟨S32x1x256, .f32⟩
  | 32 => ⟨S32x1x256, .f32⟩
  | 33 => ⟨S32x1x256, .f32⟩
  | 34 => ⟨S32x1x256, .f32⟩
  | 35 => ⟨S1x256, .f32⟩
  | 36 => ⟨S256, .f32⟩
  | 37 => ⟨S1x1x256, .f32⟩
  | 38 => ⟨S32x1x256, .f32⟩
  | 39 => ⟨S32x1x256, .f32⟩
  | 40 => ⟨S32x1x256, .f32⟩
  | 41 => ⟨S32x1x256, .f32⟩
  | 42 => ⟨S1x256, .f32⟩
  | 43 => ⟨S256, .f32⟩
  | 44 => ⟨S1x1x256, .f32⟩
  | 45 => ⟨S32x1x256, .f32⟩
  | 46 => ⟨S32x1x256, .f32⟩
  | 47 => ⟨S32x1x256, .f32⟩
  | 48 => ⟨S32x1x256, .f32⟩
  | 49 => ⟨S1x256, .f32⟩
  | 50 => ⟨S256, .f32⟩
  | 51 => ⟨S1x1x256, .f32⟩
  | 52 => ⟨S32x1x256, .f32⟩
  | 53 => ⟨S32x1x256, .f32⟩
  | 54 => ⟨S32x1x256, .f32⟩
  | 55 => ⟨S32x1x256, .f32⟩
  | 56 => ⟨S1x256, .f32⟩
  | 57 => ⟨S256, .f32⟩
  | 58 => ⟨S1x1x256, .f32⟩
  | 59 => ⟨S32x1x256, .f32⟩
  | 60 => ⟨S32x1x256, .f32⟩
  | 61 => ⟨S32x1x256, .f32⟩
  | 62 => ⟨S32x1x256, .f32⟩
  | 63 => ⟨S1x256, .f32⟩
  | 64 => ⟨S256, .f32⟩
  | 65 => ⟨S1x1x256, .f32⟩
  | 66 => ⟨S32x1x256, .f32⟩
  | 67 => ⟨S32x1x256, .f32⟩
  | 68 => ⟨S32x1x256, .f32⟩
  | 69 => ⟨S32x1x256, .f32⟩
  | 70 => ⟨S1x256, .f32⟩
  | 71 => ⟨S256, .f32⟩
  | 72 => ⟨S1x1x256, .f32⟩
  | 73 => ⟨S32x1x256, .f32⟩
  | 74 => ⟨S32x1x256, .f32⟩
  | 75 => ⟨S32x1x256, .f32⟩
  | 76 => ⟨S32x1x256, .f32⟩
  | 77 => ⟨S1x256, .f32⟩
  | 78 => ⟨S256, .f32⟩
  | 79 => ⟨S1x1x256, .f32⟩
  | 80 => ⟨S32x1x256, .f32⟩
  | 81 => ⟨S32x1x256, .f32⟩
  | 82 => ⟨S32x1x256, .f32⟩
  | 83 => ⟨S32x1x256, .f32⟩
  | 84 => ⟨S1x256, .f32⟩
  | 85 => ⟨S256, .f32⟩
  | 86 => ⟨S1x1x256, .f32⟩
  | 87 => ⟨S32x1x256, .f32⟩
  | 88 => ⟨S32x1x256, .f32⟩
  | 89 => ⟨S32x1x256, .f32⟩
  | 90 => ⟨S32x1x256, .f32⟩
  | 91 => ⟨S1x256, .f32⟩
  | 92 => ⟨S256, .f32⟩
  | 93 => ⟨S1x1x256, .f32⟩
  | 94 => ⟨S32x1x256, .f32⟩
  | 95 => ⟨S32x1x256, .f32⟩
  | 96 => ⟨S32x1x256, .f32⟩
  | 97 => ⟨S32x1x256, .f32⟩
  | 98 => ⟨S1x256, .f32⟩
  | 99 => ⟨S256, .f32⟩
  | 100 => ⟨S1x1x256, .f32⟩
  | 101 => ⟨S32x1x256, .f32⟩
  | 102 => ⟨S32x1x256, .f32⟩
  | 103 => ⟨S32x1x256, .f32⟩
  | 104 => ⟨S32x1x256, .f32⟩
  | 105 => ⟨S1x256, .f32⟩
  | 106 => ⟨S256, .f32⟩
  | 107 => ⟨S1x1x256, .f32⟩
  | 108 => ⟨S32x1x256, .f32⟩
  | 109 => ⟨S32x1x256, .f32⟩
  | 110 => ⟨S32x1x256, .f32⟩
  | 111 => ⟨S32x1x256, .f32⟩
  | 112 => ⟨S1x256, .f32⟩
  | 113 => ⟨S256, .f32⟩
  | 114 => ⟨S1x1x256, .f32⟩
  | 115 => ⟨S32x1x256, .f32⟩
  | 116 => ⟨S32x1x256, .f32⟩
  | 117 => ⟨S32x1x256, .f32⟩
  | 118 => ⟨S32x1x256, .f32⟩
  | 119 => ⟨S1x256, .f32⟩
  | 120 => ⟨S256, .f32⟩
  | 121 => ⟨S1x1x256, .f32⟩
  | 122 => ⟨S32x1x256, .f32⟩
  | 123 => ⟨S32x1x256, .f32⟩
  | 124 => ⟨S32x1x256, .f32⟩
  | 125 => ⟨S32x1x256, .f32⟩
  | 126 => ⟨S1x256, .f32⟩
  | 127 => ⟨S256, .f32⟩
  | _ => ⟨S32x1x512, .f32⟩

abbrev hbmTy0_1 (i : Nat) : BufTy := match i % 128 with
  | 0 => ⟨S1x1x256, .f32⟩
  | 1 => ⟨S32x1x256, .f32⟩
  | 2 => ⟨S32x1x256, .f32⟩
  | 3 => ⟨S32x1x256, .f32⟩
  | 4 => ⟨S32x1x256, .f32⟩
  | 5 => ⟨S1x256, .f32⟩
  | 6 => ⟨S256, .f32⟩
  | 7 => ⟨S1x1x256, .f32⟩
  | 8 => ⟨S32x1x256, .f32⟩
  | 9 => ⟨S32x1x256, .f32⟩
  | 10 => ⟨S32x1x256, .f32⟩
  | 11 => ⟨S32x1x256, .f32⟩
  | 12 => ⟨S1x256, .f32⟩
  | 13 => ⟨S256, .f32⟩
  | 14 => ⟨S1x1x256, .f32⟩
  | 15 => ⟨S32x1x256, .f32⟩
  | 16 => ⟨S32x1x256, .f32⟩
  | 17 => ⟨S32x1x256, .f32⟩
  | 18 => ⟨S32x1x256, .f32⟩
  | 19 => ⟨S1x256, .f32⟩
  | 20 => ⟨S256, .f32⟩
  | 21 => ⟨S1x1x256, .f32⟩
  | 22 => ⟨S32x1x256, .f32⟩
  | 23 => ⟨S32x1x256, .f32⟩
  | 24 => ⟨S32x1x256, .f32⟩
  | 25 => ⟨S32x1x256, .f32⟩
  | 26 => ⟨S1x256, .f32⟩
  | 27 => ⟨S256, .f32⟩
  | 28 => ⟨S1x1x256, .f32⟩
  | 29 => ⟨S32x1x256, .f32⟩
  | 30 => ⟨S32x1x256, .f32⟩
  | 31 => ⟨S32x1x256, .f32⟩
  | 32 => ⟨S32x1x256, .f32⟩
  | 33 => ⟨S1x256, .f32⟩
  | 34 => ⟨S256, .f32⟩
  | 35 => ⟨S1x1x256, .f32⟩
  | 36 => ⟨S32x1x256, .f32⟩
  | 37 => ⟨S32x1x256, .f32⟩
  | 38 => ⟨S32x1x256, .f32⟩
  | 39 => ⟨S32x1x256, .f32⟩
  | 40 => ⟨S1x256, .f32⟩
  | 41 => ⟨S256, .f32⟩
  | 42 => ⟨S1x1x256, .f32⟩
  | 43 => ⟨S32x1x256, .f32⟩
  | 44 => ⟨S32x1x256, .f32⟩
  | 45 => ⟨S32x1x256, .f32⟩
  | 46 => ⟨S32x1x256, .f32⟩
  | 47 => ⟨S1x256, .f32⟩
  | 48 => ⟨S256, .f32⟩
  | 49 => ⟨S1x1x256, .f32⟩
  | 50 => ⟨S32x1x256, .f32⟩
  | 51 => ⟨S32x1x256, .f32⟩
  | 52 => ⟨S32x1x256, .f32⟩
  | 53 => ⟨S32x1x256, .f32⟩
  | 54 => ⟨S1x256, .f32⟩
  | 55 => ⟨S256, .f32⟩
  | 56 => ⟨S1x1x256, .f32⟩
  | 57 => ⟨S32x1x256, .f32⟩
  | 58 => ⟨S32x1x256, .f32⟩
  | 59 => ⟨S32x1x256, .f32⟩
  | 60 => ⟨S32x1x256, .f32⟩
  | 61 => ⟨S1x256, .f32⟩
  | 62 => ⟨S256, .f32⟩
  | 63 => ⟨S1x1x256, .f32⟩
  | 64 => ⟨S32x1x256, .f32⟩
  | 65 => ⟨S32x1x256, .f32⟩
  | 66 => ⟨S32x1x256, .f32⟩
  | 67 => ⟨S32x1x256, .f32⟩
  | 68 => ⟨S1x256, .f32⟩
  | 69 => ⟨S256, .f32⟩
  | 70 => ⟨S1x1x256, .f32⟩
  | 71 => ⟨S32x1x256, .f32⟩
  | 72 => ⟨S32x1x256, .f32⟩
  | 73 => ⟨S32x1x256, .f32⟩
  | 74 => ⟨S32x1x256, .f32⟩
  | 75 => ⟨S1x256, .f32⟩
  | 76 => ⟨S256, .f32⟩
  | 77 => ⟨S1x1x256, .f32⟩
  | 78 => ⟨S32x1x256, .f32⟩
  | 79 => ⟨S32x1x256, .f32⟩
  | 80 => ⟨S32x1x256, .f32⟩
  | 81 => ⟨S32x1x256, .f32⟩
  | 82 => ⟨S1x256, .f32⟩
  | 83 => ⟨S256, .f32⟩
  | 84 => ⟨S1x1x256, .f32⟩
  | 85 => ⟨S32x1x256, .f32⟩
  | 86 => ⟨S32x1x256, .f32⟩
  | 87 => ⟨S32x1x256, .f32⟩
  | 88 => ⟨S32x1x256, .f32⟩
  | 89 => ⟨S1x256, .f32⟩
  | 90 => ⟨S256, .f32⟩
  | 91 => ⟨S1x1x256, .f32⟩
  | 92 => ⟨S32x1x256, .f32⟩
  | 93 => ⟨S32x1x256, .f32⟩
  | 94 => ⟨S32x1x256, .f32⟩
  | 95 => ⟨S32x1x256, .f32⟩
  | 96 => ⟨S1x256, .f32⟩
  | 97 => ⟨S256, .f32⟩
  | 98 => ⟨S1x1x256, .f32⟩
  | 99 => ⟨S32x1x256, .f32⟩
  | 100 => ⟨S32x1x256, .f32⟩
  | 101 => ⟨S32x1x256, .f32⟩
  | 102 => ⟨S32x1x256, .f32⟩
  | 103 => ⟨S1x256, .f32⟩
  | 104 => ⟨S256, .f32⟩
  | 105 => ⟨S1x1x256, .f32⟩
  | 106 => ⟨S32x1x256, .f32⟩
  | 107 => ⟨S32x1x256, .f32⟩
  | 108 => ⟨S32x1x256, .f32⟩
  | 109 => ⟨S1x1x256, .f32⟩
  | 110 => ⟨S32x1x256, .f32⟩
  | 111 => ⟨S32x1x256, .f32⟩
  | 112 => ⟨S_, .f32⟩
  | 113 => ⟨S32x1, .f32⟩
  | 114 => ⟨S32x1x1, .f32⟩
  | 115 => ⟨S_, .f32⟩
  | 116 => ⟨S32x1x1, .f32⟩
  | 117 => ⟨S32x1x1, .f32⟩
  | 118 => ⟨S32x1x256, .f32⟩
  | 119 => ⟨S32x1x256, .f32⟩
  | 120 => ⟨S32x1x256, .f32⟩
  | 121 => ⟨S_, .f32⟩
  | 122 => ⟨S32x1, .f32⟩
  | 123 => ⟨S32x1x1, .f32⟩
  | 124 => ⟨S_, .f32⟩
  | 125 => ⟨S32x1x1, .f32⟩
  | 126 => ⟨S32x1x1, .f32⟩
  | 127 => ⟨S32x1x256, .f32⟩
  | _ => ⟨S32x1x512, .f32⟩

abbrev hbmTy0_2 (i : Nat) : BufTy := match i % 128 with
  | 0 => ⟨S32x1x256, .f32⟩
  | 1 => ⟨S_, .f32⟩
  | 2 => ⟨S32x1x1, .f32⟩
  | 3 => ⟨S32x1x1, .f32⟩
  | 4 => ⟨S32x1x1, .f32⟩
  | 5 => ⟨S32x1x256, .f32⟩
  | 6 => ⟨S32x1x256, .f32⟩
  | 7 => ⟨S1x1x256, .f32⟩
  | 8 => ⟨S32x1x256, .f32⟩
  | 9 => ⟨S32x1x256, .f32⟩
  | 10 => ⟨S1x1x256, .f32⟩
  | 11 => ⟨S32x1x256, .f32⟩
  | 12 => ⟨S32x1x256, .f32⟩
  | 13 => ⟨S32x1x256, .f32⟩
  | 14 => ⟨S32x1x256, .f32⟩
  | 15 => ⟨S_, .f32⟩
  | 16 => ⟨S32x1x256, .f32⟩
  | 17 => ⟨S32x1x256, .f32⟩
  | 18 => ⟨S_, .f32⟩
  | 19 => ⟨S32x1x256, .f32⟩
  | 20 => ⟨S32x1x256, .f32⟩
  | 21 => ⟨S32x1x256, .f32⟩
  | 22 => ⟨S32x30x256, .f32⟩
  | _ => ⟨S32x1x512, .f32⟩

abbrev hbmTy (i : Nat) : BufTy := match i / 128 with
  | 0 => hbmTy0_0 i
  | 1 => hbmTy0_1 i
  | 2 => hbmTy0_2 i
  | _ => ⟨S32x1x512, .f32⟩

abbrev bufTy : (tb : Table) → Fin (tcTables nBuf tb) → BufTy
  | .hbm, ⟨i, _⟩ => hbmTy i
  | _, _ => ⟨S32x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== FfnStep.lean ====
abbrev S32x1x1024 : Shape := ⟨3, ![32, 1, 1024]⟩
abbrev S32x1x256 : Shape := ⟨3, ![32, 1, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32x1024 : Shape := ⟨2, ![32, 1024]⟩
abbrev S32x256 : Shape := ⟨2, ![32, 256]⟩
abbrev S1x1024 : Shape := ⟨2, ![1, 1024]⟩
abbrev S256x1024 : Shape := ⟨2, ![256, 1024]⟩
abbrev S32 : Shape := ⟨1, ![32]⟩
abbrev S32x1 : Shape := ⟨2, ![32, 1]⟩
abbrev S32x2816 : Shape := ⟨2, ![32, 2816]⟩

abbrev nBuf : Space → Nat
  | .hbm => 25
  | .vmem => 16
  | .smem => 0
  | _ => 0

abbrev bufTy : (tb : Table) → Fin (tcTables nBuf tb) → BufTy
  | .hbm, ⟨0, _⟩ => ⟨S32x1x1024, .f32⟩
  | .hbm, ⟨1, _⟩ => ⟨S32x1x256, .f32⟩
  | .hbm, ⟨2, _⟩ => ⟨S32x1x256, .f32⟩
  | .hbm, ⟨3, _⟩ => ⟨S32x1x256, .f32⟩
  | .hbm, ⟨4, _⟩ => ⟨S32x1x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32x1024, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S32x256, .f32⟩
  | .hbm, ⟨17, _⟩ => ⟨S1024x1024, .bf16⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32x1024, .f32⟩
  | .local _ .vmem, ⟨0, _⟩ => ⟨S32x1024, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .bf16⟩
  | .local _ .vmem, ⟨15, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== FfnStepRefIdeal.lean ====
abbrev S32x1x1024 : Shape := ⟨3, ![32, 1, 1024]⟩
abbrev S32x1x256 : Shape := ⟨3, ![32, 1, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2816 : Shape := ⟨3, ![32, 1, 2816]⟩
abbrev S32x1024 : Shape := ⟨2, ![32, 1024]⟩

abbrev nBuf : Space → Nat
  | .hbm => 78
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x256, .f32⟩
  | .hbm, ⟨2, _⟩ => ⟨S32x1x256, .f32⟩
  | .hbm, ⟨3, _⟩ => ⟨S32x1x256, .f32⟩
  | .hbm, ⟨4, _⟩ => ⟨S32x1x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S_, .f32⟩
  | .hbm, ⟨16, _⟩ => ⟨S32x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S32x1x1, .f32⟩
  | .hbm, ⟨25, _⟩ => ⟨S32x1x1024, .f32⟩
  | .hbm, ⟨26, _⟩ => ⟨S32x1x1024, .f32⟩
  | .hbm, ⟨27, _⟩ => ⟨S1x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S_, .f32⟩
  | .hbm, ⟨33, _⟩ => ⟨S32x1, .f32⟩
  | .hbm, ⟨34, _⟩ => ⟨S32x1x1, .f32⟩
  | .hbm, ⟨35, _⟩ => ⟨S_, .f32⟩
  | .hbm, ⟨36, _⟩ => ⟨S32x1x1, .f32⟩
  | .hbm, ⟨37, _⟩ => ⟨S32x1x1, .f32⟩
  | .hbm, ⟨38, _⟩ => ⟨S_, .f32⟩
  | .hbm, ⟨39, _⟩ => ⟨S32x1x1, .f32⟩
  | .hbm, ⟨40, _⟩ => ⟨S32x1x1, .f32⟩
  | .hbm, ⟨41, _⟩ => ⟨S32x1x1, .f32⟩
  | .hbm, ⟨42, _⟩ => ⟨S32x1x1024, .f32⟩
  | .hbm, ⟨43, _⟩ => ⟨S32x1x1024, .f32⟩
  | .hbm, ⟨44, _⟩ => ⟨S1x1x1024, .f32⟩
  | .hbm, ⟨45, _⟩ => ⟨S32x1x1024, .f32⟩
  | .hbm, ⟨46, _⟩ => ⟨S32x1x1024, .f32⟩
  | .hbm, ⟨47, _⟩ => ⟨S32x1x2816, .f32⟩
  | .hbm, ⟨48, _⟩ => ⟨S32x1x2816, .f32⟩
  | .hbm, ⟨49, _⟩ => ⟨S32x1x2816, .f32⟩
  | .hbm, ⟨50, _⟩ => ⟨S_, .f32⟩
  | .hbm, ⟨51, _⟩ => ⟨S32x1x2816, .f32⟩
  | .hbm, ⟨52, _⟩ => ⟨S32x1x2816, .f32⟩
  | .hbm, ⟨53, _⟩ => ⟨S_, .f32⟩
  | .hbm, ⟨54, _⟩ => ⟨S32x1x2816, .f32⟩
  | .hbm, ⟨55, _⟩ => ⟨S32x1x2816, .f32⟩
  | .hbm, ⟨56, _⟩ => ⟨S32x1x2816, .f32⟩
  | .hbm, ⟨57, _⟩ => ⟨S32x1x2816, .f32⟩
  | .hbm, ⟨58, _⟩ => ⟨S32x1x2816, .f32⟩
  | .hbm, ⟨59, _⟩ => ⟨S32x1x1024, .f32⟩
  | .hbm, ⟨60, _⟩ => ⟨S32x1x1024, .f32⟩
  | .hbm, ⟨61, _⟩ => ⟨S_, .f32⟩
  | .hbm, ⟨62, _⟩ => ⟨S32x1, .f32⟩
  | .hbm, ⟨63, _⟩ => ⟨S32x1x1, .f32⟩
  | .hbm, ⟨64, _⟩ => ⟨S_, .f32⟩
  | .hbm, ⟨65, _⟩ => ⟨S32x1x1, .f32⟩
  | .hbm, ⟨66, _⟩ => ⟨S32x1x1, .f32⟩
  | .hbm, ⟨67, _⟩ => ⟨S_, .f32⟩
  | .hbm, ⟨68, _⟩ => ⟨S32x1x1, .f32⟩
  | .hbm, ⟨69, _⟩ => ⟨S32x1x1, .f32⟩
  | .hbm, ⟨70, _⟩ => ⟨S32x1x1, .f32⟩
  | .hbm, ⟨71, _⟩ => ⟨S32x1x1024, .f32⟩
  | .hbm, ⟨72, _⟩ => ⟨S32x1x1024, .f32⟩
  | .hbm, ⟨73, _⟩ => ⟨S1x1x1024, .f32⟩
  | .hbm, ⟨74, _⟩ => ⟨S32x1x1024, .f32⟩
  | .hbm, ⟨75, _⟩ => ⟨S32x1x1024, .f32⟩
  | .hbm, ⟨76, _⟩ => ⟨S32x1x1024, .f32⟩
  | .hbm, ⟨77, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== InprojStep.lean ====
abbrev S32x1x1024 : Shape := ⟨3, ![32, 1, 1024]⟩
abbrev S1024 : Shape := ⟨1, ![1024]⟩
abbrev S1024x3336 : Shape := ⟨2, ![1024, 3336]⟩
abbrev S32x1024 : Shape := ⟨2, ![32, 1024]⟩
abbrev S1024x1032 : Shape := ⟨2, ![1024, 1032]⟩
abbrev S1024x768 : Shape := ⟨2, ![1024, 768]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x1152 : Shape := ⟨2, ![1024, 1152]⟩
abbrev S1024x2304 : Shape := ⟨2, ![1024, 2304]⟩
abbrev S1024x3456 : Shape := ⟨2, ![1024, 3456]⟩
abbrev S1x1024 : Shape := ⟨2, ![1, 1024]⟩
abbrev S32x256 : Shape := ⟨2, ![32, 256]⟩
abbrev S32x512 : Shape := ⟨2, ![32, 512]⟩
abbrev S32x1152 : Shape := ⟨2, ![32, 1152]⟩
abbrev S32 : Shape := ⟨1, ![32]⟩
abbrev S32x1 : Shape := ⟨2, ![32, 1]⟩
abbrev S1024x512 : Shape := ⟨2, ![1024, 512]⟩
abbrev S1024x1024 : Shape := ⟨2, ![1024, 1024]⟩

abbrev nBuf : Space → Nat
  | .hbm => 21
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3336, .f32⟩
  | .hbm, ⟨3, _⟩ => ⟨S32x1024, .f32⟩
  | .hbm, ⟨4, _⟩ => ⟨S1024x1032, .f32⟩
  | .hbm, ⟨5, _⟩ => ⟨S1024x768, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x1152, .f32⟩
  | .hbm, ⟨11, _⟩ => ⟨S1024x2304, .f32⟩
  | .hbm, ⟨12, _⟩ => ⟨S1024x3456, .f32⟩
  | .hbm, ⟨13, _⟩ => ⟨S1024x3456, .bf16⟩
  | .hbm, ⟨14, _⟩ => ⟨S1x1024, .f32⟩
  | .hbm, ⟨15, _⟩ => ⟨S32x256, .f32⟩
  | .hbm, ⟨16, _⟩ => ⟨S32x256, .f32⟩
  | .hbm, ⟨17, _⟩ => ⟨S32x256, .f32⟩
  | .hbm, ⟨18, _⟩ => ⟨S32x512, .f32⟩
  | .hbm, ⟨19, _⟩ => ⟨S32x1024, .f32⟩
  | .hbm, ⟨20, _⟩ => ⟨S32x1152, .f32⟩
  | .local _ .vmem, ⟨0, _⟩ => ⟨S32x1024, .f32⟩
  | .local _ .vmem, ⟨1, _⟩ => ⟨S1x1024, .f32⟩
  | .local _ .vmem, ⟨2, _⟩ => ⟨S1024x3456, .bf16⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x512, .f32⟩
  | .local _ .vmem, ⟨7, _⟩ => ⟨S32x1024, .f32⟩
  | .local _ .vmem, ⟨8, _⟩ => ⟨S32x1152, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== InprojStepRefIdeal.lean ====
abbrev S32x1x1024 : Shape := ⟨3, ![32, 1, 1024]⟩
abbrev S1024 : Shape := ⟨1, ![1024]⟩
abbrev S1024x3336 : Shape := ⟨2, ![1024, 3336]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3336 : Shape := ⟨3, ![32, 1, 3336]⟩
abbrev S32x1x1032 : Shape := ⟨3, ![32, 1, 1032]⟩
abbrev S32x1x8 : Shape := ⟨3, ![32, 1, 8]⟩
abbrev S32x1x256 : Shape := ⟨3, ![32, 1, 256]⟩
abbrev S32x1x768 : Shape := ⟨3, ![32, 1, 768]⟩
abbrev S32x1x120 : Shape := ⟨3, ![32, 1, 120]⟩
abbrev S32x1x1152 : Shape := ⟨3, ![32, 1, 1152]⟩
abbrev S32x256 : Shape := ⟨2, ![32, 256]⟩
abbrev S32x1x512 : Shape := ⟨3, ![32, 1, 512]⟩
abbrev S32x512 : Shape := ⟨2, ![32, 512]⟩
abbrev S32x1024 : Shape := ⟨2, ![32, 1024]⟩
abbrev S32x1152 : Shape := ⟨2, ![32, 1152]⟩

abbrev nBuf : Space → Nat
  | .hbm => 38
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3336, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x3336, .f32⟩
  | .hbm, ⟨20, _⟩ => ⟨S32x1x1032, .f32⟩
  | .hbm, ⟨21, _⟩ => ⟨S32x1x8, .f32⟩
  | .hbm, ⟨22, _⟩ => ⟨S32x1x256, .f32⟩
  | .hbm, ⟨23, _⟩ => ⟨S32x1x768, .f32⟩
  | .hbm, ⟨24, _⟩ => ⟨S_, .f32⟩
  | .hbm, ⟨25, _⟩ => ⟨S32x1x120, .f32⟩
  | .hbm, ⟨26, _⟩ => ⟨S32x1x1152, .f32⟩
  | .hbm, ⟨27, _⟩ => ⟨S32x1x256, .f32⟩
  | .hbm, ⟨28, _⟩ => ⟨S32x256, .f32⟩
  | .hbm, ⟨29, _⟩ => ⟨S32x1x256, .f32⟩
  | .hbm, ⟨30, _⟩ => ⟨S32x256, .f32⟩
  | .hbm, ⟨31, _⟩ => ⟨S32x1x256, .f32⟩
  | .hbm, ⟨32, _⟩ => ⟨S32x256, .f32⟩
  | .hbm, ⟨33, _⟩ => ⟨S32x1x512, .f32⟩
  | .hbm, ⟨34, _⟩ => ⟨S32x512, .f32⟩
  | .hbm, ⟨35, _⟩ => ⟨S32x1x1024, .f32⟩
  | .hbm, ⟨36, _⟩ => ⟨S32x1024, .f32⟩
  | .hbm, ⟨37, _⟩ => ⟨S32x1152, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== DnStep.lean ====
abbrev S32x1x1152 : Shape := ⟨3, ![32, 1, 1152]⟩
abbrev S32x3x768 : Shape := ⟨3, ![32, 3, 768]⟩
abbrev S32x4x64x64 : Shape := ⟨4, ![32, 4, 64, 64]⟩
abbrev S4x768 : Shape := ⟨2, ![4, 768]⟩
abbrev S4 : Shape := ⟨1, ![4]⟩
abbrev S64 : Shape := ⟨1, ![64]⟩
abbrev S_ : Shape := ⟨0, ![]⟩
abbrev S32x8x1152 : Shape := ⟨3, ![32, 8, 1152]⟩
abbrev S32x8x768 : Shape := ⟨3, ![32, 8, 768]⟩
abbrev S32x256x64 : Shape := ⟨3, ![32, 256, 64]⟩
abbrev S128 : Shape := ⟨1, ![128]⟩
abbrev S1x128 : Shape := ⟨2, ![1, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S32x8x256 : Shape := ⟨3, ![32, 8, 256]⟩
abbrev S8x8x1152 : Shape := ⟨3, ![8, 8, 1152]⟩
abbrev S8x8x768 : Shape := ⟨3, ![8, 8, 768]⟩
abbrev S8x256x64 : Shape := ⟨3, ![8, 256, 64]⟩
abbrev S8x8x256 : Shape := ⟨3, ![8, 8, 256]⟩
abbrev S8x256x256 : Shape := ⟨3, ![8, 256, 256]⟩
abbrev S256x256 : Shape := ⟨2, ![256, 256]⟩
abbrev S32x256 : Shape := ⟨2, ![32, 256]⟩
abbrev S32x32 : Shape := ⟨2, ![32, 32]⟩
abbrev S1x256x64 : Shape := ⟨3, ![1, 256, 64]⟩
abbrev S256x64 : Shape := ⟨2, ![256, 64]⟩
abbrev S1x256x256 : Shape := ⟨3, ![1, 256, 256]⟩
abbrev S128x256 : Shape := ⟨2, ![128, 256]⟩
abbrev S8x8 : Shape := ⟨2, ![8, 8]⟩
abbrev S8x32 : Shape := ⟨2, ![8, 32]⟩
abbrev S1x8x768 : Shape := ⟨3, ![1, 8, 768]⟩
abbrev S8x768 : Shape := ⟨2, ![8, 768]⟩
abbrev S16x768 : Shape := ⟨2, ![16, 768]⟩
abbrev S1x768 : Shape := ⟨2, ![1, 768]⟩
abbrev S64x768 : Shape := ⟨2, ![64, 768]⟩
abbrev S64x1152 : Shape := ⟨2, ![64, 1152]⟩
abbrev S64x256 : Shape := ⟨2, ![64, 256]⟩
abbrev S64x128 : Shape := ⟨2, ![64, 128]⟩
abbrev S64x1 : Shape := ⟨2, ![64, 1]⟩
abbrev S8x256 : Shape := ⟨2, ![8, 256]⟩
abbrev S32 : Shape := ⟨1, ![32]⟩
abbrev S1x32 : Shape := ⟨2, ![1, 32]⟩
abbrev S16x256 : Shape := ⟨2, ![16, 256]⟩
abbrev S16x32 : Shape := ⟨2, ![16, 32]⟩
abbrev S256x1 : Shape := ⟨2, ![256, 1]⟩
abbrev S1x8x256 : Shape := ⟨3, ![1, 8, 256]⟩
abbrev S64x64 : Shape := ⟨2, ![64, 64]⟩

abbrev nBuf : Space → Nat
  | .hbm => 28
  | .vmem => 16
  | .smem => 0
  | _ => 0

abbrev bufTy : (tb : Table) → Fin (tcTables nBuf tb) → BufTy
  | .hbm, ⟨0, _⟩ => ⟨S32x1x1152, .f32⟩
  | .hbm, ⟨1, _⟩ => ⟨S32x3x768, .f32⟩
  | .hbm, ⟨2, _⟩ => ⟨S32x4x64x64, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S32x8x1152, .f32⟩
  | .hbm, ⟨10, _⟩ => ⟨S_, .i32⟩
  | .hbm, ⟨11, _⟩ => ⟨S_, .f32⟩
  | .hbm, ⟨12, _⟩ => ⟨S32x8x768, .f32⟩
  | .hbm, ⟨13, _⟩ => ⟨S32x256x64, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S32x8x256, .f32⟩
  | .hbm, ⟨27, _⟩ => ⟨S32x256x64, .f32⟩
  | .local _ .vmem, ⟨0, _⟩ => ⟨S8x8x1152, .f32⟩
  | .local _ .vmem, ⟨1, _⟩ => ⟨S8x8x1152, .f32⟩
  | .local _ .vmem, ⟨2, _⟩ => ⟨S8x8x768, .f32⟩
  | .local _ .vmem, ⟨3, _⟩ => ⟨S8x8x768, .f32⟩
  | .local _ .vmem, ⟨4, _⟩ => ⟨S8x256x64, .f32⟩
  | .local _ .vmem, ⟨5, _⟩ => ⟨S8x256x64, .f32⟩
  | .local _ .vmem, ⟨6, _⟩ => ⟨S4x768, .f32⟩
  | .local _ .vmem, ⟨7, _⟩ => ⟨S1x128, .f32⟩
  | .local _ .vmem, ⟨8, _⟩ => ⟨S1x128, .f32⟩
  | .local _ .vmem, ⟨9, _⟩ => ⟨S1x256, .f32⟩
  | .local _ .vmem, ⟨10, _⟩ => ⟨S8x8x256, .f32⟩
  | .local _ .vmem, ⟨11, _⟩ => ⟨S8x8x256, .f32⟩
  | .local _ .vmem, ⟨12, _⟩ => ⟨S8x256x64, .f32⟩
  | .local _ .vmem, ⟨13, _⟩ => ⟨S8x256x64, .f32⟩
  | .local _ .vmem, ⟨14, _⟩ => ⟨S8x256x256, .f32⟩
  | .local _ .vmem, ⟨15, _⟩ => ⟨S8x8x768, .f32⟩
  | _, _ => ⟨S32x1x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_call3_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_596 : BitVec 32 := 0#32
  let v1726 : BitVec 1 := Scalar.cmpi .eq arg1 c0_i32_596
  let v1727 : BitVec 32 := Scalar.extui v1726
  let c0_i32_597 : BitVec 32 := 0#32
  let v1728 : BitVec 1 := Scalar.cmpi .ne v1727 c0_i32_597
  v1728

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DnStepRefIdeal.lean ====
abbrev S32x1x1152 : Shape := ⟨3, ![32, 1, 1152]⟩
abbrev S32x3x768 : Shape := ⟨3, ![32, 3, 768]⟩
abbrev S32x4x64x64 : Shape := ⟨4, ![32, 4, 64, 64]⟩
abbrev S4x768 : Shape := ⟨2, ![4, 768]⟩
abbrev S4 : Shape := ⟨1, ![4]⟩
abbrev S64 : Shape := ⟨1, ![64]⟩
abbrev S32x1x768 : Shape := ⟨3, ![32, 1, 768]⟩
abbrev S32x4x768 : Shape := ⟨3, ![32, 4, 768]⟩
abbrev S32x768 : Shape := ⟨2, ![32, 768]⟩
abbrev S1x768 : Shape := ⟨2, ![1, 768]⟩
abbrev S768 : Shape := ⟨1, ![768]⟩
abbrev S_ : Shape := ⟨0, ![]⟩
abbrev S32x256 : Shape := ⟨2, ![32, 256]⟩
abbrev S32x4x64 : Shape := ⟨3, ![32, 4, 64]⟩
abbrev S32x4 : Shape := ⟨2, ![32, 4]⟩
abbrev S32x4x1 : Shape := ⟨3, ![32, 4, 1]⟩
abbrev S32x1x8 : Shape := ⟨3, ![32, 1, 8]⟩
abbrev S32x8 : Shape := ⟨2, ![32, 8]⟩
abbrev S1x4 : Shape := ⟨2, ![1, 4]⟩
abbrev S32x4x64x1 : Shape := ⟨4, ![32, 4, 64, 1]⟩
abbrev S32x4x1x1 : Shape := ⟨4, ![32, 4, 1, 1]⟩
abbrev S32x4x1x64 : Shape := ⟨4, ![32, 4, 1, 64]⟩
abbrev S32x256x64 : Shape := ⟨3, ![32, 256, 64]⟩

abbrev nBuf : Space → Nat
  | .hbm => 127
  | .vmem => 0
  | .smem => 0
  | _ => 0

abbrev bufTy : (tb : Table) → Fin (tcTables nBuf tb) → BufTy
  | .hbm, ⟨0, _⟩ => ⟨S32x1x1152, .f32⟩
  | .hbm, ⟨1, _⟩ => ⟨S32x3x768, .f32⟩
  | .hbm, ⟨2, _⟩ => ⟨S32x4x64x64, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S64, .f32⟩
  | .hbm, ⟨7, _⟩ => ⟨S32x1x768, .f32⟩
  | .hbm, ⟨8, _⟩ => ⟨S32x4x768, .f32⟩
  | .hbm, ⟨9, _⟩ => ⟨S32x1x768, .f32⟩
  | .hbm, ⟨10, _⟩ => ⟨S32x768, .f32⟩
  | .hbm, ⟨11, _⟩ => ⟨S1x768, .f32⟩
  | .hbm, ⟨12, _⟩ => ⟨S768, .f32⟩
  | .hbm, ⟨13, _⟩ => ⟨S1x768, .f32⟩
  | .hbm, ⟨14, _⟩ => ⟨S32x768, .f32⟩
  | .hbm, ⟨15, _⟩ => ⟨S32x768, .f32⟩
  | .hbm, ⟨16, _⟩ => ⟨S_, .f32⟩
  | .hbm, ⟨17, _⟩ => ⟨S32x768, .f32⟩
  | .hbm, ⟨18, _⟩ => ⟨S32x768, .f32⟩
  | .hbm, ⟨19, _⟩ => ⟨S32x1x768, .f32⟩
  | .hbm, ⟨20, _⟩ => ⟨S32x768, .f32⟩
  | .hbm, ⟨21, _⟩ => ⟨S1x768, .f32⟩
  | .hbm, ⟨22, _⟩ => ⟨S768, .f32⟩
  | .hbm, ⟨23, _⟩ => ⟨S1x768, .f32⟩
  | .hbm, ⟨24, _⟩ => ⟨S32x768, .f32⟩
  | .hbm, ⟨25, _⟩ => ⟨S32x768, .f32⟩
  | .hbm, ⟨26, _⟩ => ⟨S32x768, .f32⟩
  | .hbm, ⟨27, _⟩ => ⟨S32x1x768, .f32⟩
  | .hbm, ⟨28, _⟩ => ⟨S32x768, .f32⟩
  | .hbm, ⟨29, _⟩ => ⟨S1x768, .f32⟩
  | .hbm, ⟨30, _⟩ => ⟨S768, .f32⟩
  | .hbm, ⟨31, _⟩ => ⟨S1x768, .f32⟩
  | .hbm, ⟨32, _⟩ => ⟨S32x768, .f32⟩
  | .hbm, ⟨33, _⟩ => ⟨S32x768, .f32⟩
  | .hbm, ⟨34, _⟩ => ⟨S32x768, .f32⟩
  | .hbm, ⟨35, _⟩ => ⟨S32x1x768, .f32⟩
  | .hbm, ⟨36, _⟩ => ⟨S32x768, .f32⟩
  | .hbm, ⟨37, _⟩ => ⟨S1x768, .f32⟩
  | .hbm, ⟨38, _⟩ => ⟨S768, .f32⟩
  | .hbm, ⟨39, _⟩ => ⟨S1x768, .f32⟩
  | .hbm, ⟨40, _⟩ => ⟨S32x768, .f32⟩
  | .hbm, ⟨41, _⟩ => ⟨S32x768, .f32⟩
  | .hbm, ⟨42, _⟩ => ⟨S32x768, .f32⟩
  | .hbm, ⟨43, _⟩ => ⟨S32x768, .f32⟩
  | .hbm, ⟨44, _⟩ => ⟨S32x768, .f32⟩
  | .hbm, ⟨45, _⟩ => ⟨S_, .f32⟩
  | .hbm, ⟨46, _⟩ => ⟨S32x768, .f32⟩
  | .hbm, ⟨47, _⟩ => ⟨S32x768, .f32⟩
  | .hbm, ⟨48, _⟩ => ⟨S_, .f32⟩
  | .hbm, ⟨49, _⟩ => ⟨S32x768, .f32⟩
  | .hbm, ⟨50, _⟩ => ⟨S32x768, .f32⟩
  | .hbm, ⟨51, _⟩ => ⟨S32x768, .f32⟩
  | .hbm, ⟨52, _⟩ => ⟨S32x256, .f32⟩
  | .hbm, ⟨53, _⟩ => ⟨S32x4x64, .f32⟩
  | .hbm, ⟨54, _⟩ => ⟨S32x4x64, .f32⟩
  | .hbm, ⟨55, _⟩ => ⟨S_, .f32⟩
  | .hbm, ⟨56, _⟩ => ⟨S32x4, .f32⟩
  | .hbm, ⟨57, _⟩ => ⟨S32x4x1, .f32⟩
  | .hbm, ⟨58, _⟩ => ⟨S_, .f32⟩
  | .hbm, ⟨59, _⟩ => ⟨S32x4x1, .f32⟩
  | .hbm, ⟨60, _⟩ => ⟨S32x4x1, .f32⟩
  | .hbm, ⟨61, _⟩ => ⟨S32x4x1, .f32⟩
  | .hbm, ⟨62, _⟩ => ⟨S32x4x64, .f32⟩
  | .hbm, ⟨63, _⟩ => ⟨S32x4x64, .f32⟩
  | .hbm, ⟨64, _⟩ => ⟨S32x256, .f32⟩
  | .hbm, ⟨65, _⟩ => ⟨S32x4x64, .f32⟩
  | .hbm, ⟨66, _⟩ => ⟨S32x1x8, .f32⟩
  | .hbm, ⟨67, _⟩ => ⟨S32x8, .f32⟩
  | .hbm, ⟨68, _⟩ => ⟨S4, .f32⟩
  | .hbm, ⟨69, _⟩ => ⟨S4, .f32⟩
  | .hbm, ⟨70, _⟩ => ⟨S32x4, .f32⟩
  | .hbm, ⟨71, _⟩ => ⟨S1x4, .f32⟩
  | .hbm, ⟨72, _⟩ => ⟨S32x4, .f32⟩
  | .hbm, ⟨73, _⟩ => ⟨S32x4, .f32⟩
  | .hbm, ⟨74, _⟩ => ⟨S_, .f32⟩
  | .hbm, ⟨75, _⟩ => ⟨S32x4, .f32⟩
  | .hbm, ⟨76, _⟩ => ⟨S32x4, .f32⟩
  | .hbm, ⟨77, _⟩ => ⟨S32x4, .f32⟩
  | .hbm, ⟨78, _⟩ => ⟨S32x4, .f32⟩
  | .hbm, ⟨79, _⟩ => ⟨S32x4, .i1⟩
  | .hbm, ⟨80, _⟩ => ⟨S32x4, .f32⟩
  | .hbm, ⟨81, _⟩ => ⟨S32x4, .f32⟩
  | .hbm, ⟨82, _⟩ => ⟨S32x4, .f32⟩
  | .hbm, ⟨83, _⟩ => ⟨S32x4, .f32⟩
  | .hbm, ⟨84, _⟩ => ⟨S32x4, .f32⟩
  | .hbm, ⟨85, _⟩ => ⟨S32x4, .f32⟩
  | .hbm, ⟨86, _⟩ => ⟨S32x4, .f32⟩
  | .hbm, ⟨87, _⟩ => ⟨S32x4, .f32⟩
  | .hbm, ⟨88, _⟩ => ⟨S1x4, .f32⟩
  | .hbm, ⟨89, _⟩ => ⟨S32x4, .f32⟩
  | .hbm, ⟨90, _⟩ => ⟨S32x4, .f32⟩
  | .hbm, ⟨91, _⟩ => ⟨S32x4, .f32⟩
  | .hbm, ⟨92, _⟩ => ⟨S32x4, .f32⟩
  | .hbm, ⟨93, _⟩ => ⟨S32x4, .f32⟩
  | .hbm, ⟨94, _⟩ => ⟨S_, .f32⟩
  | .hbm, ⟨95, _⟩ => ⟨S32x4, .f32⟩
  | .hbm, ⟨96, _⟩ => ⟨S32x4, .f32⟩
  | .hbm, ⟨97, _⟩ => ⟨S_, .f32⟩
  | .hbm, ⟨98, _⟩ => ⟨S32x4, .f32⟩
  | .hbm, ⟨99, _⟩ => ⟨S32x4, .f32⟩
  | .hbm, ⟨100, _⟩ => ⟨S32x4x1, .f32⟩
  | .hbm, ⟨101, _⟩ => ⟨S32x4x64, .f32⟩
  | .hbm, ⟨102, _⟩ => ⟨S32x4x64, .f32⟩
  | .hbm, ⟨103, _⟩ => ⟨S32x4, .f32⟩
  | .hbm, ⟨104, _⟩ => ⟨S32x4x1, .f32⟩
  | .hbm, ⟨105, _⟩ => ⟨S32x4x64, .f32⟩
  | .hbm, ⟨106, _⟩ => ⟨S32x4x64, .f32⟩
  | .hbm, ⟨107, _⟩ => ⟨S32x4x1, .f32⟩
  | .hbm, ⟨108, _⟩ => ⟨S32x4x64, .f32⟩
  | .hbm, ⟨109, _⟩ => ⟨S32x4x64, .f32⟩
  | .hbm, ⟨110, _⟩ => ⟨S32x4x64x1, .f32⟩
  | .hbm, ⟨111, _⟩ => ⟨S32x4x64x64, .f32⟩
  | .hbm, ⟨112, _⟩ => ⟨S32x4x64x64, .f32⟩
  | .hbm, ⟨113, _⟩ => ⟨S_, .f32⟩
  | .hbm, ⟨114, _⟩ => ⟨S32x4x64, .f32⟩
  | .hbm, ⟨115, _⟩ => ⟨S32x4x64, .f32⟩
  | .hbm, ⟨116, _⟩ => ⟨S32x4, .f32⟩
  | .hbm, ⟨117, _⟩ => ⟨S32x4x1x1, .f32⟩
  | .hbm, ⟨118, _⟩ => ⟨S32x4x64x64, .f32⟩
  | .hbm, ⟨119, _⟩ => ⟨S32x4x64x64, .f32⟩
  | .hbm, ⟨120, _⟩ => ⟨S32x4x64x1, .f32⟩
  | .hbm, ⟨121, _⟩ => ⟨S32x4x1x64, .f32⟩
  | .hbm, ⟨122, _⟩ => ⟨S32x4x64x64, .f32⟩
  | .hbm, ⟨123, _⟩ => ⟨S32x4x64x64, .f32⟩
  | .hbm, ⟨124, _⟩ => ⟨S32x4x64x64, .f32⟩
  | .hbm, ⟨125, _⟩ => ⟨S32x4x64x64, .f32⟩
  | .hbm, ⟨126, _⟩ => ⟨S32x256x64, .f32⟩
  | _, _ => ⟨S32x1x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_2 : Ref sig .tc := ⟨.hbm, 94, rfl⟩
abbrev main_v63 : Ref sig .tc := ⟨.hbm, 95, rfl⟩
abbrev main_v64 : Ref sig .tc := ⟨.hbm, 96, rfl⟩
abbrev main_cst_3 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_4 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Proof.Rows.lean ====
/-
  The row formulas both sides of the claims are read at: an RMS norm over 1024 features with a gain, its use as a
  residual, a gated feed-forward layer, and the row of the mixing-and-feed-forward call built from them.
-/
module

public import Idealize.ShloMosaic.Lib.Pointwise

@[expose] public section

noncomputable section

namespace Cert.Rows

open Idealize.ShloMosaic
open scoped BigOperators

/-- The RMS norm of a row `v`, scaled by the gain `g`, at feature `n`. -/
def rmsn (v g : Fin 1024 → EReal) (n : Fin 1024) : EReal :=
  v n * Ideal.rsqrt (Ideal.div (∑ k, v k * v k) (Ideal.ofBits .f32 0x44800000#32) + Ideal.ofBits .f32 0x358637BD#32) * g n

/-- The row `x` plus the norm of the row `v`. -/
def resid (x v g : Fin 1024 → EReal) (n : Fin 1024) : EReal := x n + rmsn v g n

/-- The hidden feature `f` of the gated layer: `a · σ(a) · u`, with `a` and `u` the two projections of the row `h`. -/
def gate (h : Fin 1024 → EReal) (wg wu : Fin 1024 → Fin 2816 → EReal) (f : Fin 2816) : EReal :=
  (∑ k, h k * wg k f) * Ideal.logistic (∑ k, h k * wg k f) * ∑ k, h k * wu k f

/-- The mixed row at feature `n`: one sum per mixer over its 256 columns. -/
def mix4 (u0 u1 u2 u3 : Fin 256 → EReal) (w : Fin 1024 → Fin 1024 → EReal) (n : Fin 1024) : EReal :=
  (∑ k : Fin 256, u0 k * w ⟨k.val, by omega⟩ n) + (∑ k : Fin 256, u1 k * w ⟨256 + k.val, by omega⟩ n)
    + (∑ k : Fin 256, u2 k * w ⟨512 + k.val, by omega⟩ n) + ∑ k : Fin 256, u3 k * w ⟨768 + k.val, by omega⟩ n

/-- One row of the call: the residual of the mixed row, then the residual of its gated feed-forward layer. -/
def ffnRow (mix x gm g1 g2 : Fin 1024 → EReal) (wg wu : Fin 1024 → Fin 2816 → EReal) (wd : Fin 2816 → Fin 1024 → EReal) :
    Fin 1024 → EReal :=
  resid (resid x mix gm) (fun n => ∑ f, gate (rmsn (resid x mix gm) g1) wg wu f * wd f n) g2

/-- Equal inputs give equal mixed rows. -/
theorem mix4_congr {u0 u1 u2 u3 v0 v1 v2 v3 : Fin 256 → EReal} {w w' : Fin 1024 → Fin 1024 → EReal} (h0 : u0 = v0) (h1 : u1 = v1)
    (h2 : u2 = v2) (h3 : u3 = v3) (h : w = w') (n : Fin 1024) : mix4 u0 u1 u2 u3 w n = mix4 v0 v1 v2 v3 w' n := by
  subst h0 h1 h2 h3 h; rfl

/-- Equal inputs give equal rows of the call. -/
theorem ffnRow_congr {mix x gm g1 g2 mix' x' gm' g1' g2' : Fin 1024 → EReal} {wg wu wg' wu' : Fin 1024 → Fin 2816 → EReal} {wd wd' : Fin 2816 → Fin 1024 → EReal}
    (h0 : mix = mix') (h1 : x = x') (h2 : gm = gm') (h3 : g1 = g1') (h4 : g2 = g2') (h5 : wg = wg') (h6 : wu = wu') (h7 : wd = wd') (n : Fin 1024) :
    ffnRow mix x gm g1 g2 wg wu wd n = ffnRow mix' x' gm' g1' g2' wg' wu' wd' n := by
  subst h0 h1 h2 h3 h4 h5 h6 h7; rfl

end Cert.Rows

end
-- ==== Proof.FfnBlock.lean ====
/-
  What one block of the mixing-and-feed-forward call computes: the output block as one term of the twelve input blocks,
  and that term at a row and a feature.
-/
module

public import proofs.«01_k».proof.Proof.Gen.FfnIdeal.Value
public import proofs.«01_k».proof.Proof.Rows
public import Idealize.ShloMosaic.Lib.Pointwise
public import Idealize.ShloMosaic.Lib.Pipeline.ValueKit

@[expose] public section

noncomputable section

namespace Cert.Proof.FfnBlock

open Idealize.ShloMosaic Idealize.SL.Sem Cert.FfnIdeal Cert.FfnIdeal.Gen Idealize.ShloMosaic.TcCoe

variable {F : FTy → Type} [FloatOps F]

/-- The zero offsets, as a function. -/
theorem hz : (![0, 0] : Fin 2 → Nat) = fun _ => 0 := funext fun a => by fin_cases a <;> rfl

/-- Rows `o … o + 255` of the output projection. -/
abbrev rowsOf (x5 : Vec F S1024x1024 .bf16) (o : Nat) (h : ∀ a, (![o, 0] : Fin 2 → Nat) a + S256x1024.size a ≤ S1024x1024.size a) :
    Vec F S256x1024 .bf16 := View.ld x5 (Rect.unit (s := S1024x1024) ![o, 0] S256x1024.size h)

/-- The mixed block: the sum of the four mixers' products. -/
def mixB (x1 x2 x3 x4 : Vec F S512x256 .f32) (x5 : Vec F S1024x1024 .bf16) : FVec F S512x1024 .f32 :=
  k0_pay7 x1 (rowsOf x5 0 inb_S1024x1024_S256x1024_0_0) x2 (rowsOf x5 256 inb_S1024x1024_S256x1024_256_0)
    x3 (rowsOf x5 512 inb_S1024x1024_S256x1024_512_0) x4 (rowsOf x5 768 inb_S1024x1024_S256x1024_768_0)

/-- The sums of squares of the mixed block's rows. -/
def sqB (x1 x2 x3 x4 : Vec F S512x256 .f32) (x5 : Vec F S1024x1024 .bf16) : FVec F S512x1 .f32 :=
  k0_pay10 x1 (rowsOf x5 0 inb_S1024x1024_S256x1024_0_0) x2 (rowsOf x5 256 inb_S1024x1024_S256x1024_256_0)
    x3 (rowsOf x5 512 inb_S1024x1024_S256x1024_512_0) x4 (rowsOf x5 768 inb_S1024x1024_S256x1024_768_0)

/-- The whole output block, from the input blocks. -/
def outB (x0 : Vec F S512x1024 .f32) (x1 x2 x3 x4 : Vec F S512x256 .f32) (x5 : Vec F S1024x1024 .bf16)
    (x6 x7 : Vec F S1x1024 .f32) (x8 x9 : Vec F S1024x2816 .bf16) (x10 : Vec F S2816x1024 .bf16) (x11 : Vec F S1x1024 .f32) :
    FVec F S512x1024 .f32 :=
  k0_pay6 (k0_pay2 (mixB x1 x2 x3 x4 x5) (k0_pay8 x0) (k0_pay9 x6) (sqB x1 x2 x3 x4 x5) (Scalar.ofBits .f32 0x44800000#32))
    (k0_pay5 (k0_pay3 (mixB x1 x2 x3 x4 x5) (k0_pay8 x0) (k0_pay9 x6) (sqB x1 x2 x3 x4 x5) (Scalar.ofBits .f32 0x44800000#32) x7)
      x8 x9 k0_pay4 x10) x11

set_option maxHeartbeats 1000000 in
/-- What the body leaves in the output's staging buffer is `outB` of the input blocks. -/
theorem out_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x1024 .f32) (harg17 : arg17.IsWhole) (hc0 : cond0_0 i) (hc1 : cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1x1024 .f32) (x8 : Vec F S1024x2816 .bf16) (x9 : Vec F S1024x2816 .bf16) (x10 : Vec F S2816x1024 .bf16) (x11 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 = outB x0 x1 x2 x3 x4 x5 x6 x7 x8 x9 x10 x11 := by
  frame_out
  rfl

/-- The mixed block at row `r` and feature `n`. -/
theorem mixB_apply (x1 x2 x3 x4 : Vec Ideal S512x256 .f32) (x5 : Vec Ideal S1024x1024 .bf16) (r : Fin 512) (n : Fin 1024) :
    mixB x1 x2 x3 x4 x5 (ix2 r n)
      = (∑ k : Fin 256, x1 (ix2 r k) * x5 (ix2 ⟨k.val, by omega⟩ n)) + (∑ k : Fin 256, x2 (ix2 r k) * x5 (ix2 ⟨256 + k.val, by omega⟩ n))
        + (∑ k : Fin 256, x3 (ix2 r k) * x5 (ix2 ⟨512 + k.val, by omega⟩ n)) + ∑ k : Fin 256, x4 (ix2 r k) * x5 (ix2 ⟨768 + k.val, by omega⟩ n) := by
  unfold mixB rowsOf
  unfold_payloads
  pointwise

/-- Its rows' sums of squares. -/
theorem sqB_apply (x1 x2 x3 x4 : Vec Ideal S512x256 .f32) (x5 : Vec Ideal S1024x1024 .bf16) (r : Fin 512) :
    sqB x1 x2 x3 x4 x5 (ix2 r 0) = ∑ k : Fin 1024, mixB x1 x2 x3 x4 x5 (ix2 r k) * mixB x1 x2 x3 x4 x5 (ix2 r k) := by
  unfold sqB k0_pay10
  rw [← mixB]
  generalize mixB x1 x2 x3 x4 x5 = M
  pointwise

/-- The output block at row `r` and feature `n`: the row formula, at the mixed block's row and the input blocks' rows. -/
theorem outB_apply (x0 : Vec Ideal S512x1024 .f32) (x1 x2 x3 x4 : Vec Ideal S512x256 .f32) (x5 : Vec Ideal S1024x1024 .bf16)
    (x6 x7 : Vec Ideal S1x1024 .f32) (x8 x9 : Vec Ideal S1024x2816 .bf16) (x10 : Vec Ideal S2816x1024 .bf16)
    (x11 : Vec Ideal S1x1024 .f32) (r : Fin 512) (n : Fin 1024) :
    outB x0 x1 x2 x3 x4 x5 x6 x7 x8 x9 x10 x11 (ix2 r n)
      = Rows.ffnRow (fun k => mixB x1 x2 x3 x4 x5 (ix2 r k)) (fun k => x0 (ix2 r k)) (fun k => x6 (ix2 0 k)) (fun k => x7 (ix2 0 k))
          (fun k => x11 (ix2 0 k)) (fun k f => x8 (ix2 k f)) (fun k f => x9 (ix2 k f)) (fun f k => x10 (ix2 f k)) n := by
  unfold outB
  have hs := sqB_apply x1 x2 x3 x4 x5
  revert hs
  generalize mixB x1 x2 x3 x4 x5 = M
  generalize sqB x1 x2 x3 x4 x5 = Q
  intro hs
  unfold_payloads
  pointwise
  simp only [hs]
  unfold Rows.ffnRow Rows.resid Rows.rmsn Rows.gate
  rfl

end Cert.Proof.FfnBlock

end
-- ==== Proof.FfnArr.lean ====
/-
  The result array of the mixing-and-feed-forward call, at every row and feature: the twelve input blocks of a grid
  point read from the arguments, and the block the point writes back.
-/
module

public import proofs.«01_k».proof.Proof.FfnBlock
public import Idealize.ShloMosaic.Lib.StableHlo.RunRead

@[expose] public section

noncomputable section

namespace Cert.Proof.FfnArr

open Idealize.ShloMosaic Idealize.SL.Sem Cert.FfnIdeal Cert.FfnIdeal.Gen Idealize.ShloMosaic.TcCoe

variable (m : (ℓ : Loc nD τ sig) → Buf (Elt Ideal) ℓ)

/-- The flat row of a grid point and a row of its block. -/
def row (t : Fin cfg0.N) (r : Fin 512) : Fin 16384 := ⟨512 * t.val + r.val, by have h := t.isLt; have e : cfg0.N = 32 := N_0; omega⟩

/-- A flattened array at a row. -/
theorem cast1024_apply (x : FVec Ideal S4x4096x1024 .f32) (i : Fin 16384) (n : Fin 1024) :
    shapeCast S16384x1024 x shapeCasts_S4x4096x1024_S16384x1024 (ix2 i n) = x (ix3 ⟨i.val / 4096, by omega⟩ ⟨i.val % 4096, by omega⟩ n) := by
  pointwise

/-- A flattened array of 256 columns at a row. -/
theorem cast256_apply (x : FVec Ideal S4x4096x256 .f32) (i : Fin 16384) (n : Fin 256) :
    shapeCast S16384x256 x shapeCasts_S4x4096x256_S16384x256 (ix2 i n) = x (ix3 ⟨i.val / 4096, by omega⟩ ⟨i.val % 4096, by omega⟩ n) := by
  pointwise

/-- A gain as one row. -/
theorem gain_apply (x : FVec Ideal S1024 .f32) (n : Fin 1024) : shapeCast S1x1024 x shapeCasts_S1024_S1x1024 (ix2 0 n) = x (ix1 n) := by
  pointwise

/-- The block index of window 0 at a point. -/
theorem idx0 : ∀ t : Fin grid0.N, win0_0.index t 0 = t.val ∧ win0_0.index t 1 = 0 := by decide +kernel

/-- The block of window 0, read from its array. -/
theorem blk0 (c : Dev nD) (t : Fin cfg0.N) (r : Fin 512) (n : Fin 1024) :
    (iblk m c 0 t : Vec Ideal S512x1024 .f32) (ix2 r n) = V m c main_v0 (ix2 (row t r) n) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * n.val = n.val; rw [(idx0 t).2]; omega

/-- That array is the reshaped argument. -/
theorem arr0 (c : Dev nD) (i : Fin 16384) (n : Fin 1024) :
    V m c main_v0 (ix2 i n) = m ((c : Thread nD τ).loc main_arg0) (ix3 ⟨i.val / 4096, by omega⟩ ⟨i.val % 4096, by omega⟩ n) := by
  have e : (V m c main_v0 : FVec Ideal S16384x1024 .f32) = shapeCast S16384x1024 (m ((c : Thread nD τ).loc main_arg0)) shapeCasts_S4x4096x1024_S16384x1024 := by
    unfold V; simp only [hostOps0]; after_reads_simp; rfl
  rw [e]
  exact cast1024_apply _ i n

/-- The block index of window 1 at a point. -/
theorem idx1 : ∀ t : Fin grid0.N, win0_1.index t 0 = t.val ∧ win0_1.index t 1 = 0 := by decide +kernel

/-- The block of window 1, read from its array. -/
theorem blk1 (c : Dev nD) (t : Fin cfg0.N) (r : Fin 512) (n : Fin 256) :
    (iblk m c 1 t : Vec Ideal S512x256 .f32) (ix2 r n) = V m c main_v1 (ix2 (row t r) n) := by
  unfold iblk
  rw [View.read_apply]
  show V m c main_v1 _ = V m c main_v1 _
  congr 1
  funext a
  apply Fin.ext
  match a with
  | ⟨0, _⟩ => show win0_1.index t 0 * 512 + 1 * r.val = 512 * t.val + r.val; rw [(idx1 t).1]; omega
  | ⟨1, _⟩ => show win0_1.index t 1 * 256 + 1 * n.val = n.val; rw [(idx1 t).2]; omega

/-- That array is the reshaped argument. -/
theorem arr1 (c : Dev nD) (i : Fin 16384) (n : Fin 256) :
    V m c main_v1 (ix2 i n) = m ((c : Thread nD τ).loc main_arg1) (ix3 ⟨i.val / 4096, by omega⟩ ⟨i.val % 4096, by omega⟩ n) := by
  have e : (V m c main_v1 : FVec Ideal S16384x256 .f32) = shapeCast S16384x256 (m ((c : Thread nD τ).loc main_arg1)) shapeCasts_S4x4096x256_S16384x256 := by
    unfold V; simp only [hostOps0]; after_reads_simp; rfl
  rw [e]
  exact cast256_apply _ i n

/-- The block index of window 2 at a point. -/
theorem idx2 : ∀ t : Fin grid0.N, win0_2.index t 0 = t.val ∧ win0_2.index t 1 = 0 := by decide +kernel

/-- The block of window 2, read from its array. -/
theorem blk2 (c : Dev nD) (t : Fin cfg0.N) (r : Fin 512) (n : Fin 256) :
    (iblk m c 2 t : Vec Ideal S512x256 .f32) (ix2 r n) = V m c main_v2 (ix2 (row t r) n) := by
  unfold iblk
  rw [View.read_apply]
  show V m c main_v2 _ = V m c main_v2 _
  congr 1
  funext a
  apply Fin.ext
  match a with
  | ⟨0, _⟩ => show win0_2.index t 0 * 512 + 1 * r.val = 512 * t.val + r.val; rw [(idx2 t).1]; omega
  | ⟨1, _⟩ => show win0_2.index t 1 * 256 + 1 * n.val = n.val; rw [(idx2 t).2]; omega

/-- That array is the reshaped argument. -/
theorem arr2 (c : Dev nD) (i : Fin 16384) (n : Fin 256) :
    V m c main_v2 (ix2 i n) = m ((c : Thread nD τ).loc main_arg2) (ix3 ⟨i.val / 4096, by omega⟩ ⟨i.val % 4096, by omega⟩ n) := by
  have e : (V m c main_v2 : FVec Ideal S16384x256 .f32) = shapeCast S16384x256 (m ((c : Thread nD τ).loc main_arg2)) shapeCasts_S4x4096x256_S16384x256 := by
    unfold V; simp only [hostOps0]; after_reads_simp; rfl
  rw [e]
  exact cast256_apply _ i n

/-- The block index of window 3 at a point. -/
theorem idx3 : ∀ t : Fin grid0.N, win0_3.index t 0 = t.val ∧ win0_3.index t 1 = 0 := by decide +kernel

/-- The block of window 3, read from its array. -/
theorem blk3 (c : Dev nD) (t : Fin cfg0.N) (r : Fin 512) (n : Fin 256) :
    (iblk m c 3 t : Vec Ideal S512x256 .f32) (ix2 r n) = V m c main_v3 (ix2 (row t r) n) := by
  unfold iblk
  rw [View.read_apply]
  show V m c main_v3 _ = V m c main_v3 _
  congr 1
  funext a
  apply Fin.ext
  match a with
  | ⟨0, _⟩ => show win0_3.index t 0 * 512 + 1 * r.val = 512 * t.val + r.val; rw [(idx3 t).1]; omega
  | ⟨1, _⟩ => show win0_3.index t 1 * 256 + 1 * n.val = n.val; rw [(idx3 t).2]; omega

/-- That array is the reshaped argument. -/
theorem arr3 (c : Dev nD) (i : Fin 16384) (n : Fin 256) :
    V m c main_v3 (ix2 i n) = m ((c : Thread nD τ).loc main_arg3) (ix3 ⟨i.val / 4096, by omega⟩ ⟨i.val % 4096, by omega⟩ n) := by
  have e : (V m c main_v3 : FVec Ideal S16384x256 .f32) = shapeCast S16384x256 (m ((c : Thread nD τ).loc main_arg3)) shapeCasts_S4x4096x256_S16384x256 := by
    unfold V; simp only [hostOps0]; after_reads_simp; rfl
  rw [e]
  exact cast256_apply _ i n

/-- The block index of window 4 at a point. -/
theorem idx4 : ∀ t : Fin grid0.N, win0_4.index t 0 = t.val ∧ win0_4.index t 1 = 0 := by decide +kernel

/-- The block of window 4, read from its array. -/
theorem blk4 (c : Dev nD) (t : Fin cfg0.N) (r : Fin 512) (n : Fin 256) :
    (iblk m c 4 t : Vec Ideal S512x256 .f32) (ix2 r n) = V m c main_v4 (ix2 (row t r) n) := by
  unfold iblk
  rw [View.read_apply]
  show V m c main_v4 _ = V m c main_v4 _
  congr 1
  funext a
  apply Fin.ext
  match a with
  | ⟨0, _⟩ => show win0_4.index t 0 * 512 + 1 * r.val = 512 * t.val + r.val; rw [(idx4 t).1]; omega
  | ⟨1, _⟩ => show win0_4.index t 1 * 256 + 1 * n.val = n.val; rw [(idx4 t).2]; omega

/-- That array is the reshaped argument. -/
theorem arr4 (c : Dev nD) (i : Fin 16384) (n : Fin 256) :
    V m c main_v4 (ix2 i n) = m ((c : Thread nD τ).loc main_arg4) (ix3 ⟨i.val / 4096, by omega⟩ ⟨i.val % 4096, by omega⟩ n) := by
  have e : (V m c main_v4 : FVec Ideal S16384x256 .f32) = shapeCast S16384x256 (m ((c : Thread nD τ).loc main_arg4)) shapeCasts_S4x4096x256_S16384x256 := by
    unfold V; simp only [hostOps0]; after_reads_simp; rfl
  rw [e]
  exact cast256_apply _ i n

/-- The block index of window 5 at a point. -/
theorem idx5 : ∀ t : Fin grid0.N, win0_5.index t 0 = 0 ∧ win0_5.index t 1 = 0 := by decide +kernel

/-- The block of window 5, read from its array. -/
theorem blk5 (c : Dev nD) (t : Fin cfg0.N) (r : Fin 1024) (n : Fin 1024) :
    (iblk m c 5 t : Vec Ideal S1024x1024 .bf16) (ix2 r n) = V m c main_v5 (ix2 (r) n) := by
  unfold iblk
  rw [View.read_apply]
  show V m c main_v5 _ = V m c main_v5 _
  congr 1
  funext a
  apply Fin.ext
  match a with
  | ⟨0, _⟩ => show win0_5.index t 0 * 1024 + 1 * r.val = r.val; rw [(idx5 t).1]; omega
  | ⟨1, _⟩ => show win0_5.index t 1 * 1024 + 1 * n.val = n.val; rw [(idx5 t).2]; omega

/-- That array is the argument. -/
theorem arr5 (c : Dev nD) (i : Fin 1024) (n : Fin 1024) : V m c main_v5 (ix2 i n) = m ((c : Thread nD τ).loc main_arg5) (ix2 i n) := by
  have e : V m c main_v5 = (truncf .bf16 · bitsLt_bf16_f32 : FVec Ideal S1024x1024 .f32 → FVec Ideal S1024x1024 .bf16) (m ((c : Thread nD τ).loc main_arg5)) := by
    unfold V; simp only [hostOps0]; after_reads_simp
  rw [e]
  rfl

/-- The block index of window 6 at a point. -/
theorem idx6 : ∀ t : Fin grid0.N, win0_6.index t 0 = 0 ∧ win0_6.index t 1 = 0 := by decide +kernel

/-- The block of window 6, read from its array. -/
theorem blk6 (c : Dev nD) (t : Fin cfg0.N) (r : Fin 1) (n : Fin 1024) :
    (iblk m c 6 t : Vec Ideal S1x1024 .f32) (ix2 r n) = V m c main_v9 (ix2 (r) n) := by
  unfold iblk
  rw [View.read_apply]
  show V m c main_v9 _ = V m c main_v9 _
  congr 1
  funext a
  apply Fin.ext
  match a with
  | ⟨0, _⟩ => show win0_6.index t 0 * 1 + 1 * r.val = r.val; rw [(idx6 t).1]; omega
  | ⟨1, _⟩ => show win0_6.index t 1 * 1024 + 1 * n.val = n.val; rw [(idx6 t).2]; omega

/-- That array is the gain, as one row. -/
theorem arr6 (c : Dev nD) (n : Fin 1024) : V m c main_v9 (ix2 0 n) = m ((c : Thread nD τ).loc main_arg6) (ix1 n) := by
  have e : (V m c main_v9 : FVec Ideal S1x1024 .f32) = shapeCast S1x1024 (m ((c : Thread nD τ).loc main_arg6)) shapeCasts_S1024_S1x1024 := by
    unfold V; simp only [hostOps0]; after_reads_simp; rfl
  rw [e]
  exact gain_apply _ n

/-- The block index of window 7 at a point. -/
theorem idx7 : ∀ t : Fin grid0.N, win0_7.index t 0 = 0 ∧ win0_7.index t 1 = 0 := by decide +kernel

/-- The block of window 7, read from its array. -/
theorem blk7 (c : Dev nD) (t : Fin cfg0.N) (r : Fin 1) (n : Fin 1024) :
    (iblk m c 7 t : Vec Ideal S1x1024 .f32) (ix2 r n) = V m c main_v10 (ix2 (r) n) := by
  unfold iblk
  rw [View.read_apply]
  show V m c main_v10 _ = V m c main_v10 _
  congr 1
  funext a
  apply Fin.ext
  match a with
  | ⟨0, _⟩ => show win0_7.index t 0 * 1 + 1 * r.val = r.val; rw [(idx7 t).1]; omega
  | ⟨1, _⟩ => show win0_7.index t 1 * 1024 + 1 * n.val = n.val; rw [(idx7 t).2]; omega

/-- That array is the gain, as one row. -/
theorem arr7 (c : Dev nD) (n : Fin 1024) : V m c main_v10 (ix2 0 n) = m ((c : Thread nD τ).loc main_arg7) (ix1 n) := by
  have e : (V m c main_v10 : FVec Ideal S1x1024 .f32) = shapeCast S1x1024 (m ((c : Thread nD τ).loc main_arg7)) shapeCasts_S1024_S1x1024 := by
    unfold V; simp only [hostOps0]; after_reads_simp; rfl
  rw [e]
  exact gain_apply _ n

/-- The block index of window 8 at a point. -/
theorem idx8 : ∀ t : Fin grid0.N, win0_8.index t 0 = 0 ∧ win0_8.index t 1 = 0 := by decide +kernel

/-- The block of window 8, read from its array. -/
theorem blk8 (c : Dev nD) (t : Fin cfg0.N) (r : Fin 1024) (n : Fin 2816) :
    (iblk m c 8 t : Vec Ideal S1024x2816 .bf16) (ix2 r n) = V m c main_v6 (ix2 (r) n) := by
  unfold iblk
  rw [View.read_apply]
  show V m c main_v6 _ = V m c main_v6 _
  congr 1
  funext a
  apply Fin.ext
  match a with
  | ⟨0, _⟩ => show win0_8.index t 0 * 1024 + 1 * r.val = r.val; rw [(idx8 t).1]; omega
  | ⟨1, _⟩ => show win0_8.index t 1 * 2816 + 1 * n.val = n.val; rw [(idx8 t).2]; omega

/-- That array is the argument. -/
theorem arr8 (c : Dev nD) (i : Fin 1024) (n : Fin 2816) : V m c main_v6 (ix2 i n) = m ((c : Thread nD τ).loc main_arg8) (ix2 i n) := by
  have e : V m c main_v6 = (truncf .bf16 · bitsLt_bf16_f32 : FVec Ideal S1024x2816 .f32 → FVec Ideal S1024x2816 .bf16) (m ((c : Thread nD τ).loc main_arg8)) := by
    unfold V; simp only [hostOps0]; after_reads_simp
  rw [e]
  rfl

/-- The block index of window 9 at a point. -/
theorem idx9 : ∀ t : Fin grid0.N, win0_9.index t 0 = 0 ∧ win0_9.index t 1 = 0 := by decide +kernel

/-- The block of window 9, read from its array. -/
theorem blk9 (c : Dev nD) (t : Fin cfg0.N) (r : Fin 1024) (n : Fin 2816) :
    (iblk m c 9 t : Vec Ideal S1024x2816 .bf16) (ix2 r n) = V m c main_v7 (ix2 (r) n) := by
  unfold iblk
  rw [View.read_apply]
  show V m c main_v7 _ = V m c main_v7 _
  congr 1
  funext a
  apply Fin.ext
  match a with
  | ⟨0, _⟩ => show win0_9.index t 0 * 1024 + 1 * r.val = r.val; rw [(idx9 t).1]; omega
  | ⟨1, _⟩ => show win0_9.index t 1 * 2816 + 1 * n.val = n.val; rw [(idx9 t).2]; omega

/-- That array is the argument. -/
theorem arr9 (c : Dev nD) (i : Fin 1024) (n : Fin 2816) : V m c main_v7 (ix2 i n) = m ((c : Thread nD τ).loc main_arg9) (ix2 i n) := by
  have e : V m c main_v7 = (truncf .bf16 · bitsLt_bf16_f32 : FVec Ideal S1024x2816 .f32 → FVec Ideal S1024x2816 .bf16) (m ((c : Thread nD τ).loc main_arg9)) := by
    unfold V; simp only [hostOps0]; after_reads_simp
  rw [e]
  rfl

/-- The block index of window 10 at a point. -/
theorem idx10 : ∀ t : Fin grid0.N, win0_10.index t 0 = 0 ∧ win0_10.index t 1 = 0 := by decide +kernel

/-- The block of window 10, read from its array. -/
theorem blk10 (c : Dev nD) (t : Fin cfg0.N) (r : Fin 2816) (n : Fin 1024) :
    (iblk m c 10 t : Vec Ideal S2816x1024 .bf16) (ix2 r n) = V m c main_v8 (ix2 (r) n) := by
  unfold iblk
  rw [View.read_apply]
  show V m c main_v8 _ = V m c main_v8 _
  congr 1
  funext a
  apply Fin.ext
  match a with
  | ⟨0, _⟩ => show win0_10.index t 0 * 2816 + 1 * r.val = r.val; rw [(idx10 t).1]; omega
  | ⟨1, _⟩ => show win0_10.index t 1 * 1024 + 1 * n.val = n.val; rw [(idx10 t).2]; omega

/-- That array is the argument. -/
theorem arr10 (c : Dev nD) (i : Fin 2816) (n : Fin 1024) : V m c main_v8 (ix2 i n) = m ((c : Thread nD τ).loc main_arg10) (ix2 i n) := by
  have e : V m c main_v8 = (truncf .bf16 · bitsLt_bf16_f32 : FVec Ideal S2816x1024 .f32 → FVec Ideal S2816x1024 .bf16) (m ((c : Thread nD τ).loc main_arg10)) := by
    unfold V; simp only [hostOps0]; after_reads_simp
  rw [e]
  rfl

/-- The block index of window 11 at a point. -/
theorem idx11 : ∀ t : Fin grid0.N, win0_11.index t 0 = 0 ∧ win0_11.index t 1 = 0 := by decide +kernel

/-- The block of window 11, read from its array. -/
theorem blk11 (c : Dev nD) (t : Fin cfg0.N) (r : Fin 1) (n : Fin 1024) :
    (iblk m c 11 t : Vec Ideal S1x1024 .f32) (ix2 r n) = V m c main_v11 (ix2 (r) n) := by
  unfold iblk
  rw [View.read_apply]
  show V m c main_v11 _ = V m c main_v11 _
  congr 1
  funext a
  apply Fin.ext
  match a with
  | ⟨0, _⟩ => show win0_11.index t 0 * 1 + 1 * r.val = r.val; rw [(idx11 t).1]; omega
  | ⟨1, _⟩ => show win0_11.index t 1 * 1024 + 1 * n.val = n.val; rw [(idx11 t).2]; omega

/-- That array is the gain, as one row. -/
theorem arr11 (c : Dev nD) (n : Fin 1024) : V m c main_v11 (ix2 0 n) = m ((c : Thread nD τ).loc main_arg11) (ix1 n) := by
  have e : (V m c main_v11 : FVec Ideal S1x1024 .f32) = shapeCast S1x1024 (m ((c : Thread nD τ).loc main_arg11)) shapeCasts_S1024_S1x1024 := by
    unfold V; simp only [hostOps0]; after_reads_simp; rfl
  rw [e]
  exact gain_apply _ n

/-- The mixed row `i` at feature `n`: one sum per mixer. -/
def mixAt (c : Dev nD) (i : Fin 16384) : Fin 1024 → EReal :=
  Rows.mix4 (fun k => m ((c : Thread nD τ).loc main_arg1) (ix3 ⟨i.val / 4096, by omega⟩ ⟨i.val % 4096, by omega⟩ k)) (fun k => m ((c : Thread nD τ).loc main_arg2) (ix3 ⟨i.val / 4096, by omega⟩ ⟨i.val % 4096, by omega⟩ k))
    (fun k => m ((c : Thread nD τ).loc main_arg3) (ix3 ⟨i.val / 4096, by omega⟩ ⟨i.val % 4096, by omega⟩ k)) (fun k => m ((c : Thread nD τ).loc main_arg4) (ix3 ⟨i.val / 4096, by omega⟩ ⟨i.val % 4096, by omega⟩ k)) (fun k n => m ((c : Thread nD τ).loc main_arg5) (ix2 k n))

/-- The block index of the output window. -/
theorem idx12 : ∀ t : Fin grid0.N, win0_12.index t 0 = t.val ∧ win0_12.index t 1 = 0 := by decide +kernel

/-- Every point writes its block back. -/
theorem flush12 : ∀ t : Fin grid0.N, (cfg0.win 12).flush t = true := by decide +kernel

/-- The result array at a row of a grid point. -/
theorem arr_apply (c : Dev nD) (t : Fin cfg0.N) (r : Fin 512) (n : Fin 1024) :
    ((dats m 0 c).arrAt 12 cfg0.N : Vec Ideal S16384x1024 .f32) (ix2 (row t r) n)
      = Rows.ffnRow (fun k => mixAt m c (row t r) k) (fun k => m ((c : Thread nD τ).loc main_arg0) (ix3 ⟨(row t r).val / 4096, by omega⟩ ⟨(row t r).val % 4096, by omega⟩ k))
        (fun k => m ((c : Thread nD τ).loc main_arg6) (ix1 k)) (fun k => m ((c : Thread nD τ).loc main_arg7) (ix1 k)) (fun k => m ((c : Thread nD τ).loc main_arg11) (ix1 k))
        (fun k f => m ((c : Thread nD τ).loc main_arg8) (ix2 k f)) (fun k f => m ((c : Thread nD τ).loc main_arg9) (ix2 k f)) (fun f k => m ((c : Thread nD τ).loc main_arg10) (ix2 f k)) n := by
  have h := congrFun (Cert.FfnIdeal.Value.blocks12 m c t (flush12 t)) (ix2 r n)
  rw [Cert.FfnIdeal.Value.flushed12_A, FfnBlock.out_eq, View.read_apply] at h
  have e : ((cfg0.win 12).blk t).view.emb (ix2 r n) = ix2 (row t r) n := by
    funext a
    apply Fin.ext
    match a with
    | ⟨0, _⟩ => show win0_12.index t 0 * 512 + 1 * r.val = 512 * t.val + r.val; rw [(idx12 t).1]; omega
    | ⟨1, _⟩ => show win0_12.index t 1 * 1024 + 1 * n.val = n.val; rw [(idx12 t).2]; omega
  rw [e] at h
  refine h.trans ?_
  refine (FfnBlock.outB_apply _ _ _ _ _ _ _ _ _ _ _ _ r n).trans ?_
  exact Rows.ffnRow_congr
    (funext fun k => (FfnBlock.mixB_apply _ _ _ _ _ r k).trans (Rows.mix4_congr
      (funext fun k => (blk1 m c t r k).trans (arr1 m c _ k)) (funext fun k => (blk2 m c t r k).trans (arr2 m c _ k))
      (funext fun k => (blk3 m c t r k).trans (arr3 m c _ k)) (funext fun k => (blk4 m c t r k).trans (arr4 m c _ k))
      (funext fun k => funext fun n => (blk5 m c t k n).trans (arr5 m c k n)) k))
    (funext fun k => (blk0 m c t r k).trans (arr0 m c _ k))
    (funext fun k => (blk6 m c t 0 k).trans (arr6 m c k)) (funext fun k => (blk7 m c t 0 k).trans (arr7 m c k))
    (funext fun k => (blk11 m c t 0 k).trans (arr11 m c k))
    (funext fun k => funext fun f => (blk8 m c t k f).trans (arr8 m c k f))
    (funext fun k => funext fun f => (blk9 m c t k f).trans (arr9 m c k f))
    (funext fun f => funext fun k => (blk10 m c t f k).trans (arr10 m c f k)) n

end Cert.Proof.FfnArr

end
-- ==== Proof.FfnRef.lean ====
/-
  The reference of the mixing-and-feed-forward call: its run, read in five stretches (the mixed rows, the first residual,
  the norm, the gated layer, the second residual), and its result at a row and a feature.
-/
module

public import proofs.«01_k».proof.Proof.Gen.FfnRefIdeal
public import proofs.«01_k».proof.Proof.Rows
public import Idealize.ShloMosaic.Lib.Pointwise
public import Idealize.ShloMosaic.Lib.StableHlo.RunRead
public import Idealize.ShloMosaic.Lib.StableHlo.Run
public import Idealize.ShloMosaic.Lib.Pipeline.Frame
public import Idealize.ShloMosaic.Lib.Claim

@[expose] public section

noncomputable section

namespace Cert.Proof.FfnRef

open Cert.FfnRefIdeal Cert.FfnRefIdeal.Gen Idealize.ShloMosaic Idealize.ShloMosaic.TcCoe Idealize.SL.Sem Idealize.ShloMosaic.StableHlo

variable {F : FTy → Type} [FloatOps F]

/-- The four mixers' outputs side by side. -/
def joinF (u0 u1 u2 u3 : (⟨S4x4096x256, .f32⟩ : BufTy).Contents (Elt F)) : (⟨S4x4096x1024, .f32⟩ : BufTy).Contents (Elt F) :=
  concatenate S4x4096x1024 2 [⟨S4x4096x256, u0⟩, ⟨S4x4096x256, u1⟩, ⟨S4x4096x256, u2⟩, ⟨S4x4096x256, u3⟩] concatenates_S4x4096x256_S4x4096x256_S4x4096x256_S4x4096x256_S4x4096x1024_d2

/-- The mixed rows: the joined outputs times the output projection. -/
def mixF (u0 u1 u2 u3 : (⟨S4x4096x256, .f32⟩ : BufTy).Contents (Elt F)) (w : (⟨S1024x1024, .f32⟩ : BufTy).Contents (Elt F)) : (⟨S4x4096x1024, .f32⟩ : BufTy).Contents (Elt F) :=
  Host.dotGeneral dot_S4x4096x1024_S1024x1024_S4x4096x1024_2_0_01_1_n_n none (joinF u0 u1 u2 u3) w

/-- The RMS norm of every row, scaled by the gain. -/
def rmsF (y : (⟨S4x4096x1024, .f32⟩ : BufTy).Contents (Elt F)) (g : (⟨S1024, .f32⟩ : BufTy).Contents (Elt F)) : (⟨S4x4096x1024, .f32⟩ : BufTy).Contents (Elt F) :=
  mulf (mulf y (broadcastInDim S4x4096x1024 ![0, 1, 2] bcast_S4x4096x1_S4x4096x1024_0_1_2
      (Host.rsqrt (addf (Host.divf (broadcastInDim S4x4096x1 ![0, 1] bcast_S4x4096_S4x4096x1_0_1
            (Host.reduceAdd (mulf y y) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The hidden activations: `a · σ(a) · u` of the two projections. -/
def gateF (a u : (⟨S4x4096x2816, .f32⟩ : BufTy).Contents (Elt F)) : (⟨S4x4096x2816, .f32⟩ : BufTy).Contents (Elt F) :=
  mulf (mulf a (Host.divf (broadcastInDim S4x4096x2816 ![] bcast_S_S4x4096x2816 (constant S_ .f32 0x3F800000#32))
      (addf (broadcastInDim S4x4096x2816 ![] bcast_S_S4x4096x2816 (constant S_ .f32 0x3F800000#32)) (Host.exp (Host.negf a))))) u

/-- The gated feed-forward layer of every row. -/
def layerF (h : (⟨S4x4096x1024, .f32⟩ : BufTy).Contents (Elt F)) (wg wu : (⟨S1024x2816, .f32⟩ : BufTy).Contents (Elt F)) (wd : (⟨S2816x1024, .f32⟩ : BufTy).Contents (Elt F)) : (⟨S4x4096x1024, .f32⟩ : BufTy).Contents (Elt F) :=
  Host.dotGeneral dot_S4x4096x2816_S2816x1024_S4x4096x1024_2_0_01_1_n_n none
    (gateF (Host.dotGeneral dot_S4x4096x1024_S1024x2816_S4x4096x2816_2_0_01_1_n_n none h wg)
      (Host.dotGeneral dot_S4x4096x1024_S1024x2816_S4x4096x2816_2_0_01_1_n_n none h wu)) wd

/-- Stretch 1: the mixed rows. -/
abbrev ops1 : List (HloOp τ sig (Elt F)) :=
  [ nary ![main_arg1, main_arg2, main_arg3, main_arg4] main_v0 (fun u => joinF (F := F) (u 0) (u 1) (u 2) (u 3)),
    binary main_v0 main_arg5 main_v1 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)) ]

/-- Stretch 2: the first residual. -/
abbrev ops2 : List (HloOp τ sig (Elt F)) :=
  [ binary main_v1 main_v1 main_v2 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v2 main_cst main_v3 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v3 main_v4 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v7 (broadcastInDim S4x4096x1 ![] bcast_S_S4x4096x1 : (⟨S_, .f32⟩ : BufTy).Contents (Elt F) → (⟨S4x4096x1, .f32⟩ : BufTy).Contents (Elt F)),
    binary main_v6 main_v7 main_v8 (addf : (⟨S4x4096x1, .f32⟩ : BufTy).Contents (Elt F) → (⟨S4x4096x1, .f32⟩ : BufTy).Contents (Elt F) → (⟨S4x4096x1, .f32⟩ : BufTy).Contents (Elt F)),
    unary main_v8 main_v9 (Host.rsqrt : (⟨S4x4096x1, .f32⟩ : BufTy).Contents (Elt F) → (⟨S4x4096x1, .f32⟩ : BufTy).Contents (Elt F)),
    unary main_v9 main_v10 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v1 main_v10 main_v11 (mulf : (⟨S4x4096x1024, .f32⟩ : BufTy).Contents (Elt F) → (⟨S4x4096x1024, .f32⟩ : BufTy).Contents (Elt F) → (⟨S4x4096x1024, .f32⟩ : BufTy).Contents (Elt F)),
    unary main_arg6 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v11 main_v13 main_v14 (mulf : (⟨S4x4096x1024, .f32⟩ : BufTy).Contents (Elt F) → (⟨S4x4096x1024, .f32⟩ : BufTy).Contents (Elt F) → (⟨S4x4096x1024, .f32⟩ : BufTy).Contents (Elt F)),
    binary main_arg0 main_v14 main_v15 (addf : (⟨S4x4096x1024, .f32⟩ : BufTy).Contents (Elt F) → (⟨S4x4096x1024, .f32⟩ : BufTy).Contents (Elt F) → (⟨S4x4096x1024, .f32⟩ : BufTy).Contents (Elt F)) ]

/-- Stretch 3: the norm of the residual. -/
abbrev ops3 : List (HloOp τ sig (Elt F)) :=
  [ binary main_v15 main_v15 main_v16 (mulf : (⟨S4x4096x1024, .f32⟩ : BufTy).Contents (Elt F) → (⟨S4x4096x1024, .f32⟩ : BufTy).Contents (Elt F) → (⟨S4x4096x1024, .f32⟩ : BufTy).Contents (Elt F)),
    nullary main_cst_2 (constant S_ .f32 0x00000000#32),
    binary main_v16 main_cst_2 main_v17 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v17 main_v18 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x44800000#32),
    unary main_cst_3 main_v19 (broadcastInDim S4x4096x1 ![] bcast_S_S4x4096x1 : (⟨S_, .f32⟩ : BufTy).Contents (Elt F) → (⟨S4x4096x1, .f32⟩ : BufTy).Contents (Elt F)),
    binary main_v18 main_v19 main_v20 (Host.divf : (⟨S4x4096x1, .f32⟩ : BufTy).Contents (Elt F) → (⟨S4x4096x1, .f32⟩ : BufTy).Contents (Elt F) → (⟨S4x4096x1, .f32⟩ : BufTy).Contents (Elt F)),
    nullary main_cst_4 (constant S_ .f32 0x358637BD#32),
    unary main_cst_4 main_v21 (broadcastInDim S4x4096x1 ![] bcast_S_S4x4096x1 : (⟨S_, .f32⟩ : BufTy).Contents (Elt F) → (⟨S4x4096x1, .f32⟩ : BufTy).Contents (Elt F)),
    binary main_v20 main_v21 main_v22 (addf : (⟨S4x4096x1, .f32⟩ : BufTy).Contents (Elt F) → (⟨S4x4096x1, .f32⟩ : BufTy).Contents (Elt F) → (⟨S4x4096x1, .f32⟩ : BufTy).Contents (Elt F)),
    unary main_v22 main_v23 (Host.rsqrt : (⟨S4x4096x1, .f32⟩ : BufTy).Contents (Elt F) → (⟨S4x4096x1, .f32⟩ : BufTy).Contents (Elt F)),
    unary main_v23 main_v24 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v15 main_v24 main_v25 (mulf : (⟨S4x4096x1024, .f32⟩ : BufTy).Contents (Elt F) → (⟨S4x4096x1024, .f32⟩ : BufTy).Contents (Elt F) → (⟨S4x4096x1024, .f32⟩ : BufTy).Contents (Elt F)),
    unary main_arg7 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v25 main_v27 main_v28 (mulf : (⟨S4x4096x1024, .f32⟩ : BufTy).Contents (Elt F) → (⟨S4x4096x1024, .f32⟩ : BufTy).Contents (Elt F) → (⟨S4x4096x1024, .f32⟩ : BufTy).Contents (Elt F)) ]

/-- Stretch 4: the gated layer. -/
abbrev ops4 : List (HloOp τ sig (Elt F)) :=
  [ binary main_v28 main_arg8 main_v29 ((fun l r => Host.dotGeneral dot_S4x4096x1024_S1024x2816_S4x4096x2816_2_0_01_1_n_n none l r) : (⟨S4x4096x1024, .f32⟩ : BufTy).Contents (Elt F) → (⟨S1024x2816, .f32⟩ : BufTy).Contents (Elt F) → (⟨S4x4096x2816, .f32⟩ : BufTy).Contents (Elt F)),
    TRef.unary (TRef.of (T := ⟨S4x4096x2816, .f32⟩) main_v29) (TRef.of (T := ⟨S4x4096x2816, .f32⟩) main_call0_v0) Host.negf,
    TRef.unary (TRef.of (T := ⟨S4x4096x2816, .f32⟩) main_call0_v0) (TRef.of (T := ⟨S4x4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4x4096x2816, .f32⟩) main_call0_v2) (broadcastInDim S4x4096x2816 ![] bcast_S_S4x4096x2816),
    TRef.binary (TRef.of (T := ⟨S4x4096x2816, .f32⟩) main_call0_v2) (TRef.of (T := ⟨S4x4096x2816, .f32⟩) main_call0_v1) (TRef.of (T := ⟨S4x4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4x4096x2816, .f32⟩) main_call0_v4) (broadcastInDim S4x4096x2816 ![] bcast_S_S4x4096x2816),
    TRef.binary (TRef.of (T := ⟨S4x4096x2816, .f32⟩) main_call0_v4) (TRef.of (T := ⟨S4x4096x2816, .f32⟩) main_call0_v3) (TRef.of (T := ⟨S4x4096x2816, .f32⟩) main_call0_v5) Host.divf,
    TRef.binary (TRef.of (T := ⟨S4x4096x2816, .f32⟩) main_v29) (TRef.of (T := ⟨S4x4096x2816, .f32⟩) main_call0_v5) (TRef.of (T := ⟨S4x4096x2816, .f32⟩) main_v30) mulf,
    binary main_v28 main_arg9 main_v31 ((fun l r => Host.dotGeneral dot_S4x4096x1024_S1024x2816_S4x4096x2816_2_0_01_1_n_n none l r) : (⟨S4x4096x1024, .f32⟩ : BufTy).Contents (Elt F) → (⟨S1024x2816, .f32⟩ : BufTy).Contents (Elt F) → (⟨S4x4096x2816, .f32⟩ : BufTy).Contents (Elt F)),
    binary main_v30 main_v31 main_v32 (mulf : (⟨S4x4096x2816, .f32⟩ : BufTy).Contents (Elt F) → (⟨S4x4096x2816, .f32⟩ : BufTy).Contents (Elt F) → (⟨S4x4096x2816, .f32⟩ : BufTy).Contents (Elt F)),
    binary main_v32 main_arg10 main_v33 ((fun l r => Host.dotGeneral dot_S4x4096x2816_S2816x1024_S4x4096x1024_2_0_01_1_n_n none l r) : (⟨S4x4096x2816, .f32⟩ : BufTy).Contents (Elt F) → (⟨S2816x1024, .f32⟩ : BufTy).Contents (Elt F) → (⟨S4x4096x1024, .f32⟩ : BufTy).Contents (Elt F)) ]

/-- Stretch 5: the second residual, as rows. -/
abbrev ops5 : List (HloOp τ sig (Elt F)) :=
  [ binary main_v33 main_v33 main_v34 (mulf : (⟨S4x4096x1024, .f32⟩ : BufTy).Contents (Elt F) → (⟨S4x4096x1024, .f32⟩ : BufTy).Contents (Elt F) → (⟨S4x4096x1024, .f32⟩ : BufTy).Contents (Elt F)),
    nullary main_cst_5 (constant S_ .f32 0x00000000#32),
    binary main_v34 main_cst_5 main_v35 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v35 main_v36 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_6 (constant S_ .f32 0x44800000#32),
    unary main_cst_6 main_v37 (broadcastInDim S4x4096x1 ![] bcast_S_S4x4096x1 : (⟨S_, .f32⟩ : BufTy).Contents (Elt F) → (⟨S4x4096x1, .f32⟩ : BufTy).Contents (Elt F)),
    binary main_v36 main_v37 main_v38 (Host.divf : (⟨S4x4096x1, .f32⟩ : BufTy).Contents (Elt F) → (⟨S4x4096x1, .f32⟩ : BufTy).Contents (Elt F) → (⟨S4x4096x1, .f32⟩ : BufTy).Contents (Elt F)),
    nullary main_cst_7 (constant S_ .f32 0x358637BD#32),
    unary main_cst_7 main_v39 (broadcastInDim S4x4096x1 ![] bcast_S_S4x4096x1 : (⟨S_, .f32⟩ : BufTy).Contents (Elt F) → (⟨S4x4096x1, .f32⟩ : BufTy).Contents (Elt F)),
    binary main_v38 main_v39 main_v40 (addf : (⟨S4x4096x1, .f32⟩ : BufTy).Contents (Elt F) → (⟨S4x4096x1, .f32⟩ : BufTy).Contents (Elt F) → (⟨S4x4096x1, .f32⟩ : BufTy).Contents (Elt F)),
    unary main_v40 main_v41 (Host.rsqrt : (⟨S4x4096x1, .f32⟩ : BufTy).Contents (Elt F) → (⟨S4x4096x1, .f32⟩ : BufTy).Contents (Elt F)),
    unary main_v41 main_v42 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v33 main_v42 main_v43 (mulf : (⟨S4x4096x1024, .f32⟩ : BufTy).Contents (Elt F) → (⟨S4x4096x1024, .f32⟩ : BufTy).Contents (Elt F) → (⟨S4x4096x1024, .f32⟩ : BufTy).Contents (Elt F)),
    unary main_arg11 main_v44 (broadcastInDim S1x1x1024 ![2] bcast_S1024_S1x1x1024_2 : (⟨S1024, .f32⟩ : BufTy).Contents (Elt F) → (⟨S1x1x1024, .f32⟩ : BufTy).Contents (Elt F)),
    unary main_v44 main_v45 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v43 main_v45 main_v46 (mulf : (⟨S4x4096x1024, .f32⟩ : BufTy).Contents (Elt F) → (⟨S4x4096x1024, .f32⟩ : BufTy).Contents (Elt F) → (⟨S4x4096x1024, .f32⟩ : BufTy).Contents (Elt F)),
    binary main_v15 main_v46 main_v47 (addf : (⟨S4x4096x1024, .f32⟩ : BufTy).Contents (Elt F) → (⟨S4x4096x1024, .f32⟩ : BufTy).Contents (Elt F) → (⟨S4x4096x1024, .f32⟩ : BufTy).Contents (Elt F)),
    reshape main_v47 main_v48 (rfl : (.f32 : EltTy) = .f32) shapeCasts_S4x4096x1024_S16384x1024 ]

/-- The program's operations, in order. -/
abbrev ops : List (HloOp τ sig (Elt F)) := ops1 ++ (ops2 ++ (ops3 ++ (ops4 ++ ops5)))

/-- Stretch 1 leaves the mixed rows, from any contents before it. -/
theorem read1 (V : Valuation τ sig (Elt F)) : after ops1 V (no_index (Proc.devRef .tc main_v1)) = mixF (V (Proc.devRef .tc main_arg1)) (V (Proc.devRef .tc main_arg2)) (V (Proc.devRef .tc main_arg3)) (V (Proc.devRef .tc main_arg4)) (V (Proc.devRef .tc main_arg5)) := by
  simp only [ops1, TRef.binary, TRef.nullary, TRef.unary, TRef.toBuf, TRef.ofBuf, cast_eq]
  after_reads_simp
  rfl

/-- Stretch 1 leaves every other buffer as it was. -/
theorem keep1 (V : Valuation τ sig (Elt F)) (r : Ref sig .tc) (hr : r ∉ ([main_v0, main_v1] : List (Ref sig .tc))) :
    after ops1 V (no_index (Proc.devRef .tc r)) = V (Proc.devRef .tc r) :=
  after_unwritten [main_v0, main_v1] rfl hr V

/-- Stretch 2 leaves the first residual, from any contents before it. -/
theorem read2 (V : Valuation τ sig (Elt F)) : after ops2 V (no_index (Proc.devRef .tc main_v15)) = addf (V (Proc.devRef .tc main_arg0)) (rmsF (V (Proc.devRef .tc main_v1)) (V (Proc.devRef .tc main_arg6))) := by
  simp only [ops2, TRef.binary, TRef.nullary, TRef.unary, TRef.toBuf, TRef.ofBuf, cast_eq]
  after_reads_simp
  rfl

/-- Stretch 2 leaves every other buffer as it was. -/
theorem keep2 (V : Valuation τ sig (Elt F)) (r : Ref sig .tc) (hr : r ∉ ([main_v2, main_cst, main_v3, main_v4, main_cst_0, main_v5, main_v6, main_cst_1, main_v7, main_v8, main_v9, main_v10, main_v11, main_v12, main_v13, main_v14, main_v15] : List (Ref sig .tc))) :
    after ops2 V (no_index (Proc.devRef .tc r)) = V (Proc.devRef .tc r) :=
  after_unwritten [main_v2, main_cst, main_v3, main_v4, main_cst_0, main_v5, main_v6, main_cst_1, main_v7, main_v8, main_v9, main_v10, main_v11, main_v12, main_v13, main_v14, main_v15] rfl hr V

/-- Stretch 3 leaves the norm of the residual, from any contents before it. -/
theorem read3 (V : Valuation τ sig (Elt F)) : after ops3 V (no_index (Proc.devRef .tc main_v28)) = rmsF (V (Proc.devRef .tc main_v15)) (V (Proc.devRef .tc main_arg7)) := by
  simp only [ops3, TRef.binary, TRef.nullary, TRef.unary, TRef.toBuf, TRef.ofBuf, cast_eq]
  after_reads_simp
  rfl

/-- Stretch 3 leaves every other buffer as it was. -/
theorem keep3 (V : Valuation τ sig (Elt F)) (r : Ref sig .tc) (hr : r ∉ ([main_v16, main_cst_2, main_v17, main_v18, main_cst_3, main_v19, main_v20, main_cst_4, main_v21, main_v22, main_v23, main_v24, main_v25, main_v26, main_v27, main_v28] : List (Ref sig .tc))) :
    after ops3 V (no_index (Proc.devRef .tc r)) = V (Proc.devRef .tc r) :=
  after_unwritten [main_v16, main_cst_2, main_v17, main_v18, main_cst_3, main_v19, main_v20, main_cst_4, main_v21, main_v22, main_v23, main_v24, main_v25, main_v26, main_v27, main_v28] rfl hr V

/-- Stretch 4 leaves the gated layer, from any contents before it. -/
theorem read4 (V : Valuation τ sig (Elt F)) : after ops4 V (no_index (Proc.devRef .tc main_v33)) = layerF (V (Proc.devRef .tc main_v28)) (V (Proc.devRef .tc main_arg8)) (V (Proc.devRef .tc main_arg9)) (V (Proc.devRef .tc main_arg10)) := by
  simp only [ops4, TRef.binary, TRef.nullary, TRef.unary, TRef.toBuf, TRef.ofBuf, cast_eq]
  after_reads_simp
  rfl

/-- Stretch 4 leaves every other buffer as it was. -/
theorem keep4 (V : Valuation τ sig (Elt F)) (r : Ref sig .tc) (hr : r ∉ ([main_v29, main_call0_v0, main_call0_v1, main_call0_cst, main_call0_v2, main_call0_v3, main_call0_cst_0, main_call0_v4, main_call0_v5, main_v30, main_v31, main_v32, main_v33] : List (Ref sig .tc))) :
    after ops4 V (no_index (Proc.devRef .tc r)) = V (Proc.devRef .tc r) :=
  after_unwritten [main_v29, main_call0_v0, main_call0_v1, main_call0_cst, main_call0_v2, main_call0_v3, main_call0_cst_0, main_call0_v4, main_call0_v5, main_v30, main_v31, main_v32, main_v33] rfl hr V

/-- Stretch 5 leaves the second residual, as rows, from any contents before it. -/
theorem read5 (V : Valuation τ sig (Elt F)) : after ops5 V (no_index (Proc.devRef .tc main_v48)) = shapeCast S16384x1024 (addf (V (Proc.devRef .tc main_v15)) (rmsF (V (Proc.devRef .tc main_v33)) (V (Proc.devRef .tc main_arg11)))) shapeCasts_S4x4096x1024_S16384x1024 := by
  simp only [ops5, TRef.binary, TRef.nullary, TRef.unary, TRef.toBuf, TRef.ofBuf, cast_eq]
  after_reads_simp
  rfl

/-- Stretch 5 leaves every other buffer as it was. -/
theorem keep5 (V : Valuation τ sig (Elt F)) (r : Ref sig .tc) (hr : r ∉ ([main_v34, main_cst_5, main_v35, main_v36, main_cst_6, main_v37, main_v38, main_cst_7, main_v39, main_v40, main_v41, main_v42, main_v43, main_v44, main_v45, main_v46, main_v47, main_v48] : List (Ref sig .tc))) :
    after ops5 V (no_index (Proc.devRef .tc r)) = V (Proc.devRef .tc r) :=
  after_unwritten [main_v34, main_cst_5, main_v35, main_v36, main_cst_6, main_v37, main_v38, main_cst_7, main_v39, main_v40, main_v41, main_v42, main_v43, main_v44, main_v45, main_v46, main_v47, main_v48] rfl hr V

/-- The result, as one term of the arguments. -/
def res (x0 : (⟨S4x4096x1024, .f32⟩ : BufTy).Contents (Elt F)) (x1 x2 x3 x4 : (⟨S4x4096x256, .f32⟩ : BufTy).Contents (Elt F)) (x5 : (⟨S1024x1024, .f32⟩ : BufTy).Contents (Elt F)) (x6 x7 : (⟨S1024, .f32⟩ : BufTy).Contents (Elt F))
    (x8 x9 : (⟨S1024x2816, .f32⟩ : BufTy).Contents (Elt F)) (x10 : (⟨S2816x1024, .f32⟩ : BufTy).Contents (Elt F)) (x11 : (⟨S1024, .f32⟩ : BufTy).Contents (Elt F)) :
    (⟨S16384x1024, .f32⟩ : BufTy).Contents (Elt F) :=
  shapeCast S16384x1024 (addf (addf x0 (rmsF (mixF x1 x2 x3 x4 x5) x6))
    (rmsF (layerF (rmsF (addf x0 (rmsF (mixF x1 x2 x3 x4 x5) x6)) x7) x8 x9 x10) x11)) shapeCasts_S4x4096x1024_S16384x1024

/-- The whole line leaves the result's buffer at that term. -/
theorem read (V : Valuation τ sig (Elt F)) : after ops V (Proc.devRef .tc main_v48)
    = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold ops res
  simp only [after_append]
  rw [read5, read4, keep4 _ main_v15 (by decide), keep4 _ main_arg11 (by decide), read3, keep3 _ main_v15 (by decide), keep3 _ main_arg8 (by decide),
    keep3 _ main_arg9 (by decide), keep3 _ main_arg10 (by decide), keep3 _ main_arg11 (by decide), read2,
    keep2 _ main_arg7 (by decide), keep2 _ main_arg8 (by decide), keep2 _ main_arg9 (by decide), keep2 _ main_arg10 (by decide), keep2 _ main_arg11 (by decide),
    read1, keep1 _ main_arg0 (by decide), keep1 _ main_arg6 (by decide), keep1 _ main_arg7 (by decide), keep1 _ main_arg8 (by decide), keep1 _ main_arg9 (by decide),
    keep1 _ main_arg10 (by decide), keep1 _ main_arg11 (by decide)]

/-- The arguments stand through the line. -/
theorem keep (V : Valuation τ sig (Elt F)) (r : Ref sig .tc) (hr : r ∈ ([main_arg0, main_arg1, main_arg2, main_arg3, main_arg4, main_arg5, main_arg6, main_arg7, main_arg8, main_arg9, main_arg10, main_arg11] : List (Ref sig .tc))) :
    after ops V (Proc.devRef .tc r) = V (Proc.devRef .tc r) := by
  unfold ops
  simp only [after_append]
  rw [keep5 _ r (by revert r; decide), keep4 _ r (by revert r; decide), keep3 _ r (by revert r; decide), keep2 _ r (by revert r; decide), keep1 _ r (by revert r; decide)]

set_option maxRecDepth 8192 in
set_option maxHeartbeats 4000000 in
/-- The printed program is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation stays within the program's buffers. -/
theorem ops_sub : (ops : List (HloOp τ sig (Elt F))).Forall fun op => op.bufs ⊆ tcRefs τ sig :=
  ⟨nary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub ..⟩

set_option maxRecDepth 8192 in
/-- The run: the result at its term, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v48).trans (read _),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide))⟩)
    (run_seq scopedRefs_eq scopedSems_eq defs main (fun _ => ops) main_eq (fun _ => ops_sub) m ρ)

end Cert.Proof.FfnRef

end
-- ==== Proof.FfnRefAt.lean ====
/-
  The reference of the mixing-and-feed-forward call, read at one row and one feature.
-/
module

public import proofs.«01_k».proof.Proof.FfnRef

@[expose] public section

noncomputable section

namespace Cert.Proof.FfnRef

open Cert.FfnRefIdeal Cert.FfnRefIdeal.Gen Idealize.ShloMosaic Idealize.ShloMosaic.TcCoe Idealize.SL.Sem Idealize.ShloMosaic.StableHlo

/-- The norm of one row, read at a feature. -/
theorem rmsF_apply (y : (⟨S4x4096x1024, .f32⟩ : BufTy).Contents (Elt Ideal)) (g : (⟨S1024, .f32⟩ : BufTy).Contents (Elt Ideal)) (b : Fin 4) (s : Fin 4096) (n : Fin 1024) :
    rmsF (F := Ideal) y g (ix3 b s n) = Rows.rmsn (fun k => y (ix3 b s k)) (fun k => g (ix1 k)) n := by
  unfold Rows.rmsn
  pointwise [rmsF]

/-- The gated layer of one row, read at a feature. -/
theorem layerF_apply (h : (⟨S4x4096x1024, .f32⟩ : BufTy).Contents (Elt Ideal)) (wg wu : (⟨S1024x2816, .f32⟩ : BufTy).Contents (Elt Ideal))
    (wd : (⟨S2816x1024, .f32⟩ : BufTy).Contents (Elt Ideal)) (b : Fin 4) (s : Fin 4096) (n : Fin 1024) :
    layerF (F := Ideal) h wg wu wd (ix3 b s n)
      = ∑ f : Fin 2816, Rows.gate (fun k => h (ix3 b s k)) (fun k f => wg (ix2 k f)) (fun k f => wu (ix2 k f)) f * wd (ix2 f n) := by
  unfold Rows.gate
  pointwise [layerF, gateF]
  rfl

/-- A sum over 1024 terms, cut into four. -/
theorem sum_four (f : Fin 1024 → EReal) : ∑ k : Fin 1024, f k
    = (∑ k : Fin 256, f ⟨k.val, by omega⟩) + (∑ k : Fin 256, f ⟨256 + k.val, by omega⟩) + (∑ k : Fin 256, f ⟨512 + k.val, by omega⟩)
      + ∑ k : Fin 256, f ⟨768 + k.val, by omega⟩ := by
  rw [show (∑ k : Fin 1024, f k) = _ from Fin.sum_univ_add (a := 768) (b := 256) f,
    Fin.sum_univ_add (a := 512) (b := 256), Fin.sum_univ_add (a := 256) (b := 256)]
  rfl

/-- The mixed row at a feature: one sum per mixer. -/
theorem mixF_apply (u0 u1 u2 u3 : (⟨S4x4096x256, .f32⟩ : BufTy).Contents (Elt Ideal)) (w : (⟨S1024x1024, .f32⟩ : BufTy).Contents (Elt Ideal)) (b : Fin 4) (s : Fin 4096) (n : Fin 1024) :
    mixF (F := Ideal) u0 u1 u2 u3 w (ix3 b s n)
      = (∑ k : Fin 256, u0 (ix3 b s k) * w (ix2 ⟨k.val, by omega⟩ n)) + (∑ k : Fin 256, u1 (ix3 b s k) * w (ix2 ⟨256 + k.val, by omega⟩ n))
        + (∑ k : Fin 256, u2 (ix3 b s k) * w (ix2 ⟨512 + k.val, by omega⟩ n)) + ∑ k : Fin 256, u3 (ix3 b s k) * w (ix2 ⟨768 + k.val, by omega⟩ n) := by
  pointwise [mixF, joinF]
  rw [sum_four]
  refine congr_arg₂ _ (congr_arg₂ _ (congr_arg₂ _ ?_ ?_) ?_) ?_ <;> refine Finset.sum_congr rfl fun k _ => ?_
  · rw [dif_pos (show k.val < 256 from k.isLt)]
  · rw [dif_neg (show ¬ (256 + k.val < 256) by omega), dif_pos (show 256 + k.val - 256 < 256 by omega)]
    congr 2; congr 1; apply Fin.ext; dsimp only; omega
  · rw [dif_neg (show ¬ (512 + k.val < 256) by omega), dif_neg (show ¬ (512 + k.val - 256 < 256) by omega), dif_pos (show 512 + k.val - 256 - 256 < 256 by omega)]
    congr 2; congr 1; apply Fin.ext; dsimp only; omega
  · rw [dif_neg (show ¬ (768 + k.val < 256) by omega), dif_neg (show ¬ (768 + k.val - 256 < 256) by omega), dif_neg (show ¬ (768 + k.val - 256 - 256 < 256) by omega)]
    congr 2; congr 1; apply Fin.ext; dsimp only; omega

/-- The flat row of a sequence and a position. -/
def flat (b : Fin 4) (s : Fin 4096) : Fin 16384 := ⟨4096 * b.val + s.val, by omega⟩

/-- The result at a row and a feature. -/
theorem res_apply (x0 : (⟨S4x4096x1024, .f32⟩ : BufTy).Contents (Elt Ideal)) (x1 x2 x3 x4 : (⟨S4x4096x256, .f32⟩ : BufTy).Contents (Elt Ideal))
    (x5 : (⟨S1024x1024, .f32⟩ : BufTy).Contents (Elt Ideal)) (x6 x7 : (⟨S1024, .f32⟩ : BufTy).Contents (Elt Ideal))
    (x8 x9 : (⟨S1024x2816, .f32⟩ : BufTy).Contents (Elt Ideal)) (x10 : (⟨S2816x1024, .f32⟩ : BufTy).Contents (Elt Ideal)) (x11 : (⟨S1024, .f32⟩ : BufTy).Contents (Elt Ideal))
    (b : Fin 4) (s : Fin 4096) (n : Fin 1024) :
    res (F := Ideal) x0 x1 x2 x3 x4 x5 x6 x7 x8 x9 x10 x11 (ix2 (flat b s) n)
      = Rows.ffnRow (fun k => mixF (F := Ideal) x1 x2 x3 x4 x5 (ix3 b s k)) (fun k => x0 (ix3 b s k)) (fun k => x6 (ix1 k)) (fun k => x7 (ix1 k)) (fun k => x11 (ix1 k))
          (fun k f => x8 (ix2 k f)) (fun k f => x9 (ix2 k f)) (fun f k => x10 (ix2 f k)) n := by
  have e : ∀ y : (⟨S4x4096x1024, .f32⟩ : BufTy).Contents (Elt Ideal), shapeCast S16384x1024 y shapeCasts_S4x4096x1024_S16384x1024 (ix2 (flat b s) n) = y (ix3 b s n) := by
    intro y
    pointwise [flat]
  unfold res
  rw [e]
  simp only [addf, rmsF_apply, layerF_apply]
  rfl

end Cert.Proof.FfnRef

end
-- ==== Proof.FfnEq.lean ====
/-
  The mixing-and-feed-forward call equals its reference, over the extended reals.
-/
module

public import proofs.«01_k».proof.Proof.FfnArr
public import proofs.«01_k».proof.Proof.FfnRefAt
public import proofs.«01_k».proof.Defs

@[expose] public section

noncomputable section

namespace Cert.Proof.FfnEq

open Idealize.ShloMosaic Idealize.SL.Sem Idealize.ShloMosaic.TcCoe

/-- Every flat row is a row of a grid point's block. -/
theorem row_cover (i : Fin 16384) : ∃ (t : Fin Cert.FfnIdeal.cfg0.N) (r : Fin 512), i = FfnArr.row t r := by
  have e : Cert.FfnIdeal.cfg0.N = 32 := Cert.FfnIdeal.Gen.N_0
  refine ⟨⟨i.val / 512, by omega⟩, ⟨i.val % 512, by omega⟩, ?_⟩
  apply Fin.ext
  show i.val = 512 * (i.val / 512) + i.val % 512
  omega

/-- Every flat row is a sequence and a position. -/
theorem flat_eq (i : Fin 16384) : i = FfnRef.flat ⟨i.val / 4096, by omega⟩ ⟨i.val % 4096, by omega⟩ := by
  apply Fin.ext
  show i.val = 4096 * (i.val / 4096) + i.val % 4096
  omega

/-- The reference's result is the kernel's array. -/
theorem result_eq (m : (ℓ : Loc Cert.FfnIdeal.nD Cert.FfnIdeal.τ Cert.FfnIdeal.sig) → Buf (Elt Ideal) ℓ) (c : Dev Cert.FfnIdeal.nD) :
    FfnRef.res (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) = ((Cert.FfnIdeal.Gen.dats m 0 c).arrAt 12 Cert.FfnIdeal.cfg0.N : Vec Ideal Cert.FfnIdeal.S16384x1024 .f32) := by
  funext j
  obtain ⟨i, n, rfl⟩ : ∃ (i : Fin 16384) (n : Fin 1024), j = ix2 i n := ⟨j 0, j 1, by funext a; fin_cases a <;> rfl⟩
  obtain ⟨t, r, rfl⟩ := row_cover i
  refine Eq.trans ?_ (FfnArr.arr_apply m c t r n).symm
  refine (congrArg (fun i => FfnRef.res (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) (ix2 i n)) (flat_eq (FfnArr.row t r))).trans ?_
  refine (FfnRef.res_apply _ _ _ _ _ _ _ _ _ _ _ _ _ _ n).trans ?_
  exact Rows.ffnRow_congr (funext fun k => (FfnRef.mixF_apply _ _ _ _ _ _ _ k).trans rfl) rfl rfl rfl rfl rfl rfl rfl n

/-- The two programs end with equal results. -/
theorem algebraic : Cert.algebraic_FfnIdeal_FfnRefIdeal (hFfnIdeal := Cert.FfnIdeal.Gen.facts) (hFfnRefIdeal := Cert.FfnRefIdeal.Gen.facts) := by
  intro m g m' g' _ hagree
  refine ⟨fun c => (Cert.FfnIdeal.Gen.dats m 0 c).arrAt 12 Cert.FfnIdeal.cfg0.N, Cert.FfnIdeal.Value.run_blocks m g, ?_⟩
  refine (θ_run _ _ _).mono (fun r h c => ⟨(h c).1.trans ?_, (h c).2⟩) (FfnRef.run m' g')
  obtain ⟨h0, h1, h2, h3, h4, h5, h6, h7, h8, h9, h10, h11⟩ := hagree c
  refine Eq.trans ?_ (result_eq m c)
  rw [h0, h1, h2, h3, h4, h5, h6, h7, h8, h9, h10, h11]

/-- The reference leaves its arguments as they were. -/
theorem frame_ref : Cert.quiescent_FfnRefIdeal (hFfnRefIdeal := Cert.FfnRefIdeal.Gen.facts) := fun m ρ _ =>
  (θ_run _ _ _).mono (fun r h => ⟨fun c => (h c).2, Idealize.ShloMosaic.sem_eq_zero_of_no_sems (by decide) r.2⟩) (FfnRef.run (F := Ideal) m ρ)

end Cert.Proof.FfnEq

end
-- ==== Proof.InBlock.lean ====
/-
  What one block of the input projection computes: each output block at a row and a column.
-/
module

public import proofs.«01_k».proof.Proof.Gen.InprojIdeal.Value
public import proofs.«01_k».proof.Proof.Rows
public import Idealize.ShloMosaic.Lib.Pointwise
public import Idealize.ShloMosaic.Lib.Pipeline.ValueKit

@[expose] public section

noncomputable section

namespace Cert.Proof.InBlock

open Idealize.ShloMosaic Idealize.SL.Sem Cert.InprojIdeal Cert.InprojIdeal.Gen Idealize.ShloMosaic.TcCoe

/-- The normed rows of the block. -/
theorem norm_apply (x : Vec Ideal S512x1024 .f32) (g : Vec Ideal S1x1024 .f32) (r : Fin 512) (k : Fin 1024) :
    k0_pay4 (F := Ideal) x g (ix2 r k) = Rows.rmsn (fun k => x (ix2 r k)) (fun k => g (ix2 0 k)) k := by
  unfold Rows.rmsn
  pointwise [k0_pay4]

/-- The normed rows, as the later columns read them. -/
theorem norm9 (x : Vec Ideal S512x1024 .f32) (g : Vec Ideal S1x1024 .f32) (w : Vec Ideal S1024x3456 .bf16) (r : Fin 512) (k : Fin 1024) :
    k0_pay9 (F := Ideal) x g w (ix2 r k) = k0_pay4 (F := Ideal) x g (ix2 r k) := by
  unfold k0_pay9
  pointwise [k0_pay4]

/-- Output window 3 at a row and a column: the normed row times a column of the weight. -/
theorem out3_apply (x : Vec Ideal S512x1024 .f32) (g : Vec Ideal S1x1024 .f32) (w : Vec Ideal S1024x3456 .bf16) (r : Fin 512) (n : Fin 256) :
    out0_3 (F := Ideal) x g w (ix2 r n)
      = ∑ k : Fin 1024, Rows.rmsn (fun k => x (ix2 r k)) (fun k => g (ix2 0 k)) k * w (ix2 k ⟨0 + n.val, by omega⟩) := by
  simp only [← norm_apply]
  unfold out0_3
  frame_out
  pointwise [k0_pay5]

/-- Output window 4 at a row and a column: the normed row times a column of the weight. -/
theorem out4_apply (x : Vec Ideal S512x1024 .f32) (g : Vec Ideal S1x1024 .f32) (w : Vec Ideal S1024x3456 .bf16) (r : Fin 512) (n : Fin 256) :
    out0_4 (F := Ideal) x g w (ix2 r n)
      = ∑ k : Fin 1024, Rows.rmsn (fun k => x (ix2 r k)) (fun k => g (ix2 0 k)) k * w (ix2 k ⟨256 + n.val, by omega⟩) := by
  simp only [← norm_apply]
  unfold out0_4
  frame_out
  pointwise [k0_pay6]

/-- Output window 5 at a row and a column: the normed row times a column of the weight. -/
theorem out5_apply (x : Vec Ideal S512x1024 .f32) (g : Vec Ideal S1x1024 .f32) (w : Vec Ideal S1024x3456 .bf16) (r : Fin 512) (n : Fin 256) :
    out0_5 (F := Ideal) x g w (ix2 r n)
      = ∑ k : Fin 1024, Rows.rmsn (fun k => x (ix2 r k)) (fun k => g (ix2 0 k)) k * w (ix2 k ⟨512 + n.val, by omega⟩) := by
  simp only [← norm_apply]
  unfold out0_5
  frame_out
  pointwise [k0_pay7]

/-- Output window 6 at a row and a column: the normed row times a column of the weight. -/
theorem out6_apply (x : Vec Ideal S512x1024 .f32) (g : Vec Ideal S1x1024 .f32) (w : Vec Ideal S1024x3456 .bf16) (r : Fin 512) (n : Fin 512) :
    out0_6 (F := Ideal) x g w (ix2 r n)
      = ∑ k : Fin 1024, Rows.rmsn (fun k => x (ix2 r k)) (fun k => g (ix2 0 k)) k * w (ix2 k ⟨768 + n.val, by omega⟩) := by
  simp only [← norm_apply]
  unfold out0_6
  frame_out
  pointwise [k0_pay1, k0_pay8]
  simp only [norm9]

/-- Output window 7 at a row and a column: the normed row times a column of the weight. -/
theorem out7_apply (x : Vec Ideal S512x1024 .f32) (g : Vec Ideal S1x1024 .f32) (w : Vec Ideal S1024x3456 .bf16) (r : Fin 512) (n : Fin 1024) :
    out0_7 (F := Ideal) x g w (ix2 r n)
      = ∑ k : Fin 1024, Rows.rmsn (fun k => x (ix2 r k)) (fun k => g (ix2 0 k)) k * w (ix2 k ⟨1280 + n.val, by omega⟩) := by
  simp only [← norm_apply]
  unfold out0_7
  frame_out
  pointwise [k0_pay2]
  simp only [norm9]

/-- Output window 8 at a row and a column: the normed row times a column of the weight. -/
theorem out8_apply (x : Vec Ideal S512x1024 .f32) (g : Vec Ideal S1x1024 .f32) (w : Vec Ideal S1024x3456 .bf16) (r : Fin 512) (n : Fin 1152) :
    out0_8 (F := Ideal) x g w (ix2 r n)
      = ∑ k : Fin 1024, Rows.rmsn (fun k => x (ix2 r k)) (fun k => g (ix2 0 k)) k * w (ix2 k ⟨2304 + n.val, by omega⟩) := by
  simp only [← norm_apply]
  unfold out0_8
  frame_out
  pointwise [k0_pay3]
  simp only [norm9]

end Cert.Proof.InBlock

end
-- ==== Proof.InArr.lean ====
/-
  The result arrays of the input projection, at every row and column: the three input blocks of a grid point read from
  the arguments, and the blocks the point writes back.
-/
module

public import proofs.«01_k».proof.Proof.InBlock
public import Idealize.ShloMosaic.Lib.StableHlo.RunRead

@[expose] public section

noncomputable section

namespace Cert.Proof.InArr

open Idealize.ShloMosaic Idealize.SL.Sem Cert.InprojIdeal Cert.InprojIdeal.Gen Idealize.ShloMosaic.TcCoe

variable (m : (ℓ : Loc nD τ sig) → Buf (Elt Ideal) ℓ)

/-- The flat row of a grid point and a row of its block. -/
def row (t : Fin cfg0.N) (r : Fin 512) : Fin 16384 := ⟨512 * t.val + r.val, by have h := t.isLt; have e : cfg0.N = 32 := N_0; omega⟩

/-- A flattened array at a row. -/
theorem cast1024_apply (x : FVec Ideal S4x4096x1024 .f32) (i : Fin 16384) (n : Fin 1024) :
    shapeCast S16384x1024 x shapeCasts_S4x4096x1024_S16384x1024 (ix2 i n) = x (ix3 ⟨i.val / 4096, by omega⟩ ⟨i.val % 4096, by omega⟩ n) := by
  pointwise

/-- A gain as one row. -/
theorem gain_apply (x : FVec Ideal S1024 .f32) (n : Fin 1024) : shapeCast S1x1024 x shapeCasts_S1024_S1x1024 (ix2 0 n) = x (ix1 n) := by
  pointwise

/-- The block index of window 0 at a point. -/
theorem idx0 : ∀ t : Fin grid0.N, win0_0.index t 0 = t.val ∧ win0_0.index t 1 = 0 := by decide +kernel

/-- The block of window 0, read from its array. -/
theorem blk0 (c : Dev nD) (t : Fin cfg0.N) (r : Fin 512) (n : Fin 1024) :
    (iblk m c 0 t : Vec Ideal S512x1024 .f32) (ix2 r n) = V m c main_v0 (ix2 (row t r) n) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * n.val = n.val; rw [(idx0 t).2]; omega

/-- The block index of window 1 at a point. -/
theorem idx1 : ∀ t : Fin grid0.N, win0_1.index t 0 = 0 ∧ win0_1.index t 1 = 0 := by decide +kernel

/-- The block of window 1, read from its array. -/
theorem blk1 (c : Dev nD) (t : Fin cfg0.N) (r : Fin 1) (n : Fin 1024) :
    (iblk m c 1 t : Vec Ideal S1x1024 .f32) (ix2 r n) = V m c main_v10 (ix2 (r) n) := by
  unfold iblk
  rw [View.read_apply]
  show V m c main_v10 _ = V m c main_v10 _
  congr 1
  funext a
  apply Fin.ext
  match a with
  | ⟨0, _⟩ => show win0_1.index t 0 * 1 + 1 * r.val = r.val; rw [(idx1 t).1]; omega
  | ⟨1, _⟩ => show win0_1.index t 1 * 1024 + 1 * n.val = n.val; rw [(idx1 t).2]; omega

/-- The block index of window 2 at a point. -/
theorem idx2 : ∀ t : Fin grid0.N, win0_2.index t 0 = 0 ∧ win0_2.index t 1 = 0 := by decide +kernel

/-- The block of window 2, read from its array. -/
theorem blk2 (c : Dev nD) (t : Fin cfg0.N) (r : Fin 1024) (n : Fin 3456) :
    (iblk m c 2 t : Vec Ideal S1024x3456 .bf16) (ix2 r n) = V m c main_v9 (ix2 (r) n) := by
  unfold iblk
  rw [View.read_apply]
  show V m c main_v9 _ = V m c main_v9 _
  congr 1
  funext a
  apply Fin.ext
  match a with
  | ⟨0, _⟩ => show win0_2.index t 0 * 1024 + 1 * r.val = r.val; rw [(idx2 t).1]; omega
  | ⟨1, _⟩ => show win0_2.index t 1 * 3456 + 1 * n.val = n.val; rw [(idx2 t).2]; omega

/-- The rows' array is the reshaped argument. -/
theorem arr0 (c : Dev nD) (i : Fin 16384) (n : Fin 1024) :
    V m c main_v0 (ix2 i n) = m ((c : Thread nD τ).loc main_arg0) (ix3 ⟨i.val / 4096, by omega⟩ ⟨i.val % 4096, by omega⟩ n) := by
  have e : (V m c main_v0 : FVec Ideal S16384x1024 .f32) = shapeCast S16384x1024 (m ((c : Thread nD τ).loc main_arg0)) shapeCasts_S4x4096x1024_S16384x1024 := by
    unfold V; simp only [hostOps0]; after_reads_simp; rfl
  rw [e]
  exact cast1024_apply _ i n

/-- The gain's array is the gain, as one row. -/
theorem arr1 (c : Dev nD) (n : Fin 1024) : V m c main_v10 (ix2 0 n) = m ((c : Thread nD τ).loc main_arg1) (ix1 n) := by
  have e : (V m c main_v10 : FVec Ideal S1x1024 .f32) = shapeCast S1x1024 (m ((c : Thread nD τ).loc main_arg1)) shapeCasts_S1024_S1x1024 := by
    unfold V; simp only [hostOps0]; after_reads_simp; rfl
  rw [e]
  exact gain_apply _ n

/-- The prepared weight: the delta rule's columns with the gate's columns before the decay's and zeros behind. -/
def prep (w : FVec Ideal S1024x3336 .f32) : FVec Ideal S1024x3456 .bf16 :=
  truncf .bf16 (concatenate S1024x3456 1 [⟨S1024x2304, extractStridedSlice S1024x2304 ![0, 0] w slices_S1024x3336_S1024x2304_0_0⟩,
    ⟨S1024x1152, concatenate S1024x1152 1
      [⟨S1024x768, extractStridedSlice S1024x768 ![0, 0] (extractStridedSlice S1024x1032 ![0, 2304] w slices_S1024x3336_S1024x1032_0_2304) slices_S1024x1032_S1024x768_0_0⟩,
       ⟨S1024x256, extractStridedSlice S1024x256 ![0, 776] (extractStridedSlice S1024x1032 ![0, 2304] w slices_S1024x3336_S1024x1032_0_2304) slices_S1024x1032_S1024x256_0_776⟩,
       ⟨S1024x8, extractStridedSlice S1024x8 ![0, 768] (extractStridedSlice S1024x1032 ![0, 2304] w slices_S1024x3336_S1024x1032_0_2304) slices_S1024x1032_S1024x8_0_768⟩,
       ⟨S1024x120, broadcastInDim S1024x120 ![] bcast_S_S1024x120 (constant S_ .f32 0x00000000#32)⟩]
      concatenates_S1024x768_S1024x256_S1024x8_S1024x120_S1024x1152_d1⟩] concatenates_S1024x2304_S1024x1152_S1024x3456_d1) bitsLt_bf16_f32

/-- One entry of the prepared weight. -/
def prepAt (w : FVec Ideal S1024x3336 .f32) (k : Fin 1024) (n : Fin 3456) : EReal :=
  if h : n.val < 3072 then w (ix2 k ⟨n.val, by omega⟩)
  else if h : n.val < 3328 then w (ix2 k ⟨n.val + 8, by omega⟩)
  else if h : n.val < 3336 then w (ix2 k ⟨n.val - 256, by omega⟩) else 0

/-- The prepared weight at a row and a column. -/
theorem prep_apply (w : FVec Ideal S1024x3336 .f32) (k : Fin 1024) (n : Fin 3456) : prep w (ix2 k n) = prepAt w k n := by
  unfold prepAt
  pointwise [prep]
  (repeat' split) <;> first | (exfalso; omega) | (refine congrArg w (congrArg (ix2 k) (Fin.ext ?_)); dsimp only; omega) | with_reducible rfl

/-- The weight's array is the prepared weight. -/
theorem arr2 (c : Dev nD) (k : Fin 1024) (n : Fin 3456) : V m c main_v9 (ix2 k n) = prepAt (m ((c : Thread nD τ).loc main_arg2)) k n := by
  have e : V m c main_v9 = prep (m ((c : Thread nD τ).loc main_arg2)) := by
    unfold V; simp only [hostOps0]; after_reads_simp; rfl
  rw [e]
  exact prep_apply _ k n

/-- The normed row `i` times column `n` of the prepared weight. -/
def colK (c : Dev nD) (i : Fin 16384) (n : Fin 3456) : EReal :=
  ∑ k : Fin 1024, Rows.rmsn (fun k => m ((c : Thread nD τ).loc main_arg0) (ix3 ⟨i.val / 4096, by omega⟩ ⟨i.val % 4096, by omega⟩ k))
    (fun k => m ((c : Thread nD τ).loc main_arg1) (ix1 k)) k * prepAt (m ((c : Thread nD τ).loc main_arg2)) k n

/-- The block's sum is the array's. -/
theorem col_eq (c : Dev nD) (t : Fin cfg0.N) (r : Fin 512) (n : Fin 3456) :
    (∑ k : Fin 1024, Rows.rmsn (fun k => (iblk m c 0 t : Vec Ideal S512x1024 .f32) (ix2 r k)) (fun k => (iblk m c 1 t : Vec Ideal S1x1024 .f32) (ix2 0 k)) k
      * (iblk m c 2 t : Vec Ideal S1024x3456 .bf16) (ix2 k n)) = colK m c (row t r) n := by
  unfold colK
  have h0 : (fun k => (iblk m c 0 t : Vec Ideal S512x1024 .f32) (ix2 r k)) = _ := funext fun k => (blk0 m c t r k).trans (arr0 m c _ k)
  have h1 : (fun k => (iblk m c 1 t : Vec Ideal S1x1024 .f32) (ix2 0 k)) = _ := funext fun k => (blk1 m c t 0 k).trans (arr1 m c k)
  refine Finset.sum_congr rfl fun k _ => congr_arg₂ _ ?_ ((blk2 m c t k n).trans (arr2 m c k n))
  exact (congrArg (fun v => Rows.rmsn v _ k) h0).trans (congrArg (fun g => Rows.rmsn _ g k) h1)

/-- The block index of output window 3. -/
theorem idx3 : ∀ t : Fin grid0.N, win0_3.index t 0 = t.val ∧ win0_3.index t 1 = 0 := by decide +kernel

/-- Every point writes window 3's block back. -/
theorem flush3 : ∀ t : Fin grid0.N, (cfg0.win 3).flush t = true := by decide +kernel

/-- Result array 0 at a row of a grid point. -/
theorem arr3_apply (c : Dev nD) (t : Fin cfg0.N) (r : Fin 512) (n : Fin 256) :
    ((dats m 0 c).arrAt 3 cfg0.N : Vec Ideal S16384x256 .f32) (ix2 (row t r) n) = colK m c (row t r) ⟨0 + n.val, by omega⟩ := by
  have h := congrFun (Cert.InprojIdeal.Value.blocks3 m c t (flush3 t)) (ix2 r n)
  rw [Cert.InprojIdeal.Value.flushed3, View.read_apply] at h
  have e : ((cfg0.win 3).blk t).view.emb (ix2 r n) = ix2 (row t r) n := by
    funext a
    apply Fin.ext
    match a with
    | ⟨0, _⟩ => show win0_3.index t 0 * 512 + 1 * r.val = 512 * t.val + r.val; rw [(idx3 t).1]; omega
    | ⟨1, _⟩ => show win0_3.index t 1 * 256 + 1 * n.val = n.val; rw [(idx3 t).2]; omega
  rw [e] at h
  exact h.trans ((InBlock.out3_apply _ _ _ r n).trans (col_eq m c t r _))

/-- The block index of output window 4. -/
theorem idx4 : ∀ t : Fin grid0.N, win0_4.index t 0 = t.val ∧ win0_4.index t 1 = 0 := by decide +kernel

/-- Every point writes window 4's block back. -/
theorem flush4 : ∀ t : Fin grid0.N, (cfg0.win 4).flush t = true := by decide +kernel

/-- Result array 1 at a row of a grid point. -/
theorem arr4_apply (c : Dev nD) (t : Fin cfg0.N) (r : Fin 512) (n : Fin 256) :
    ((dats m 0 c).arrAt 4 cfg0.N : Vec Ideal S16384x256 .f32) (ix2 (row t r) n) = colK m c (row t r) ⟨256 + n.val, by omega⟩ := by
  have h := congrFun (Cert.InprojIdeal.Value.blocks4 m c t (flush4 t)) (ix2 r n)
  rw [Cert.InprojIdeal.Value.flushed4, View.read_apply] at h
  have e : ((cfg0.win 4).blk t).view.emb (ix2 r n) = ix2 (row t r) n := by
    funext a
    apply Fin.ext
    match a with
    | ⟨0, _⟩ => show win0_4.index t 0 * 512 + 1 * r.val = 512 * t.val + r.val; rw [(idx4 t).1]; omega
    | ⟨1, _⟩ => show win0_4.index t 1 * 256 + 1 * n.val = n.val; rw [(idx4 t).2]; omega
  rw [e] at h
  exact h.trans ((InBlock.out4_apply _ _ _ r n).trans (col_eq m c t r _))

/-- The block index of output window 5. -/
theorem idx5 : ∀ t : Fin grid0.N, win0_5.index t 0 = t.val ∧ win0_5.index t 1 = 0 := by decide +kernel

/-- Every point writes window 5's block back. -/
theorem flush5 : ∀ t : Fin grid0.N, (cfg0.win 5).flush t = true := by decide +kernel

/-- Result array 2 at a row of a grid point. -/
theorem arr5_apply (c : Dev nD) (t : Fin cfg0.N) (r : Fin 512) (n : Fin 256) :
    ((dats m 0 c).arrAt 5 cfg0.N : Vec Ideal S16384x256 .f32) (ix2 (row t r) n) = colK m c (row t r) ⟨512 + n.val, by omega⟩ := by
  have h := congrFun (Cert.InprojIdeal.Value.blocks5 m c t (flush5 t)) (ix2 r n)
  rw [Cert.InprojIdeal.Value.flushed5, View.read_apply] at h
  have e : ((cfg0.win 5).blk t).view.emb (ix2 r n) = ix2 (row t r) n := by
    funext a
    apply Fin.ext
    match a with
    | ⟨0, _⟩ => show win0_5.index t 0 * 512 + 1 * r.val = 512 * t.val + r.val; rw [(idx5 t).1]; omega
    | ⟨1, _⟩ => show win0_5.index t 1 * 256 + 1 * n.val = n.val; rw [(idx5 t).2]; omega
  rw [e] at h
  exact h.trans ((InBlock.out5_apply _ _ _ r n).trans (col_eq m c t r _))

/-- The block index of output window 6. -/
theorem idx6 : ∀ t : Fin grid0.N, win0_6.index t 0 = t.val ∧ win0_6.index t 1 = 0 := by decide +kernel

/-- Every point writes window 6's block back. -/
theorem flush6 : ∀ t : Fin grid0.N, (cfg0.win 6).flush t = true := by decide +kernel

/-- Result array 3 at a row of a grid point. -/
theorem arr6_apply (c : Dev nD) (t : Fin cfg0.N) (r : Fin 512) (n : Fin 512) :
    ((dats m 0 c).arrAt 6 cfg0.N : Vec Ideal S16384x512 .f32) (ix2 (row t r) n) = colK m c (row t r) ⟨768 + n.val, by omega⟩ := by
  have h := congrFun (Cert.InprojIdeal.Value.blocks6 m c t (flush6 t)) (ix2 r n)
  rw [Cert.InprojIdeal.Value.flushed6, View.read_apply] at h
  have e : ((cfg0.win 6).blk t).view.emb (ix2 r n) = ix2 (row t r) n := by
    funext a
    apply Fin.ext
    match a with
    | ⟨0, _⟩ => show win0_6.index t 0 * 512 + 1 * r.val = 512 * t.val + r.val; rw [(idx6 t).1]; omega
    | ⟨1, _⟩ => show win0_6.index t 1 * 512 + 1 * n.val = n.val; rw [(idx6 t).2]; omega
  rw [e] at h
  exact h.trans ((InBlock.out6_apply _ _ _ r n).trans (col_eq m c t r _))

/-- The block index of output window 7. -/
theorem idx7 : ∀ t : Fin grid0.N, win0_7.index t 0 = t.val ∧ win0_7.index t 1 = 0 := by decide +kernel

/-- Every point writes window 7's block back. -/
theorem flush7 : ∀ t : Fin grid0.N, (cfg0.win 7).flush t = true := by decide +kernel

/-- Result array 4 at a row of a grid point. -/
theorem arr7_apply (c : Dev nD) (t : Fin cfg0.N) (r : Fin 512) (n : Fin 1024) :
    ((dats m 0 c).arrAt 7 cfg0.N : Vec Ideal S16384x1024 .f32) (ix2 (row t r) n) = colK m c (row t r) ⟨1280 + n.val, by omega⟩ := by
  have h := congrFun (Cert.InprojIdeal.Value.blocks7 m c t (flush7 t)) (ix2 r n)
  rw [Cert.InprojIdeal.Value.flushed7, View.read_apply] at h
  have e : ((cfg0.win 7).blk t).view.emb (ix2 r n) = ix2 (row t r) n := by
    funext a
    apply Fin.ext
    match a with
    | ⟨0, _⟩ => show win0_7.index t 0 * 512 + 1 * r.val = 512 * t.val + r.val; rw [(idx7 t).1]; omega
    | ⟨1, _⟩ => show win0_7.index t 1 * 1024 + 1 * n.val = n.val; rw [(idx7 t).2]; omega
  rw [e] at h
  exact h.trans ((InBlock.out7_apply _ _ _ r n).trans (col_eq m c t r _))

/-- The block index of output window 8. -/
theorem idx8 : ∀ t : Fin grid0.N, win0_8.index t 0 = t.val ∧ win0_8.index t 1 = 0 := by decide +kernel

/-- Every point writes window 8's block back. -/
theorem flush8 : ∀ t : Fin grid0.N, (cfg0.win 8).flush t = true := by decide +kernel

/-- Result array 5 at a row of a grid point. -/
theorem arr8_apply (c : Dev nD) (t : Fin cfg0.N) (r : Fin 512) (n : Fin 1152) :
    ((dats m 0 c).arrAt 8 cfg0.N : Vec Ideal S16384x1152 .f32) (ix2 (row t r) n) = colK m c (row t r) ⟨2304 + n.val, by omega⟩ := by
  have h := congrFun (Cert.InprojIdeal.Value.blocks8 m c t (flush8 t)) (ix2 r n)
  rw [Cert.InprojIdeal.Value.flushed8, View.read_apply] at h
  have e : ((cfg0.win 8).blk t).view.emb (ix2 r n) = ix2 (row t r) n := by
    funext a
    apply Fin.ext
    match a with
    | ⟨0, _⟩ => show win0_8.index t 0 * 512 + 1 * r.val = 512 * t.val + r.val; rw [(idx8 t).1]; omega
    | ⟨1, _⟩ => show win0_8.index t 1 * 1152 + 1 * n.val = n.val; rw [(idx8 t).2]; omega
  rw [e] at h
  exact h.trans ((InBlock.out8_apply _ _ _ r n).trans (col_eq m c t r _))

end Cert.Proof.InArr

end
-- ==== Proof.InRef.lean ====
/-
  The reference of the input projection: its run, read in four stretches (the norm, the projection, the reordered
  columns, the slices), and its six results as terms of the arguments.
-/
module

public import proofs.«01_k».proof.Proof.Gen.InprojRefIdeal
public import proofs.«01_k».proof.Proof.Rows
public import Idealize.ShloMosaic.Lib.Pointwise
public import Idealize.ShloMosaic.Lib.StableHlo.RunRead
public import Idealize.ShloMosaic.Lib.StableHlo.Run
public import Idealize.ShloMosaic.Lib.Pipeline.Frame
public import Idealize.ShloMosaic.Lib.Claim

@[expose] public section

noncomputable section

namespace Cert.Proof.InRef

open Cert.InprojRefIdeal Cert.InprojRefIdeal.Gen Idealize.ShloMosaic Idealize.ShloMosaic.TcCoe Idealize.SL.Sem Idealize.ShloMosaic.StableHlo

variable {F : FTy → Type} [FloatOps F]

/-- The RMS norm of every row, scaled by the gain. -/
def rmsF (y : (⟨S4x4096x1024, .f32⟩ : BufTy).Contents (Elt F)) (g : (⟨S1024, .f32⟩ : BufTy).Contents (Elt F)) : (⟨S4x4096x1024, .f32⟩ : BufTy).Contents (Elt F) :=
  mulf (mulf y (broadcastInDim S4x4096x1024 ![0, 1, 2] bcast_S4x4096x1_S4x4096x1024_0_1_2
      (Host.rsqrt (addf (Host.divf (broadcastInDim S4x4096x1 ![0, 1] bcast_S4x4096_S4x4096x1_0_1
            (Host.reduceAdd (mulf y y) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The projected rows. -/
def projF (h : (⟨S4x4096x1024, .f32⟩ : BufTy).Contents (Elt F)) (w : (⟨S1024x3336, .f32⟩ : BufTy).Contents (Elt F)) : (⟨S4x4096x3336, .f32⟩ : BufTy).Contents (Elt F) :=
  Host.dotGeneral dot_S4x4096x1024_S1024x3336_S4x4096x3336_2_0_01_1_n_n none h w

/-- Four groups of columns side by side. -/
def joinF : (main_v17 : Ref sig .tc).ty.Contents (Elt F) → (main_v16 : Ref sig .tc).ty.Contents (Elt F) → (main_v15 : Ref sig .tc).ty.Contents (Elt F) → (main_v18 : Ref sig .tc).ty.Contents (Elt F) → (main_v19 : Ref sig .tc).ty.Contents (Elt F) :=
  (fun u0 u1 u2 u3 => (concatenate S4x4096x1152 2 [⟨S4x4096x768, (u0 : (⟨S4x4096x768, .f32⟩ : BufTy).Contents (Elt F))⟩, ⟨S4x4096x256, (u1 : (⟨S4x4096x256, .f32⟩ : BufTy).Contents (Elt F))⟩, ⟨S4x4096x8, (u2 : (⟨S4x4096x8, .f32⟩ : BufTy).Contents (Elt F))⟩, ⟨S4x4096x120, (u3 : (⟨S4x4096x120, .f32⟩ : BufTy).Contents (Elt F))⟩] concatenates_S4x4096x768_S4x4096x256_S4x4096x8_S4x4096x120_S4x4096x1152_d2 : (⟨S4x4096x1152, .f32⟩ : BufTy).Contents (Elt F)))

/-- The delta rule's columns, with the gate's columns before the decay's and zeros behind. -/
def deltaF (p : (⟨S4x4096x3336, .f32⟩ : BufTy).Contents (Elt F)) : (⟨S4x4096x1152, .f32⟩ : BufTy).Contents (Elt F) :=
  joinF (extractStridedSlice S4x4096x768 ![0, 0, 0] (extractStridedSlice S4x4096x1032 ![0, 0, 2304] p slices_S4x4096x3336_S4x4096x1032_0_0_2304) slices_S4x4096x1032_S4x4096x768_0_0_0)
    (extractStridedSlice S4x4096x256 ![0, 0, 776] (extractStridedSlice S4x4096x1032 ![0, 0, 2304] p slices_S4x4096x3336_S4x4096x1032_0_0_2304) slices_S4x4096x1032_S4x4096x256_0_0_776)
    (extractStridedSlice S4x4096x8 ![0, 0, 768] (extractStridedSlice S4x4096x1032 ![0, 0, 2304] p slices_S4x4096x3336_S4x4096x1032_0_0_2304) slices_S4x4096x1032_S4x4096x8_0_0_768)
    (broadcastInDim S4x4096x120 ![] bcast_S_S4x4096x120 (constant S_ .f32 0x00000000#32))

/-- Stretch 1: the normed rows. -/
abbrev ops1 : List (HloOp τ sig (Elt F)) :=
  [ binary main_arg0 main_arg0 main_v0 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v0 main_cst main_v1 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v3 (broadcastInDim S4x4096x1 ![] bcast_S_S4x4096x1 : (⟨S_, .f32⟩ : BufTy).Contents (Elt F) → (⟨S4x4096x1, .f32⟩ : BufTy).Contents (Elt F)),
    binary main_v2 main_v3 main_v4 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (addf : (⟨S4x4096x1, .f32⟩ : BufTy).Contents (Elt F) → (⟨S4x4096x1, .f32⟩ : BufTy).Contents (Elt F) → (⟨S4x4096x1, .f32⟩ : BufTy).Contents (Elt F)),
    unary main_v6 main_v7 (Host.rsqrt : (⟨S4x4096x1, .f32⟩ : BufTy).Contents (Elt F) → (⟨S4x4096x1, .f32⟩ : BufTy).Contents (Elt F)),
    unary main_v7 main_v8 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v8 main_v9 (mulf : (⟨S4x4096x1024, .f32⟩ : BufTy).Contents (Elt F) → (⟨S4x4096x1024, .f32⟩ : BufTy).Contents (Elt F) → (⟨S4x4096x1024, .f32⟩ : BufTy).Contents (Elt F)),
    unary main_arg1 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v9 main_v11 main_v12 (mulf : (⟨S4x4096x1024, .f32⟩ : BufTy).Contents (Elt F) → (⟨S4x4096x1024, .f32⟩ : BufTy).Contents (Elt F) → (⟨S4x4096x1024, .f32⟩ : BufTy).Contents (Elt F)) ]

/-- Stretch 2: the projected rows. -/
abbrev ops2 : List (HloOp τ sig (Elt F)) :=
  [ binary main_v12 main_arg2 main_v13 ((fun l r => Host.dotGeneral dot_S4x4096x1024_S1024x3336_S4x4096x3336_2_0_01_1_n_n none l r) : (⟨S4x4096x1024, .f32⟩ : BufTy).Contents (Elt F) → (⟨S1024x3336, .f32⟩ : BufTy).Contents (Elt F) → (⟨S4x4096x3336, .f32⟩ : BufTy).Contents (Elt F)) ]

/-- Stretch 3: the reordered columns. -/
abbrev ops3 : List (HloOp τ sig (Elt F)) :=
  [ unary main_v13 main_v14 ((extractStridedSlice S4x4096x1032 ![0, 0, 2304] · slices_S4x4096x3336_S4x4096x1032_0_0_2304) : (⟨S4x4096x3336, .f32⟩ : BufTy).Contents (Elt F) → (⟨S4x4096x1032, .f32⟩ : BufTy).Contents (Elt F)),
    unary main_v14 main_v15 ((extractStridedSlice S4x4096x8 ![0, 0, 768] · slices_S4x4096x1032_S4x4096x8_0_0_768) : (⟨S4x4096x1032, .f32⟩ : BufTy).Contents (Elt F) → (⟨S4x4096x8, .f32⟩ : BufTy).Contents (Elt F)),
    unary main_v14 main_v16 ((extractStridedSlice S4x4096x256 ![0, 0, 776] · slices_S4x4096x1032_S4x4096x256_0_0_776) : (⟨S4x4096x1032, .f32⟩ : BufTy).Contents (Elt F) → (⟨S4x4096x256, .f32⟩ : BufTy).Contents (Elt F)),
    unary main_v14 main_v17 ((extractStridedSlice S4x4096x768 ![0, 0, 0] · slices_S4x4096x1032_S4x4096x768_0_0_0) : (⟨S4x4096x1032, .f32⟩ : BufTy).Contents (Elt F) → (⟨S4x4096x768, .f32⟩ : BufTy).Contents (Elt F)),
    nullary main_cst_2 (constant S_ .f32 0x00000000#32),
    unary main_cst_2 main_v18 (broadcastInDim S4x4096x120 ![] bcast_S_S4x4096x120 : (⟨S_, .f32⟩ : BufTy).Contents (Elt F) → (⟨S4x4096x120, .f32⟩ : BufTy).Contents (Elt F)),
    nary ![main_v17, main_v16, main_v15, main_v18] main_v19 (fun u => joinF (F := F) (u 0) (u 1) (u 2) (u 3)) ]

/-- Stretch 4: the six results. -/
abbrev ops4 : List (HloOp τ sig (Elt F)) :=
  [ unary main_v13 main_v20 ((extractStridedSlice S4x4096x256 ![0, 0, 0] · slices_S4x4096x3336_S4x4096x256_0_0_0) : (⟨S4x4096x3336, .f32⟩ : BufTy).Contents (Elt F) → (⟨S4x4096x256, .f32⟩ : BufTy).Contents (Elt F)),
    reshape main_v20 main_v21 (rfl : (.f32 : EltTy) = .f32) shapeCasts_S4x4096x256_S16384x256,
    unary main_v13 main_v22 ((extractStridedSlice S4x4096x256 ![0, 0, 256] · slices_S4x4096x3336_S4x4096x256_0_0_256) : (⟨S4x4096x3336, .f32⟩ : BufTy).Contents (Elt F) → (⟨S4x4096x256, .f32⟩ : BufTy).Contents (Elt F)),
    reshape main_v22 main_v23 (rfl : (.f32 : EltTy) = .f32) shapeCasts_S4x4096x256_S16384x256,
    unary main_v13 main_v24 ((extractStridedSlice S4x4096x256 ![0, 0, 512] · slices_S4x4096x3336_S4x4096x256_0_0_512) : (⟨S4x4096x3336, .f32⟩ : BufTy).Contents (Elt F) → (⟨S4x4096x256, .f32⟩ : BufTy).Contents (Elt F)),
    reshape main_v24 main_v25 (rfl : (.f32 : EltTy) = .f32) shapeCasts_S4x4096x256_S16384x256,
    unary main_v13 main_v26 ((extractStridedSlice S4x4096x512 ![0, 0, 768] · slices_S4x4096x3336_S4x4096x512_0_0_768) : (⟨S4x4096x3336, .f32⟩ : BufTy).Contents (Elt F) → (⟨S4x4096x512, .f32⟩ : BufTy).Contents (Elt F)),
    reshape main_v26 main_v27 (rfl : (.f32 : EltTy) = .f32) shapeCasts_S4x4096x512_S16384x512,
    unary main_v13 main_v28 ((extractStridedSlice S4x4096x1024 ![0, 0, 1280] · slices_S4x4096x3336_S4x4096x1024_0_0_1280) : (⟨S4x4096x3336, .f32⟩ : BufTy).Contents (Elt F) → (⟨S4x4096x1024, .f32⟩ : BufTy).Contents (Elt F)),
    reshape main_v28 main_v29 (rfl : (.f32 : EltTy) = .f32) shapeCasts_S4x4096x1024_S16384x1024,
    reshape main_v19 main_v30 (rfl : (.f32 : EltTy) = .f32) shapeCasts_S4x4096x1152_S16384x1152 ]

/-- The program's operations, in order. -/
abbrev ops : List (HloOp τ sig (Elt F)) := ops1 ++ (ops2 ++ (ops3 ++ ops4))

/-- Stretch 1 leaves the normed rows in `main_v12`, from any contents before it. -/
theorem read1 (V : Valuation τ sig (Elt F)) : after ops1 V (no_index (Proc.devRef .tc main_v12)) = rmsF (V (Proc.devRef .tc main_arg0)) (V (Proc.devRef .tc main_arg1)) := by
  simp only [ops1]
  after_reads_simp
  try rfl

/-- Stretch 2 leaves the projected rows in `main_v13`, from any contents before it. -/
theorem read2 (V : Valuation τ sig (Elt F)) : after ops2 V (no_index (Proc.devRef .tc main_v13)) = projF (V (Proc.devRef .tc main_v12)) (V (Proc.devRef .tc main_arg2)) := by
  simp only [ops2]
  after_reads_simp
  try rfl

/-- Stretch 3 leaves the reordered columns in `main_v19`, from any contents before it. -/
theorem read3 (V : Valuation τ sig (Elt F)) : after ops3 V (no_index (Proc.devRef .tc main_v19)) = deltaF (V (Proc.devRef .tc main_v13)) := by
  simp only [ops3]
  after_reads_simp
  try rfl

/-- Stretch 4 leaves the six results in `main_v21`, from any contents before it. -/
theorem read4_21 (V : Valuation τ sig (Elt F)) : after ops4 V (no_index (Proc.devRef .tc main_v21)) = shapeCast S16384x256 (extractStridedSlice S4x4096x256 ![0, 0, 0] (V (Proc.devRef .tc main_v13)) slices_S4x4096x3336_S4x4096x256_0_0_0) shapeCasts_S4x4096x256_S16384x256 := by
  simp only [ops4]
  after_reads_simp
  try rfl

/-- Stretch 4 leaves the six results in `main_v23`, from any contents before it. -/
theorem read4_23 (V : Valuation τ sig (Elt F)) : after ops4 V (no_index (Proc.devRef .tc main_v23)) = shapeCast S16384x256 (extractStridedSlice S4x4096x256 ![0, 0, 256] (V (Proc.devRef .tc main_v13)) slices_S4x4096x3336_S4x4096x256_0_0_256) shapeCasts_S4x4096x256_S16384x256 := by
  simp only [ops4]
  after_reads_simp
  try rfl

/-- Stretch 4 leaves the six results in `main_v25`, from any contents before it. -/
theorem read4_25 (V : Valuation τ sig (Elt F)) : after ops4 V (no_index (Proc.devRef .tc main_v25)) = shapeCast S16384x256 (extractStridedSlice S4x4096x256 ![0, 0, 512] (V (Proc.devRef .tc main_v13)) slices_S4x4096x3336_S4x4096x256_0_0_512) shapeCasts_S4x4096x256_S16384x256 := by
  simp only [ops4]
  after_reads_simp
  try rfl

/-- Stretch 4 leaves the six results in `main_v27`, from any contents before it. -/
theorem read4_27 (V : Valuation τ sig (Elt F)) : after ops4 V (no_index (Proc.devRef .tc main_v27)) = shapeCast S16384x512 (extractStridedSlice S4x4096x512 ![0, 0, 768] (V (Proc.devRef .tc main_v13)) slices_S4x4096x3336_S4x4096x512_0_0_768) shapeCasts_S4x4096x512_S16384x512 := by
  simp only [ops4]
  after_reads_simp
  try rfl

/-- Stretch 4 leaves the six results in `main_v29`, from any contents before it. -/
theorem read4_29 (V : Valuation τ sig (Elt F)) : after ops4 V (no_index (Proc.devRef .tc main_v29)) = shapeCast S16384x1024 (extractStridedSlice S4x4096x1024 ![0, 0, 1280] (V (Proc.devRef .tc main_v13)) slices_S4x4096x3336_S4x4096x1024_0_0_1280) shapeCasts_S4x4096x1024_S16384x1024 := by
  simp only [ops4]
  after_reads_simp
  try rfl

/-- Stretch 4 leaves the six results in `main_v30`, from any contents before it. -/
theorem read4_30 (V : Valuation τ sig (Elt F)) : after ops4 V (no_index (Proc.devRef .tc main_v30)) = shapeCast S16384x1152 (V (Proc.devRef .tc main_v19)) shapeCasts_S4x4096x1152_S16384x1152 := by
  simp only [ops4]
  after_reads_simp
  try rfl

/-- Stretch 1 leaves every other buffer as it was. -/
theorem keep1 (V : Valuation τ sig (Elt F)) (r : Ref sig .tc) (hr : r ∉ ([main_v0, main_cst, main_v1, main_v2, main_cst_0, main_v3, main_v4, main_cst_1, main_v5, main_v6, main_v7, main_v8, main_v9, main_v10, main_v11, main_v12] : List (Ref sig .tc))) :
    after ops1 V (no_index (Proc.devRef .tc r)) = V (Proc.devRef .tc r) :=
  after_unwritten [main_v0, main_cst, main_v1, main_v2, main_cst_0, main_v3, main_v4, main_cst_1, main_v5, main_v6, main_v7, main_v8, main_v9, main_v10, main_v11, main_v12] rfl hr V

/-- Stretch 2 leaves every other buffer as it was. -/
theorem keep2 (V : Valuation τ sig (Elt F)) (r : Ref sig .tc) (hr : r ∉ ([main_v13] : List (Ref sig .tc))) :
    after ops2 V (no_index (Proc.devRef .tc r)) = V (Proc.devRef .tc r) :=
  after_unwritten [main_v13] rfl hr V

/-- Stretch 3 leaves every other buffer as it was. -/
theorem keep3 (V : Valuation τ sig (Elt F)) (r : Ref sig .tc) (hr : r ∉ ([main_v14, main_v15, main_v16, main_v17, main_cst_2, main_v18, main_v19] : List (Ref sig .tc))) :
    after ops3 V (no_index (Proc.devRef .tc r)) = V (Proc.devRef .tc r) :=
  after_unwritten [main_v14, main_v15, main_v16, main_v17, main_cst_2, main_v18, main_v19] rfl hr V

/-- Stretch 4 leaves every other buffer as it was. -/
theorem keep4 (V : Valuation τ sig (Elt F)) (r : Ref sig .tc) (hr : r ∉ ([main_v20, main_v21, main_v22, main_v23, main_v24, main_v25, main_v26, main_v27, main_v28, main_v29, main_v30] : List (Ref sig .tc))) :
    after ops4 V (no_index (Proc.devRef .tc r)) = V (Proc.devRef .tc r) :=
  after_unwritten [main_v20, main_v21, main_v22, main_v23, main_v24, main_v25, main_v26, main_v27, main_v28, main_v29, main_v30] rfl hr V

/-- Result 0, as one term of the arguments. -/
def res0 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x256, .f32⟩ : BufTy).Contents (Elt F) :=
  shapeCast S16384x256 (extractStridedSlice S4x4096x256 ![0, 0, 0] (projF (rmsF x0 x1) x2) slices_S4x4096x3336_S4x4096x256_0_0_0) shapeCasts_S4x4096x256_S16384x256

/-- The whole line leaves `main_v21` at that term. -/
theorem read_0 (V : Valuation τ sig (Elt F)) : after ops V (Proc.devRef .tc main_v21) = res0 (V (Proc.devRef .tc main_arg0)) (V (Proc.devRef .tc main_arg1)) (V (Proc.devRef .tc main_arg2)) := by
  unfold ops res0
  simp only [after_append]
  rw [read4_21, keep3 _ main_v13 (by decide), read2, keep1 _ main_arg2 (by decide), read1]

/-- Result 1, as one term of the arguments. -/
def res1 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x256, .f32⟩ : BufTy).Contents (Elt F) :=
  shapeCast S16384x256 (extractStridedSlice S4x4096x256 ![0, 0, 256] (projF (rmsF x0 x1) x2) slices_S4x4096x3336_S4x4096x256_0_0_256) shapeCasts_S4x4096x256_S16384x256

/-- The whole line leaves `main_v23` at that term. -/
theorem read_1 (V : Valuation τ sig (Elt F)) : after ops V (Proc.devRef .tc main_v23) = res1 (V (Proc.devRef .tc main_arg0)) (V (Proc.devRef .tc main_arg1)) (V (Proc.devRef .tc main_arg2)) := by
  unfold ops res1
  simp only [after_append]
  rw [read4_23, keep3 _ main_v13 (by decide), read2, keep1 _ main_arg2 (by decide), read1]

/-- Result 2, as one term of the arguments. -/
def res2 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x256, .f32⟩ : BufTy).Contents (Elt F) :=
  shapeCast S16384x256 (extractStridedSlice S4x4096x256 ![0, 0, 512] (projF (rmsF x0 x1) x2) slices_S4x4096x3336_S4x4096x256_0_0_512) shapeCasts_S4x4096x256_S16384x256

/-- The whole line leaves `main_v25` at that term. -/
theorem read_2 (V : Valuation τ sig (Elt F)) : after ops V (Proc.devRef .tc main_v25) = res2 (V (Proc.devRef .tc main_arg0)) (V (Proc.devRef .tc main_arg1)) (V (Proc.devRef .tc main_arg2)) := by
  unfold ops res2
  simp only [after_append]
  rw [read4_25, keep3 _ main_v13 (by decide), read2, keep1 _ main_arg2 (by decide), read1]

/-- Result 3, as one term of the arguments. -/
def res3 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x512, .f32⟩ : BufTy).Contents (Elt F) :=
  shapeCast S16384x512 (extractStridedSlice S4x4096x512 ![0, 0, 768] (projF (rmsF x0 x1) x2) slices_S4x4096x3336_S4x4096x512_0_0_768) shapeCasts_S4x4096x512_S16384x512

/-- The whole line leaves `main_v27` at that term. -/
theorem read_3 (V : Valuation τ sig (Elt F)) : after ops V (Proc.devRef .tc main_v27) = res3 (V (Proc.devRef .tc main_arg0)) (V (Proc.devRef .tc main_arg1)) (V (Proc.devRef .tc main_arg2)) := by
  unfold ops res3
  simp only [after_append]
  rw [read4_27, keep3 _ main_v13 (by decide), read2, keep1 _ main_arg2 (by decide), read1]

/-- Result 4, as one term of the arguments. -/
def res4 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x1024, .f32⟩ : BufTy).Contents (Elt F) :=
  shapeCast S16384x1024 (extractStridedSlice S4x4096x1024 ![0, 0, 1280] (projF (rmsF x0 x1) x2) slices_S4x4096x3336_S4x4096x1024_0_0_1280) shapeCasts_S4x4096x1024_S16384x1024

/-- The whole line leaves `main_v29` at that term. -/
theorem read_4 (V : Valuation τ sig (Elt F)) : after ops V (Proc.devRef .tc main_v29) = res4 (V (Proc.devRef .tc main_arg0)) (V (Proc.devRef .tc main_arg1)) (V (Proc.devRef .tc main_arg2)) := by
  unfold ops res4
  simp only [after_append]
  rw [read4_29, keep3 _ main_v13 (by decide), read2, keep1 _ main_arg2 (by decide), read1]

/-- Result 5, as one term of the arguments. -/
def res5 (x0 : (⟨S4x4096x1024, .f32⟩ : BufTy).Contents (Elt F)) (x1 : (⟨S1024, .f32⟩ : BufTy).Contents (Elt F)) (x2 : (⟨S1024x3336, .f32⟩ : BufTy).Contents (Elt F)) : (⟨S16384x1152, .f32⟩ : BufTy).Contents (Elt F) :=
  shapeCast S16384x1152 (deltaF (projF (rmsF x0 x1) x2)) shapeCasts_S4x4096x1152_S16384x1152

/-- The whole line leaves `main_v30` at that term. -/
theorem read_5 (V : Valuation τ sig (Elt F)) : after ops V (Proc.devRef .tc main_v30) = res5 (V (Proc.devRef .tc main_arg0)) (V (Proc.devRef .tc main_arg1)) (V (Proc.devRef .tc main_arg2)) := by
  unfold ops res5
  simp only [after_append]
  rw [read4_30, read3, read2, keep1 _ main_arg2 (by decide), read1]

/-- The arguments stand through the line. -/
theorem keep (V : Valuation τ sig (Elt F)) (r : Ref sig .tc) (hr : r ∈ ([main_arg0, main_arg1, main_arg2] : List (Ref sig .tc))) :
    after ops V (Proc.devRef .tc r) = V (Proc.devRef .tc r) := by
  unfold ops
  simp only [after_append]
  rw [keep4 _ r (by revert r; decide), keep3 _ r (by revert r; decide), keep2 _ r (by revert r; decide), keep1 _ r (by revert r; decide)]

set_option maxRecDepth 8192 in
set_option maxHeartbeats 4000000 in
/-- The printed program is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation stays within the program's buffers. -/
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., nullary_bufs_sub .., unary_bufs_sub .., nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub ..⟩

set_option maxRecDepth 8192 in
/-- The run: the six results at their terms, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = res0 (m ((c.tc : Thread nD τ).loc main_arg0)) (m ((c.tc : Thread nD τ).loc main_arg1)) (m ((c.tc : Thread nD τ).loc main_arg2))
      ∧ r.2.mem ((c.tc : Thread nD τ).loc main_v23) = res1 (m ((c.tc : Thread nD τ).loc main_arg0)) (m ((c.tc : Thread nD τ).loc main_arg1)) (m ((c.tc : Thread nD τ).loc main_arg2))
      ∧ r.2.mem ((c.tc : Thread nD τ).loc main_v25) = res2 (m ((c.tc : Thread nD τ).loc main_arg0)) (m ((c.tc : Thread nD τ).loc main_arg1)) (m ((c.tc : Thread nD τ).loc main_arg2))
      ∧ r.2.mem ((c.tc : Thread nD τ).loc main_v27) = res3 (m ((c.tc : Thread nD τ).loc main_arg0)) (m ((c.tc : Thread nD τ).loc main_arg1)) (m ((c.tc : Thread nD τ).loc main_arg2))
      ∧ r.2.mem ((c.tc : Thread nD τ).loc main_v29) = res4 (m ((c.tc : Thread nD τ).loc main_arg0)) (m ((c.tc : Thread nD τ).loc main_arg1)) (m ((c.tc : Thread nD τ).loc main_arg2))
      ∧ r.2.mem ((c.tc : Thread nD τ).loc main_v30) = res5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (read_0 _),
      (h c main_v23).trans (read_1 _),
      (h c main_v25).trans (read_2 _),
      (h c main_v27).trans (read_3 _),
      (h c main_v29).trans (read_4 _),
      (h c main_v30).trans (read_5 _),
      (h c main_arg0).trans (keep _ main_arg0 (by decide)),
      (h c main_arg1).trans (keep _ main_arg1 (by decide)),
      (h c main_arg2).trans (keep _ main_arg2 (by decide))⟩)
    (run_seq scopedRefs_eq scopedSems_eq defs main (fun _ => ops) main_eq (fun _ => ops_sub) m ρ)

/-- The normed row at a feature. -/
theorem rmsF_apply (y : (⟨S4x4096x1024, .f32⟩ : BufTy).Contents (Elt Ideal)) (g : (⟨S1024, .f32⟩ : BufTy).Contents (Elt Ideal)) (b : Fin 4) (s : Fin 4096) (n : Fin 1024) :
    rmsF (F := Ideal) y g (ix3 b s n) = Rows.rmsn (fun k => y (ix3 b s k)) (fun k => g (ix1 k)) n := by
  unfold Rows.rmsn
  pointwise [rmsF]

/-- The projected row at a column. -/
theorem projF_apply (h : (⟨S4x4096x1024, .f32⟩ : BufTy).Contents (Elt Ideal)) (w : (⟨S1024x3336, .f32⟩ : BufTy).Contents (Elt Ideal)) (b : Fin 4) (s : Fin 4096) (n : Fin 3336) :
    projF (F := Ideal) h w (ix3 b s n) = ∑ k : Fin 1024, h (ix3 b s k) * w (ix2 k n) := by
  pointwise [projF]

/-- One column of the projected normed row. -/
def colAt (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 3336) : EReal :=
  ∑ k : Fin 1024, Rows.rmsn (fun k => x0 (ix3 b s k)) (fun k => x1 (ix1 k)) k * x2 (ix2 k n)

/-- The projected normed rows at a column. -/
theorem proj_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 3336) :
    projF (F := Ideal) (rmsF x0 x1) x2 (ix3 b s n) = colAt x0 x1 x2 b s n := by
  rw [projF_apply]
  simp only [rmsF_apply]
  rfl

/-- The flat row of a sequence and a position. -/
def flat (b : Fin 4) (s : Fin 4096) : Fin 16384 := ⟨4096 * b.val + s.val, by omega⟩

/-- Result 0 at a row and a column. -/
theorem res0_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 256) :
    res0 (F := Ideal) x0 x1 x2 (ix2 (flat b s) n) = colAt x0 x1 x2 b s ⟨0 + n.val, by omega⟩ := by
  rw [← proj_apply]
  unfold res0
  generalize projF (F := Ideal) (rmsF x0 x1) x2 = p
  pointwise [flat]

/-- Result 1 at a row and a column. -/
theorem res1_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 256) :
    res1 (F := Ideal) x0 x1 x2 (ix2 (flat b s) n) = colAt x0 x1 x2 b s ⟨256 + n.val, by omega⟩ := by
  rw [← proj_apply]
  unfold res1
  generalize projF (F := Ideal) (rmsF x0 x1) x2 = p
  pointwise [flat]

/-- Result 2 at a row and a column. -/
theorem res2_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 256) :
    res2 (F := Ideal) x0 x1 x2 (ix2 (flat b s) n) = colAt x0 x1 x2 b s ⟨512 + n.val, by omega⟩ := by
  rw [← proj_apply]
  unfold res2
  generalize projF (F := Ideal) (rmsF x0 x1) x2 = p
  pointwise [flat]

/-- Result 3 at a row and a column. -/
theorem res3_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 512) :
    res3 (F := Ideal) x0 x1 x2 (ix2 (flat b s) n) = colAt x0 x1 x2 b s ⟨768 + n.val, by omega⟩ := by
  rw [← proj_apply]
  unfold res3
  generalize projF (F := Ideal) (rmsF x0 x1) x2 = p
  pointwise [flat]

/-- Result 4 at a row and a column. -/
theorem res4_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 1024) :
    res4 (F := Ideal) x0 x1 x2 (ix2 (flat b s) n) = colAt x0 x1 x2 b s ⟨1280 + n.val, by omega⟩ := by
  rw [← proj_apply]
  unfold res4
  generalize projF (F := Ideal) (rmsF x0 x1) x2 = p
  pointwise [flat]

/-- Result 5 at a row and a column: the delta rule's columns, reordered. -/
theorem res5_apply (x0 : (⟨S4x4096x1024, .f32⟩ : BufTy).Contents (Elt Ideal)) (x1 : (⟨S1024, .f32⟩ : BufTy).Contents (Elt Ideal)) (x2 : (⟨S1024x3336, .f32⟩ : BufTy).Contents (Elt Ideal)) (b : Fin 4) (s : Fin 4096) (n : Fin 1152) :
    res5 (F := Ideal) x0 x1 x2 (ix2 (flat b s) n)
      = if h : n.val < 768 then colAt x0 x1 x2 b s ⟨2304 + n.val, by omega⟩
        else if h : n.val < 1024 then colAt x0 x1 x2 b s ⟨2312 + n.val, by omega⟩
        else if h : n.val < 1032 then colAt x0 x1 x2 b s ⟨2048 + n.val, by omega⟩ else 0 := by
  simp only [← proj_apply]
  unfold res5
  generalize projF (F := Ideal) (rmsF x0 x1) x2 = p
  pointwise [flat, deltaF, joinF]
  (repeat' split) <;> first | omega | rfl | (refine congrArg p (congrArg (ix3 b s) (Fin.ext ?_)); dsimp only; omega)

end Cert.Proof.InRef

end
-- ==== Proof.InEq.lean ====
/-
  The input projection equals its reference in all six results, over the extended reals.
-/
module

public import proofs.«01_k».proof.Proof.InArr
public import proofs.«01_k».proof.Proof.InRef
public import proofs.«01_k».proof.Defs

@[expose] public section

noncomputable section

namespace Cert.Proof.InEq

open Idealize.ShloMosaic Idealize.SL.Sem Idealize.ShloMosaic.TcCoe

/-- Every flat row is a row of a grid point's block. -/
theorem row_cover (i : Fin 16384) : ∃ (t : Fin Cert.InprojIdeal.cfg0.N) (r : Fin 512), i = InArr.row t r := by
  have e : Cert.InprojIdeal.cfg0.N = 32 := Cert.InprojIdeal.Gen.N_0
  refine ⟨⟨i.val / 512, by omega⟩, ⟨i.val % 512, by omega⟩, ?_⟩
  apply Fin.ext
  show i.val = 512 * (i.val / 512) + i.val % 512
  omega

/-- Every flat row is a sequence and a position. -/
theorem flat_eq (i : Fin 16384) : i = InRef.flat ⟨i.val / 4096, by omega⟩ ⟨i.val % 4096, by omega⟩ := by
  apply Fin.ext
  show i.val = 4096 * (i.val / 4096) + i.val % 4096
  omega

/-- Where the prepared weight's column is a column of the weight, the two sums agree. -/
theorem col_eq (m : (ℓ : Loc Cert.InprojIdeal.nD Cert.InprojIdeal.τ Cert.InprojIdeal.sig) → Buf (Elt Ideal) ℓ) (c : Dev Cert.InprojIdeal.nD) (i : Fin 16384) (n : Fin 3456) (j : Fin 3336)
    (h : ∀ k, InArr.prepAt (m ((c.tc : Thread Cert.InprojIdeal.nD Cert.InprojIdeal.τ).loc Cert.InprojIdeal.main_arg2)) k n = m ((c.tc : Thread Cert.InprojIdeal.nD Cert.InprojIdeal.τ).loc Cert.InprojIdeal.main_arg2) (ix2 k j)) :
    InRef.colAt (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) ⟨i.val / 4096, by omega⟩ ⟨i.val % 4096, by omega⟩ j = InArr.colK m c i n := by
  unfold InRef.colAt InArr.colK
  exact Finset.sum_congr rfl fun k _ => congrArg _ (h k).symm

/-- The reference's result 0 is the kernel's array. -/
theorem result0 (m : (ℓ : Loc Cert.InprojIdeal.nD Cert.InprojIdeal.τ Cert.InprojIdeal.sig) → Buf (Elt Ideal) ℓ) (c : Dev Cert.InprojIdeal.nD) : InRef.res0 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 3 Cert.InprojIdeal.cfg0.N : Vec Ideal Cert.InprojIdeal.S16384x256 .f32) := by
  funext j
  obtain ⟨i, n, rfl⟩ : ∃ (i : Fin 16384) (n : Fin 256), j = ix2 i n := ⟨j 0, j 1, by funext a; fin_cases a <;> rfl⟩
  obtain ⟨t, r, rfl⟩ := row_cover i
  refine Eq.trans ?_ (InArr.arr3_apply m c t r n).symm
  refine (congrArg (fun i => InRef.res0 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res0_apply _ _ _ _ _ n).trans ?_
  exact col_eq m c _ _ _ fun k => dif_pos (show 0 + n.val < 3072 by omega)

/-- The reference's result 1 is the kernel's array. -/
theorem result1 (m : (ℓ : Loc Cert.InprojIdeal.nD Cert.InprojIdeal.τ Cert.InprojIdeal.sig) → Buf (Elt Ideal) ℓ) (c : Dev Cert.InprojIdeal.nD) : InRef.res1 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 4 Cert.InprojIdeal.cfg0.N : Vec Ideal Cert.InprojIdeal.S16384x256 .f32) := by
  funext j
  obtain ⟨i, n, rfl⟩ : ∃ (i : Fin 16384) (n : Fin 256), j = ix2 i n := ⟨j 0, j 1, by funext a; fin_cases a <;> rfl⟩
  obtain ⟨t, r, rfl⟩ := row_cover i
  refine Eq.trans ?_ (InArr.arr4_apply m c t r n).symm
  refine (congrArg (fun i => InRef.res1 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res1_apply _ _ _ _ _ n).trans ?_
  exact col_eq m c _ _ _ fun k => dif_pos (show 256 + n.val < 3072 by omega)

/-- The reference's result 2 is the kernel's array. -/
theorem result2 (m : (ℓ : Loc Cert.InprojIdeal.nD Cert.InprojIdeal.τ Cert.InprojIdeal.sig) → Buf (Elt Ideal) ℓ) (c : Dev Cert.InprojIdeal.nD) : InRef.res2 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 5 Cert.InprojIdeal.cfg0.N : Vec Ideal Cert.InprojIdeal.S16384x256 .f32) := by
  funext j
  obtain ⟨i, n, rfl⟩ : ∃ (i : Fin 16384) (n : Fin 256), j = ix2 i n := ⟨j 0, j 1, by funext a; fin_cases a <;> rfl⟩
  obtain ⟨t, r, rfl⟩ := row_cover i
  refine Eq.trans ?_ (InArr.arr5_apply m c t r n).symm
  refine (congrArg (fun i => InRef.res2 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res2_apply _ _ _ _ _ n).trans ?_
  exact col_eq m c _ _ _ fun k => dif_pos (show 512 + n.val < 3072 by omega)

/-- The reference's result 3 is the kernel's array. -/
theorem result3 (m : (ℓ : Loc Cert.InprojIdeal.nD Cert.InprojIdeal.τ Cert.InprojIdeal.sig) → Buf (Elt Ideal) ℓ) (c : Dev Cert.InprojIdeal.nD) : InRef.res3 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 6 Cert.InprojIdeal.cfg0.N : Vec Ideal Cert.InprojIdeal.S16384x512 .f32) := by
  funext j
  obtain ⟨i, n, rfl⟩ : ∃ (i : Fin 16384) (n : Fin 512), j = ix2 i n := ⟨j 0, j 1, by funext a; fin_cases a <;> rfl⟩
  obtain ⟨t, r, rfl⟩ := row_cover i
  refine Eq.trans ?_ (InArr.arr6_apply m c t r n).symm
  refine (congrArg (fun i => InRef.res3 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res3_apply _ _ _ _ _ n).trans ?_
  exact col_eq m c _ _ _ fun k => dif_pos (show 768 + n.val < 3072 by omega)

/-- The reference's result 4 is the kernel's array. -/
theorem result4 (m : (ℓ : Loc Cert.InprojIdeal.nD Cert.InprojIdeal.τ Cert.InprojIdeal.sig) → Buf (Elt Ideal) ℓ) (c : Dev Cert.InprojIdeal.nD) : InRef.res4 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 7 Cert.InprojIdeal.cfg0.N : Vec Ideal Cert.InprojIdeal.S16384x1024 .f32) := by
  funext j
  obtain ⟨i, n, rfl⟩ : ∃ (i : Fin 16384) (n : Fin 1024), j = ix2 i n := ⟨j 0, j 1, by funext a; fin_cases a <;> rfl⟩
  obtain ⟨t, r, rfl⟩ := row_cover i
  refine Eq.trans ?_ (InArr.arr7_apply m c t r n).symm
  refine (congrArg (fun i => InRef.res4 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res4_apply _ _ _ _ _ n).trans ?_
  exact col_eq m c _ _ _ fun k => dif_pos (show 1280 + n.val < 3072 by omega)

/-- The reference's result 5 is the kernel's array. -/
theorem result5 (m : (ℓ : Loc Cert.InprojIdeal.nD Cert.InprojIdeal.τ Cert.InprojIdeal.sig) → Buf (Elt Ideal) ℓ) (c : Dev Cert.InprojIdeal.nD) : InRef.res5 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) = ((Cert.InprojIdeal.Gen.dats m 0 c).arrAt 8 Cert.InprojIdeal.cfg0.N : Vec Ideal Cert.InprojIdeal.S16384x1152 .f32) := by
  funext j
  obtain ⟨i, n, rfl⟩ : ∃ (i : Fin 16384) (n : Fin 1152), j = ix2 i n := ⟨j 0, j 1, by funext a; fin_cases a <;> rfl⟩
  obtain ⟨t, r, rfl⟩ := row_cover i
  refine Eq.trans ?_ (InArr.arr8_apply m c t r n).symm
  refine (congrArg (fun i => InRef.res5 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (ix2 i n)) (flat_eq (InArr.row t r))).trans ?_
  refine (InRef.res5_apply _ _ _ _ _ n).trans ?_
  by_cases h1 : n.val < 768
  · rw [dif_pos h1]
    exact col_eq m c _ _ _ fun k => dif_pos (show 2304 + n.val < 3072 by omega)
  rw [dif_neg h1]
  by_cases h2 : n.val < 1024
  · rw [dif_pos h2]
    refine col_eq m c _ _ _ fun k => (dif_neg (show ¬ 2304 + n.val < 3072 by omega)).trans ((dif_pos (show 2304 + n.val < 3328 by omega)).trans ?_)
    exact congrArg _ (congrArg (ix2 k) (Fin.ext (by dsimp only; omega)))
  rw [dif_neg h2]
  by_cases h3 : n.val < 1032
  · rw [dif_pos h3]
    refine col_eq m c _ _ _ fun k => (dif_neg (show ¬ 2304 + n.val < 3072 by omega)).trans ((dif_neg (show ¬ 2304 + n.val < 3328 by omega)).trans
      ((dif_pos (show 2304 + n.val < 3336 by omega)).trans ?_))
    exact congrArg _ (congrArg (ix2 k) (Fin.ext (by dsimp only; omega)))
  rw [dif_neg h3]
  unfold InArr.colK
  refine (Finset.sum_eq_zero fun k _ => ?_).symm
  have e : InArr.prepAt (m ((c.tc : Thread Cert.InprojIdeal.nD Cert.InprojIdeal.τ).loc Cert.InprojIdeal.main_arg2)) k ⟨2304 + n.val, by omega⟩ = 0 :=
    (dif_neg (show ¬ 2304 + n.val < 3072 by omega)).trans ((dif_neg (show ¬ 2304 + n.val < 3328 by omega)).trans (dif_neg (show ¬ 2304 + n.val < 3336 by omega)))
  rw [e]
  exact mul_zero _

/-- The two programs end with equal results. -/
theorem algebraic : Cert.algebraic_InprojIdeal_InprojRefIdeal (hInprojIdeal := Cert.InprojIdeal.Gen.facts) (hInprojRefIdeal := Cert.InprojRefIdeal.Gen.facts) := by
  intro m g m' g' _ hagree
  refine ⟨fun c => (Cert.InprojIdeal.Gen.dats m 0 c).arrAt 3 Cert.InprojIdeal.cfg0.N, fun c => (Cert.InprojIdeal.Gen.dats m 0 c).arrAt 4 Cert.InprojIdeal.cfg0.N, fun c => (Cert.InprojIdeal.Gen.dats m 0 c).arrAt 5 Cert.InprojIdeal.cfg0.N, fun c => (Cert.InprojIdeal.Gen.dats m 0 c).arrAt 6 Cert.InprojIdeal.cfg0.N, fun c => (Cert.InprojIdeal.Gen.dats m 0 c).arrAt 7 Cert.InprojIdeal.cfg0.N, fun c => (Cert.InprojIdeal.Gen.dats m 0 c).arrAt 8 Cert.InprojIdeal.cfg0.N, Cert.InprojIdeal.Value.run_blocks m g, ?_⟩
  refine (θ_run _ _ _).mono (fun r h c => ?_) (InRef.run m' g')
  obtain ⟨h0, h1, h2⟩ := hagree c
  obtain ⟨r0, r1, r2, r3, r4, r5, ha⟩ := h c
  rw [h0, h1, h2] at r0 r1 r2 r3 r4 r5
  exact ⟨r0.trans (result0 m c), r1.trans (result1 m c), r2.trans (result2 m c), r3.trans (result3 m c), r4.trans (result4 m c), r5.trans (result5 m c), ha⟩

/-- The reference leaves its arguments as they were. -/
theorem frame_ref : Cert.quiescent_InprojRefIdeal (hInprojRefIdeal := Cert.InprojRefIdeal.Gen.facts) := fun m ρ _ =>
  (θ_run _ _ _).mono (fun r h => ⟨fun c => (h c).2.2.2.2.2.2, Idealize.ShloMosaic.sem_eq_zero_of_no_sems (by decide) r.2⟩) (InRef.run (F := Ideal) m ρ)

end Cert.Proof.InEq

end
-- ==== Proof.ConvBlock.lean ====
/-
  What one tile of the convolution call computes: the history rows above the gated rows, the seven shifted copies of them, the output tile, and the rows kept
  for the next tile.
-/
module

public import proofs.«01_k».proof.Proof.Gen.ConvIdeal.Value
public import Idealize.ShloMosaic.Lib.Pointwise
public import Idealize.ShloMosaic.Lib.Pipeline.ValueKit
public import Idealize.ShloMosaic.Lib.Pipeline.ReadBack

@[expose] public section

noncomputable section

namespace Cert.Proof.ConvBlock

open Idealize.ShloMosaic Idealize.SL.Sem Cert.ConvIdeal Cert.ConvIdeal.Gen Idealize.ShloMosaic.TcCoe

variable {F : FTy → Type} [FloatOps F]

/-- The 32 history rows above the 512 gated rows of a tile. -/
def ext (H : Vec F S32x256 .f32) (G : Vec F S512x256 .f32) : Vec F S544x256 .f32 := fun i =>
  if h : (i 0).val < 32 then H (ix2 ⟨(i 0).val, h⟩ (i 1))
  else G (ix2 (⟨(i 0).val - 32, by have := (i 0).isLt; change (i 0).val < 544 at this; omega⟩ : Fin 512) (i 1))

/-- Seven copies of the rows, copy `k` moved up by `k + 1`. -/
def shifted (X : Vec F S544x256 .f32) : Vec F S7x536x256 .f32 := fun i =>
  X (ix2 (⟨(i 0).val + 1 + (i 1).val, by
    have h0 := (i 0).isLt; have h1 := (i 1).isLt; change (i 0).val < 7 at h0; change (i 1).val < 536 at h1; omega⟩ : Fin 544) (i 2))

/-- The rows of the carried array that the next tile reads as its history. -/
def histOf (X : Vec F S544x256 .f32) : Vec F S32x256 .f32 := fun i =>
  X (ix2 (⟨(i 0).val, by have := (i 0).isLt; change (i 0).val < 32 at this; omega⟩ : Fin 544) (i 1))

/-- The last 32 of the gated rows. -/
def lastOf (G : Vec F S512x256 .f32) : Vec F S32x256 .f32 := fun i =>
  G (ix2 (⟨480 + (i 0).val, by have := (i 0).isLt; change (i 0).val < 32 at this; omega⟩ : Fin 512) (i 1))

theorem ext_high (H : Vec F S32x256 .f32) (G : Vec F S512x256 .f32) (e : Fin 544) (r : Fin 512) (h : e.val = 32 + r.val) (n : Fin 256) :
    ext H G (ix2 e n) = G (ix2 r n) := by
  unfold ext
  rw [dif_neg (by show ¬ e.val < 32; omega)]
  exact congrArg (fun q => G (ix2 q n)) (Fin.ext (by show e.val - 32 = r.val; omega))

theorem ext_low (H : Vec F S32x256 .f32) (G : Vec F S512x256 .f32) (e : Fin 544) (r : Fin 32) (h : e.val = r.val) (n : Fin 256) :
    ext H G (ix2 e n) = H (ix2 r n) := by
  unfold ext
  rw [dif_pos (by show e.val < 32; omega)]
  exact congrArg (fun q => H (ix2 q n)) (Fin.ext h)

theorem emb_high (e : Fin 544) (r : Fin 512) (h : e.val = 32 + r.val) (n : Fin 256) :
    (Rect.unit (s := S544x256) ![32, 0] ![512, 256] inb_S544x256_S512x256_32_0).emb (ix2 r n) = ix2 e n := by
  funext a; apply Fin.ext
  match a with
  | ⟨0, _⟩ => show 32 + 1 * r.val = e.val; omega
  | ⟨1, _⟩ => show 0 + 1 * n.val = n.val; omega

theorem emb_low (e : Fin 544) (r : Fin 32) (h : e.val = r.val) (n : Fin 256) :
    (Rect.unit (s := S544x256) ![0, 0] ![32, 256] inb_S544x256_S32x256_0_0).emb (ix2 r n) = ix2 e n := by
  funext a; apply Fin.ext
  match a with
  | ⟨0, _⟩ => show 0 + 1 * r.val = e.val; omega
  | ⟨1, _⟩ => show 0 + 1 * n.val = n.val; omega

theorem not_mem_low (e : Fin 544) (n : Fin 256) (h : e.val < 32) :
    (ix2 e n : S544x256.Idx) ∉ (Rect.unit (s := S544x256) ![32, 0] ![512, 256] inb_S544x256_S512x256_32_0).set := by
  intro hm
  obtain ⟨x, _, hx⟩ := (LoadRect.mem_set _).mp hm 0
  have : e.val = 32 + 1 * x := hx
  omega

/-- A row of a tile is a history row or a gated row. -/
theorem row_cases (e : Fin 544) : (∃ r : Fin 32, e.val = r.val) ∨ ∃ r : Fin 512, e.val = 32 + r.val := by
  by_cases h : e.val < 32
  · exact .inl ⟨⟨e.val, h⟩, rfl⟩
  · exact .inr ⟨⟨e.val - 32, by omega⟩, by show e.val = 32 + (e.val - 32); omega⟩

/-- Over any contents, the gated rows stored at row 32 leave the contents' first rows above them. -/
theorem read_ext (v : Memref sig .tc .vmem S544x256 .f32) (hv : v.IsWhole) (X : Vec F S544x256 .f32) (G : Vec F S512x256 .f32) :
    View.read (Elt F) v.view (v.view.writes (Elt F) (hv.unread X)
      [⟨Rect.unit ![32, 0] ![512, 256] inb_S544x256_S512x256_32_0, G⟩]) = ext (histOf X) G := by
  funext y
  obtain ⟨e, n, rfl⟩ : ∃ (e : Fin 544) (n : Fin 256), y = ix2 e n := ⟨y 0, y 1, by funext a; fin_cases a <;> rfl⟩
  rcases row_cases e with ⟨r, h⟩ | ⟨r, h⟩
  · have hy' : (ix2 e n : S544x256.Idx) ∉ Finset.univ.map (Rect.unit (s := S544x256) ![32, 0] ![512, 256] inb_S544x256_S512x256_32_0).emb := by
      rw [Rect.map_emb_univ]; exact not_mem_low e n (by omega)
    rw [View.writes_cons, View.read_slice_write_of_not_mem _ _ _ _ hy', View.writes_nil, hv.read_unread, ext_low _ _ e r h]
    exact congrArg (fun q => X (ix2 q n)) (Fin.ext h)
  · rw [ext_high _ _ e r h, ← emb_high e r h n]
    exact View.read_writes_cons_emb _ _ _ _ _ _

/-- The history rows stored above the gated rows. -/
theorem canon_ext (H : Vec F S32x256 .f32) (G : Vec F S512x256 .f32) :
    View.canon [(⟨Rect.unit ![32, 0] ![512, 256] inb_S544x256_S512x256_32_0, G⟩ : View.Piece (Elt F) S544x256 .f32),
      ⟨Rect.unit ![0, 0] ![32, 256] inb_S544x256_S32x256_0_0, H⟩] = ext H G := by
  funext y
  obtain ⟨e, n, rfl⟩ : ∃ (e : Fin 544) (n : Fin 256), y = ix2 e n := ⟨y 0, y 1, by funext a; fin_cases a <;> rfl⟩
  rcases row_cases e with ⟨r, h⟩ | ⟨r, h⟩
  · rw [View.canon_cons_of_not_mem (⟨Rect.unit ![32, 0] ![512, 256] inb_S544x256_S512x256_32_0, G⟩ : View.Piece (Elt F) S544x256 .f32) _ (not_mem_low e n (by omega)), ext_low _ _ e r h, ← emb_low e r h n]
    exact View.canon_cons_emb (Rect.unit (s := S544x256) ![0, 0] ![32, 256] inb_S544x256_S32x256_0_0) H [] (ix2 r n)
  · rw [ext_high _ _ e r h, ← emb_high e r h n]
    exact View.canon_cons_emb (Rect.unit (s := S544x256) ![32, 0] ![512, 256] inb_S544x256_S512x256_32_0) G _ (ix2 r n)

/-- A load of the two stored parts reads the rows of `ext`. -/
theorem readCov_ext (v : Memref sig .tc .vmem S544x256 .f32) (H : Vec F S32x256 .f32) (G : Vec F S512x256 .f32) (r : Rect S544x256) :
    v.view.readCov [⟨Rect.unit ![32, 0] ![512, 256] inb_S544x256_S512x256_32_0, G⟩,
      ⟨Rect.unit ![0, 0] ![32, 256] inb_S544x256_S32x256_0_0, H⟩] r.toLoadRect = View.ld (ext H G) r := by
  rw [View.readCov_eq_canon', canon_ext]

theorem pay23_eq (v : Vec F S32x256 .f32) : k0_pay23 v = v := by
  funext j
  obtain ⟨r, n, rfl⟩ : ∃ (r : Fin 32) (n : Fin 256), j = ix2 r n := ⟨j 0, j 1, by funext a; fin_cases a <;> rfl⟩
  pointwise [k0_pay23]

/-- A load of the last 32 rows reads the last gated rows. -/
theorem readCov_last (v : Memref sig .tc .vmem S544x256 .f32) (G : Vec F S512x256 .f32)
    (L : List (View.Piece (Elt F) S544x256 .f32)) :
    v.view.readCov (⟨Rect.unit ![32, 0] ![512, 256] inb_S544x256_S512x256_32_0, G⟩ :: L)
      (Rect.unit ![512, 0] ![32, 256] inb_S544x256_S32x256_512_0).toLoadRect = lastOf G := by
  rw [View.readCov_eq_canon']
  funext j
  have e : (Rect.unit ![512, 0] ![32, 256] inb_S544x256_S32x256_512_0).toLoadRect.idx j
      = (Rect.unit (s := S544x256) ![32, 0] ![512, 256] inb_S544x256_S512x256_32_0).emb
          (ix2 (⟨480 + (j 0).val, by have := (j 0).isLt; change (j 0).val < 32 at this; omega⟩ : Fin 512) (j 1)) := by
    funext a; apply Fin.ext
    match a with
    | ⟨0, _⟩ => show 512 + 1 * (j 0).val = 32 + 1 * (480 + (j 0).val); omega
    | ⟨1, _⟩ => show 0 + 1 * (j 1).val = 0 + 1 * (j 1).val; omega
  rw [e]
  exact View.canon_cons_emb (Rect.unit (s := S544x256) ![32, 0] ![512, 256] inb_S544x256_S512x256_32_0) G L _

/-- Rows `512 …` of the carried array after a tile become the history: the first 32 rows are the last gated rows, and no other row is read again. -/
theorem histOf_canon (H : Vec F S32x256 .f32) (L : List (View.Piece (Elt F) S544x256 .f32)) :
    histOf (View.canon (⟨Rect.unit ![0, 0] ![32, 256] inb_S544x256_S32x256_0_0, H⟩ :: L)) = H := by
  funext j
  unfold histOf
  have e : (ix2 (⟨(j 0).val, by have := (j 0).isLt; change (j 0).val < 32 at this; omega⟩ : Fin 544) (j 1) : S544x256.Idx)
      = (Rect.unit (s := S544x256) ![0, 0] ![32, 256] inb_S544x256_S32x256_0_0).emb j := by
    funext a; apply Fin.ext
    match a with
    | ⟨0, _⟩ => show (j 0).val = 0 + 1 * (j 0).val; omega
    | ⟨1, _⟩ => show (j 1).val = 0 + 1 * (j 1).val; omega
  rw [e]
  exact View.canon_cons_emb _ _ _ _

/-- A load of the seven stored copies reads `shifted`. -/
theorem readCov_shifted (v : Memref sig .tc .vmem S7x536x256 .f32) (X : Vec F S544x256 .f32) (r : Rect S7x536x256) :
    v.view.readCov [⟨Rect.unit ![6, 0, 0] ![1, 536, 256] inb_S7x536x256_S1x536x256_6_0_0, k0_pay11 (View.ld X (Rect.unit ![7, 0] ![536, 256] inb_S544x256_S536x256_7_0))⟩,
      ⟨Rect.unit ![5, 0, 0] ![1, 536, 256] inb_S7x536x256_S1x536x256_5_0_0, k0_pay10 (View.ld X (Rect.unit ![6, 0] ![536, 256] inb_S544x256_S536x256_6_0))⟩,
      ⟨Rect.unit ![4, 0, 0] ![1, 536, 256] inb_S7x536x256_S1x536x256_4_0_0, k0_pay9 (View.ld X (Rect.unit ![5, 0] ![536, 256] inb_S544x256_S536x256_5_0))⟩,
      ⟨Rect.unit ![3, 0, 0] ![1, 536, 256] inb_S7x536x256_S1x536x256_3_0_0, k0_pay8 (View.ld X (Rect.unit ![4, 0] ![536, 256] inb_S544x256_S536x256_4_0))⟩,
      ⟨Rect.unit ![2, 0, 0] ![1, 536, 256] inb_S7x536x256_S1x536x256_2_0_0, k0_pay7 (View.ld X (Rect.unit ![3, 0] ![536, 256] inb_S544x256_S536x256_3_0))⟩,
      ⟨Rect.unit ![1, 0, 0] ![1, 536, 256] inb_S7x536x256_S1x536x256_1_0_0, k0_pay6 (View.ld X (Rect.unit ![2, 0] ![536, 256] inb_S544x256_S536x256_2_0))⟩,
      ⟨Rect.unit ![0, 0, 0] ![1, 536, 256] inb_S7x536x256_S1x536x256_0_0_0, k0_pay5 (View.ld X (Rect.unit ![1, 0] ![536, 256] inb_S544x256_S536x256_1_0))⟩] r.toLoadRect = View.ld (shifted X) r := by
  rw [View.readCov_eq_canon']
  funext j
  show View.canon _ (r.emb j) = shifted X (r.emb j)
  generalize r.emb j = y
  refine (congrArg (fun L => View.canon L y) (List.append_nil _).symm).trans (View.canon_append_of_piecesOf (shifted X) [] _ ?_ y ?_)
  · refine ⟨?_, ?_, ?_, ?_, ?_, ?_, ?_, trivial⟩ <;>
    · intro x
      obtain ⟨a, b, n, rfl⟩ : ∃ (a : Fin 1) (b : Fin 536) (n : Fin 256), x = ix3 a b n := ⟨x 0, x 1, x 2, by funext a; fin_cases a <;> rfl⟩
      dsimp only
      pointwise [k0_pay5, k0_pay6, k0_pay7, k0_pay8, k0_pay9, k0_pay10, k0_pay11, shifted]
      first | rfl | (refine congrArg X ?_; funext d; apply Fin.ext; fin_cases d <;> simp <;> omega)
  · have h0 : (y 0).val < 7 := (y 0).isLt
    have key : ∀ k : Fin 7, (y 0).val = k.val → ∀ inb : ∀ a, (![k.val, 0, 0] : Fin 3 → Nat) a + (![1, 536, 256] : Fin 3 → Nat) a ≤ S7x536x256.size a,
        y ∈ (Rect.unit (s := S7x536x256) ![k.val, 0, 0] ![1, 536, 256] inb).set := by
      intro k hk inb
      have e : (Rect.unit (s := S7x536x256) ![k.val, 0, 0] ![1, 536, 256] inb).emb (ix3 (0 : Fin 1) (y 1) (y 2)) = y := by
        funext a; apply Fin.ext
        match a with
        | ⟨0, _⟩ => show k.val + 1 * 0 = (y 0).val; omega
        | ⟨1, _⟩ => show 0 + 1 * (y 1).val = (y 1).val; omega
        | ⟨2, _⟩ => show 0 + 1 * (y 2).val = (y 2).val; omega
      rw [← e, ← Rect.map_emb_univ]
      exact Finset.mem_map_of_mem _ (Finset.mem_univ _)
    rcases (by omega : (y 0).val = 0 ∨ (y 0).val = 1 ∨ (y 0).val = 2 ∨ (y 0).val = 3 ∨ (y 0).val = 4 ∨ (y 0).val = 5 ∨ (y 0).val = 6) with h | h | h | h | h | h | h
    · exact ⟨_, List.mem_of_getElem? (i := 6) rfl, key (0 : Fin 7) h inb_S7x536x256_S1x536x256_0_0_0⟩
    · exact ⟨_, List.mem_of_getElem? (i := 5) rfl, key (1 : Fin 7) h inb_S7x536x256_S1x536x256_1_0_0⟩
    · exact ⟨_, List.mem_of_getElem? (i := 4) rfl, key (2 : Fin 7) h inb_S7x536x256_S1x536x256_2_0_0⟩
    · exact ⟨_, List.mem_of_getElem? (i := 3) rfl, key (3 : Fin 7) h inb_S7x536x256_S1x536x256_3_0_0⟩
    · exact ⟨_, List.mem_of_getElem? (i := 2) rfl, key (4 : Fin 7) h inb_S7x536x256_S1x536x256_4_0_0⟩
    · exact ⟨_, List.mem_of_getElem? (i := 1) rfl, key (5 : Fin 7) h inb_S7x536x256_S1x536x256_5_0_0⟩
    · exact ⟨_, List.mem_of_getElem? (i := 0) rfl, key (6 : Fin 7) h inb_S7x536x256_S1x536x256_6_0_0⟩

/-- The output tile over the tile's rows `X`, its gated rows `G` and the weights. -/
def yVal (X : Vec F S544x256 .f32) (G : Vec F S512x256 .f32) (x2 : Vec F S31x256 .f32) (x3 x4 x5 : Vec F S1x256 .f32) : Vec F S1x512x256 .f32 :=
  k0_pay1
      (k0_pay24
        (k0_pay21
          (k0_pay20
            (k0_pay18
              (k0_pay15
                (k0_pay14
                  (k0_pay12 (View.ld (shifted X) (Rect.unit ![1, 0, 0] ![1, 512, 256] inb_S7x536x256_S1x512x256_1_0_0))
                    (View.ld x2 (Rect.unit ![0, 0] ![1, 256] inb_S31x256_S1x256_0_0)))
                  (k0_pay13 (View.ld (shifted X) (Rect.unit ![2, 0, 0] ![1, 512, 256] inb_S7x536x256_S1x512x256_2_0_0)))
                  (View.ld x2 (Rect.unit ![1, 0] ![1, 256] inb_S31x256_S1x256_1_0))
                  (View.ld (shifted X) (Rect.unit ![3, 0, 0] ![1, 512, 256] inb_S7x536x256_S1x512x256_3_0_0))
                  (View.ld x2 (Rect.unit ![2, 0] ![1, 256] inb_S31x256_S1x256_2_0))
                  (View.ld (shifted X) (Rect.unit ![4, 0, 0] ![1, 512, 256] inb_S7x536x256_S1x512x256_4_0_0))
                  (View.ld x2 (Rect.unit ![3, 0] ![1, 256] inb_S31x256_S1x256_3_0))
                  (View.ld (shifted X) (Rect.unit ![5, 0, 0] ![1, 512, 256] inb_S7x536x256_S1x512x256_5_0_0))
                  (View.ld x2 (Rect.unit ![4, 0] ![1, 256] inb_S31x256_S1x256_4_0))
                  (View.ld (shifted X) (Rect.unit ![6, 0, 0] ![1, 512, 256] inb_S7x536x256_S1x512x256_6_0_0))
                  (View.ld x2 (Rect.unit ![5, 0] ![1, 256] inb_S31x256_S1x256_5_0))
                  (View.ld X (Rect.unit ![8, 0] ![512, 256] inb_S544x256_S512x256_8_0))
                  (View.ld x2 (Rect.unit ![6, 0] ![1, 256] inb_S31x256_S1x256_6_0)))
                (View.ld (shifted X) (Rect.unit ![0, 8, 0] ![1, 512, 256] inb_S7x536x256_S1x512x256_0_8_0))
                (View.ld x2 (Rect.unit ![7, 0] ![1, 256] inb_S31x256_S1x256_7_0))
                (View.ld (shifted X) (Rect.unit ![1, 8, 0] ![1, 512, 256] inb_S7x536x256_S1x512x256_1_8_0))
                (View.ld x2 (Rect.unit ![8, 0] ![1, 256] inb_S31x256_S1x256_8_0))
                (View.ld (shifted X) (Rect.unit ![2, 8, 0] ![1, 512, 256] inb_S7x536x256_S1x512x256_2_8_0))
                (View.ld x2 (Rect.unit ![9, 0] ![1, 256] inb_S31x256_S1x256_9_0))
                (View.ld (shifted X) (Rect.unit ![3, 8, 0] ![1, 512, 256] inb_S7x536x256_S1x512x256_3_8_0))
                (View.ld x2 (Rect.unit ![10, 0] ![1, 256] inb_S31x256_S1x256_10_0))
                (View.ld (shifted X) (Rect.unit ![4, 8, 0] ![1, 512, 256] inb_S7x536x256_S1x512x256_4_8_0))
                (View.ld x2 (Rect.unit ![11, 0] ![1, 256] inb_S31x256_S1x256_11_0)))
              (k0_pay16 (View.ld (shifted X) (Rect.unit ![5, 8, 0] ![1, 512, 256] inb_S7x536x256_S1x512x256_5_8_0)))
              (k0_pay17 (View.ld x2 (Rect.unit ![12, 0] ![1, 256] inb_S31x256_S1x256_12_0)))
              (View.ld (shifted X) (Rect.unit ![6, 8, 0] ![1, 512, 256] inb_S7x536x256_S1x512x256_6_8_0))
              (View.ld x2 (Rect.unit ![13, 0] ![1, 256] inb_S31x256_S1x256_13_0))
              (View.ld X (Rect.unit ![16, 0] ![512, 256] inb_S544x256_S512x256_16_0))
              (View.ld x2 (Rect.unit ![14, 0] ![1, 256] inb_S31x256_S1x256_14_0))
              (View.ld (shifted X) (Rect.unit ![0, 16, 0] ![1, 512, 256] inb_S7x536x256_S1x512x256_0_16_0))
              (View.ld x2 (Rect.unit ![15, 0] ![1, 256] inb_S31x256_S1x256_15_0))
              (View.ld (shifted X) (Rect.unit ![1, 16, 0] ![1, 512, 256] inb_S7x536x256_S1x512x256_1_16_0))
              (View.ld x2 (Rect.unit ![16, 0] ![1, 256] inb_S31x256_S1x256_16_0))
              (View.ld (shifted X) (Rect.unit ![2, 16, 0] ![1, 512, 256] inb_S7x536x256_S1x512x256_2_16_0))
              (View.ld x2 (Rect.unit ![17, 0] ![1, 256] inb_S31x256_S1x256_17_0)))
            (k0_pay19 (View.ld (shifted X) (Rect.unit ![3, 16, 0] ![1, 512, 256] inb_S7x536x256_S1x512x256_3_16_0)))
            (View.ld x2 (Rect.unit ![18, 0] ![1, 256] inb_S31x256_S1x256_18_0))
            (View.ld (shifted X) (Rect.unit ![4, 16, 0] ![1, 512, 256] inb_S7x536x256_S1x512x256_4_16_0))
            (View.ld x2 (Rect.unit ![19, 0] ![1, 256] inb_S31x256_S1x256_19_0))
            (View.ld (shifted X) (Rect.unit ![5, 16, 0] ![1, 512, 256] inb_S7x536x256_S1x512x256_5_16_0))
            (View.ld x2 (Rect.unit ![20, 0] ![1, 256] inb_S31x256_S1x256_20_0))
            (View.ld (shifted X) (Rect.unit ![6, 16, 0] ![1, 512, 256] inb_S7x536x256_S1x512x256_6_16_0))
            (View.ld x2 (Rect.unit ![21, 0] ![1, 256] inb_S31x256_S1x256_21_0))
            (View.ld X (Rect.unit ![24, 0] ![512, 256] inb_S544x256_S512x256_24_0))
            (View.ld x2 (Rect.unit ![22, 0] ![1, 256] inb_S31x256_S1x256_22_0))
            (View.ld (shifted X) (Rect.unit ![0, 24, 0] ![1, 512, 256] inb_S7x536x256_S1x512x256_0_24_0))
            (View.ld x2 (Rect.unit ![23, 0] ![1, 256] inb_S31x256_S1x256_23_0)))
          (View.ld (shifted X) (Rect.unit ![1, 24, 0] ![1, 512, 256] inb_S7x536x256_S1x512x256_1_24_0))
          (View.ld x2 (Rect.unit ![24, 0] ![1, 256] inb_S31x256_S1x256_24_0))
          (View.ld (shifted X) (Rect.unit ![2, 24, 0] ![1, 512, 256] inb_S7x536x256_S1x512x256_2_24_0))
          (View.ld x2 (Rect.unit ![25, 0] ![1, 256] inb_S31x256_S1x256_25_0))
          (View.ld (shifted X) (Rect.unit ![3, 24, 0] ![1, 512, 256] inb_S7x536x256_S1x512x256_3_24_0))
          (View.ld x2 (Rect.unit ![26, 0] ![1, 256] inb_S31x256_S1x256_26_0))
          (View.ld (shifted X) (Rect.unit ![4, 24, 0] ![1, 512, 256] inb_S7x536x256_S1x512x256_4_24_0))
          (View.ld x2 (Rect.unit ![27, 0] ![1, 256] inb_S31x256_S1x256_27_0))
          (View.ld (shifted X) (Rect.unit ![5, 24, 0] ![1, 512, 256] inb_S7x536x256_S1x512x256_5_24_0))
          (View.ld x2 (Rect.unit ![28, 0] ![1, 256] inb_S31x256_S1x256_28_0)))
        (k0_pay22 (View.ld (shifted X) (Rect.unit ![6, 24, 0] ![1, 512, 256] inb_S7x536x256_S1x512x256_6_24_0)))
        (View.ld x2 (Rect.unit ![29, 0] ![1, 256] inb_S31x256_S1x256_29_0)) G
        (View.ld x2 (Rect.unit ![30, 0] ![1, 256] inb_S31x256_S1x256_30_0)) x3 x4)
      (k0_pay25 x5)

theorem out0_A_6_eq (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : cond0_0 i) (hc1 : ¬cond0_1 i)
    (x0 : Vec F S1x512x512 .f32) (x1 : Vec F S1x32x256 .f32) (x2 : Vec F S31x256 .f32) (x3 : Vec F S1x256 .f32) (x4 : Vec F S1x256 .f32) (x5 : Vec F S1x256 .f32) :
    out0_A_6 c i arg2 harg2 arg3 harg3 arg4 harg4 arg5 harg5 arg6 harg6 arg7 harg7 arg8 harg8 arg9 harg9 arg10 harg10 arg11 harg11 hc0 hc1 x0 x1 x2 x3 x4 x5 = yVal (ext (k0_pay3 x1) (k0_pay4 x0)) (k0_pay4 x0) x2 x3 x4 x5 := by
  frame_out
  simp only [View.readCov_cons_toLoadRect, readCov_ext, read_ext, readCov_shifted]
  rfl

theorem out0_B_6_eq (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : ¬cond0_0 i) (hc1 : ¬cond0_1 i)
    (x0 : Vec F S1x512x512 .f32) (x1 : Vec F S1x32x256 .f32) (x2 : Vec F S31x256 .f32) (x3 : Vec F S1x256 .f32) (x4 : Vec F S1x256 .f32) (x5 : Vec F S1x256 .f32) (xs0 : Vec F S544x256 .f32) :
    out0_B_6 c i arg2 harg2 arg3 harg3 arg4 harg4 arg5 harg5 arg6 harg6 arg7 harg7 arg8 harg8 arg9 harg9 arg10 harg10 arg11 harg11 hc0 hc1 x0 x1 x2 x3 x4 x5 xs0 = yVal (ext (histOf xs0) (k0_pay4 x0)) (k0_pay4 x0) x2 x3 x4 x5 := by
  frame_out
  simp only [View.readCov_cons_toLoadRect, readCov_ext, read_ext, readCov_shifted]
  rfl

theorem out0_C_6_eq (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : ¬cond0_0 i) (hc1 : cond0_1 i)
    (x0 : Vec F S1x512x512 .f32) (x1 : Vec F S1x32x256 .f32) (x2 : Vec F S31x256 .f32) (x3 : Vec F S1x256 .f32) (x4 : Vec F S1x256 .f32) (x5 : Vec F S1x256 .f32) (xs0 : Vec F S544x256 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 = yVal (ext (histOf xs0) (k0_pay4 x0)) (k0_pay4 x0) x2 x3 x4 x5 := by
  frame_out
  simp only [View.readCov_cons_toLoadRect, readCov_ext, read_ext, readCov_shifted]
  rfl

theorem sout0_A_0_hist (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : cond0_0 i) (hc1 : ¬cond0_1 i)
    (x0 : Vec F S1x512x512 .f32) (x1 : Vec F S1x32x256 .f32) (x2 : Vec F S31x256 .f32) (x3 : Vec F S1x256 .f32) (x4 : Vec F S1x256 .f32) (x5 : Vec F S1x256 .f32) :
    histOf (sout0_A_0 c i arg2 harg2 arg3 harg3 arg4 harg4 arg5 harg5 arg6 harg6 arg7 harg7 arg8 harg8 arg9 harg9 arg10 harg10 arg11 harg11 hc0 hc1 x0 x1 x2 x3 x4 x5) = lastOf (k0_pay4 x0) := by
  frame_out
  simp only [histOf_canon, readCov_last, pay23_eq]

theorem sout0_B_0_hist (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : ¬cond0_0 i) (hc1 : ¬cond0_1 i)
    (x0 : Vec F S1x512x512 .f32) (x1 : Vec F S1x32x256 .f32) (x2 : Vec F S31x256 .f32) (x3 : Vec F S1x256 .f32) (x4 : Vec F S1x256 .f32) (x5 : Vec F S1x256 .f32) (xs0 : Vec F S544x256 .f32) :
    histOf (sout0_B_0 c i arg2 harg2 arg3 harg3 arg4 harg4 arg5 harg5 arg6 harg6 arg7 harg7 arg8 harg8 arg9 harg9 arg10 harg10 arg11 harg11 hc0 hc1 x0 x1 x2 x3 x4 x5 xs0) = lastOf (k0_pay4 x0) := by
  frame_out
  simp only [histOf_canon, readCov_last, pay23_eq]

theorem sout0_C_0_hist (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : ¬cond0_0 i) (hc1 : cond0_1 i)
    (x0 : Vec F S1x512x512 .f32) (x1 : Vec F S1x32x256 .f32) (x2 : Vec F S31x256 .f32) (x3 : Vec F S1x256 .f32) (x4 : Vec F S1x256 .f32) (x5 : Vec F S1x256 .f32) (xs0 : Vec F S544x256 .f32) :
    histOf (sout0_C_0 c i arg2 harg2 arg3 harg3 arg4 harg4 arg5 harg5 arg6 harg6 arg7 harg7 arg8 harg8 arg9 harg9 arg10 harg10 arg11 harg11 hc0 hc1 x0 x1 x2 x3 x4 x5 xs0) = lastOf (k0_pay4 x0) := by
  frame_out
  simp only [histOf_canon, readCov_last, pay23_eq]

theorem out0_C_7_eq (c : Dev nD) (i : grid0.Coords) (arg2 : Memref sig .tc .vmem S1x512x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .f32) (harg8 : arg8.IsWhole) (arg9 : Memref sig .tc .vmem S1x32x256 .f32) (harg9 : arg9.IsWhole) (arg10 : Memref sig .tc .vmem S544x256 .f32) (harg10 : arg10.IsWhole) (arg11 : Memref sig .tc .vmem S7x536x256 .f32) (harg11 : arg11.IsWhole) (hc0 : ¬cond0_0 i) (hc1 : cond0_1 i)
    (x0 : Vec F S1x512x512 .f32) (x1 : Vec F S1x32x256 .f32) (x2 : Vec F S31x256 .f32) (x3 : Vec F S1x256 .f32) (x4 : Vec F S1x256 .f32) (x5 : Vec F S1x256 .f32) (xs0 : Vec F S544x256 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 = k0_pay2 (lastOf (k0_pay4 x0)) := by
  frame_out
  simp only [readCov_last]

end Cert.Proof.ConvBlock

end
-- ==== Proof.ConvRows.lean ====
/-
  The row formulas of the convolution mixer: the padded sequence of gated rows, thirty-one taps with a bias, a layer norm over 256 features, and x · σ(x).
-/
module

public import Idealize.ShloMosaic.Lib.Pointwise

@[expose] public section

noncomputable section

namespace Cert.ConvRows

open Idealize.ShloMosaic
open scoped BigOperators

/-- x · σ(x). -/
def silu (x : EReal) : EReal := x * Ideal.logistic x

/-- The mean of a row of 256 features. -/
def mean (h : Fin 256 → EReal) : EReal := Ideal.div (∑ k, h k) (Ideal.ofBits .f32 0x43800000#32)

/-- The layer norm of the row `h` with gain `g` and shift `b`, at feature `n`. -/
def lnRow (h g b : Fin 256 → EReal) (n : Fin 256) : EReal :=
  (h n - mean h) * Ideal.rsqrt (Ideal.div (∑ k, (h k - mean h) * (h k - mean h)) (Ideal.ofBits .f32 0x43800000#32)
    + Ideal.ofBits .f32 0x3727C5AC#32) * g n + b n

/-- Thirty-one products, summed in order. -/
def taps (x w : Fin 31 → EReal) : EReal :=
  x 0 * w 0 + x 1 * w 1 + x 2 * w 2 + x 3 * w 3 + x 4 * w 4 + x 5 * w 5 + x 6 * w 6 + x 7 * w 7 +
    x 8 * w 8 + x 9 * w 9 + x 10 * w 10 + x 11 * w 11 + x 12 * w 12 + x 13 * w 13 + x 14 * w 14 + x 15 * w 15 +
    x 16 * w 16 + x 17 * w 17 + x 18 * w 18 + x 19 * w 19 + x 20 * w 20 + x 21 * w 21 + x 22 * w 22 + x 23 * w 23 +
    x 24 * w 24 + x 25 * w 25 + x 26 * w 26 + x 27 * w 27 + x 28 * w 28 + x 29 * w 29 + x 30 * w 30

/-- The convolved row with its bias, over the thirty-one rows `x`. -/
def convRow (x w : Fin 31 → Fin 256 → EReal) (b : Fin 256 → EReal) (n : Fin 256) : EReal :=
  taps (fun j => x j n) (fun j => w j n) + b n

/-- One entry of the mixer's output. -/
def convOut (x w : Fin 31 → Fin 256 → EReal) (cb g b : Fin 256 → EReal) (n : Fin 256) : EReal :=
  silu (lnRow (convRow x w cb) g b n)

/-- One entry of a gated row: the first half of the columns times the logistic of the second. -/
def glu (p : Fin 512 → EReal) (n : Fin 256) : EReal :=
  p ⟨n.val, by omega⟩ * Ideal.logistic (p ⟨256 + n.val, by omega⟩)

/-- Row `e` of a batch's sequence: thirty rows of state, then the gated rows. -/
def seqAt (p : Fin 4096 → Fin 512 → EReal) (s : Fin 30 → Fin 256 → EReal) (e : ℕ) (n : Fin 256) : EReal :=
  if h : e < 30 then s ⟨e, h⟩ n else if h : e < 4126 then glu (p ⟨e - 30, by omega⟩) n else 0

/-- Equal inputs give equal outputs. -/
theorem convOut_congr {x w x' w' : Fin 31 → Fin 256 → EReal} {cb g b cb' g' b' : Fin 256 → EReal} (h0 : x = x') (h1 : w = w') (h2 : cb = cb') (h3 : g = g')
    (h4 : b = b') (n : Fin 256) : convOut x w cb g b n = convOut x' w' cb' g' b' n := by
  subst h0 h1 h2 h3 h4; rfl

end Cert.ConvRows

end
-- ==== Proof.ConvTile.lean ====
/-
  One tile of the convolution call over the extended reals, entry by entry.
-/
module

public import proofs.«01_k».proof.Proof.ConvBlock
public import proofs.«01_k».proof.Proof.ConvRows
public import Idealize.ShloMosaic.Lib.Pointwise

@[expose] public section

noncomputable section

namespace Cert.Proof.ConvTile

open Idealize.ShloMosaic Idealize.SL.Sem Cert.ConvIdeal Cert.ConvIdeal.Gen Idealize.ShloMosaic.TcCoe Cert.Proof.ConvBlock
open scoped BigOperators

/-- x over one plus e to the minus x. -/
theorem silu_eq (x : EReal) : x * Ideal.div 1 (1 + Ideal.exp (0 - x)) = ConvRows.silu x := by
  rw [zero_sub]; rfl

/-- The last step: the shift is added and the result is multiplied by its logistic. -/
theorem pay1_apply (p : FVec Ideal S512x256 .f32) (v : Vec Ideal S1x256 .f32) (r : Fin 512) (n : Fin 256) :
    k0_pay1 p (k0_pay25 v) (ix3 0 r n) = ConvRows.silu (p (ix2 r n) + v (ix2 0 n)) := by
  rw [← silu_eq]
  pointwise [k0_pay1, k0_pay25]

/-- The last taps, the bias and the norm. -/
theorem pay24_apply (a x29 : FVec Ideal S512x256 .f32) (w29 : Vec Ideal S1x256 .f32) (x30 : Vec Ideal S512x256 .f32) (w30 cb g : Vec Ideal S1x256 .f32)
    (h : Fin 256 → EReal) (r : Fin 512) (hh : ∀ k, a (ix2 r k) + x29 (ix2 r k) * w29 (ix2 0 k) + x30 (ix2 r k) * w30 (ix2 0 k) + cb (ix2 0 k) = h k)
    (b : Fin 256 → EReal) (n : Fin 256) :
    k0_pay24 a x29 w29 x30 w30 cb g (ix2 r n) + b n = ConvRows.lnRow h (fun k => g (ix2 0 k)) b n := by
  obtain rfl : h = fun k => a (ix2 r k) + x29 (ix2 r k) * w29 (ix2 0 k) + x30 (ix2 r k) * w30 (ix2 0 k) + cb (ix2 0 k) := funext fun k => (hh k).symm
  unfold ConvRows.lnRow ConvRows.mean
  pointwise [k0_pay24]

/-- One entry of the output tile over the tile's rows. -/
theorem yVal_apply (X : Vec Ideal S544x256 .f32) (G : Vec Ideal S512x256 .f32) (hG : ∀ (r : Fin 512) (k : Fin 256), G (ix2 r k) = X (ix2 ⟨32 + r.val, by omega⟩ k))
    (x2 : Vec Ideal S31x256 .f32) (x3 x4 x5 : Vec Ideal S1x256 .f32) (r : Fin 512) (n : Fin 256) :
    yVal X G x2 x3 x4 x5 (ix3 0 r n)
      = ConvRows.convOut (fun j k => X (ix2 ⟨2 + j.val + r.val, by omega⟩ k)) (fun j k => x2 (ix2 j k)) (fun k => x3 (ix2 0 k)) (fun k => x4 (ix2 0 k))
          (fun k => x5 (ix2 0 k)) n := by
  unfold yVal ConvRows.convOut
  rw [pay1_apply]
  refine congrArg ConvRows.silu (pay24_apply _ _ _ _ _ _ _ _ r ?_ (fun k => x5 (ix2 0 k)) n)
  intro k
  unfold ConvRows.convRow ConvRows.taps
  rw [hG]
  pointwise [k0_pay12, k0_pay13, k0_pay14, k0_pay15, k0_pay16, k0_pay17, k0_pay18, k0_pay19, k0_pay20, k0_pay21, k0_pay22, shifted]
  simp only [← Nat.add_assoc, Nat.reduceAdd]

/-- One gated entry. -/
theorem pay4_apply (x0 : Vec Ideal S1x512x512 .f32) (r : Fin 512) (n : Fin 256) :
    k0_pay4 x0 (ix2 r n) = ConvRows.glu (fun k => x0 (ix3 0 r k)) n := by
  unfold ConvRows.glu
  pointwise [k0_pay4]
  rw [zero_sub]; rfl

/-- One history entry. -/
theorem pay3_apply (x1 : Vec Ideal S1x32x256 .f32) (r : Fin 32) (n : Fin 256) : k0_pay3 x1 (ix2 r n) = x1 (ix3 0 r n) := by
  pointwise [k0_pay3]

/-- One entry of the kept rows. -/
theorem pay2_apply (x : Vec Ideal S32x256 .f32) (r : Fin 32) (n : Fin 256) : k0_pay2 x (ix3 0 r n) = x (ix2 r n) := by
  pointwise [k0_pay2]

end Cert.Proof.ConvTile

end
-- ==== Proof.ConvArr.lean ====
/-
  What the arrays of the convolution call hold at the end, over the extended reals.
-/
module

public import proofs.«01_k».proof.Proof.ConvTile
public import Idealize.ShloMosaic.Lib.StableHlo.RunRead

@[expose] public section

set_option maxHeartbeats 4000000

noncomputable section

namespace Cert.Proof.ConvArr

open Idealize.ShloMosaic Idealize.SL.Sem Cert.ConvIdeal Cert.ConvIdeal.Gen Idealize.ShloMosaic.TcCoe Cert.Proof.ConvBlock Cert.Proof.ConvTile
open Idealize.ShloMosaic.StableHlo

variable (m : (ℓ : Loc nD τ sig) → Buf (Elt Ideal) ℓ)

/-- The batch of a grid point. -/
def bat (t : Fin cfg0.N) : Fin 4 := ⟨t.val / 8, by have e : cfg0.N = 32 := N_0; omega⟩

/-- A batch's columns, by row. -/
def cols (c : Dev nD) (b : Fin 4) : Fin 4096 → Fin 512 → EReal := fun t n => m ((c : Thread nD τ).loc main_arg0) (ix3 b t n)

/-- A batch's state, by row. -/
def state (c : Dev nD) (b : Fin 4) : Fin 30 → Fin 256 → EReal := fun e n => m ((c : Thread nD τ).loc main_arg1) (ix3 b e n)

/-- A batch's joined rows. -/
def seq (c : Dev nD) (b : Fin 4) (e : ℕ) (n : Fin 256) : EReal := ConvRows.seqAt (cols m c b) (state m c b) e n

/-- The tap weights. -/
def wt (c : Dev nD) (j : Fin 31) (n : Fin 256) : EReal := m ((c : Thread nD τ).loc main_arg2) (ix2 j n)

/-- The bias, the gain and the shift. -/
def cb (c : Dev nD) (n : Fin 256) : EReal := m ((c : Thread nD τ).loc main_arg3) (ix1 n)
def gain (c : Dev nD) (n : Fin 256) : EReal := m ((c : Thread nD τ).loc main_arg4) (ix1 n)
def shift (c : Dev nD) (n : Fin 256) : EReal := m ((c : Thread nD τ).loc main_arg5) (ix1 n)

/-- The block index of window 0 at a point. -/
theorem idx0 : ∀ t : Fin grid0.N, win0_0.index t 0 = t.val / 8 ∧ win0_0.index t 1 = t.val % 8 ∧ win0_0.index t 2 = 0 := by decide +kernel

/-- The block of window 0, read from its array. -/
theorem blk0 (c : Dev nD) (t : Fin cfg0.N) (z : Fin 1) (r : Fin 512) (n : Fin 512) :
    (iblk m c 0 t : Vec Ideal S1x512x512 .f32) (ix3 z r n) = V m c main_arg0 (ix3 (bat t) ⟨512 * (t.val % 8) + r.val, by omega⟩ n) := by
  have hN : cfg0.N = 32 := N_0
  unfold iblk
  rw [View.read_apply]
  show V m c main_arg0 _ = V m c main_arg0 _
  congr 1
  funext a
  apply Fin.ext
  match a with
  | ⟨0, _⟩ => show win0_0.index t 0 * 1 + 1 * z.val = t.val / 8; rw [(idx0 t).1]; omega
  | ⟨1, _⟩ => show win0_0.index t 1 * 512 + 1 * r.val = 512 * (t.val % 8) + r.val; rw [(idx0 t).2.1]; omega
  | ⟨2, _⟩ => show win0_0.index t 2 * 512 + 1 * n.val = n.val; rw [(idx0 t).2.2]; omega

/-- The block index of window 1 at a point. -/
theorem idx1 : ∀ t : Fin grid0.N, win0_1.index t 0 = t.val / 8 ∧ win0_1.index t 1 = 0 ∧ win0_1.index t 2 = 0 := by decide +kernel

/-- The block of window 1, read from its array. -/
theorem blk1 (c : Dev nD) (t : Fin cfg0.N) (z : Fin 1) (r : Fin 32) (n : Fin 256) :
    (iblk m c 1 t : Vec Ideal S1x32x256 .f32) (ix3 z r n) = V m c main_v0 (ix3 (bat t) r n) := by
  have hN : cfg0.N = 32 := N_0
  unfold iblk
  rw [View.read_apply]
  show V m c main_v0 _ = V m c main_v0 _
  congr 1
  funext a
  apply Fin.ext
  match a with
  | ⟨0, _⟩ => show win0_1.index t 0 * 1 + 1 * z.val = t.val / 8; rw [(idx1 t).1]; omega
  | ⟨1, _⟩ => show win0_1.index t 1 * 32 + 1 * r.val = r.val; rw [(idx1 t).2.1]; omega
  | ⟨2, _⟩ => show win0_1.index t 2 * 256 + 1 * n.val = n.val; rw [(idx1 t).2.2]; omega

/-- The block index of window 2 at a point. -/
theorem idx2 : ∀ t : Fin grid0.N, win0_2.index t 0 = 0 ∧ win0_2.index t 1 = 0 := by decide +kernel

/-- The block of window 2, read from its array. -/
theorem blk2 (c : Dev nD) (t : Fin cfg0.N) (r : Fin 31) (n : Fin 256) :
    (iblk m c 2 t : Vec Ideal S31x256 .f32) (ix2 r n) = V m c main_arg2 (ix2 r n) := by
  have hN : cfg0.N = 32 := N_0
  unfold iblk
  rw [View.read_apply]
  show V m c main_arg2 _ = V m c main_arg2 _
  congr 1
  funext a
  apply Fin.ext
  match a with
  | ⟨0, _⟩ => show win0_2.index t 0 * 31 + 1 * r.val = r.val; rw [(idx2 t).1]; omega
  | ⟨1, _⟩ => show win0_2.index t 1 * 256 + 1 * n.val = n.val; rw [(idx2 t).2]; omega

/-- The block index of window 3 at a point. -/
theorem idx3 : ∀ t : Fin grid0.N, win0_3.index t 0 = 0 ∧ win0_3.index t 1 = 0 := by decide +kernel

/-- The block of window 3, read from its array. -/
theorem blk3 (c : Dev nD) (t : Fin cfg0.N) (r : Fin 1) (n : Fin 256) :
    (iblk m c 3 t : Vec Ideal S1x256 .f32) (ix2 r n) = V m c main_v1 (ix2 r n) := by
  have hN : cfg0.N = 32 := N_0
  unfold iblk
  rw [View.read_apply]
  show V m c main_v1 _ = V m c main_v1 _
  congr 1
  funext a
  apply Fin.ext
  match a with
  | ⟨0, _⟩ => show win0_3.index t 0 * 1 + 1 * r.val = r.val; rw [(idx3 t).1]; omega
  | ⟨1, _⟩ => show win0_3.index t 1 * 256 + 1 * n.val = n.val; rw [(idx3 t).2]; omega

/-- The block index of window 4 at a point. -/
theorem idx4 : ∀ t : Fin grid0.N, win0_4.index t 0 = 0 ∧ win0_4.index t 1 = 0 := by decide +kernel

/-- The block of window 4, read from its array. -/
theorem blk4 (c : Dev nD) (t : Fin cfg0.N) (r : Fin 1) (n : Fin 256) :
    (iblk m c 4 t : Vec Ideal S1x256 .f32) (ix2 r n) = V m c main_v2 (ix2 r n) := by
  have hN : cfg0.N = 32 := N_0
  unfold iblk
  rw [View.read_apply]
  show V m c main_v2 _ = V m c main_v2 _
  congr 1
  funext a
  apply Fin.ext
  match a with
  | ⟨0, _⟩ => show win0_4.index t 0 * 1 + 1 * r.val = r.val; rw [(idx4 t).1]; omega
  | ⟨1, _⟩ => show win0_4.index t 1 * 256 + 1 * n.val = n.val; rw [(idx4 t).2]; omega

/-- The block index of window 5 at a point. -/
theorem idx5 : ∀ t : Fin grid0.N, win0_5.index t 0 = 0 ∧ win0_5.index t 1 = 0 := by decide +kernel

/-- The block of window 5, read from its array. -/
theorem blk5 (c : Dev nD) (t : Fin cfg0.N) (r : Fin 1) (n : Fin 256) :
    (iblk m c 5 t : Vec Ideal S1x256 .f32) (ix2 r n) = V m c main_v3 (ix2 r n) := by
  have hN : cfg0.N = 32 := N_0
  unfold iblk
  rw [View.read_apply]
  show V m c main_v3 _ = V m c main_v3 _
  congr 1
  funext a
  apply Fin.ext
  match a with
  | ⟨0, _⟩ => show win0_5.index t 0 * 1 + 1 * r.val = r.val; rw [(idx5 t).1]; omega
  | ⟨1, _⟩ => show win0_5.index t 1 * 256 + 1 * n.val = n.val; rw [(idx5 t).2]; omega

/-- A vector as one row. -/
theorem row1_apply (g : FVec Ideal S256 .f32) (n : Fin 256) : shapeCast S1x256 g shapeCasts_S256_S1x256 (ix2 0 n) = g (ix1 n) := by
  pointwise []

/-- The state with two rows in front, from the third row on. -/
theorem pad_apply (x : FVec Ideal S4x30x256 .f32) (v : FVec Ideal S_ .f32) (b : Fin 4) (r : Fin 32) (h : 2 ≤ r.val) (n : Fin 256) :
    pad S4x32x256 ![0, 2, 0] ![0, 0, 0] ![0, 0, 0] x v pads_S4x30x256_S4x32x256_000_200_000 h_S_ (ix3 b r n)
      = x (ix3 b ⟨r.val - 2, by omega⟩ n) := by
  pointwise []
  exact dif_pos ⟨h, by omega⟩

/-- The array of window 3 is the argument, as one row. -/
theorem arr3 (c : Dev nD) (n : Fin 256) : V m c main_v1 (ix2 0 n) = cb m c n := by
  have e : (V m c main_v1 : FVec Ideal S1x256 .f32) = shapeCast S1x256 (m ((c : Thread nD τ).loc main_arg3)) shapeCasts_S256_S1x256 := by
    unfold V; simp only [hostOps0, hostOps0_1, hostOps0_2]; after_reads_simp; rfl
  rw [e]
  exact row1_apply _ n

/-- The array of window 4 is the argument, as one row. -/
theorem arr4 (c : Dev nD) (n : Fin 256) : V m c main_v2 (ix2 0 n) = gain m c n := by
  have e : (V m c main_v2 : FVec Ideal S1x256 .f32) = shapeCast S1x256 (m ((c : Thread nD τ).loc main_arg4)) shapeCasts_S256_S1x256 := by
    unfold V; simp only [hostOps0, hostOps0_1, hostOps0_2]; after_reads_simp; rfl
  rw [e]
  exact row1_apply _ n

/-- The array of window 5 is the argument, as one row. -/
theorem arr5 (c : Dev nD) (n : Fin 256) : V m c main_v3 (ix2 0 n) = shift m c n := by
  have e : (V m c main_v3 : FVec Ideal S1x256 .f32) = shapeCast S1x256 (m ((c : Thread nD τ).loc main_arg5)) shapeCasts_S256_S1x256 := by
    unfold V; simp only [hostOps0, hostOps0_1, hostOps0_2]; after_reads_simp; rfl
  rw [e]
  exact row1_apply _ n

/-- The history's array is the padded state. -/
theorem arr1 (c : Dev nD) (b : Fin 4) (r : Fin 32) (h : 2 ≤ r.val) (n : Fin 256) :
    V m c main_v0 (ix3 b r n) = state m c b ⟨r.val - 2, by omega⟩ n := by
  have e : ∃ v : FVec Ideal S_ .f32, (V m c main_v0 : FVec Ideal S4x32x256 .f32)
      = pad S4x32x256 ![0, 2, 0] ![0, 0, 0] ![0, 0, 0] (m ((c : Thread nD τ).loc main_arg1)) v pads_S4x30x256_S4x32x256_000_200_000 h_S_ := by
    refine ⟨sitofp .f32 (constantI S_ 32 0#32), ?_⟩
    unfold V; simp only [hostOps0, hostOps0_1, hostOps0_2]; after_reads_simp; rfl
  obtain ⟨v, e⟩ := e
  rw [e]
  exact pad_apply _ v b r h n

/-- The arrays that the call reads as they are given. -/
theorem arr0 (c : Dev nD) : V m c main_arg0 = m ((c : Thread nD τ).loc main_arg0) := by
  unfold V; simp only [hostOps0, hostOps0_1, hostOps0_2]; after_reads_simp
theorem arr2 (c : Dev nD) : V m c main_arg2 = m ((c : Thread nD τ).loc main_arg2) := by
  unfold V; simp only [hostOps0, hostOps0_1, hostOps0_2]; after_reads_simp

/-- The gated rows of a grid point's tile are rows of the joined sequence. -/
theorem gate_apply (c : Dev nD) (t : Fin cfg0.N) (r : Fin 512) (n : Fin 256) :
    k0_pay4 (iblk m c 0 t) (ix2 r n) = seq m c (bat t) (512 * (t.val % 8) + 30 + r.val) n := by
  have hN : cfg0.N = 32 := N_0
  rw [pay4_apply]
  unfold seq ConvRows.seqAt
  rw [dif_neg (by omega), dif_pos (by omega)]
  refine congrArg (fun f => ConvRows.glu f n) (funext fun k => ?_)
  rw [blk0, arr0]
  exact congrArg (fun q => m ((c : Thread nD τ).loc main_arg0) (ix3 (bat t) q k)) (Fin.ext (by show 512 * (t.val % 8) + r.val = 512 * (t.val % 8) + 30 + r.val - 30; omega))

/-- The carried rows after a point, read as a history, are the point's last gated rows. -/
theorem hist_eq (c : Dev nD) (t : Fin cfg0.N) : histOf (outsAt0 m c t.val t.isLt).2.2 = lastOf (k0_pay4 (iblk m c 0 t)) := by
  by_cases h0 : t.val % 8 = 0
  · have h1 : ¬t.val % 8 = 7 := by omega
    have e := sout0_A_0_hist (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)
    rw [outsAt0_A m c t h0 h1]
    exact e
  · by_cases h1 : t.val % 8 = 7
    · rw [outsAt0_C m c t h0 h1]
      generalize outsAt0 m c (t.val - 1) _ = p
      exact sout0_C_0_hist (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2
    · rw [outsAt0_B m c t h0 h1]
      generalize outsAt0 m c (t.val - 1) _ = p
      exact sout0_B_0_hist (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2

/-- The history rows a point reads. -/
def hist (c : Dev nD) (t : Fin cfg0.N) : Vec Ideal S32x256 .f32 :=
  if t.val % 8 = 0 then k0_pay3 (iblk m c 1 t) else lastOf (k0_pay4 (iblk m c 0 ⟨t.val - 1, Nat.lt_of_le_of_lt (Nat.sub_le _ _) t.isLt⟩))

/-- From the third on they are rows of the joined sequence. -/
theorem hist_apply (c : Dev nD) (t : Fin cfg0.N) (r : Fin 32) (h : 2 ≤ r.val) (n : Fin 256) :
    hist m c t (ix2 r n) = seq m c (bat t) (512 * (t.val % 8) + r.val - 2) n := by
  have hN : cfg0.N = 32 := N_0
  unfold hist
  split
  · rename_i h0
    rw [pay3_apply, blk1, arr1 m c _ r h n]
    unfold seq ConvRows.seqAt
    rw [dif_pos (by omega)]
    exact congrArg (fun q => state m c (bat t) q n) (Fin.ext (by show r.val - 2 = 512 * (t.val % 8) + r.val - 2; omega))
  · rename_i h0
    refine (gate_apply m c ⟨t.val - 1, Nat.lt_of_le_of_lt (Nat.sub_le _ _) t.isLt⟩ ⟨480 + r.val, by omega⟩ n).trans ?_
    have hb : bat (⟨t.val - 1, Nat.lt_of_le_of_lt (Nat.sub_le _ _) t.isLt⟩ : Fin cfg0.N) = bat t := Fin.ext (by show (t.val - 1) / 8 = t.val / 8; omega)
    rw [hb]
    exact congrArg (fun q => seq m c (bat t) q n) (by show 512 * ((t.val - 1) % 8) + 30 + (480 + r.val) = _; omega)

/-- A point's rows, from the third on, are rows of the joined sequence. -/
theorem rows_apply (c : Dev nD) (t : Fin cfg0.N) (e : Fin 544) (h : 2 ≤ e.val) (n : Fin 256) :
    ext (hist m c t) (k0_pay4 (iblk m c 0 t)) (ix2 e n) = seq m c (bat t) (512 * (t.val % 8) + e.val - 2) n := by
  rcases row_cases e with ⟨r, hr⟩ | ⟨r, hr⟩
  · rw [ext_low _ _ e r hr, hist_apply m c t r (by omega), hr]
  · rw [ext_high _ _ e r hr, gate_apply, hr]
    exact congrArg (fun q => seq m c (bat t) q n) (by omega)

/-- What a point leaves in the output's block. -/
theorem out_eq (c : Dev nD) (t : Fin cfg0.N) :
    (outsAt0 m c t.val t.isLt).1 = yVal (ext (hist m c t) (k0_pay4 (iblk m c 0 t))) (k0_pay4 (iblk m c 0 t)) (iblk m c 2 t) (iblk m c 3 t) (iblk m c 4 t) (iblk m c 5 t) := by
  unfold hist
  by_cases h0 : t.val % 8 = 0
  · have h1 : ¬t.val % 8 = 7 := by omega
    have e := out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)
    rw [outsAt0_A m c t h0 h1, if_pos h0]
    exact e
  · rw [if_neg h0, ← hist_eq m c ⟨t.val - 1, Nat.lt_of_le_of_lt (Nat.sub_le _ _) t.isLt⟩]
    by_cases h1 : t.val % 8 = 7
    · rw [outsAt0_C m c t h0 h1]
      generalize outsAt0 m c (t.val - 1) _ = p
      exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2
    · rw [outsAt0_B m c t h0 h1]
      generalize outsAt0 m c (t.val - 1) _ = p
      exact out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2

/-- What the last point of a batch leaves in the second output's block. -/
theorem tail_eq (c : Dev nD) (t : Fin cfg0.N) (h1 : t.val % 8 = 7) :
    (outsAt0 m c t.val t.isLt).2.1 = k0_pay2 (lastOf (k0_pay4 (iblk m c 0 t))) := by
  have h0 : ¬t.val % 8 = 0 := by omega
  rw [outsAt0_C m c t h0 h1]
  generalize outsAt0 m c (t.val - 1) _ = p
  exact out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2

/-- The block index of the two outputs. -/
theorem idx6 : ∀ t : Fin grid0.N, win0_6.index t 0 = t.val / 8 ∧ win0_6.index t 1 = t.val % 8 ∧ win0_6.index t 2 = 0 := by decide +kernel
theorem idx7 : ∀ t : Fin grid0.N, win0_7.index t 0 = t.val / 8 ∧ win0_7.index t 1 = 0 ∧ win0_7.index t 2 = 0 := by decide +kernel

/-- Every point writes the first output's block back, the last point of a batch the second's. -/
theorem flush6 : ∀ t : Fin grid0.N, (cfg0.win 6).flush t = true := by decide +kernel
theorem flush7 : ∀ t : Fin grid0.N, t.val % 8 = 7 → (cfg0.win 7).flush t = true := by decide +kernel

/-- The first result at a row of a grid point. -/
theorem arr6_apply (c : Dev nD) (t : Fin cfg0.N) (r : Fin 512) (n : Fin 256) :
    ((dats m 0 c).arrAt 6 cfg0.N : Vec Ideal S4x4096x256 .f32) (ix3 (bat t) ⟨512 * (t.val % 8) + r.val, by omega⟩ n)
      = ConvRows.convOut (fun j k => seq m c (bat t) (j.val + (512 * (t.val % 8) + r.val)) k) (wt m c) (cb m c) (gain m c) (shift m c) n := by
  have h := congrFun (Cert.ConvIdeal.Value.blocks6 m c t (flush6 t)) (ix3 0 r n)
  rw [Cert.ConvIdeal.Value.flushed6, View.read_apply, out_eq] at h
  have e : ((cfg0.win 6).blk t).view.emb (ix3 0 r n) = ix3 (bat t) ⟨512 * (t.val % 8) + r.val, by omega⟩ n := by
    funext a
    apply Fin.ext
    match a with
    | ⟨0, _⟩ => show win0_6.index t 0 * 1 + 1 * 0 = t.val / 8; rw [(idx6 t).1]; omega
    | ⟨1, _⟩ => show win0_6.index t 1 * 512 + 1 * r.val = 512 * (t.val % 8) + r.val; rw [(idx6 t).2.1]; omega
    | ⟨2, _⟩ => show win0_6.index t 2 * 256 + 1 * n.val = n.val; rw [(idx6 t).2.2]; omega
  rw [e] at h
  refine h.trans ((yVal_apply _ _ (fun r k => (ext_high _ _ _ r rfl k).symm) _ _ _ _ r n).trans ?_)
  refine ConvRows.convOut_congr ?_ ?_ ?_ ?_ ?_ n
  · funext j k
    rw [rows_apply m c t _ (by show 2 ≤ 2 + j.val + r.val; omega)]
    exact congrArg (fun q => seq m c (bat t) q k) (by show 512 * (t.val % 8) + (2 + j.val + r.val) - 2 = _; omega)
  · funext j k; rw [blk2, arr2]; rfl
  · funext k; rw [blk3, arr3]
  · funext k; rw [blk4, arr4]
  · funext k; rw [blk5, arr5]

/-- Two points that write the second output back write different blocks. -/
theorem inj7 : ∀ t t' : Fin grid0.N, (cfg0.win 7).flush t = true → (cfg0.win 7).flush t' = true → win0_7.index t = win0_7.index t' → t = t' := by decide +kernel

/-- So a batch's block of the second result is what its last point wrote. -/
theorem blocks7 (c : Dev nD) (t : Fin cfg0.N) (hf : (cfg0.win 7).flush t = true) :
    ((cfg0.win 7).blk t).view.read (Elt Ideal) ((dats m 0 c).arrAt 7 cfg0.N) = (dats m 0 c).flushed 7 t :=
  (dats m 0 c).read_blk_arrAt_eq_flushed 7 (fun a b ha hb hne => (cfg0.win 7).disjoint_blk fun h => hne (inj7 a b ha hb h)) cfg0.N t t.isLt hf

/-- The second result at a row of a batch. -/
theorem arr7_apply (c : Dev nD) (t : Fin cfg0.N) (h1 : t.val % 8 = 7) (r : Fin 32) (n : Fin 256) :
    ((dats m 0 c).arrAt 7 cfg0.N : Vec Ideal S4x32x256 .f32) (ix3 (bat t) r n) = seq m c (bat t) (4094 + r.val) n := by
  have h := congrFun (blocks7 m c t (flush7 t h1)) (ix3 0 r n)
  rw [Cert.ConvIdeal.Value.flushed7, View.read_apply, tail_eq m c t h1] at h
  have e : ((cfg0.win 7).blk t).view.emb (ix3 0 r n) = ix3 (bat t) r n := by
    funext a
    apply Fin.ext
    match a with
    | ⟨0, _⟩ => show win0_7.index t 0 * 1 + 1 * 0 = t.val / 8; rw [(idx7 t).1]; omega
    | ⟨1, _⟩ => show win0_7.index t 1 * 32 + 1 * r.val = r.val; rw [(idx7 t).2.1]; omega
    | ⟨2, _⟩ => show win0_7.index t 2 * 256 + 1 * n.val = n.val; rw [(idx7 t).2.2]; omega
  rw [e] at h
  refine h.trans ((pay2_apply _ r n).trans ((gate_apply m c t ⟨480 + r.val, by omega⟩ n).trans ?_))
  exact congrArg (fun q => seq m c (bat t) q n) (by show 512 * (t.val % 8) + 30 + (480 + r.val) = _; omega)

end Cert.Proof.ConvArr

end
-- ==== Proof.ConvRef.lean ====
/-
  What the convolution reference computes: its run's results, read at an index.
-/
module

public import proofs.«01_k».proof.Proof.Gen.ConvRefIdeal.Run
public import proofs.«01_k».proof.Proof.ConvRows
public import Idealize.ShloMosaic.Lib.Pointwise

@[expose] public section

noncomputable section

namespace Cert.Proof.ConvRef

open Idealize.ShloMosaic Idealize.SL.Sem Cert.ConvRefIdeal Cert.ConvRefIdeal.Gen Cert.ConvRefIdeal.Value Idealize.ShloMosaic.TcCoe Idealize.ShloMosaic.StableHlo
open scoped BigOperators

/-- A batch's columns, by row. -/
def cols (p : FVec Ideal S4x4096x512 .f32) (b : Fin 4) : Fin 4096 → Fin 512 → EReal := fun t n => p (ix3 b t n)

/-- A batch's state, by row. -/
def state (s : FVec Ideal S4x30x256 .f32) (b : Fin 4) : Fin 30 → Fin 256 → EReal := fun e n => s (ix3 b e n)

variable (V : Valuation τ sig (Elt Ideal))

/-- The joined rows: the state, then the gated rows. -/
def seq (b : Fin 4) (e : ℕ) (n : Fin 256) : EReal :=
  ConvRows.seqAt (cols (V (Proc.devRef .tc main_arg0)) b) (state (V (Proc.devRef .tc main_arg1)) b) e n

/-- The tap weights. -/
def wt (j : Fin 31) (n : Fin 256) : EReal := (V (Proc.devRef .tc main_arg2) : FVec Ideal S31x256 .f32) (ix2 j n)

/-- An array at an index. -/
def at3 (x : FVec Ideal S4x4096x256 .f32) (b : Fin 4) (t : Fin 4096) (n : Fin 256) : EReal := x (ix3 b t n)

/-- A row of 256 numbers, as a function. -/
def vec (g : FVec Ideal S256 .f32) (n : Fin 256) : EReal := g (ix1 n)

/-- The joined rows, at an index. -/
theorem v9_apply (b : Fin 4) (e : Fin 4126) (n : Fin 256) :
    (res_main_v9 V : FVec Ideal S4x4126x256 .f32) (ix3 b e n) = seq V b e.val n := by
  unfold res_main_v9 seq ConvRows.seqAt
  generalize V (Proc.devRef .tc main_arg0) = p
  generalize V (Proc.devRef .tc main_arg1) = s
  pointwise []
  by_cases h : e.val < 30
  · rw [dif_pos h, dif_pos h]; rfl
  · rw [dif_neg h]; first | rfl | (rw [dif_neg h]; rfl)

/-- Taps 0 to 10. -/
theorem v87_apply (b : Fin 4) (t : Fin 4096) (n : Fin 256) :
    at3 (res_main_v87 V) b t n = seq V b (0 + t.val) n * wt V 0 n + seq V b (1 + t.val) n * wt V 1 n + seq V b (2 + t.val) n * wt V 2 n + seq V b (3 + t.val) n * wt V 3 n + seq V b (4 + t.val) n * wt V 4 n + seq V b (5 + t.val) n * wt V 5 n + seq V b (6 + t.val) n * wt V 6 n + seq V b (7 + t.val) n * wt V 7 n + seq V b (8 + t.val) n * wt V 8 n + seq V b (9 + t.val) n * wt V 9 n + seq V b (10 + t.val) n * wt V 10 n := by
  have hx : ∀ e : Fin 4126, (res_main_v9 V : FVec Ideal S4x4126x256 .f32) (ix3 b e n) = seq V b e.val n := fun e => v9_apply V b e n
  unfold at3 res_main_v87 wt
  revert hx
  generalize res_main_v9 V = x
  generalize seq V b = y
  generalize V (Proc.devRef .tc main_arg2) = w
  intro hx
  pointwise []
  simp only [hx]
  try rfl

/-- Taps 11 to 21. -/
theorem v164_apply (b : Fin 4) (t : Fin 4096) (n : Fin 256) :
    at3 (res_main_v164 V) b t n = at3 (res_main_v87 V) b t n + seq V b (11 + t.val) n * wt V 11 n + seq V b (12 + t.val) n * wt V 12 n + seq V b (13 + t.val) n * wt V 13 n + seq V b (14 + t.val) n * wt V 14 n + seq V b (15 + t.val) n * wt V 15 n + seq V b (16 + t.val) n * wt V 16 n + seq V b (17 + t.val) n * wt V 17 n + seq V b (18 + t.val) n * wt V 18 n + seq V b (19 + t.val) n * wt V 19 n + seq V b (20 + t.val) n * wt V 20 n + seq V b (21 + t.val) n * wt V 21 n := by
  have hx : ∀ e : Fin 4126, (res_main_v9 V : FVec Ideal S4x4126x256 .f32) (ix3 b e n) = seq V b e.val n := fun e => v9_apply V b e n
  unfold at3 res_main_v164 wt
  revert hx
  generalize res_main_v9 V = x
  generalize seq V b = y
  generalize V (Proc.devRef .tc main_arg2) = w
  generalize res_main_v87 V = a
  intro hx
  pointwise []
  simp only [hx]
  try rfl

/-- Taps 22 to 30, and the bias. -/
theorem v230_apply (b : Fin 4) (t : Fin 4096) (n : Fin 256) :
    at3 (res_main_v230 V) b t n = at3 (res_main_v164 V) b t n + seq V b (22 + t.val) n * wt V 22 n + seq V b (23 + t.val) n * wt V 23 n + seq V b (24 + t.val) n * wt V 24 n + seq V b (25 + t.val) n * wt V 25 n + seq V b (26 + t.val) n * wt V 26 n + seq V b (27 + t.val) n * wt V 27 n + seq V b (28 + t.val) n * wt V 28 n + seq V b (29 + t.val) n * wt V 29 n + seq V b (30 + t.val) n * wt V 30 n + vec (V (Proc.devRef .tc main_arg3)) n := by
  have hx : ∀ e : Fin 4126, (res_main_v9 V : FVec Ideal S4x4126x256 .f32) (ix3 b e n) = seq V b e.val n := fun e => v9_apply V b e n
  unfold at3 res_main_v230 wt
  revert hx
  generalize res_main_v9 V = x
  generalize seq V b = y
  generalize V (Proc.devRef .tc main_arg2) = w
  generalize res_main_v164 V = a
  generalize V (Proc.devRef .tc main_arg3) = c
  intro hx
  pointwise []
  simp only [hx]
  try rfl

/-- The convolved row with its bias. -/
theorem row_apply (b : Fin 4) (t : Fin 4096) (n : Fin 256) :
    at3 (res_main_v230 V) b t n
      = ConvRows.convRow (fun j n => seq V b (j.val + t.val) n) (wt V) (vec (V (Proc.devRef .tc main_arg3))) n := by
  rw [v230_apply, v164_apply, v87_apply]
  rfl

/-- The mean of the convolved row. -/
theorem mean_apply (b : Fin 4) (t : Fin 4096) :
    (res_main_v234 V : FVec Ideal S4x4096x1 .f32) (ix3 b t 0)
      = ConvRows.mean (fun n => at3 (res_main_v230 V) b t n) := by
  unfold res_main_v234 ConvRows.mean at3
  generalize res_main_v230 V = h
  pointwise []

/-- The normed row. -/
theorem norm_apply (b : Fin 4) (t : Fin 4096) (n : Fin 256) :
    (res_main_v254 V : FVec Ideal S4x4096x256 .f32) (ix3 b t n)
      = ConvRows.lnRow (fun n => at3 (res_main_v230 V) b t n) (vec (V (Proc.devRef .tc main_arg4)))
          (vec (V (Proc.devRef .tc main_arg5))) n := by
  unfold ConvRows.lnRow
  have hm := mean_apply V b t
  rw [← hm]
  unfold res_main_v254 res_main_v236 at3
  generalize res_main_v234 V = mu
  generalize res_main_v230 V = h
  generalize V (Proc.devRef .tc main_arg4) = g
  generalize V (Proc.devRef .tc main_arg5) = s
  pointwise []
  rfl

/-- The reference's first result at an index. -/
theorem out_apply (b : Fin 4) (t : Fin 4096) (n : Fin 256) :
    (mulf (res_main_v254 V) (Host.divf (broadcastInDim S4x4096x256 ![] bcast_S_S4x4096x256 (constant S_ .f32 0x3F800000#32)) (addf (broadcastInDim S4x4096x256 ![] bcast_S_S4x4096x256 (constant S_ .f32 0x3F800000#32)) (Host.exp (Host.negf (res_main_v254 V))))) : FVec Ideal S4x4096x256 .f32) (ix3 b t n)
      = ConvRows.convOut (fun j n => seq V b (j.val + t.val) n) (wt V) (vec (V (Proc.devRef .tc main_arg3))) (vec (V (Proc.devRef .tc main_arg4)))
          (vec (V (Proc.devRef .tc main_arg5))) n := by
  unfold ConvRows.convOut
  have h : ConvRows.convRow (fun j n => seq V b (j.val + t.val) n) (wt V) (vec (V (Proc.devRef .tc main_arg3)))
      = fun n => at3 (res_main_v230 V) b t n := funext fun n => (row_apply V b t n).symm
  rw [h, ← norm_apply]
  generalize res_main_v254 V = x
  pointwise []
  rfl

/-- The reference's second result at an index: the last rows of the joined sequence. -/
theorem tail_apply (b : Fin 4) (e : Fin 32) (n : Fin 256) :
    (extractStridedSlice S4x32x256 ![0, 4094, 0] (res_main_v9 V) slices_S4x4126x256_S4x32x256_0_4094_0 : FVec Ideal S4x32x256 .f32) (ix3 b e n)
      = seq V b (4094 + e.val) n := by
  have hx : ∀ e : Fin 4126, (res_main_v9 V : FVec Ideal S4x4126x256 .f32) (ix3 b e n) = seq V b e.val n := fun e => v9_apply V b e n
  revert hx
  generalize res_main_v9 V = x
  intro hx
  pointwise []
  simp only [hx]

end Cert.Proof.ConvRef

end
-- ==== Proof.ConvEq.lean ====
/-
  The convolution call equals its reference in both results, over the extended reals.
-/
module

public import proofs.«01_k».proof.Proof.ConvArr
public import proofs.«01_k».proof.Proof.ConvRef
public import proofs.«01_k».proof.Defs

@[expose] public section

noncomputable section

namespace Cert.Proof.ConvEq

open Idealize.ShloMosaic Idealize.SL.Sem Idealize.ShloMosaic.TcCoe Cert.ConvRefIdeal Cert.ConvRefIdeal.Gen Cert.ConvRefIdeal.Value Idealize.ShloMosaic.StableHlo

/-- The reference's joined rows are the call's, when the columns and the state agree. -/
theorem seq_eq (m : (ℓ : Loc Cert.ConvIdeal.nD Cert.ConvIdeal.τ Cert.ConvIdeal.sig) → Buf (Elt Ideal) ℓ) (c : Dev Cert.ConvIdeal.nD) (V : Valuation τ sig (Elt Ideal))
    (h0 : V (Proc.devRef .tc Cert.ConvRefIdeal.main_arg0) = m ((c.tc : Thread Cert.ConvIdeal.nD Cert.ConvIdeal.τ).loc Cert.ConvIdeal.main_arg0)) (h1 : V (Proc.devRef .tc Cert.ConvRefIdeal.main_arg1) = m ((c.tc : Thread Cert.ConvIdeal.nD Cert.ConvIdeal.τ).loc Cert.ConvIdeal.main_arg1)) (b : Fin 4) (e : ℕ) (n : Fin 256) :
    ConvRef.seq V b e n = ConvArr.seq m c b e n := by
  unfold ConvRef.seq ConvArr.seq
  rw [h0, h1]
  rfl

/-- The reference's first result is the call's array. -/
theorem result0 (m : (ℓ : Loc Cert.ConvIdeal.nD Cert.ConvIdeal.τ Cert.ConvIdeal.sig) → Buf (Elt Ideal) ℓ) (c : Dev Cert.ConvIdeal.nD) (V : Valuation τ sig (Elt Ideal))
    (h0 : V (Proc.devRef .tc Cert.ConvRefIdeal.main_arg0) = m ((c.tc : Thread Cert.ConvIdeal.nD Cert.ConvIdeal.τ).loc Cert.ConvIdeal.main_arg0)) (h1 : V (Proc.devRef .tc Cert.ConvRefIdeal.main_arg1) = m ((c.tc : Thread Cert.ConvIdeal.nD Cert.ConvIdeal.τ).loc Cert.ConvIdeal.main_arg1)) (h2 : V (Proc.devRef .tc Cert.ConvRefIdeal.main_arg2) = m ((c.tc : Thread Cert.ConvIdeal.nD Cert.ConvIdeal.τ).loc Cert.ConvIdeal.main_arg2)) (h3 : V (Proc.devRef .tc Cert.ConvRefIdeal.main_arg3) = m ((c.tc : Thread Cert.ConvIdeal.nD Cert.ConvIdeal.τ).loc Cert.ConvIdeal.main_arg3)) (h4 : V (Proc.devRef .tc Cert.ConvRefIdeal.main_arg4) = m ((c.tc : Thread Cert.ConvIdeal.nD Cert.ConvIdeal.τ).loc Cert.ConvIdeal.main_arg4)) (h5 : V (Proc.devRef .tc Cert.ConvRefIdeal.main_arg5) = m ((c.tc : Thread Cert.ConvIdeal.nD Cert.ConvIdeal.τ).loc Cert.ConvIdeal.main_arg5)) :
    (mulf (res_main_v254 V) (Host.divf (broadcastInDim S4x4096x256 ![] bcast_S_S4x4096x256 (constant S_ .f32 0x3F800000#32)) (addf (broadcastInDim S4x4096x256 ![] bcast_S_S4x4096x256 (constant S_ .f32 0x3F800000#32)) (Host.exp (Host.negf (res_main_v254 V))))) : FVec Ideal S4x4096x256 .f32) = (Cert.ConvIdeal.Gen.dats m 0 c).arrAt 6 Cert.ConvIdeal.cfg0.N := by
  funext j
  obtain ⟨b, i, n, rfl⟩ : ∃ (b : Fin 4) (i : Fin 4096) (n : Fin 256), j = ix3 b i n := ⟨j 0, j 1, j 2, by funext a; fin_cases a <;> rfl⟩
  have hN : Cert.ConvIdeal.cfg0.N = 32 := Cert.ConvIdeal.Gen.N_0
  obtain ⟨t, r, rfl, rfl⟩ : ∃ (t : Fin Cert.ConvIdeal.cfg0.N) (r : Fin 512), b = ConvArr.bat t ∧ i = ⟨512 * (t.val % 8) + r.val, by omega⟩ := by
    refine ⟨⟨8 * b.val + i.val / 512, by omega⟩, ⟨i.val % 512, by omega⟩, ?_, ?_⟩
    · exact Fin.ext (show b.val = (8 * b.val + i.val / 512) / 8 by omega)
    · exact Fin.ext (show i.val = 512 * ((8 * b.val + i.val / 512) % 8) + i.val % 512 by omega)
  refine (ConvRef.out_apply V _ _ n).trans (Eq.trans ?_ (ConvArr.arr6_apply m c t r n).symm)
  refine ConvRows.convOut_congr ?_ ?_ ?_ ?_ ?_ n
  · funext j k; exact seq_eq m c V h0 h1 _ _ k
  · funext j k; unfold ConvRef.wt; rw [h2]; rfl
  · funext k; rw [h3]; rfl
  · funext k; rw [h4]; rfl
  · funext k; rw [h5]; rfl

/-- The reference's second result is the call's array. -/
theorem result1 (m : (ℓ : Loc Cert.ConvIdeal.nD Cert.ConvIdeal.τ Cert.ConvIdeal.sig) → Buf (Elt Ideal) ℓ) (c : Dev Cert.ConvIdeal.nD) (V : Valuation τ sig (Elt Ideal))
    (h0 : V (Proc.devRef .tc Cert.ConvRefIdeal.main_arg0) = m ((c.tc : Thread Cert.ConvIdeal.nD Cert.ConvIdeal.τ).loc Cert.ConvIdeal.main_arg0)) (h1 : V (Proc.devRef .tc Cert.ConvRefIdeal.main_arg1) = m ((c.tc : Thread Cert.ConvIdeal.nD Cert.ConvIdeal.τ).loc Cert.ConvIdeal.main_arg1)) :
    (extractStridedSlice S4x32x256 ![0, 4094, 0] (res_main_v9 V) slices_S4x4126x256_S4x32x256_0_4094_0 : FVec Ideal S4x32x256 .f32) = (Cert.ConvIdeal.Gen.dats m 0 c).arrAt 7 Cert.ConvIdeal.cfg0.N := by
  funext j
  obtain ⟨b, e, n, rfl⟩ : ∃ (b : Fin 4) (e : Fin 32) (n : Fin 256), j = ix3 b e n := ⟨j 0, j 1, j 2, by funext a; fin_cases a <;> rfl⟩
  have hN : Cert.ConvIdeal.cfg0.N = 32 := Cert.ConvIdeal.Gen.N_0
  obtain ⟨t, ht, rfl⟩ : ∃ (t : Fin Cert.ConvIdeal.cfg0.N), t.val % 8 = 7 ∧ b = ConvArr.bat t :=
    ⟨⟨8 * b.val + 7, by omega⟩, (show (8 * b.val + 7) % 8 = 7 by omega), Fin.ext (show b.val = (8 * b.val + 7) / 8 by omega)⟩
  exact (ConvRef.tail_apply V _ e n).trans ((seq_eq m c V h0 h1 _ _ n).trans (ConvArr.arr7_apply m c t ht e n).symm)

/-- The two programs end with equal results. -/
theorem algebraic : Cert.algebraic_ConvIdeal_ConvRefIdeal (hConvIdeal := Cert.ConvIdeal.Gen.facts) (hConvRefIdeal := Cert.ConvRefIdeal.Gen.facts) := by
  intro m g m' g' _ hagree
  refine ⟨fun c => (Cert.ConvIdeal.Gen.dats m 0 c).arrAt 6 Cert.ConvIdeal.cfg0.N, fun c => (Cert.ConvIdeal.Gen.dats m 0 c).arrAt 7 Cert.ConvIdeal.cfg0.N, Cert.ConvIdeal.Value.run_blocks m g, ?_⟩
  refine (θ_run _ _ _).mono (fun r h c => ?_) (Cert.ConvRefIdeal.Value.run (F := Ideal) m' g')
  obtain ⟨h0, h1, h2, h3, h4, h5⟩ := hagree c
  obtain ⟨r0, r1, ha⟩ := h c
  exact ⟨r0.trans (result0 m c (launchContents m' c) h0 h1 h2 h3 h4 h5), r1.trans (result1 m c (launchContents m' c) h0 h1), ha⟩

/-- The reference leaves its arguments as they were. -/
theorem frame_ref : Cert.quiescent_ConvRefIdeal (hConvRefIdeal := Cert.ConvRefIdeal.Gen.facts) := fun m ρ _ =>
  (θ_run _ _ _).mono (fun r h => ⟨fun c => (h c).2.2, Idealize.ShloMosaic.sem_eq_zero_of_no_sems (by decide) r.2⟩) (Cert.ConvRefIdeal.Value.run (F := Ideal) m ρ)

end Cert.Proof.ConvEq

end
-- ==== Proof.InStepBlock.lean ====
/-
  What one block of the input projection computes: each output block at a row and a column.
-/
module

public import proofs.«01_k».proof.Proof.Gen.InprojStepIdeal.Value
public import proofs.«01_k».proof.Proof.Rows
public import Idealize.ShloMosaic.Lib.Pointwise
public import Idealize.ShloMosaic.Lib.Pipeline.ValueKit

@[expose] public section

noncomputable section

namespace Cert.Proof.InStepBlock

open Idealize.ShloMosaic Idealize.SL.Sem Cert.InprojStepIdeal Cert.InprojStepIdeal.Gen Idealize.ShloMosaic.TcCoe

/-- The normed rows of the block. -/
theorem norm_apply (x : Vec Ideal S32x1024 .f32) (g : Vec Ideal S1x1024 .f32) (r : Fin 32) (k : Fin 1024) :
    k0_pay4 (F := Ideal) x g (ix2 r k) = Rows.rmsn (fun k => x (ix2 r k)) (fun k => g (ix2 0 k)) k := by
  unfold Rows.rmsn
  pointwise [k0_pay4]

/-- The normed rows, as the later columns read them. -/
theorem norm9 (x : Vec Ideal S32x1024 .f32) (g : Vec Ideal S1x1024 .f32) (w : Vec Ideal S1024x3456 .bf16) (r : Fin 32) (k : Fin 1024) :
    k0_pay9 (F := Ideal) x g w (ix2 r k) = k0_pay4 (F := Ideal) x g (ix2 r k) := by
  unfold k0_pay9
  pointwise [k0_pay4]

/-- Output window 3 at a row and a column: the normed row times a column of the weight. -/
theorem out3_apply (x : Vec Ideal S32x1024 .f32) (g : Vec Ideal S1x1024 .f32) (w : Vec Ideal S1024x3456 .bf16) (r : Fin 32) (n : Fin 256) :
    out0_3 (F := Ideal) x g w (ix2 r n)
      = ∑ k : Fin 1024, Rows.rmsn (fun k => x (ix2 r k)) (fun k => g (ix2 0 k)) k * w (ix2 k ⟨0 + n.val, by omega⟩) := by
  simp only [← norm_apply]
  unfold out0_3
  frame_out
  pointwise [k0_pay5]

/-- Output window 4 at a row and a column: the normed row times a column of the weight. -/
theorem out4_apply (x : Vec Ideal S32x1024 .f32) (g : Vec Ideal S1x1024 .f32) (w : Vec Ideal S1024x3456 .bf16) (r : Fin 32) (n : Fin 256) :
    out0_4 (F := Ideal) x g w (ix2 r n)
      = ∑ k : Fin 1024, Rows.rmsn (fun k => x (ix2 r k)) (fun k => g (ix2 0 k)) k * w (ix2 k ⟨256 + n.val, by omega⟩) := by
  simp only [← norm_apply]
  unfold out0_4
  frame_out
  pointwise [k0_pay6]

/-- Output window 5 at a row and a column: the normed row times a column of the weight. -/
theorem out5_apply (x : Vec Ideal S32x1024 .f32) (g : Vec Ideal S1x1024 .f32) (w : Vec Ideal S1024x3456 .bf16) (r : Fin 32) (n : Fin 256) :
    out0_5 (F := Ideal) x g w (ix2 r n)
      = ∑ k : Fin 1024, Rows.rmsn (fun k => x (ix2 r k)) (fun k => g (ix2 0 k)) k * w (ix2 k ⟨512 + n.val, by omega⟩) := by
  simp only [← norm_apply]
  unfold out0_5
  frame_out
  pointwise [k0_pay7]

/-- Output window 6 at a row and a column: the normed row times a column of the weight. -/
theorem out6_apply (x : Vec Ideal S32x1024 .f32) (g : Vec Ideal S1x1024 .f32) (w : Vec Ideal S1024x3456 .bf16) (r : Fin 32) (n : Fin 512) :
    out0_6 (F := Ideal) x g w (ix2 r n)
      = ∑ k : Fin 1024, Rows.rmsn (fun k => x (ix2 r k)) (fun k => g (ix2 0 k)) k * w (ix2 k ⟨768 + n.val, by omega⟩) := by
  simp only [← norm_apply]
  unfold out0_6
  frame_out
  pointwise [k0_pay1, k0_pay8]
  simp only [norm9]

/-- Output window 7 at a row and a column: the normed row times a column of the weight. -/
theorem out7_apply (x : Vec Ideal S32x1024 .f32) (g : Vec Ideal S1x1024 .f32) (w : Vec Ideal S1024x3456 .bf16) (r : Fin 32) (n : Fin 1024) :
    out0_7 (F := Ideal) x g w (ix2 r n)
      = ∑ k : Fin 1024, Rows.rmsn (fun k => x (ix2 r k)) (fun k => g (ix2 0 k)) k * w (ix2 k ⟨1280 + n.val, by omega⟩) := by
  simp only [← norm_apply]
  unfold out0_7
  frame_out
  pointwise [k0_pay2]
  simp only [norm9]

/-- Output window 8 at a row and a column: the normed row times a column of the weight. -/
theorem out8_apply (x : Vec Ideal S32x1024 .f32) (g : Vec Ideal S1x1024 .f32) (w : Vec Ideal S1024x3456 .bf16) (r : Fin 32) (n : Fin 1152) :
    out0_8 (F := Ideal) x g w (ix2 r n)
      = ∑ k : Fin 1024, Rows.rmsn (fun k => x (ix2 r k)) (fun k => g (ix2 0 k)) k * w (ix2 k ⟨2304 + n.val, by omega⟩) := by
  simp only [← norm_apply]
  unfold out0_8
  frame_out
  pointwise [k0_pay3]
  simp only [norm9]

end Cert.Proof.InStepBlock

end
-- ==== Proof.InStepArr.lean ====
/-
  The result arrays of the input projection, at every row and column: the three input blocks of a grid point read from
  the arguments, and the blocks the point writes back.
-/
module

public import proofs.«01_k».proof.Proof.InStepBlock
public import Idealize.ShloMosaic.Lib.StableHlo.RunRead

@[expose] public section

noncomputable section

namespace Cert.Proof.InStepArr

open Idealize.ShloMosaic Idealize.SL.Sem Cert.InprojStepIdeal Cert.InprojStepIdeal.Gen Idealize.ShloMosaic.TcCoe

variable (m : (ℓ : Loc nD τ sig) → Buf (Elt Ideal) ℓ)

/-- The flat row of a grid point and a row of its block. -/
def row (t : Fin cfg0.N) (r : Fin 32) : Fin 32 := ⟨32 * t.val + r.val, by have h := t.isLt; have e : cfg0.N = 1 := N_0; omega⟩

/-- A flattened array at a row. -/
theorem cast1024_apply (x : FVec Ideal S32x1x1024 .f32) (i : Fin 32) (n : Fin 1024) :
    shapeCast S32x1024 x shapeCasts_S32x1x1024_S32x1024 (ix2 i n) = x (ix3 ⟨i.val / 1, by omega⟩ ⟨i.val % 1, by omega⟩ n) := by
  pointwise

/-- A gain as one row. -/
theorem gain_apply (x : FVec Ideal S1024 .f32) (n : Fin 1024) : shapeCast S1x1024 x shapeCasts_S1024_S1x1024 (ix2 0 n) = x (ix1 n) := by
  pointwise

/-- The block index of window 0 at a point. -/
theorem idx0 : ∀ t : Fin grid0.N, win0_0.index t 0 = t.val ∧ win0_0.index t 1 = 0 := by decide +kernel

/-- The block of window 0, read from its array. -/
theorem blk0 (c : Dev nD) (t : Fin cfg0.N) (r : Fin 32) (n : Fin 1024) :
    (iblk m c 0 t : Vec Ideal S32x1024 .f32) (ix2 r n) = V m c main_v0 (ix2 (row t r) n) := by
  unfold iblk
  rw [View.read_apply]
  show V m c main_v0 _ = V m c main_v0 _
  congr 1
  funext a
  apply Fin.ext
  match a with
  | ⟨0, _⟩ => show win0_0.index t 0 * 32 + 1 * r.val = 32 * t.val + r.val; rw [(idx0 t).1]; omega
  | ⟨1, _⟩ => show win0_0.index t 1 * 1024 + 1 * n.val = n.val; rw [(idx0 t).2]; omega

/-- The block index of window 1 at a point. -/
theorem idx1 : ∀ t : Fin grid0.N, win0_1.index t 0 = 0 ∧ win0_1.index t 1 = 0 := by decide +kernel

/-- The block of window 1, read from its array. -/
theorem blk1 (c : Dev nD) (t : Fin cfg0.N) (r : Fin 1) (n : Fin 1024) :
    (iblk m c 1 t : Vec Ideal S1x1024 .f32) (ix2 r n) = V m c main_v10 (ix2 (r) n) := by
  unfold iblk
  rw [View.read_apply]
  show V m c main_v10 _ = V m c main_v10 _
  congr 1
  funext a
  apply Fin.ext
  match a with
  | ⟨0, _⟩ => show win0_1.index t 0 * 1 + 1 * r.val = r.val; rw [(idx1 t).1]; omega
  | ⟨1, _⟩ => show win0_1.index t 1 * 1024 + 1 * n.val = n.val; rw [(idx1 t).2]; omega

/-- The block index of window 2 at a point. -/
theorem idx2 : ∀ t : Fin grid0.N, win0_2.index t 0 = 0 ∧ win0_2.index t 1 = 0 := by decide +kernel

/-- The block of window 2, read from its array. -/
theorem blk2 (c : Dev nD) (t : Fin cfg0.N) (r : Fin 1024) (n : Fin 3456) :
    (iblk m c 2 t : Vec Ideal S1024x3456 .bf16) (ix2 r n) = V m c main_v9 (ix2 (r) n) := by
  unfold iblk
  rw [View.read_apply]
  show V m c main_v9 _ = V m c main_v9 _
  congr 1
  funext a
  apply Fin.ext
  match a with
  | ⟨0, _⟩ => show win0_2.index t 0 * 1024 + 1 * r.val = r.val; rw [(idx2 t).1]; omega
  | ⟨1, _⟩ => show win0_2.index t 1 * 3456 + 1 * n.val = n.val; rw [(idx2 t).2]; omega

/-- The rows' array is the reshaped argument. -/
theorem arr0 (c : Dev nD) (i : Fin 32) (n : Fin 1024) :
    V m c main_v0 (ix2 i n) = m ((c : Thread nD τ).loc main_arg0) (ix3 ⟨i.val / 1, by omega⟩ ⟨i.val % 1, by omega⟩ n) := by
  have e : (V m c main_v0 : FVec Ideal S32x1024 .f32) = shapeCast S32x1024 (m ((c : Thread nD τ).loc main_arg0)) shapeCasts_S32x1x1024_S32x1024 := by
    unfold V; simp only [hostOps0]; after_reads_simp; rfl
  rw [e]
  exact cast1024_apply _ i n

/-- The gain's array is the gain, as one row. -/
theorem arr1 (c : Dev nD) (n : Fin 1024) : V m c main_v10 (ix2 0 n) = m ((c : Thread nD τ).loc main_arg1) (ix1 n) := by
  have e : (V m c main_v10 : FVec Ideal S1x1024 .f32) = shapeCast S1x1024 (m ((c : Thread nD τ).loc main_arg1)) shapeCasts_S1024_S1x1024 := by
    unfold V; simp only [hostOps0]; after_reads_simp; rfl
  rw [e]
  exact gain_apply _ n

/-- The prepared weight: the delta rule's columns with the gate's columns before the decay's and zeros behind. -/
def prep (w : FVec Ideal S1024x3336 .f32) : FVec Ideal S1024x3456 .bf16 :=
  truncf .bf16 (concatenate S1024x3456 1 [⟨S1024x2304, extractStridedSlice S1024x2304 ![0, 0] w slices_S1024x3336_S1024x2304_0_0⟩,
    ⟨S1024x1152, concatenate S1024x1152 1
      [⟨S1024x768, extractStridedSlice S1024x768 ![0, 0] (extractStridedSlice S1024x1032 ![0, 2304] w slices_S1024x3336_S1024x1032_0_2304) slices_S1024x1032_S1024x768_0_0⟩,
       ⟨S1024x256, extractStridedSlice S1024x256 ![0, 776] (extractStridedSlice S1024x1032 ![0, 2304] w slices_S1024x3336_S1024x1032_0_2304) slices_S1024x1032_S1024x256_0_776⟩,
       ⟨S1024x8, extractStridedSlice S1024x8 ![0, 768] (extractStridedSlice S1024x1032 ![0, 2304] w slices_S1024x3336_S1024x1032_0_2304) slices_S1024x1032_S1024x8_0_768⟩,
       ⟨S1024x120, broadcastInDim S1024x120 ![] bcast_S_S1024x120 (constant S_ .f32 0x00000000#32)⟩]
      concatenates_S1024x768_S1024x256_S1024x8_S1024x120_S1024x1152_d1⟩] concatenates_S1024x2304_S1024x1152_S1024x3456_d1) bitsLt_bf16_f32

/-- One entry of the prepared weight. -/
def prepAt (w : FVec Ideal S1024x3336 .f32) (k : Fin 1024) (n : Fin 3456) : EReal :=
  if h : n.val < 3072 then w (ix2 k ⟨n.val, by omega⟩)
  else if h : n.val < 3328 then w (ix2 k ⟨n.val + 8, by omega⟩)
  else if h : n.val < 3336 then w (ix2 k ⟨n.val - 256, by omega⟩) else 0

/-- The prepared weight at a row and a column. -/
theorem prep_apply (w : FVec Ideal S1024x3336 .f32) (k : Fin 1024) (n : Fin 3456) : prep w (ix2 k n) = prepAt w k n := by
  unfold prepAt
  pointwise [prep]
  (repeat' split) <;> first | (exfalso; omega) | (refine congrArg w (congrArg (ix2 k) (Fin.ext ?_)); dsimp only; omega) | with_reducible rfl

/-- The weight's array is the prepared weight. -/
theorem arr2 (c : Dev nD) (k : Fin 1024) (n : Fin 3456) : V m c main_v9 (ix2 k n) = prepAt (m ((c : Thread nD τ).loc main_arg2)) k n := by
  have e : V m c main_v9 = prep (m ((c : Thread nD τ).loc main_arg2)) := by
    unfold V; simp only [hostOps0]; after_reads_simp; rfl
  rw [e]
  exact prep_apply _ k n

/-- The normed row `i` times column `n` of the prepared weight. -/
def colK (c : Dev nD) (i : Fin 32) (n : Fin 3456) : EReal :=
  ∑ k : Fin 1024, Rows.rmsn (fun k => m ((c : Thread nD τ).loc main_arg0) (ix3 ⟨i.val / 1, by omega⟩ ⟨i.val % 1, by omega⟩ k))
    (fun k => m ((c : Thread nD τ).loc main_arg1) (ix1 k)) k * prepAt (m ((c : Thread nD τ).loc main_arg2)) k n

/-- The block's sum is the array's. -/
theorem col_eq (c : Dev nD) (t : Fin cfg0.N) (r : Fin 32) (n : Fin 3456) :
    (∑ k : Fin 1024, Rows.rmsn (fun k => (iblk m c 0 t : Vec Ideal S32x1024 .f32) (ix2 r k)) (fun k => (iblk m c 1 t : Vec Ideal S1x1024 .f32) (ix2 0 k)) k
      * (iblk m c 2 t : Vec Ideal S1024x3456 .bf16) (ix2 k n)) = colK m c (row t r) n := by
  unfold colK
  have h0 : (fun k => (iblk m c 0 t : Vec Ideal S32x1024 .f32) (ix2 r k)) = _ := funext fun k => (blk0 m c t r k).trans (arr0 m c _ k)
  have h1 : (fun k => (iblk m c 1 t : Vec Ideal S1x1024 .f32) (ix2 0 k)) = _ := funext fun k => (blk1 m c t 0 k).trans (arr1 m c k)
  refine Finset.sum_congr rfl fun k _ => congr_arg₂ _ ?_ ((blk2 m c t k n).trans (arr2 m c k n))
  exact (congrArg (fun v => Rows.rmsn v _ k) h0).trans (congrArg (fun g => Rows.rmsn _ g k) h1)

/-- The block index of output window 3. -/
theorem idx3 : ∀ t : Fin grid0.N, win0_3.index t 0 = t.val ∧ win0_3.index t 1 = 0 := by decide +kernel

/-- Every point writes window 3's block back. -/
theorem flush3 : ∀ t : Fin grid0.N, (cfg0.win 3).flush t = true := by decide +kernel

/-- Result array 0 at a row of a grid point. -/
theorem arr3_apply (c : Dev nD) (t : Fin cfg0.N) (r : Fin 32) (n : Fin 256) :
    ((dats m 0 c).arrAt 3 cfg0.N : Vec Ideal S32x256 .f32) (ix2 (row t r) n) = colK m c (row t r) ⟨0 + n.val, by omega⟩ := by
  have h := congrFun (Cert.InprojStepIdeal.Value.blocks3 m c t (flush3 t)) (ix2 r n)
  rw [Cert.InprojStepIdeal.Value.flushed3, View.read_apply] at h
  have e : ((cfg0.win 3).blk t).view.emb (ix2 r n) = ix2 (row t r) n := by
    funext a
    apply Fin.ext
    match a with
    | ⟨0, _⟩ => show win0_3.index t 0 * 32 + 1 * r.val = 32 * t.val + r.val; rw [(idx3 t).1]; omega
    | ⟨1, _⟩ => show win0_3.index t 1 * 256 + 1 * n.val = n.val; rw [(idx3 t).2]; omega
  rw [e] at h
  exact h.trans ((InStepBlock.out3_apply _ _ _ r n).trans (col_eq m c t r _))

/-- The block index of output window 4. -/
theorem idx4 : ∀ t : Fin grid0.N, win0_4.index t 0 = t.val ∧ win0_4.index t 1 = 0 := by decide +kernel

/-- Every point writes window 4's block back. -/
theorem flush4 : ∀ t : Fin grid0.N, (cfg0.win 4).flush t = true := by decide +kernel

/-- Result array 1 at a row of a grid point. -/
theorem arr4_apply (c : Dev nD) (t : Fin cfg0.N) (r : Fin 32) (n : Fin 256) :
    ((dats m 0 c).arrAt 4 cfg0.N : Vec Ideal S32x256 .f32) (ix2 (row t r) n) = colK m c (row t r) ⟨256 + n.val, by omega⟩ := by
  have h := congrFun (Cert.InprojStepIdeal.Value.blocks4 m c t (flush4 t)) (ix2 r n)
  rw [Cert.InprojStepIdeal.Value.flushed4, View.read_apply] at h
  have e : ((cfg0.win 4).blk t).view.emb (ix2 r n) = ix2 (row t r) n := by
    funext a
    apply Fin.ext
    match a with
    | ⟨0, _⟩ => show win0_4.index t 0 * 32 + 1 * r.val = 32 * t.val + r.val; rw [(idx4 t).1]; omega
    | ⟨1, _⟩ => show win0_4.index t 1 * 256 + 1 * n.val = n.val; rw [(idx4 t).2]; omega
  rw [e] at h
  exact h.trans ((InStepBlock.out4_apply _ _ _ r n).trans (col_eq m c t r _))

/-- The block index of output window 5. -/
theorem idx5 : ∀ t : Fin grid0.N, win0_5.index t 0 = t.val ∧ win0_5.index t 1 = 0 := by decide +kernel

/-- Every point writes window 5's block back. -/
theorem flush5 : ∀ t : Fin grid0.N, (cfg0.win 5).flush t = true := by decide +kernel

/-- Result array 2 at a row of a grid point. -/
theorem arr5_apply (c : Dev nD) (t : Fin cfg0.N) (r : Fin 32) (n : Fin 256) :
    ((dats m 0 c).arrAt 5 cfg0.N : Vec Ideal S32x256 .f32) (ix2 (row t r) n) = colK m c (row t r) ⟨512 + n.val, by omega⟩ := by
  have h := congrFun (Cert.InprojStepIdeal.Value.blocks5 m c t (flush5 t)) (ix2 r n)
  rw [Cert.InprojStepIdeal.Value.flushed5, View.read_apply] at h
  have e : ((cfg0.win 5).blk t).view.emb (ix2 r n) = ix2 (row t r) n := by
    funext a
    apply Fin.ext
    match a with
    | ⟨0, _⟩ => show win0_5.index t 0 * 32 + 1 * r.val = 32 * t.val + r.val; rw [(idx5 t).1]; omega
    | ⟨1, _⟩ => show win0_5.index t 1 * 256 + 1 * n.val = n.val; rw [(idx5 t).2]; omega
  rw [e] at h
  exact h.trans ((InStepBlock.out5_apply _ _ _ r n).trans (col_eq m c t r _))

/-- The block index of output window 6. -/
theorem idx6 : ∀ t : Fin grid0.N, win0_6.index t 0 = t.val ∧ win0_6.index t 1 = 0 := by decide +kernel

/-- Every point writes window 6's block back. -/
theorem flush6 : ∀ t : Fin grid0.N, (cfg0.win 6).flush t = true := by decide +kernel

/-- Result array 3 at a row of a grid point. -/
theorem arr6_apply (c : Dev nD) (t : Fin cfg0.N) (r : Fin 32) (n : Fin 512) :
    ((dats m 0 c).arrAt 6 cfg0.N : Vec Ideal S32x512 .f32) (ix2 (row t r) n) = colK m c (row t r) ⟨768 + n.val, by omega⟩ := by
  have h := congrFun (Cert.InprojStepIdeal.Value.blocks6 m c t (flush6 t)) (ix2 r n)
  rw [Cert.InprojStepIdeal.Value.flushed6, View.read_apply] at h
  have e : ((cfg0.win 6).blk t).view.emb (ix2 r n) = ix2 (row t r) n := by
    funext a
    apply Fin.ext
    match a with
    | ⟨0, _⟩ => show win0_6.index t 0 * 32 + 1 * r.val = 32 * t.val + r.val; rw [(idx6 t).1]; omega
    | ⟨1, _⟩ => show win0_6.index t 1 * 32 + 1 * n.val = n.val; rw [(idx6 t).2]; omega
  rw [e] at h
  exact h.trans ((InStepBlock.out6_apply _ _ _ r n).trans (col_eq m c t r _))

/-- The block index of output window 7. -/
theorem idx7 : ∀ t : Fin grid0.N, win0_7.index t 0 = t.val ∧ win0_7.index t 1 = 0 := by decide +kernel

/-- Every point writes window 7's block back. -/
theorem flush7 : ∀ t : Fin grid0.N, (cfg0.win 7).flush t = true := by decide +kernel

/-- Result array 4 at a row of a grid point. -/
theorem arr7_apply (c : Dev nD) (t : Fin cfg0.N) (r : Fin 32) (n : Fin 1024) :
    ((dats m 0 c).arrAt 7 cfg0.N : Vec Ideal S32x1024 .f32) (ix2 (row t r) n) = colK m c (row t r) ⟨1280 + n.val, by omega⟩ := by
  have h := congrFun (Cert.InprojStepIdeal.Value.blocks7 m c t (flush7 t)) (ix2 r n)
  rw [Cert.InprojStepIdeal.Value.flushed7, View.read_apply] at h
  have e : ((cfg0.win 7).blk t).view.emb (ix2 r n) = ix2 (row t r) n := by
    funext a
    apply Fin.ext
    match a with
    | ⟨0, _⟩ => show win0_7.index t 0 * 32 + 1 * r.val = 32 * t.val + r.val; rw [(idx7 t).1]; omega
    | ⟨1, _⟩ => show win0_7.index t 1 * 1024 + 1 * n.val = n.val; rw [(idx7 t).2]; omega
  rw [e] at h
  exact h.trans ((InStepBlock.out7_apply _ _ _ r n).trans (col_eq m c t r _))

/-- The block index of output window 8. -/
theorem idx8 : ∀ t : Fin grid0.N, win0_8.index t 0 = t.val ∧ win0_8.index t 1 = 0 := by decide +kernel

/-- Every point writes window 8's block back. -/
theorem flush8 : ∀ t : Fin grid0.N, (cfg0.win 8).flush t = true := by decide +kernel

/-- Result array 5 at a row of a grid point. -/
theorem arr8_apply (c : Dev nD) (t : Fin cfg0.N) (r : Fin 32) (n : Fin 1152) :
    ((dats m 0 c).arrAt 8 cfg0.N : Vec Ideal S32x1152 .f32) (ix2 (row t r) n) = colK m c (row t r) ⟨2304 + n.val, by omega⟩ := by
  have h := congrFun (Cert.InprojStepIdeal.Value.blocks8 m c t (flush8 t)) (ix2 r n)
  rw [Cert.InprojStepIdeal.Value.flushed8, View.read_apply] at h
  have e : ((cfg0.win 8).blk t).view.emb (ix2 r n) = ix2 (row t r) n := by
    funext a
    apply Fin.ext
    match a with
    | ⟨0, _⟩ => show win0_8.index t 0 * 32 + 1 * r.val = 32 * t.val + r.val; rw [(idx8 t).1]; omega
    | ⟨1, _⟩ => show win0_8.index t 1 * 1152 + 1 * n.val = n.val; rw [(idx8 t).2]; omega
  rw [e] at h
  exact h.trans ((InStepBlock.out8_apply _ _ _ r n).trans (col_eq m c t r _))

end Cert.Proof.InStepArr

end
-- ==== Proof.InStepRef.lean ====
/-
  The reference of the input projection: its run, read in four stretches (the norm, the projection, the reordered
  columns, the slices), and its six results as terms of the arguments.
-/
module

public import proofs.«01_k».proof.Proof.Gen.InprojStepRefIdeal
public import proofs.«01_k».proof.Proof.Rows
public import Idealize.ShloMosaic.Lib.Pointwise
public import Idealize.ShloMosaic.Lib.StableHlo.RunRead
public import Idealize.ShloMosaic.Lib.StableHlo.Run
public import Idealize.ShloMosaic.Lib.Pipeline.Frame
public import Idealize.ShloMosaic.Lib.Claim

@[expose] public section

noncomputable section

namespace Cert.Proof.InStepRef

open Cert.InprojStepRefIdeal Cert.InprojStepRefIdeal.Gen Idealize.ShloMosaic Idealize.ShloMosaic.TcCoe Idealize.SL.Sem Idealize.ShloMosaic.StableHlo

variable {F : FTy → Type} [FloatOps F]

/-- The RMS norm of every row, scaled by the gain. -/
def rmsF (y : (⟨S32x1x1024, .f32⟩ : BufTy).Contents (Elt F)) (g : (⟨S1024, .f32⟩ : BufTy).Contents (Elt F)) : (⟨S32x1x1024, .f32⟩ : BufTy).Contents (Elt F) :=
  mulf (mulf y (broadcastInDim S32x1x1024 ![0, 1, 2] bcast_S32x1x1_S32x1x1024_0_1_2
      (Host.rsqrt (addf (Host.divf (broadcastInDim S32x1x1 ![0, 1] bcast_S32x1_S32x1x1_0_1
            (Host.reduceAdd (mulf y y) (constant S_ .f32 0x00000000#32) reducesTo_S32x1x1024_S32x1_d2 h_S_))
          (broadcastInDim S32x1x1 ![] bcast_S_S32x1x1 (constant S_ .f32 0x44800000#32)))
        (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))

/-- The projected rows. -/
def projF (h : (⟨S32x1x1024, .f32⟩ : BufTy).Contents (Elt F)) (w : (⟨S1024x3336, .f32⟩ : BufTy).Contents (Elt F)) : (⟨S32x1x3336, .f32⟩ : BufTy).Contents (Elt F) :=
  Host.dotGeneral dot_S32x1x1024_S1024x3336_S32x1x3336_2_0_01_1_n_n none h w

/-- Four groups of columns side by side. -/
def joinF : (main_v17 : Ref sig .tc).ty.Contents (Elt F) → (main_v16 : Ref sig .tc).ty.Contents (Elt F) → (main_v15 : Ref sig .tc).ty.Contents (Elt F) → (main_v18 : Ref sig .tc).ty.Contents (Elt F) → (main_v19 : Ref sig .tc).ty.Contents (Elt F) :=
  (fun u0 u1 u2 u3 => (concatenate S32x1x1152 2 [⟨S32x1x768, (u0 : (⟨S32x1x768, .f32⟩ : BufTy).Contents (Elt F))⟩, ⟨S32x1x256, (u1 : (⟨S32x1x256, .f32⟩ : BufTy).Contents (Elt F))⟩, ⟨S32x1x8, (u2 : (⟨S32x1x8, .f32⟩ : BufTy).Contents (Elt F))⟩, ⟨S32x1x120, (u3 : (⟨S32x1x120, .f32⟩ : BufTy).Contents (Elt F))⟩] concatenates_S32x1x768_S32x1x256_S32x1x8_S32x1x120_S32x1x1152_d2 : (⟨S32x1x1152, .f32⟩ : BufTy).Contents (Elt F)))

/-- The delta rule's columns, with the gate's columns before the decay's and zeros behind. -/
def deltaF (p : (⟨S32x1x3336, .f32⟩ : BufTy).Contents (Elt F)) : (⟨S32x1x1152, .f32⟩ : BufTy).Contents (Elt F) :=
  joinF (extractStridedSlice S32x1x768 ![0, 0, 0] (extractStridedSlice S32x1x1032 ![0, 0, 2304] p slices_S32x1x3336_S32x1x1032_0_0_2304) slices_S32x1x1032_S32x1x768_0_0_0)
    (extractStridedSlice S32x1x256 ![0, 0, 776] (extractStridedSlice S32x1x1032 ![0, 0, 2304] p slices_S32x1x3336_S32x1x1032_0_0_2304) slices_S32x1x1032_S32x1x256_0_0_776)
    (extractStridedSlice S32x1x8 ![0, 0, 768] (extractStridedSlice S32x1x1032 ![0, 0, 2304] p slices_S32x1x3336_S32x1x1032_0_0_2304) slices_S32x1x1032_S32x1x8_0_0_768)
    (broadcastInDim S32x1x120 ![] bcast_S_S32x1x120 (constant S_ .f32 0x00000000#32))

/-- Stretch 1: the normed rows. -/
abbrev ops1 : List (HloOp τ sig (Elt F)) :=
  [ binary main_arg0 main_arg0 main_v0 (mulf : (⟨S32x1x1024, .f32⟩ : BufTy).Contents (Elt F) → (⟨S32x1x1024, .f32⟩ : BufTy).Contents (Elt F) → (⟨S32x1x1024, .f32⟩ : BufTy).Contents (Elt F)),
    nullary main_cst (constant S_ .f32 0x00000000#32),
    binary main_v0 main_cst main_v1 ((fun x v => Host.reduceAdd x v reducesTo_S32x1x1024_S32x1_d2 h_S_) : (⟨S32x1x1024, .f32⟩ : BufTy).Contents (Elt F) → (⟨S_, .f32⟩ : BufTy).Contents (Elt F) → (⟨S32x1, .f32⟩ : BufTy).Contents (Elt F)),
    unary main_v1 main_v2 (broadcastInDim S32x1x1 ![0, 1] bcast_S32x1_S32x1x1_0_1 : (⟨S32x1, .f32⟩ : BufTy).Contents (Elt F) → (⟨S32x1x1, .f32⟩ : BufTy).Contents (Elt F)),
    nullary main_cst_0 (constant S_ .f32 0x44800000#32),
    unary main_cst_0 main_v3 (broadcastInDim S32x1x1 ![] bcast_S_S32x1x1 : (⟨S_, .f32⟩ : BufTy).Contents (Elt F) → (⟨S32x1x1, .f32⟩ : BufTy).Contents (Elt F)),
    binary main_v2 main_v3 main_v4 (Host.divf : (⟨S32x1x1, .f32⟩ : BufTy).Contents (Elt F) → (⟨S32x1x1, .f32⟩ : BufTy).Contents (Elt F) → (⟨S32x1x1, .f32⟩ : BufTy).Contents (Elt F)),
    nullary main_cst_1 (constant S_ .f32 0x358637BD#32),
    unary main_cst_1 main_v5 (broadcastInDim S32x1x1 ![] bcast_S_S32x1x1 : (⟨S_, .f32⟩ : BufTy).Contents (Elt F) → (⟨S32x1x1, .f32⟩ : BufTy).Contents (Elt F)),
    binary main_v4 main_v5 main_v6 (addf : (⟨S32x1x1, .f32⟩ : BufTy).Contents (Elt F) → (⟨S32x1x1, .f32⟩ : BufTy).Contents (Elt F) → (⟨S32x1x1, .f32⟩ : BufTy).Contents (Elt F)),
    unary main_v6 main_v7 (Host.rsqrt : (⟨S32x1x1, .f32⟩ : BufTy).Contents (Elt F) → (⟨S32x1x1, .f32⟩ : BufTy).Contents (Elt F)),
    unary main_v7 main_v8 (broadcastInDim S32x1x1024 ![0, 1, 2] bcast_S32x1x1_S32x1x1024_0_1_2 : (⟨S32x1x1, .f32⟩ : BufTy).Contents (Elt F) → (⟨S32x1x1024, .f32⟩ : BufTy).Contents (Elt F)),
    binary main_arg0 main_v8 main_v9 (mulf : (⟨S32x1x1024, .f32⟩ : BufTy).Contents (Elt F) → (⟨S32x1x1024, .f32⟩ : BufTy).Contents (Elt F) → (⟨S32x1x1024, .f32⟩ : BufTy).Contents (Elt F)),
    unary main_arg1 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S32x1x1024 ![0, 1, 2] bcast_S1x1x1024_S32x1x1024_0_1_2 : (⟨S1x1x1024, .f32⟩ : BufTy).Contents (Elt F) → (⟨S32x1x1024, .f32⟩ : BufTy).Contents (Elt F)),
    binary main_v9 main_v11 main_v12 (mulf : (⟨S32x1x1024, .f32⟩ : BufTy).Contents (Elt F) → (⟨S32x1x1024, .f32⟩ : BufTy).Contents (Elt F) → (⟨S32x1x1024, .f32⟩ : BufTy).Contents (Elt F)) ]

/-- Stretch 2: the projected rows. -/
abbrev ops2 : List (HloOp τ sig (Elt F)) :=
  [ binary main_v12 main_arg2 main_v13 ((fun l r => Host.dotGeneral dot_S32x1x1024_S1024x3336_S32x1x3336_2_0_01_1_n_n none l r) : (⟨S32x1x1024, .f32⟩ : BufTy).Contents (Elt F) → (⟨S1024x3336, .f32⟩ : BufTy).Contents (Elt F) → (⟨S32x1x3336, .f32⟩ : BufTy).Contents (Elt F)) ]

/-- Stretch 3: the reordered columns. -/
abbrev ops3 : List (HloOp τ sig (Elt F)) :=
  [ unary main_v13 main_v14 ((extractStridedSlice S32x1x1032 ![0, 0, 2304] · slices_S32x1x3336_S32x1x1032_0_0_2304) : (⟨S32x1x3336, .f32⟩ : BufTy).Contents (Elt F) → (⟨S32x1x1032, .f32⟩ : BufTy).Contents (Elt F)),
    unary main_v14 main_v15 ((extractStridedSlice S32x1x8 ![0, 0, 768] · slices_S32x1x1032_S32x1x8_0_0_768) : (⟨S32x1x1032, .f32⟩ : BufTy).Contents (Elt F) → (⟨S32x1x8, .f32⟩ : BufTy).Contents (Elt F)),
    unary main_v14 main_v16 ((extractStridedSlice S32x1x256 ![0, 0, 776] · slices_S32x1x1032_S32x1x256_0_0_776) : (⟨S32x1x1032, .f32⟩ : BufTy).Contents (Elt F) → (⟨S32x1x256, .f32⟩ : BufTy).Contents (Elt F)),
    unary main_v14 main_v17 ((extractStridedSlice S32x1x768 ![0, 0, 0] · slices_S32x1x1032_S32x1x768_0_0_0) : (⟨S32x1x1032, .f32⟩ : BufTy).Contents (Elt F) → (⟨S32x1x768, .f32⟩ : BufTy).Contents (Elt F)),
    nullary main_cst_2 (constant S_ .f32 0x00000000#32),
    unary main_cst_2 main_v18 (broadcastInDim S32x1x120 ![] bcast_S_S32x1x120 : (⟨S_, .f32⟩ : BufTy).Contents (Elt F) → (⟨S32x1x120, .f32⟩ : BufTy).Contents (Elt F)),
    nary ![main_v17, main_v16, main_v15, main_v18] main_v19 (fun u => joinF (F := F) (u 0) (u 1) (u 2) (u 3)) ]

/-- Stretch 4: the six results. -/
abbrev ops4 : List (HloOp τ sig (Elt F)) :=
  [ unary main_v13 main_v20 ((extractStridedSlice S32x1x256 ![0, 0, 0] · slices_S32x1x3336_S32x1x256_0_0_0) : (⟨S32x1x3336, .f32⟩ : BufTy).Contents (Elt F) → (⟨S32x1x256, .f32⟩ : BufTy).Contents (Elt F)),
    reshape main_v20 main_v21 (rfl : (.f32 : EltTy) = .f32) shapeCasts_S32x1x256_S32x256,
    unary main_v13 main_v22 ((extractStridedSlice S32x1x256 ![0, 0, 256] · slices_S32x1x3336_S32x1x256_0_0_256) : (⟨S32x1x3336, .f32⟩ : BufTy).Contents (Elt F) → (⟨S32x1x256, .f32⟩ : BufTy).Contents (Elt F)),
    reshape main_v22 main_v23 (rfl : (.f32 : EltTy) = .f32) shapeCasts_S32x1x256_S32x256,
    unary main_v13 main_v24 ((extractStridedSlice S32x1x256 ![0, 0, 512] · slices_S32x1x3336_S32x1x256_0_0_512) : (⟨S32x1x3336, .f32⟩ : BufTy).Contents (Elt F) → (⟨S32x1x256, .f32⟩ : BufTy).Contents (Elt F)),
    reshape main_v24 main_v25 (rfl : (.f32 : EltTy) = .f32) shapeCasts_S32x1x256_S32x256,
    unary main_v13 main_v26 ((extractStridedSlice S32x1x512 ![0, 0, 768] · slices_S32x1x3336_S32x1x512_0_0_768) : (⟨S32x1x3336, .f32⟩ : BufTy).Contents (Elt F) → (⟨S32x1x512, .f32⟩ : BufTy).Contents (Elt F)),
    reshape main_v26 main_v27 (rfl : (.f32 : EltTy) = .f32) shapeCasts_S32x1x512_S32x512,
    unary main_v13 main_v28 ((extractStridedSlice S32x1x1024 ![0, 0, 1280] · slices_S32x1x3336_S32x1x1024_0_0_1280) : (⟨S32x1x3336, .f32⟩ : BufTy).Contents (Elt F) → (⟨S32x1x1024, .f32⟩ : BufTy).Contents (Elt F)),
    reshape main_v28 main_v29 (rfl : (.f32 : EltTy) = .f32) shapeCasts_S32x1x1024_S32x1024,
    reshape main_v19 main_v30 (rfl : (.f32 : EltTy) = .f32) shapeCasts_S32x1x1152_S32x1152 ]

/-- The program's operations, in order. -/
abbrev ops : List (HloOp τ sig (Elt F)) := ops1 ++ (ops2 ++ (ops3 ++ ops4))

/-- Stretch 1 leaves the normed rows in `main_v12`, from any contents before it. -/
theorem read1 (V : Valuation τ sig (Elt F)) : after ops1 V (no_index (Proc.devRef .tc main_v12)) = rmsF (V (Proc.devRef .tc main_arg0)) (V (Proc.devRef .tc main_arg1)) := by
  simp only [ops1]
  after_reads_simp
  try rfl

/-- Stretch 2 leaves the projected rows in `main_v13`, from any contents before it. -/
theorem read2 (V : Valuation τ sig (Elt F)) : after ops2 V (no_index (Proc.devRef .tc main_v13)) = projF (V (Proc.devRef .tc main_v12)) (V (Proc.devRef .tc main_arg2)) := by
  simp only [ops2]
  after_reads_simp
  try rfl

/-- Stretch 3 leaves the reordered columns in `main_v19`, from any contents before it. -/
theorem read3 (V : Valuation τ sig (Elt F)) : after ops3 V (no_index (Proc.devRef .tc main_v19)) = deltaF (V (Proc.devRef .tc main_v13)) := by
  simp only [ops3]
  after_reads_simp
  try rfl

/-- Stretch 4 leaves the six results in `main_v21`, from any contents before it. -/
theorem read4_21 (V : Valuation τ sig (Elt F)) : after ops4 V (no_index (Proc.devRef .tc main_v21)) = shapeCast S32x256 (extractStridedSlice S32x1x256 ![0, 0, 0] (V (Proc.devRef .tc main_v13)) slices_S32x1x3336_S32x1x256_0_0_0) shapeCasts_S32x1x256_S32x256 := by
  simp only [ops4]
  after_reads_simp
  try rfl

/-- Stretch 4 leaves the six results in `main_v23`, from any contents before it. -/
theorem read4_23 (V : Valuation τ sig (Elt F)) : after ops4 V (no_index (Proc.devRef .tc main_v23)) = shapeCast S32x256 (extractStridedSlice S32x1x256 ![0, 0, 256] (V (Proc.devRef .tc main_v13)) slices_S32x1x3336_S32x1x256_0_0_256) shapeCasts_S32x1x256_S32x256 := by
  simp only [ops4]
  after_reads_simp
  try rfl

/-- Stretch 4 leaves the six results in `main_v25`, from any contents before it. -/
theorem read4_25 (V : Valuation τ sig (Elt F)) : after ops4 V (no_index (Proc.devRef .tc main_v25)) = shapeCast S32x256 (extractStridedSlice S32x1x256 ![0, 0, 512] (V (Proc.devRef .tc main_v13)) slices_S32x1x3336_S32x1x256_0_0_512) shapeCasts_S32x1x256_S32x256 := by
  simp only [ops4]
  after_reads_simp
  try rfl

/-- Stretch 4 leaves the six results in `main_v27`, from any contents before it. -/
theorem read4_27 (V : Valuation τ sig (Elt F)) : after ops4 V (no_index (Proc.devRef .tc main_v27)) = shapeCast S32x512 (extractStridedSlice S32x1x512 ![0, 0, 768] (V (Proc.devRef .tc main_v13)) slices_S32x1x3336_S32x1x512_0_0_768) shapeCasts_S32x1x512_S32x512 := by
  simp only [ops4]
  after_reads_simp
  try rfl

/-- Stretch 4 leaves the six results in `main_v29`, from any contents before it. -/
theorem read4_29 (V : Valuation τ sig (Elt F)) : after ops4 V (no_index (Proc.devRef .tc main_v29)) = shapeCast S32x1024 (extractStridedSlice S32x1x1024 ![0, 0, 1280] (V (Proc.devRef .tc main_v13)) slices_S32x1x3336_S32x1x1024_0_0_1280) shapeCasts_S32x1x1024_S32x1024 := by
  simp only [ops4]
  after_reads_simp
  try rfl

/-- Stretch 4 leaves the six results in `main_v30`, from any contents before it. -/
theorem read4_30 (V : Valuation τ sig (Elt F)) : after ops4 V (no_index (Proc.devRef .tc main_v30)) = shapeCast S32x1152 (V (Proc.devRef .tc main_v19)) shapeCasts_S32x1x1152_S32x1152 := by
  simp only [ops4]
  after_reads_simp
  try rfl

/-- Stretch 1 leaves every other buffer as it was. -/
theorem keep1 (V : Valuation τ sig (Elt F)) (r : Ref sig .tc) (hr : r ∉ ([main_v0, main_cst, main_v1, main_v2, main_cst_0, main_v3, main_v4, main_cst_1, main_v5, main_v6, main_v7, main_v8, main_v9, main_v10, main_v11, main_v12] : List (Ref sig .tc))) :
    after ops1 V (no_index (Proc.devRef .tc r)) = V (Proc.devRef .tc r) :=
  after_unwritten [main_v0, main_cst, main_v1, main_v2, main_cst_0, main_v3, main_v4, main_cst_1, main_v5, main_v6, main_v7, main_v8, main_v9, main_v10, main_v11, main_v12] rfl hr V

/-- Stretch 2 leaves every other buffer as it was. -/
theorem keep2 (V : Valuation τ sig (Elt F)) (r : Ref sig .tc) (hr : r ∉ ([main_v13] : List (Ref sig .tc))) :
    after ops2 V (no_index (Proc.devRef .tc r)) = V (Proc.devRef .tc r) :=
  after_unwritten [main_v13] rfl hr V

/-- Stretch 3 leaves every other buffer as it was. -/
theorem keep3 (V : Valuation τ sig (Elt F)) (r : Ref sig .tc) (hr : r ∉ ([main_v14, main_v15, main_v16, main_v17, main_cst_2, main_v18, main_v19] : List (Ref sig .tc))) :
    after ops3 V (no_index (Proc.devRef .tc r)) = V (Proc.devRef .tc r) :=
  after_unwritten [main_v14, main_v15, main_v16, main_v17, main_cst_2, main_v18, main_v19] rfl hr V

/-- Stretch 4 leaves every other buffer as it was. -/
theorem keep4 (V : Valuation τ sig (Elt F)) (r : Ref sig .tc) (hr : r ∉ ([main_v20, main_v21, main_v22, main_v23, main_v24, main_v25, main_v26, main_v27, main_v28, main_v29, main_v30] : List (Ref sig .tc))) :
    after ops4 V (no_index (Proc.devRef .tc r)) = V (Proc.devRef .tc r) :=
  after_unwritten [main_v20, main_v21, main_v22, main_v23, main_v24, main_v25, main_v26, main_v27, main_v28, main_v29, main_v30] rfl hr V

/-- Result 0, as one term of the arguments. -/
def res0 (x0 : (⟨S32x1x1024, .f32⟩ : BufTy).Contents (Elt F)) (x1 : (⟨S1024, .f32⟩ : BufTy).Contents (Elt F)) (x2 : (⟨S1024x3336, .f32⟩ : BufTy).Contents (Elt F)) : (⟨S32x256, .f32⟩ : BufTy).Contents (Elt F) :=
  shapeCast S32x256 (extractStridedSlice S32x1x256 ![0, 0, 0] (projF (rmsF x0 x1) x2) slices_S32x1x3336_S32x1x256_0_0_0) shapeCasts_S32x1x256_S32x256

/-- The whole line leaves `main_v21` at that term. -/
theorem read_0 (V : Valuation τ sig (Elt F)) : after ops V (Proc.devRef .tc main_v21) = res0 (V (Proc.devRef .tc main_arg0)) (V (Proc.devRef .tc main_arg1)) (V (Proc.devRef .tc main_arg2)) := by
  unfold ops res0
  simp only [after_append]
  rw [read4_21, keep3 _ main_v13 (by decide), read2, keep1 _ main_arg2 (by decide), read1]

/-- Result 1, as one term of the arguments. -/
def res1 (x0 : (⟨S32x1x1024, .f32⟩ : BufTy).Contents (Elt F)) (x1 : (⟨S1024, .f32⟩ : BufTy).Contents (Elt F)) (x2 : (⟨S1024x3336, .f32⟩ : BufTy).Contents (Elt F)) : (⟨S32x256, .f32⟩ : BufTy).Contents (Elt F) :=
  shapeCast S32x256 (extractStridedSlice S32x1x256 ![0, 0, 256] (projF (rmsF x0 x1) x2) slices_S32x1x3336_S32x1x256_0_0_256) shapeCasts_S32x1x256_S32x256

/-- The whole line leaves `main_v23` at that term. -/
theorem read_1 (V : Valuation τ sig (Elt F)) : after ops V (Proc.devRef .tc main_v23) = res1 (V (Proc.devRef .tc main_arg0)) (V (Proc.devRef .tc main_arg1)) (V (Proc.devRef .tc main_arg2)) := by
  unfold ops res1
  simp only [after_append]
  rw [read4_23, keep3 _ main_v13 (by decide), read2, keep1 _ main_arg2 (by decide), read1]

/-- Result 2, as one term of the arguments. -/
def res2 (x0 : (⟨S32x1x1024, .f32⟩ : BufTy).Contents (Elt F)) (x1 : (⟨S1024, .f32⟩ : BufTy).Contents (Elt F)) (x2 : (⟨S1024x3336, .f32⟩ : BufTy).Contents (Elt F)) : (⟨S32x256, .f32⟩ : BufTy).Contents (Elt F) :=
  shapeCast S32x256 (extractStridedSlice S32x1x256 ![0, 0, 512] (projF (rmsF x0 x1) x2) slices_S32x1x3336_S32x1x256_0_0_512) shapeCasts_S32x1x256_S32x256

/-- The whole line leaves `main_v25` at that term. -/
theorem read_2 (V : Valuation τ sig (Elt F)) : after ops V (Proc.devRef .tc main_v25) = res2 (V (Proc.devRef .tc main_arg0)) (V (Proc.devRef .tc main_arg1)) (V (Proc.devRef .tc main_arg2)) := by
  unfold ops res2
  simp only [after_append]
  rw [read4_25, keep3 _ main_v13 (by decide), read2, keep1 _ main_arg2 (by decide), read1]

/-- Result 3, as one term of the arguments. -/
def res3 (x0 : (⟨S32x1x1024, .f32⟩ : BufTy).Contents (Elt F)) (x1 : (⟨S1024, .f32⟩ : BufTy).Contents (Elt F)) (x2 : (⟨S1024x3336, .f32⟩ : BufTy).Contents (Elt F)) : (⟨S32x512, .f32⟩ : BufTy).Contents (Elt F) :=
  shapeCast S32x512 (extractStridedSlice S32x1x512 ![0, 0, 768] (projF (rmsF x0 x1) x2) slices_S32x1x3336_S32x1x512_0_0_768) shapeCasts_S32x1x512_S32x512

/-- The whole line leaves `main_v27` at that term. -/
theorem read_3 (V : Valuation τ sig (Elt F)) : after ops V (Proc.devRef .tc main_v27) = res3 (V (Proc.devRef .tc main_arg0)) (V (Proc.devRef .tc main_arg1)) (V (Proc.devRef .tc main_arg2)) := by
  unfold ops res3
  simp only [after_append]
  rw [read4_27, keep3 _ main_v13 (by decide), read2, keep1 _ main_arg2 (by decide), read1]

/-- Result 4, as one term of the arguments. -/
def res4 (x0 : (⟨S32x1x1024, .f32⟩ : BufTy).Contents (Elt F)) (x1 : (⟨S1024, .f32⟩ : BufTy).Contents (Elt F)) (x2 : (⟨S1024x3336, .f32⟩ : BufTy).Contents (Elt F)) : (⟨S32x1024, .f32⟩ : BufTy).Contents (Elt F) :=
  shapeCast S32x1024 (extractStridedSlice S32x1x1024 ![0, 0, 1280] (projF (rmsF x0 x1) x2) slices_S32x1x3336_S32x1x1024_0_0_1280) shapeCasts_S32x1x1024_S32x1024

/-- The whole line leaves `main_v29` at that term. -/
theorem read_4 (V : Valuation τ sig (Elt F)) : after ops V (Proc.devRef .tc main_v29) = res4 (V (Proc.devRef .tc main_arg0)) (V (Proc.devRef .tc main_arg1)) (V (Proc.devRef .tc main_arg2)) := by
  unfold ops res4
  simp only [after_append]
  rw [read4_29, keep3 _ main_v13 (by decide), read2, keep1 _ main_arg2 (by decide), read1]

/-- Result 5, as one term of the arguments. -/
def res5 (x0 : (⟨S32x1x1024, .f32⟩ : BufTy).Contents (Elt F)) (x1 : (⟨S1024, .f32⟩ : BufTy).Contents (Elt F)) (x2 : (⟨S1024x3336, .f32⟩ : BufTy).Contents (Elt F)) : (⟨S32x1152, .f32⟩ : BufTy).Contents (Elt F) :=
  shapeCast S32x1152 (deltaF (projF (rmsF x0 x1) x2)) shapeCasts_S32x1x1152_S32x1152

/-- The whole line leaves `main_v30` at that term. -/
theorem read_5 (V : Valuation τ sig (Elt F)) : after ops V (Proc.devRef .tc main_v30) = res5 (V (Proc.devRef .tc main_arg0)) (V (Proc.devRef .tc main_arg1)) (V (Proc.devRef .tc main_arg2)) := by
  unfold ops res5
  simp only [after_append]
  rw [read4_30, read3, read2, keep1 _ main_arg2 (by decide), read1]

/-- The arguments stand through the line. -/
theorem keep (V : Valuation τ sig (Elt F)) (r : Ref sig .tc) (hr : r ∈ ([main_arg0, main_arg1, main_arg2] : List (Ref sig .tc))) :
    after ops V (Proc.devRef .tc r) = V (Proc.devRef .tc r) := by
  unfold ops
  simp only [after_append]
  rw [keep4 _ r (by revert r; decide), keep3 _ r (by revert r; decide), keep2 _ r (by revert r; decide), keep1 _ r (by revert r; decide)]

set_option maxRecDepth 8192 in
set_option maxHeartbeats 4000000 in
/-- The printed program is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation stays within the program's buffers. -/
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., nullary_bufs_sub .., unary_bufs_sub .., nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub ..⟩

set_option maxRecDepth 8192 in
/-- The run: the six results at their terms, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = res0 (m ((c.tc : Thread nD τ).loc main_arg0)) (m ((c.tc : Thread nD τ).loc main_arg1)) (m ((c.tc : Thread nD τ).loc main_arg2))
      ∧ r.2.mem ((c.tc : Thread nD τ).loc main_v23) = res1 (m ((c.tc : Thread nD τ).loc main_arg0)) (m ((c.tc : Thread nD τ).loc main_arg1)) (m ((c.tc : Thread nD τ).loc main_arg2))
      ∧ r.2.mem ((c.tc : Thread nD τ).loc main_v25) = res2 (m ((c.tc : Thread nD τ).loc main_arg0)) (m ((c.tc : Thread nD τ).loc main_arg1)) (m ((c.tc : Thread nD τ).loc main_arg2))
      ∧ r.2.mem ((c.tc : Thread nD τ).loc main_v27) = res3 (m ((c.tc : Thread nD τ).loc main_arg0)) (m ((c.tc : Thread nD τ).loc main_arg1)) (m ((c.tc : Thread nD τ).loc main_arg2))
      ∧ r.2.mem ((c.tc : Thread nD τ).loc main_v29) = res4 (m ((c.tc : Thread nD τ).loc main_arg0)) (m ((c.tc : Thread nD τ).loc main_arg1)) (m ((c.tc : Thread nD τ).loc main_arg2))
      ∧ r.2.mem ((c.tc : Thread nD τ).loc main_v30) = res5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (read_0 _),
      (h c main_v23).trans (read_1 _),
      (h c main_v25).trans (read_2 _),
      (h c main_v27).trans (read_3 _),
      (h c main_v29).trans (read_4 _),
      (h c main_v30).trans (read_5 _),
      (h c main_arg0).trans (keep _ main_arg0 (by decide)),
      (h c main_arg1).trans (keep _ main_arg1 (by decide)),
      (h c main_arg2).trans (keep _ main_arg2 (by decide))⟩)
    (run_seq scopedRefs_eq scopedSems_eq defs main (fun _ => ops) main_eq (fun _ => ops_sub) m ρ)

/-- The normed row at a feature. -/
theorem rmsF_apply (y : (⟨S32x1x1024, .f32⟩ : BufTy).Contents (Elt Ideal)) (g : (⟨S1024, .f32⟩ : BufTy).Contents (Elt Ideal)) (b : Fin 32) (s : Fin 1) (n : Fin 1024) :
    rmsF (F := Ideal) y g (ix3 b s n) = Rows.rmsn (fun k => y (ix3 b s k)) (fun k => g (ix1 k)) n := by
  obtain rfl : s = 0 := Subsingleton.elim _ _
  unfold Rows.rmsn
  pointwise [rmsF]

/-- The projected row at a column. -/
theorem projF_apply (h : (⟨S32x1x1024, .f32⟩ : BufTy).Contents (Elt Ideal)) (w : (⟨S1024x3336, .f32⟩ : BufTy).Contents (Elt Ideal)) (b : Fin 32) (s : Fin 1) (n : Fin 3336) :
    projF (F := Ideal) h w (ix3 b s n) = ∑ k : Fin 1024, h (ix3 b s k) * w (ix2 k n) := by
  obtain rfl : s = 0 := Subsingleton.elim _ _
  pointwise [projF]

/-- One column of the projected normed row. -/
def colAt (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 3336) : EReal :=
  ∑ k : Fin 1024, Rows.rmsn (fun k => x0 (ix3 b s k)) (fun k => x1 (ix1 k)) k * x2 (ix2 k n)

/-- The projected normed rows at a column. -/
theorem proj_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 3336) :
    projF (F := Ideal) (rmsF x0 x1) x2 (ix3 b s n) = colAt x0 x1 x2 b s n := by
  rw [projF_apply]
  simp only [rmsF_apply]
  rfl

/-- The flat row of a sequence and a position. -/
def flat (b : Fin 32) (s : Fin 1) : Fin 32 := ⟨1 * b.val + s.val, by omega⟩

/-- Result 0 at a row and a column. -/
theorem res0_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 256) :
    res0 (F := Ideal) x0 x1 x2 (ix2 (flat b s) n) = colAt x0 x1 x2 b s ⟨0 + n.val, by omega⟩ := by
  rw [← proj_apply]
  unfold res0
  obtain rfl : s = 0 := Subsingleton.elim _ _
  generalize projF (F := Ideal) (rmsF x0 x1) x2 = p
  pointwise [flat]

/-- Result 1 at a row and a column. -/
theorem res1_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 256) :
    res1 (F := Ideal) x0 x1 x2 (ix2 (flat b s) n) = colAt x0 x1 x2 b s ⟨256 + n.val, by omega⟩ := by
  rw [← proj_apply]
  unfold res1
  obtain rfl : s = 0 := Subsingleton.elim _ _
  generalize projF (F := Ideal) (rmsF x0 x1) x2 = p
  pointwise [flat]

/-- Result 2 at a row and a column. -/
theorem res2_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 256) :
    res2 (F := Ideal) x0 x1 x2 (ix2 (flat b s) n) = colAt x0 x1 x2 b s ⟨512 + n.val, by omega⟩ := by
  rw [← proj_apply]
  unfold res2
  obtain rfl : s = 0 := Subsingleton.elim _ _
  generalize projF (F := Ideal) (rmsF x0 x1) x2 = p
  pointwise [flat]

/-- Result 3 at a row and a column. -/
theorem res3_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 512) :
    res3 (F := Ideal) x0 x1 x2 (ix2 (flat b s) n) = colAt x0 x1 x2 b s ⟨768 + n.val, by omega⟩ := by
  rw [← proj_apply]
  unfold res3
  obtain rfl : s = 0 := Subsingleton.elim _ _
  generalize projF (F := Ideal) (rmsF x0 x1) x2 = p
  pointwise [flat]

/-- Result 4 at a row and a column. -/
theorem res4_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 1024) :
    res4 (F := Ideal) x0 x1 x2 (ix2 (flat b s) n) = colAt x0 x1 x2 b s ⟨1280 + n.val, by omega⟩ := by
  rw [← proj_apply]
  unfold res4
  obtain rfl : s = 0 := Subsingleton.elim _ _
  generalize projF (F := Ideal) (rmsF x0 x1) x2 = p
  pointwise [flat]

/-- Result 5 at a row and a column: the delta rule's columns, reordered. -/
theorem res5_apply (x0 : (⟨S32x1x1024, .f32⟩ : BufTy).Contents (Elt Ideal)) (x1 : (⟨S1024, .f32⟩ : BufTy).Contents (Elt Ideal)) (x2 : (⟨S1024x3336, .f32⟩ : BufTy).Contents (Elt Ideal)) (b : Fin 32) (s : Fin 1) (n : Fin 1152) :
    res5 (F := Ideal) x0 x1 x2 (ix2 (flat b s) n)
      = if h : n.val < 768 then colAt x0 x1 x2 b s ⟨2304 + n.val, by omega⟩
        else if h : n.val < 1024 then colAt x0 x1 x2 b s ⟨2312 + n.val, by omega⟩
        else if h : n.val < 1032 then colAt x0 x1 x2 b s ⟨2048 + n.val, by omega⟩ else 0 := by
  simp only [← proj_apply]
  unfold res5
  obtain rfl : s = 0 := Subsingleton.elim _ _
  generalize projF (F := Ideal) (rmsF x0 x1) x2 = p
  pointwise [flat, deltaF, joinF]
  (repeat' split) <;> first | omega | rfl | (refine congrArg p (congrArg (ix3 b 0) (Fin.ext ?_)); dsimp only; omega)

end Cert.Proof.InStepRef

end
-- ==== Proof.InStepEq.lean ====
/-
  The input projection equals its reference in all six results, over the extended reals.
-/
module

public import proofs.«01_k».proof.Proof.InStepArr
public import proofs.«01_k».proof.Proof.InStepRef
public import proofs.«01_k».proof.Defs

@[expose] public section

noncomputable section

namespace Cert.Proof.InStepEq

open Idealize.ShloMosaic Idealize.SL.Sem Idealize.ShloMosaic.TcCoe

/-- Every flat row is a row of a grid point's block. -/
theorem row_cover (i : Fin 32) : ∃ (t : Fin Cert.InprojStepIdeal.cfg0.N) (r : Fin 32), i = InStepArr.row t r := by
  have e : Cert.InprojStepIdeal.cfg0.N = 1 := Cert.InprojStepIdeal.Gen.N_0
  refine ⟨⟨i.val / 32, by omega⟩, ⟨i.val % 32, by omega⟩, ?_⟩
  apply Fin.ext
  show i.val = 32 * (i.val / 32) + i.val % 32
  omega

/-- Every flat row is a sequence and a position. -/
theorem flat_eq (i : Fin 32) : i = InStepRef.flat ⟨i.val / 1, by omega⟩ ⟨i.val % 1, by omega⟩ := by
  apply Fin.ext
  show i.val = 1 * (i.val / 1) + i.val % 1
  omega

/-- Where the prepared weight's column is a column of the weight, the two sums agree. -/
theorem col_eq (m : (ℓ : Loc Cert.InprojStepIdeal.nD Cert.InprojStepIdeal.τ Cert.InprojStepIdeal.sig) → Buf (Elt Ideal) ℓ) (c : Dev Cert.InprojStepIdeal.nD) (i : Fin 32) (n : Fin 3456) (j : Fin 3336)
    (h : ∀ k, InStepArr.prepAt (m ((c.tc : Thread Cert.InprojStepIdeal.nD Cert.InprojStepIdeal.τ).loc Cert.InprojStepIdeal.main_arg2)) k n = m ((c.tc : Thread Cert.InprojStepIdeal.nD Cert.InprojStepIdeal.τ).loc Cert.InprojStepIdeal.main_arg2) (ix2 k j)) :
    InStepRef.colAt (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) ⟨i.val / 1, by omega⟩ ⟨i.val % 1, by omega⟩ j = InStepArr.colK m c i n := by
  unfold InStepRef.colAt InStepArr.colK
  exact Finset.sum_congr rfl fun k _ => congrArg _ (h k).symm

/-- The reference's result 0 is the kernel's array. -/
theorem result0 (m : (ℓ : Loc Cert.InprojStepIdeal.nD Cert.InprojStepIdeal.τ Cert.InprojStepIdeal.sig) → Buf (Elt Ideal) ℓ) (c : Dev Cert.InprojStepIdeal.nD) : InStepRef.res0 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 3 Cert.InprojStepIdeal.cfg0.N : Vec Ideal Cert.InprojStepIdeal.S32x256 .f32) := by
  funext j
  obtain ⟨i, n, rfl⟩ : ∃ (i : Fin 32) (n : Fin 256), j = ix2 i n := ⟨j 0, j 1, by funext a; fin_cases a <;> rfl⟩
  obtain ⟨t, r, rfl⟩ := row_cover i
  refine Eq.trans ?_ (InStepArr.arr3_apply m c t r n).symm
  refine (congrArg (fun i => InStepRef.res0 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res0_apply _ _ _ _ _ n).trans ?_
  exact col_eq m c _ _ _ fun k => dif_pos (show 0 + n.val < 3072 by omega)

/-- The reference's result 1 is the kernel's array. -/
theorem result1 (m : (ℓ : Loc Cert.InprojStepIdeal.nD Cert.InprojStepIdeal.τ Cert.InprojStepIdeal.sig) → Buf (Elt Ideal) ℓ) (c : Dev Cert.InprojStepIdeal.nD) : InStepRef.res1 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 4 Cert.InprojStepIdeal.cfg0.N : Vec Ideal Cert.InprojStepIdeal.S32x256 .f32) := by
  funext j
  obtain ⟨i, n, rfl⟩ : ∃ (i : Fin 32) (n : Fin 256), j = ix2 i n := ⟨j 0, j 1, by funext a; fin_cases a <;> rfl⟩
  obtain ⟨t, r, rfl⟩ := row_cover i
  refine Eq.trans ?_ (InStepArr.arr4_apply m c t r n).symm
  refine (congrArg (fun i => InStepRef.res1 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res1_apply _ _ _ _ _ n).trans ?_
  exact col_eq m c _ _ _ fun k => dif_pos (show 256 + n.val < 3072 by omega)

/-- The reference's result 2 is the kernel's array. -/
theorem result2 (m : (ℓ : Loc Cert.InprojStepIdeal.nD Cert.InprojStepIdeal.τ Cert.InprojStepIdeal.sig) → Buf (Elt Ideal) ℓ) (c : Dev Cert.InprojStepIdeal.nD) : InStepRef.res2 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 5 Cert.InprojStepIdeal.cfg0.N : Vec Ideal Cert.InprojStepIdeal.S32x256 .f32) := by
  funext j
  obtain ⟨i, n, rfl⟩ : ∃ (i : Fin 32) (n : Fin 256), j = ix2 i n := ⟨j 0, j 1, by funext a; fin_cases a <;> rfl⟩
  obtain ⟨t, r, rfl⟩ := row_cover i
  refine Eq.trans ?_ (InStepArr.arr5_apply m c t r n).symm
  refine (congrArg (fun i => InStepRef.res2 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res2_apply _ _ _ _ _ n).trans ?_
  exact col_eq m c _ _ _ fun k => dif_pos (show 512 + n.val < 3072 by omega)

/-- The reference's result 3 is the kernel's array. -/
theorem result3 (m : (ℓ : Loc Cert.InprojStepIdeal.nD Cert.InprojStepIdeal.τ Cert.InprojStepIdeal.sig) → Buf (Elt Ideal) ℓ) (c : Dev Cert.InprojStepIdeal.nD) : InStepRef.res3 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 6 Cert.InprojStepIdeal.cfg0.N : Vec Ideal Cert.InprojStepIdeal.S32x512 .f32) := by
  funext j
  obtain ⟨i, n, rfl⟩ : ∃ (i : Fin 32) (n : Fin 512), j = ix2 i n := ⟨j 0, j 1, by funext a; fin_cases a <;> rfl⟩
  obtain ⟨t, r, rfl⟩ := row_cover i
  refine Eq.trans ?_ (InStepArr.arr6_apply m c t r n).symm
  refine (congrArg (fun i => InStepRef.res3 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res3_apply _ _ _ _ _ n).trans ?_
  exact col_eq m c _ _ _ fun k => dif_pos (show 768 + n.val < 3072 by omega)

/-- The reference's result 4 is the kernel's array. -/
theorem result4 (m : (ℓ : Loc Cert.InprojStepIdeal.nD Cert.InprojStepIdeal.τ Cert.InprojStepIdeal.sig) → Buf (Elt Ideal) ℓ) (c : Dev Cert.InprojStepIdeal.nD) : InStepRef.res4 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 7 Cert.InprojStepIdeal.cfg0.N : Vec Ideal Cert.InprojStepIdeal.S32x1024 .f32) := by
  funext j
  obtain ⟨i, n, rfl⟩ : ∃ (i : Fin 32) (n : Fin 1024), j = ix2 i n := ⟨j 0, j 1, by funext a; fin_cases a <;> rfl⟩
  obtain ⟨t, r, rfl⟩ := row_cover i
  refine Eq.trans ?_ (InStepArr.arr7_apply m c t r n).symm
  refine (congrArg (fun i => InStepRef.res4 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res4_apply _ _ _ _ _ n).trans ?_
  exact col_eq m c _ _ _ fun k => dif_pos (show 1280 + n.val < 3072 by omega)

/-- The reference's result 5 is the kernel's array. -/
theorem result5 (m : (ℓ : Loc Cert.InprojStepIdeal.nD Cert.InprojStepIdeal.τ Cert.InprojStepIdeal.sig) → Buf (Elt Ideal) ℓ) (c : Dev Cert.InprojStepIdeal.nD) : InStepRef.res5 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) = ((Cert.InprojStepIdeal.Gen.dats m 0 c).arrAt 8 Cert.InprojStepIdeal.cfg0.N : Vec Ideal Cert.InprojStepIdeal.S32x1152 .f32) := by
  funext j
  obtain ⟨i, n, rfl⟩ : ∃ (i : Fin 32) (n : Fin 1152), j = ix2 i n := ⟨j 0, j 1, by funext a; fin_cases a <;> rfl⟩
  obtain ⟨t, r, rfl⟩ := row_cover i
  refine Eq.trans ?_ (InStepArr.arr8_apply m c t r n).symm
  refine (congrArg (fun i => InStepRef.res5 (F := Ideal) (m ((c.tc : Thread Cert.InprojStepIdeal.nD Cert.InprojStepIdeal.τ).loc Cert.InprojStepIdeal.main_arg0)) (m ((c.tc : Thread Cert.InprojStepIdeal.nD Cert.InprojStepIdeal.τ).loc Cert.InprojStepIdeal.main_arg1)) (m ((c.tc : Thread Cert.InprojStepIdeal.nD Cert.InprojStepIdeal.τ).loc Cert.InprojStepIdeal.main_arg2)) (ix2 i n)) (flat_eq (InStepArr.row t r))).trans ?_
  refine (InStepRef.res5_apply _ _ _ _ _ n).trans ?_
  by_cases h1 : n.val < 768
  · rw [dif_pos h1]
    exact col_eq m c _ _ _ fun k => dif_pos (show 2304 + n.val < 3072 by omega)
  rw [dif_neg h1]
  by_cases h2 : n.val < 1024
  · rw [dif_pos h2]
    refine col_eq m c _ _ _ fun k => (dif_neg (show ¬ 2304 + n.val < 3072 by omega)).trans ((dif_pos (show 2304 + n.val < 3328 by omega)).trans ?_)
    exact congrArg _ (congrArg (ix2 k) (Fin.ext (by dsimp only; omega)))
  rw [dif_neg h2]
  by_cases h3 : n.val < 1032
  · rw [dif_pos h3]
    refine col_eq m c _ _ _ fun k => (dif_neg (show ¬ 2304 + n.val < 3072 by omega)).trans ((dif_neg (show ¬ 2304 + n.val < 3328 by omega)).trans
      ((dif_pos (show 2304 + n.val < 3336 by omega)).trans ?_))
    exact congrArg _ (congrArg (ix2 k) (Fin.ext (by dsimp only; omega)))
  rw [dif_neg h3]
  unfold InStepArr.colK
  refine (Finset.sum_eq_zero fun k _ => ?_).symm
  have e : InStepArr.prepAt (m ((c.tc : Thread Cert.InprojStepIdeal.nD Cert.InprojStepIdeal.τ).loc Cert.InprojStepIdeal.main_arg2)) k ⟨2304 + n.val, by omega⟩ = 0 :=
    (dif_neg (show ¬ 2304 + n.val < 3072 by omega)).trans ((dif_neg (show ¬ 2304 + n.val < 3328 by omega)).trans (dif_neg (show ¬ 2304 + n.val < 3336 by omega)))
  rw [e]
  exact mul_zero _

/-- The two programs end with equal results. -/
theorem algebraic : Cert.algebraic_InprojStepIdeal_InprojStepRefIdeal (hInprojStepIdeal := Cert.InprojStepIdeal.Gen.facts) (hInprojStepRefIdeal := Cert.InprojStepRefIdeal.Gen.facts) := by
  intro m g m' g' _ hagree
  refine ⟨fun c => (Cert.InprojStepIdeal.Gen.dats m 0 c).arrAt 3 Cert.InprojStepIdeal.cfg0.N, fun c => (Cert.InprojStepIdeal.Gen.dats m 0 c).arrAt 4 Cert.InprojStepIdeal.cfg0.N, fun c => (Cert.InprojStepIdeal.Gen.dats m 0 c).arrAt 5 Cert.InprojStepIdeal.cfg0.N, fun c => (Cert.InprojStepIdeal.Gen.dats m 0 c).arrAt 6 Cert.InprojStepIdeal.cfg0.N, fun c => (Cert.InprojStepIdeal.Gen.dats m 0 c).arrAt 7 Cert.InprojStepIdeal.cfg0.N, fun c => (Cert.InprojStepIdeal.Gen.dats m 0 c).arrAt 8 Cert.InprojStepIdeal.cfg0.N, Cert.InprojStepIdeal.Value.run_blocks m g, ?_⟩
  refine (θ_run _ _ _).mono (fun r h c => ?_) (InStepRef.run m' g')
  obtain ⟨h0, h1, h2⟩ := hagree c
  obtain ⟨r0, r1, r2, r3, r4, r5, ha⟩ := h c
  rw [h0, h1, h2] at r0 r1 r2 r3 r4 r5
  exact ⟨r0.trans (result0 m c), r1.trans (result1 m c), r2.trans (result2 m c), r3.trans (result3 m c), r4.trans (result4 m c), r5.trans (result5 m c), ha⟩

/-- The reference leaves its arguments as they were. -/
theorem frame_ref : Cert.quiescent_InprojStepRefIdeal (hInprojStepRefIdeal := Cert.InprojStepRefIdeal.Gen.facts) := fun m ρ _ =>
  (θ_run _ _ _).mono (fun r h => ⟨fun c => (h c).2.2.2.2.2.2, Idealize.ShloMosaic.sem_eq_zero_of_no_sems (by decide) r.2⟩) (InStepRef.run (F := Ideal) m ρ)

end Cert.Proof.InStepEq

end
-- ==== Proof.ConvStepBlock.lean ====
/-
  What one grid point of the convolution call at the sample batch's shapes computes: the history rows above the gated rows, the seven shifted copies
  of them, the output tile, and the history that is given back.
-/
module

public import proofs.«01_k».proof.Proof.Gen.ConvStepIdeal.Frame
public import Idealize.ShloMosaic.Lib.Pointwise
public import Idealize.ShloMosaic.Lib.Pipeline.ValueKit
public import Idealize.ShloMosaic.Lib.Pipeline.ReadBack

@[expose] public section

noncomputable section

namespace Cert.Proof.ConvStepBlock

open Idealize.ShloMosaic Idealize.SL.Sem Cert.ConvStepIdeal Cert.ConvStepIdeal.Gen Idealize.ShloMosaic.TcCoe

variable {F : FTy → Type} [FloatOps F]

/-- The 32 history rows above the 8 gated rows of a tile. -/
def ext (H : Vec F S32x256 .f32) (G : Vec F S8x256 .f32) : Vec F S40x256 .f32 := fun i =>
  if h : (i 0).val < 32 then H (ix2 ⟨(i 0).val, h⟩ (i 1))
  else G (ix2 (⟨(i 0).val - 32, by have := (i 0).isLt; change (i 0).val < 40 at this; omega⟩ : Fin 8) (i 1))

/-- Seven copies of the rows, copy `k` moved up by `k + 1`. -/
def shifted (X : Vec F S40x256 .f32) : Vec F S7x32x256 .f32 := fun i =>
  X (ix2 (⟨(i 0).val + 1 + (i 1).val, by
    have h0 := (i 0).isLt; have h1 := (i 1).isLt; change (i 0).val < 7 at h0; change (i 1).val < 32 at h1; omega⟩ : Fin 40) (i 2))

theorem ext_high (H : Vec F S32x256 .f32) (G : Vec F S8x256 .f32) (e : Fin 40) (r : Fin 8) (h : e.val = 32 + r.val) (n : Fin 256) :
    ext H G (ix2 e n) = G (ix2 r n) := by
  unfold ext
  rw [dif_neg (by show ¬ e.val < 32; omega)]
  exact congrArg (fun q => G (ix2 q n)) (Fin.ext (by show e.val - 32 = r.val; omega))

theorem ext_low (H : Vec F S32x256 .f32) (G : Vec F S8x256 .f32) (e : Fin 40) (r : Fin 32) (h : e.val = r.val) (n : Fin 256) :
    ext H G (ix2 e n) = H (ix2 r n) := by
  unfold ext
  rw [dif_pos (by show e.val < 32; omega)]
  exact congrArg (fun q => H (ix2 q n)) (Fin.ext h)

theorem emb_high (e : Fin 40) (r : Fin 8) (h : e.val = 32 + r.val) (n : Fin 256) :
    (Rect.unit (s := S40x256) ![32, 0] ![8, 256] inb_S40x256_S8x256_32_0).emb (ix2 r n) = ix2 e n := by
  funext a; apply Fin.ext
  match a with
  | ⟨0, _⟩ => show 32 + 1 * r.val = e.val; omega
  | ⟨1, _⟩ => show 0 + 1 * n.val = n.val; omega

theorem emb_low (e : Fin 40) (r : Fin 32) (h : e.val = r.val) (n : Fin 256) :
    (Rect.unit (s := S40x256) ![0, 0] ![32, 256] inb_S40x256_S32x256_0_0).emb (ix2 r n) = ix2 e n := by
  funext a; apply Fin.ext
  match a with
  | ⟨0, _⟩ => show 0 + 1 * r.val = e.val; omega
  | ⟨1, _⟩ => show 0 + 1 * n.val = n.val; omega

theorem not_mem_low (e : Fin 40) (n : Fin 256) (h : e.val < 32) :
    (ix2 e n : S40x256.Idx) ∉ (Rect.unit (s := S40x256) ![32, 0] ![8, 256] inb_S40x256_S8x256_32_0).set := by
  intro hm
  obtain ⟨x, _, hx⟩ := (LoadRect.mem_set _).mp hm 0
  have : e.val = 32 + 1 * x := hx
  omega

/-- A row of a tile is a history row or a gated row. -/
theorem row_cases (e : Fin 40) : (∃ r : Fin 32, e.val = r.val) ∨ ∃ r : Fin 8, e.val = 32 + r.val := by
  by_cases h : e.val < 32
  · exact .inl ⟨⟨e.val, h⟩, rfl⟩
  · exact .inr ⟨⟨e.val - 32, by omega⟩, by show e.val = 32 + (e.val - 32); omega⟩

/-- The history rows stored above the gated rows. -/
theorem canon_ext (H : Vec F S32x256 .f32) (G : Vec F S8x256 .f32) :
    View.canon [(⟨Rect.unit ![32, 0] ![8, 256] inb_S40x256_S8x256_32_0, G⟩ : View.Piece (Elt F) S40x256 .f32),
      ⟨Rect.unit ![0, 0] ![32, 256] inb_S40x256_S32x256_0_0, H⟩] = ext H G := by
  funext y
  obtain ⟨e, n, rfl⟩ : ∃ (e : Fin 40) (n : Fin 256), y = ix2 e n := ⟨y 0, y 1, by funext a; fin_cases a <;> rfl⟩
  rcases row_cases e with ⟨r, h⟩ | ⟨r, h⟩
  · rw [View.canon_cons_of_not_mem (⟨Rect.unit ![32, 0] ![8, 256] inb_S40x256_S8x256_32_0, G⟩ : View.Piece (Elt F) S40x256 .f32) _ (not_mem_low e n (by omega)), ext_low _ _ e r h, ← emb_low e r h n]
    exact View.canon_cons_emb (Rect.unit (s := S40x256) ![0, 0] ![32, 256] inb_S40x256_S32x256_0_0) H [] (ix2 r n)
  · rw [ext_high _ _ e r h, ← emb_high e r h n]
    exact View.canon_cons_emb (Rect.unit (s := S40x256) ![32, 0] ![8, 256] inb_S40x256_S8x256_32_0) G _ (ix2 r n)

/-- A load of the two stored parts reads the rows of `ext`. -/
theorem readCov_ext (v : Memref sig .tc .vmem S40x256 .f32) (H : Vec F S32x256 .f32) (G : Vec F S8x256 .f32) (r : Rect S40x256) :
    v.view.readCov [⟨Rect.unit ![32, 0] ![8, 256] inb_S40x256_S8x256_32_0, G⟩,
      ⟨Rect.unit ![0, 0] ![32, 256] inb_S40x256_S32x256_0_0, H⟩] r.toLoadRect = View.ld (ext H G) r := by
  rw [View.readCov_eq_canon', canon_ext]

/-- A load of the seven stored copies reads `shifted`. -/
theorem readCov_shifted (v : Memref sig .tc .vmem S7x32x256 .f32) (X : Vec F S40x256 .f32) (r : Rect S7x32x256) :
    v.view.readCov [⟨Rect.unit ![6, 0, 0] ![1, 32, 256] inb_S7x32x256_S1x32x256_6_0_0, k0_pay11 (View.ld X (Rect.unit ![7, 0] ![32, 256] inb_S40x256_S32x256_7_0))⟩,
      ⟨Rect.unit ![5, 0, 0] ![1, 32, 256] inb_S7x32x256_S1x32x256_5_0_0, k0_pay10 (View.ld X (Rect.unit ![6, 0] ![32, 256] inb_S40x256_S32x256_6_0))⟩,
      ⟨Rect.unit ![4, 0, 0] ![1, 32, 256] inb_S7x32x256_S1x32x256_4_0_0, k0_pay9 (View.ld X (Rect.unit ![5, 0] ![32, 256] inb_S40x256_S32x256_5_0))⟩,
      ⟨Rect.unit ![3, 0, 0] ![1, 32, 256] inb_S7x32x256_S1x32x256_3_0_0, k0_pay8 (View.ld X (Rect.unit ![4, 0] ![32, 256] inb_S40x256_S32x256_4_0))⟩,
      ⟨Rect.unit ![2, 0, 0] ![1, 32, 256] inb_S7x32x256_S1x32x256_2_0_0, k0_pay7 (View.ld X (Rect.unit ![3, 0] ![32, 256] inb_S40x256_S32x256_3_0))⟩,
      ⟨Rect.unit ![1, 0, 0] ![1, 32, 256] inb_S7x32x256_S1x32x256_1_0_0, k0_pay6 (View.ld X (Rect.unit ![2, 0] ![32, 256] inb_S40x256_S32x256_2_0))⟩,
      ⟨Rect.unit ![0, 0, 0] ![1, 32, 256] inb_S7x32x256_S1x32x256_0_0_0, k0_pay5 (View.ld X (Rect.unit ![1, 0] ![32, 256] inb_S40x256_S32x256_1_0))⟩] r.toLoadRect = View.ld (shifted X) r := by
  rw [View.readCov_eq_canon']
  funext j
  show View.canon _ (r.emb j) = shifted X (r.emb j)
  generalize r.emb j = y
  refine (congrArg (fun L => View.canon L y) (List.append_nil _).symm).trans (View.canon_append_of_piecesOf (shifted X) [] _ ?_ y ?_)
  · refine ⟨?_, ?_, ?_, ?_, ?_, ?_, ?_, trivial⟩ <;>
    · intro x
      obtain ⟨a, b, n, rfl⟩ : ∃ (a : Fin 1) (b : Fin 32) (n : Fin 256), x = ix3 a b n := ⟨x 0, x 1, x 2, by funext a; fin_cases a <;> rfl⟩
      dsimp only
      pointwise [k0_pay5, k0_pay6, k0_pay7, k0_pay8, k0_pay9, k0_pay10, k0_pay11, shifted]
      first | rfl | (refine congrArg X ?_; funext d; apply Fin.ext; fin_cases d <;> simp <;> omega)
  · have h0 : (y 0).val < 7 := (y 0).isLt
    have key : ∀ k : Fin 7, (y 0).val = k.val → ∀ inb : ∀ a, (![k.val, 0, 0] : Fin 3 → Nat) a + (![1, 32, 256] : Fin 3 → Nat) a ≤ S7x32x256.size a,
        y ∈ (Rect.unit (s := S7x32x256) ![k.val, 0, 0] ![1, 32, 256] inb).set := by
      intro k hk inb
      have e : (Rect.unit (s := S7x32x256) ![k.val, 0, 0] ![1, 32, 256] inb).emb (ix3 (0 : Fin 1) (y 1) (y 2)) = y := by
        funext a; apply Fin.ext
        match a with
        | ⟨0, _⟩ => show k.val + 1 * 0 = (y 0).val; omega
        | ⟨1, _⟩ => show 0 + 1 * (y 1).val = (y 1).val; omega
        | ⟨2, _⟩ => show 0 + 1 * (y 2).val = (y 2).val; omega
      rw [← e, ← Rect.map_emb_univ]
      exact Finset.mem_map_of_mem _ (Finset.mem_univ _)
    rcases (by omega : (y 0).val = 0 ∨ (y 0).val = 1 ∨ (y 0).val = 2 ∨ (y 0).val = 3 ∨ (y 0).val = 4 ∨ (y 0).val = 5 ∨ (y 0).val = 6) with h | h | h | h | h | h | h
    · exact ⟨_, List.mem_of_getElem? (i := 6) rfl, key (0 : Fin 7) h inb_S7x32x256_S1x32x256_0_0_0⟩
    · exact ⟨_, List.mem_of_getElem? (i := 5) rfl, key (1 : Fin 7) h inb_S7x32x256_S1x32x256_1_0_0⟩
    · exact ⟨_, List.mem_of_getElem? (i := 4) rfl, key (2 : Fin 7) h inb_S7x32x256_S1x32x256_2_0_0⟩
    · exact ⟨_, List.mem_of_getElem? (i := 3) rfl, key (3 : Fin 7) h inb_S7x32x256_S1x32x256_3_0_0⟩
    · exact ⟨_, List.mem_of_getElem? (i := 2) rfl, key (4 : Fin 7) h inb_S7x32x256_S1x32x256_4_0_0⟩
    · exact ⟨_, List.mem_of_getElem? (i := 1) rfl, key (5 : Fin 7) h inb_S7x32x256_S1x32x256_5_0_0⟩
    · exact ⟨_, List.mem_of_getElem? (i := 0) rfl, key (6 : Fin 7) h inb_S7x32x256_S1x32x256_6_0_0⟩

/-- The output tile over the tile's rows `X`, its gated rows `G` and the weights. -/
def yVal (X : Vec F S40x256 .f32) (G : Vec F S8x256 .f32) (x2 : Vec F S31x256 .f32) (x3 x4 x5 : Vec F S1x256 .f32) : Vec F S1x8x256 .f32 :=
  k0_pay1
      (k0_pay24
        (k0_pay21
          (k0_pay20
            (k0_pay18
              (k0_pay15
                (k0_pay14
                  (k0_pay12 (View.ld (shifted X) (Rect.unit ![1, 0, 0] ![1, 8, 256] inb_S7x32x256_S1x8x256_1_0_0))
                    (View.ld x2 (Rect.unit ![0, 0] ![1, 256] inb_S31x256_S1x256_0_0)))
                  (k0_pay13 (View.ld (shifted X) (Rect.unit ![2, 0, 0] ![1, 8, 256] inb_S7x32x256_S1x8x256_2_0_0)))
                  (View.ld x2 (Rect.unit ![1, 0] ![1, 256] inb_S31x256_S1x256_1_0))
                  (View.ld (shifted X) (Rect.unit ![3, 0, 0] ![1, 8, 256] inb_S7x32x256_S1x8x256_3_0_0))
                  (View.ld x2 (Rect.unit ![2, 0] ![1, 256] inb_S31x256_S1x256_2_0))
                  (View.ld (shifted X) (Rect.unit ![4, 0, 0] ![1, 8, 256] inb_S7x32x256_S1x8x256_4_0_0))
                  (View.ld x2 (Rect.unit ![3, 0] ![1, 256] inb_S31x256_S1x256_3_0))
                  (View.ld (shifted X) (Rect.unit ![5, 0, 0] ![1, 8, 256] inb_S7x32x256_S1x8x256_5_0_0))
                  (View.ld x2 (Rect.unit ![4, 0] ![1, 256] inb_S31x256_S1x256_4_0))
                  (View.ld (shifted X) (Rect.unit ![6, 0, 0] ![1, 8, 256] inb_S7x32x256_S1x8x256_6_0_0))
                  (View.ld x2 (Rect.unit ![5, 0] ![1, 256] inb_S31x256_S1x256_5_0))
                  (View.ld X (Rect.unit ![8, 0] ![8, 256] inb_S40x256_S8x256_8_0))
                  (View.ld x2 (Rect.unit ![6, 0] ![1, 256] inb_S31x256_S1x256_6_0)))
                (View.ld (shifted X) (Rect.unit ![0, 8, 0] ![1, 8, 256] inb_S7x32x256_S1x8x256_0_8_0))
                (View.ld x2 (Rect.unit ![7, 0] ![1, 256] inb_S31x256_S1x256_7_0))
                (View.ld (shifted X) (Rect.unit ![1, 8, 0] ![1, 8, 256] inb_S7x32x256_S1x8x256_1_8_0))
                (View.ld x2 (Rect.unit ![8, 0] ![1, 256] inb_S31x256_S1x256_8_0))
                (View.ld (shifted X) (Rect.unit ![2, 8, 0] ![1, 8, 256] inb_S7x32x256_S1x8x256_2_8_0))
                (View.ld x2 (Rect.unit ![9, 0] ![1, 256] inb_S31x256_S1x256_9_0))
                (View.ld (shifted X) (Rect.unit ![3, 8, 0] ![1, 8, 256] inb_S7x32x256_S1x8x256_3_8_0))
                (View.ld x2 (Rect.unit ![10, 0] ![1, 256] inb_S31x256_S1x256_10_0))
                (View.ld (shifted X) (Rect.unit ![4, 8, 0] ![1, 8, 256] inb_S7x32x256_S1x8x256_4_8_0))
                (View.ld x2 (Rect.unit ![11, 0] ![1, 256] inb_S31x256_S1x256_11_0)))
              (k0_pay16 (View.ld (shifted X) (Rect.unit ![5, 8, 0] ![1, 8, 256] inb_S7x32x256_S1x8x256_5_8_0)))
              (k0_pay17 (View.ld x2 (Rect.unit ![12, 0] ![1, 256] inb_S31x256_S1x256_12_0)))
              (View.ld (shifted X) (Rect.unit ![6, 8, 0] ![1, 8, 256] inb_S7x32x256_S1x8x256_6_8_0))
              (View.ld x2 (Rect.unit ![13, 0] ![1, 256] inb_S31x256_S1x256_13_0))
              (View.ld X (Rect.unit ![16, 0] ![8, 256] inb_S40x256_S8x256_16_0))
              (View.ld x2 (Rect.unit ![14, 0] ![1, 256] inb_S31x256_S1x256_14_0))
              (View.ld (shifted X) (Rect.unit ![0, 16, 0] ![1, 8, 256] inb_S7x32x256_S1x8x256_0_16_0))
              (View.ld x2 (Rect.unit ![15, 0] ![1, 256] inb_S31x256_S1x256_15_0))
              (View.ld (shifted X) (Rect.unit ![1, 16, 0] ![1, 8, 256] inb_S7x32x256_S1x8x256_1_16_0))
              (View.ld x2 (Rect.unit ![16, 0] ![1, 256] inb_S31x256_S1x256_16_0))
              (View.ld (shifted X) (Rect.unit ![2, 16, 0] ![1, 8, 256] inb_S7x32x256_S1x8x256_2_16_0))
              (View.ld x2 (Rect.unit ![17, 0] ![1, 256] inb_S31x256_S1x256_17_0)))
            (k0_pay19 (View.ld (shifted X) (Rect.unit ![3, 16, 0] ![1, 8, 256] inb_S7x32x256_S1x8x256_3_16_0)))
            (View.ld x2 (Rect.unit ![18, 0] ![1, 256] inb_S31x256_S1x256_18_0))
            (View.ld (shifted X) (Rect.unit ![4, 16, 0] ![1, 8, 256] inb_S7x32x256_S1x8x256_4_16_0))
            (View.ld x2 (Rect.unit ![19, 0] ![1, 256] inb_S31x256_S1x256_19_0))
            (View.ld (shifted X) (Rect.unit ![5, 16, 0] ![1, 8, 256] inb_S7x32x256_S1x8x256_5_16_0))
            (View.ld x2 (Rect.unit ![20, 0] ![1, 256] inb_S31x256_S1x256_20_0))
            (View.ld (shifted X) (Rect.unit ![6, 16, 0] ![1, 8, 256] inb_S7x32x256_S1x8x256_6_16_0))
            (View.ld x2 (Rect.unit ![21, 0] ![1, 256] inb_S31x256_S1x256_21_0))
            (View.ld X (Rect.unit ![24, 0] ![8, 256] inb_S40x256_S8x256_24_0))
            (View.ld x2 (Rect.unit ![22, 0] ![1, 256] inb_S31x256_S1x256_22_0))
            (View.ld (shifted X) (Rect.unit ![0, 24, 0] ![1, 8, 256] inb_S7x32x256_S1x8x256_0_24_0))
            (View.ld x2 (Rect.unit ![23, 0] ![1, 256] inb_S31x256_S1x256_23_0)))
          (View.ld (shifted X) (Rect.unit ![1, 24, 0] ![1, 8, 256] inb_S7x32x256_S1x8x256_1_24_0))
          (View.ld x2 (Rect.unit ![24, 0] ![1, 256] inb_S31x256_S1x256_24_0))
          (View.ld (shifted X) (Rect.unit ![2, 24, 0] ![1, 8, 256] inb_S7x32x256_S1x8x256_2_24_0))
          (View.ld x2 (Rect.unit ![25, 0] ![1, 256] inb_S31x256_S1x256_25_0))
          (View.ld (shifted X) (Rect.unit ![3, 24, 0] ![1, 8, 256] inb_S7x32x256_S1x8x256_3_24_0))
          (View.ld x2 (Rect.unit ![26, 0] ![1, 256] inb_S31x256_S1x256_26_0))
          (View.ld (shifted X) (Rect.unit ![4, 24, 0] ![1, 8, 256] inb_S7x32x256_S1x8x256_4_24_0))
          (View.ld x2 (Rect.unit ![27, 0] ![1, 256] inb_S31x256_S1x256_27_0))
          (View.ld (shifted X) (Rect.unit ![5, 24, 0] ![1, 8, 256] inb_S7x32x256_S1x8x256_5_24_0))
          (View.ld x2 (Rect.unit ![28, 0] ![1, 256] inb_S31x256_S1x256_28_0)))
        (k0_pay22 (View.ld (shifted X) (Rect.unit ![6, 24, 0] ![1, 8, 256] inb_S7x32x256_S1x8x256_6_24_0)))
        (View.ld x2 (Rect.unit ![29, 0] ![1, 256] inb_S31x256_S1x256_29_0)) G
        (View.ld x2 (Rect.unit ![30, 0] ![1, 256] inb_S31x256_S1x256_30_0)) x3 x4)
      (k0_pay25 x5)

/-- The output tile of a point. -/
theorem out0_A_6_eq (c : Dev nD) (i : grid0.Coords) (arg2 : Memref sig .tc .vmem S1x8x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x8x256 .f32) (harg8 : arg8.IsWhole) (arg9 : Memref sig .tc .vmem S1x32x256 .f32) (harg9 : arg9.IsWhole) (arg10 : Memref sig .tc .vmem S40x256 .f32) (harg10 : arg10.IsWhole) (arg11 : Memref sig .tc .vmem S7x32x256 .f32) (harg11 : arg11.IsWhole) (hc0 : cond0_0 i) (hc1 : cond0_1 i)
    (x0 : Vec F S1x8x512 .f32) (x1 : Vec F S1x32x256 .f32) (x2 : Vec F S31x256 .f32) (x3 : Vec F S1x256 .f32) (x4 : Vec F S1x256 .f32) (x5 : Vec F S1x256 .f32) :
    out0_A_6 c i arg2 harg2 arg3 harg3 arg4 harg4 arg5 harg5 arg6 harg6 arg7 harg7 arg8 harg8 arg9 harg9 arg10 harg10 arg11 harg11 hc0 hc1 x0 x1 x2 x3 x4 x5 = yVal (ext (k0_pay3 x1) (k0_pay4 x0)) (k0_pay4 x0) x2 x3 x4 x5 := by
  frame_out
  simp only [View.readCov_cons_toLoadRect, readCov_ext, readCov_shifted]
  rfl

/-- The history of a point: the rows one below the history it was given. -/
theorem out0_A_7_eq (c : Dev nD) (i : grid0.Coords) (arg2 : Memref sig .tc .vmem S1x8x512 .f32) (harg2 : arg2.IsWhole) (arg3 : Memref sig .tc .vmem S1x32x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x8x256 .f32) (harg8 : arg8.IsWhole) (arg9 : Memref sig .tc .vmem S1x32x256 .f32) (harg9 : arg9.IsWhole) (arg10 : Memref sig .tc .vmem S40x256 .f32) (harg10 : arg10.IsWhole) (arg11 : Memref sig .tc .vmem S7x32x256 .f32) (harg11 : arg11.IsWhole) (hc0 : cond0_0 i) (hc1 : cond0_1 i)
    (x0 : Vec F S1x8x512 .f32) (x1 : Vec F S1x32x256 .f32) (x2 : Vec F S31x256 .f32) (x3 : Vec F S1x256 .f32) (x4 : Vec F S1x256 .f32) (x5 : Vec F S1x256 .f32) :
    out0_A_7 c i arg2 harg2 arg3 harg3 arg4 harg4 arg5 harg5 arg6 harg6 arg7 harg7 arg8 harg8 arg9 harg9 arg10 harg10 arg11 harg11 hc0 hc1 x0 x1 x2 x3 x4 x5 = k0_pay2 (View.ld (ext (k0_pay3 x1) (k0_pay4 x0)) (Rect.unit ![1, 0] ![32, 256] inb_S40x256_S32x256_1_0)) := by
  frame_out
  simp only [readCov_ext]

end Cert.Proof.ConvStepBlock

end
-- ==== Proof.ConvStepTile.lean ====
/-
  One grid point of the convolution call at the sample batch's shapes over the extended reals, entry by entry.
-/
module

public import proofs.«01_k».proof.Proof.ConvStepBlock
public import proofs.«01_k».proof.Proof.ConvRows
public import Idealize.ShloMosaic.Lib.Pointwise

@[expose] public section

noncomputable section

namespace Cert.Proof.ConvStepTile

open Idealize.ShloMosaic Idealize.SL.Sem Cert.ConvStepIdeal Cert.ConvStepIdeal.Gen Idealize.ShloMosaic.TcCoe Cert.Proof.ConvStepBlock
open scoped BigOperators

/-- x over one plus e to the minus x. -/
theorem silu_eq (x : EReal) : x * Ideal.div 1 (1 + Ideal.exp (0 - x)) = ConvRows.silu x := by
  rw [zero_sub]; rfl

/-- The last step: the shift is added and the result is multiplied by its logistic. -/
theorem pay1_apply (p : FVec Ideal S8x256 .f32) (v : Vec Ideal S1x256 .f32) (r : Fin 8) (n : Fin 256) :
    k0_pay1 p (k0_pay25 v) (ix3 0 r n) = ConvRows.silu (p (ix2 r n) + v (ix2 0 n)) := by
  rw [← silu_eq]
  pointwise [k0_pay1, k0_pay25]

/-- The last taps, the bias and the norm. -/
theorem pay24_apply (a x29 : FVec Ideal S8x256 .f32) (w29 : Vec Ideal S1x256 .f32) (x30 : Vec Ideal S8x256 .f32) (w30 cb g : Vec Ideal S1x256 .f32)
    (h : Fin 256 → EReal) (r : Fin 8) (hh : ∀ k, a (ix2 r k) + x29 (ix2 r k) * w29 (ix2 0 k) + x30 (ix2 r k) * w30 (ix2 0 k) + cb (ix2 0 k) = h k)
    (b : Fin 256 → EReal) (n : Fin 256) :
    k0_pay24 a x29 w29 x30 w30 cb g (ix2 r n) + b n = ConvRows.lnRow h (fun k => g (ix2 0 k)) b n := by
  obtain rfl : h = fun k => a (ix2 r k) + x29 (ix2 r k) * w29 (ix2 0 k) + x30 (ix2 r k) * w30 (ix2 0 k) + cb (ix2 0 k) := funext fun k => (hh k).symm
  unfold ConvRows.lnRow ConvRows.mean
  pointwise [k0_pay24]

/-- One entry of the output tile over the tile's rows. -/
theorem yVal_apply (X : Vec Ideal S40x256 .f32) (G : Vec Ideal S8x256 .f32) (hG : ∀ (r : Fin 8) (k : Fin 256), G (ix2 r k) = X (ix2 ⟨32 + r.val, by omega⟩ k))
    (x2 : Vec Ideal S31x256 .f32) (x3 x4 x5 : Vec Ideal S1x256 .f32) (r : Fin 8) (n : Fin 256) :
    yVal X G x2 x3 x4 x5 (ix3 0 r n)
      = ConvRows.convOut (fun j k => X (ix2 ⟨2 + j.val + r.val, by omega⟩ k)) (fun j k => x2 (ix2 j k)) (fun k => x3 (ix2 0 k)) (fun k => x4 (ix2 0 k))
          (fun k => x5 (ix2 0 k)) n := by
  unfold yVal ConvRows.convOut
  rw [pay1_apply]
  refine congrArg ConvRows.silu (pay24_apply _ _ _ _ _ _ _ _ r ?_ (fun k => x5 (ix2 0 k)) n)
  intro k
  unfold ConvRows.convRow ConvRows.taps
  rw [hG]
  pointwise [k0_pay12, k0_pay13, k0_pay14, k0_pay15, k0_pay16, k0_pay17, k0_pay18, k0_pay19, k0_pay20, k0_pay21, k0_pay22, shifted]
  simp only [← Nat.add_assoc, Nat.reduceAdd]

/-- One gated entry. -/
theorem pay4_apply (x0 : Vec Ideal S1x8x512 .f32) (r : Fin 8) (n : Fin 256) :
    k0_pay4 x0 (ix2 r n) = ConvRows.glu (fun k => x0 (ix3 0 r k)) n := by
  unfold ConvRows.glu
  pointwise [k0_pay4]
  rw [zero_sub]; rfl

/-- One history entry. -/
theorem pay3_apply (x1 : Vec Ideal S1x32x256 .f32) (r : Fin 32) (n : Fin 256) : k0_pay3 x1 (ix2 r n) = x1 (ix3 0 r n) := by
  pointwise [k0_pay3]

/-- One entry of the kept rows. -/
theorem pay2_apply (x : Vec Ideal S32x256 .f32) (r : Fin 32) (n : Fin 256) : k0_pay2 x (ix3 0 r n) = x (ix2 r n) := by
  pointwise [k0_pay2]

end Cert.Proof.ConvStepTile

end
-- ==== Proof.ConvStepArr.lean ====
/-
  What the arrays of the convolution call at the sample batch's shapes hold at the end, over the extended reals.
-/
module

public import proofs.«01_k».proof.Proof.ConvStepTile
public import Idealize.ShloMosaic.Lib.StableHlo.RunRead

@[expose] public section

set_option maxHeartbeats 4000000

noncomputable section

namespace Cert.Proof.ConvStepArr

open Idealize.ShloMosaic Idealize.SL.Sem Cert.ConvStepIdeal Cert.ConvStepIdeal.Gen Idealize.ShloMosaic.TcCoe Cert.Proof.ConvStepBlock Cert.Proof.ConvStepTile
open Idealize.ShloMosaic.StableHlo

variable (m : (ℓ : Loc nD τ sig) → Buf (Elt Ideal) ℓ)

/-- The sequence of a grid point. -/
def bat (t : Fin cfg0.N) : Fin 32 := ⟨t.val, by have e : cfg0.N = 32 := N_0; omega⟩

/-- A sequence's new columns: its one new row, whichever row is asked for. -/
def cols (c : Dev nD) (b : Fin 32) : Fin 4096 → Fin 512 → EReal := fun _ n => m ((c : Thread nD τ).loc main_arg0) (ix3 b 0 n)

/-- A sequence's state, by row. -/
def state (c : Dev nD) (b : Fin 32) : Fin 30 → Fin 256 → EReal := fun e n => m ((c : Thread nD τ).loc main_arg1) (ix3 b e n)

/-- A sequence's joined rows. -/
def seq (c : Dev nD) (b : Fin 32) (e : ℕ) (n : Fin 256) : EReal := ConvRows.seqAt (cols m c b) (state m c b) e n

/-- The tap weights. -/
def wt (c : Dev nD) (j : Fin 31) (n : Fin 256) : EReal := m ((c : Thread nD τ).loc main_arg2) (ix2 j n)

/-- The bias, the gain and the shift. -/
def cb (c : Dev nD) (n : Fin 256) : EReal := m ((c : Thread nD τ).loc main_arg3) (ix1 n)
def gain (c : Dev nD) (n : Fin 256) : EReal := m ((c : Thread nD τ).loc main_arg4) (ix1 n)
def shift (c : Dev nD) (n : Fin 256) : EReal := m ((c : Thread nD τ).loc main_arg5) (ix1 n)

/-- The block index of window 0 at a point. -/
theorem idx0 : ∀ t : Fin grid0.N, win0_0.index t 0 = t.val ∧ win0_0.index t 1 = 0 ∧ win0_0.index t 2 = 0 := by decide +kernel

/-- The block of window 0, read from its array. -/
theorem blk0 (c : Dev nD) (t : Fin cfg0.N) (z : Fin 1) (r : Fin 8) (n : Fin 512) :
    (iblk m c 0 t : Vec Ideal S1x8x512 .f32) (ix3 z r n) = V m c main_v0 (ix3 (bat t) r n) := by
  have hN : cfg0.N = 32 := N_0
  unfold iblk
  rw [View.read_apply]
  show V m c main_v0 _ = V m c main_v0 _
  congr 1
  funext a
  apply Fin.ext
  match a with
  | ⟨0, _⟩ => show win0_0.index t 0 * 1 + 1 * z.val = t.val; rw [(idx0 t).1]; omega
  | ⟨1, _⟩ => show win0_0.index t 1 * 8 + 1 * r.val = r.val; rw [(idx0 t).2.1]; omega
  | ⟨2, _⟩ => show win0_0.index t 2 * 512 + 1 * n.val = n.val; rw [(idx0 t).2.2]; omega

/-- The block index of window 1 at a point. -/
theorem idx1 : ∀ t : Fin grid0.N, win0_1.index t 0 = t.val ∧ win0_1.index t 1 = 0 ∧ win0_1.index t 2 = 0 := by decide +kernel

/-- The block of window 1, read from its array. -/
theorem blk1 (c : Dev nD) (t : Fin cfg0.N) (z : Fin 1) (r : Fin 32) (n : Fin 256) :
    (iblk m c 1 t : Vec Ideal S1x32x256 .f32) (ix3 z r n) = V m c main_v1 (ix3 (bat t) r n) := by
  have hN : cfg0.N = 32 := N_0
  unfold iblk
  rw [View.read_apply]
  show V m c main_v1 _ = V m c main_v1 _
  congr 1
  funext a
  apply Fin.ext
  match a with
  | ⟨0, _⟩ => show win0_1.index t 0 * 1 + 1 * z.val = t.val; rw [(idx1 t).1]; omega
  | ⟨1, _⟩ => show win0_1.index t 1 * 32 + 1 * r.val = r.val; rw [(idx1 t).2.1]; omega
  | ⟨2, _⟩ => show win0_1.index t 2 * 256 + 1 * n.val = n.val; rw [(idx1 t).2.2]; omega

/-- The block index of window 2 at a point. -/
theorem idx2 : ∀ t : Fin grid0.N, win0_2.index t 0 = 0 ∧ win0_2.index t 1 = 0 := by decide +kernel

/-- The block of window 2, read from its array. -/
theorem blk2 (c : Dev nD) (t : Fin cfg0.N) (r : Fin 31) (n : Fin 256) :
    (iblk m c 2 t : Vec Ideal S31x256 .f32) (ix2 r n) = V m c main_arg2 (ix2 r n) := by
  have hN : cfg0.N = 32 := N_0
  unfold iblk
  rw [View.read_apply]
  show V m c main_arg2 _ = V m c main_arg2 _
  congr 1
  funext a
  apply Fin.ext
  match a with
  | ⟨0, _⟩ => show win0_2.index t 0 * 31 + 1 * r.val = r.val; rw [(idx2 t).1]; omega
  | ⟨1, _⟩ => show win0_2.index t 1 * 256 + 1 * n.val = n.val; rw [(idx2 t).2]; omega

/-- The block index of window 3 at a point. -/
theorem idx3 : ∀ t : Fin grid0.N, win0_3.index t 0 = 0 ∧ win0_3.index t 1 = 0 := by decide +kernel

/-- The block of window 3, read from its array. -/
theorem blk3 (c : Dev nD) (t : Fin cfg0.N) (r : Fin 1) (n : Fin 256) :
    (iblk m c 3 t : Vec Ideal S1x256 .f32) (ix2 r n) = V m c main_v2 (ix2 r n) := by
  have hN : cfg0.N = 32 := N_0
  unfold iblk
  rw [View.read_apply]
  show V m c main_v2 _ = V m c main_v2 _
  congr 1
  funext a
  apply Fin.ext
  match a with
  | ⟨0, _⟩ => show win0_3.index t 0 * 1 + 1 * r.val = r.val; rw [(idx3 t).1]; omega
  | ⟨1, _⟩ => show win0_3.index t 1 * 256 + 1 * n.val = n.val; rw [(idx3 t).2]; omega

/-- The block index of window 4 at a point. -/
theorem idx4 : ∀ t : Fin grid0.N, win0_4.index t 0 = 0 ∧ win0_4.index t 1 = 0 := by decide +kernel

/-- The block of window 4, read from its array. -/
theorem blk4 (c : Dev nD) (t : Fin cfg0.N) (r : Fin 1) (n : Fin 256) :
    (iblk m c 4 t : Vec Ideal S1x256 .f32) (ix2 r n) = V m c main_v3 (ix2 r n) := by
  have hN : cfg0.N = 32 := N_0
  unfold iblk
  rw [View.read_apply]
  show V m c main_v3 _ = V m c main_v3 _
  congr 1
  funext a
  apply Fin.ext
  match a with
  | ⟨0, _⟩ => show win0_4.index t 0 * 1 + 1 * r.val = r.val; rw [(idx4 t).1]; omega
  | ⟨1, _⟩ => show win0_4.index t 1 * 256 + 1 * n.val = n.val; rw [(idx4 t).2]; omega

/-- The block index of window 5 at a point. -/
theorem idx5 : ∀ t : Fin grid0.N, win0_5.index t 0 = 0 ∧ win0_5.index t 1 = 0 := by decide +kernel

/-- The block of window 5, read from its array. -/
theorem blk5 (c : Dev nD) (t : Fin cfg0.N) (r : Fin 1) (n : Fin 256) :
    (iblk m c 5 t : Vec Ideal S1x256 .f32) (ix2 r n) = V m c main_v4 (ix2 r n) := by
  have hN : cfg0.N = 32 := N_0
  unfold iblk
  rw [View.read_apply]
  show V m c main_v4 _ = V m c main_v4 _
  congr 1
  funext a
  apply Fin.ext
  match a with
  | ⟨0, _⟩ => show win0_5.index t 0 * 1 + 1 * r.val = r.val; rw [(idx5 t).1]; omega
  | ⟨1, _⟩ => show win0_5.index t 1 * 256 + 1 * n.val = n.val; rw [(idx5 t).2]; omega

/-- A vector as one row. -/
theorem row1_apply (g : FVec Ideal S256 .f32) (n : Fin 256) : shapeCast S1x256 g shapeCasts_S256_S1x256 (ix2 0 n) = g (ix1 n) := by
  pointwise []

/-- The state with two rows in front, from the third row on. -/
theorem pad_apply (x : FVec Ideal S32x30x256 .f32) (v : FVec Ideal S_ .f32) (b : Fin 32) (r : Fin 32) (h : 2 ≤ r.val) (n : Fin 256) :
    pad S32x32x256 ![0, 2, 0] ![0, 0, 0] ![0, 0, 0] x v pads_S32x30x256_S32x32x256_000_200_000 h_S_ (ix3 b r n)
      = x (ix3 b ⟨r.val - 2, by omega⟩ n) := by
  pointwise []
  exact dif_pos ⟨h, by omega⟩

/-- The columns with seven rows below, at the first row. -/
theorem padc_apply (x : FVec Ideal S32x1x512 .f32) (v : FVec Ideal S_ .f32) (b : Fin 32) (n : Fin 512) :
    pad S32x8x512 ![0, 0, 0] ![0, 7, 0] ![0, 0, 0] x v pads_S32x1x512_S32x8x512_000_070_000 h_S_ (ix3 b 0 n) = x (ix3 b 0 n) := by
  pointwise []

/-- The array of window 3 is the argument, as one row. -/
theorem arr3 (c : Dev nD) (n : Fin 256) : V m c main_v2 (ix2 0 n) = cb m c n := by
  have e : (V m c main_v2 : FVec Ideal S1x256 .f32) = shapeCast S1x256 (m ((c : Thread nD τ).loc main_arg3)) shapeCasts_S256_S1x256 := by
    unfold V V0; simp only [hostOps0, hostOps0_1, hostOps0_2, hostOps0_3, hostOps0_4, List.flatten_cons, List.flatten_nil, List.cons_append, List.nil_append, List.append_nil]; after_reads_simp; rfl
  rw [e]
  exact row1_apply _ n

/-- The array of window 4 is the argument, as one row. -/
theorem arr4 (c : Dev nD) (n : Fin 256) : V m c main_v3 (ix2 0 n) = gain m c n := by
  have e : (V m c main_v3 : FVec Ideal S1x256 .f32) = shapeCast S1x256 (m ((c : Thread nD τ).loc main_arg4)) shapeCasts_S256_S1x256 := by
    unfold V V0; simp only [hostOps0, hostOps0_1, hostOps0_2, hostOps0_3, hostOps0_4, List.flatten_cons, List.flatten_nil, List.cons_append, List.nil_append, List.append_nil]; after_reads_simp; rfl
  rw [e]
  exact row1_apply _ n

/-- The array of window 5 is the argument, as one row. -/
theorem arr5 (c : Dev nD) (n : Fin 256) : V m c main_v4 (ix2 0 n) = shift m c n := by
  have e : (V m c main_v4 : FVec Ideal S1x256 .f32) = shapeCast S1x256 (m ((c : Thread nD τ).loc main_arg5)) shapeCasts_S256_S1x256 := by
    unfold V V0; simp only [hostOps0, hostOps0_1, hostOps0_2, hostOps0_3, hostOps0_4, List.flatten_cons, List.flatten_nil, List.cons_append, List.nil_append, List.append_nil]; after_reads_simp; rfl
  rw [e]
  exact row1_apply _ n

/-- The history's array is the padded state. -/
theorem arr1 (c : Dev nD) (b : Fin 32) (r : Fin 32) (h : 2 ≤ r.val) (n : Fin 256) :
    V m c main_v1 (ix3 b r n) = state m c b ⟨r.val - 2, by omega⟩ n := by
  have e : ∃ v : FVec Ideal S_ .f32, (V m c main_v1 : FVec Ideal S32x32x256 .f32)
      = pad S32x32x256 ![0, 2, 0] ![0, 0, 0] ![0, 0, 0] (m ((c : Thread nD τ).loc main_arg1)) v pads_S32x30x256_S32x32x256_000_200_000 h_S_ := by
    refine ⟨sitofp .f32 (constantI S_ 32 0#32), ?_⟩
    unfold V V0; simp only [hostOps0, hostOps0_1, hostOps0_2, hostOps0_3, hostOps0_4, List.flatten_cons, List.flatten_nil, List.cons_append, List.nil_append, List.append_nil]; after_reads_simp; rfl
  obtain ⟨v, e⟩ := e
  rw [e]
  exact pad_apply _ v b r h n

/-- The columns' array, at its first row. -/
theorem arr0 (c : Dev nD) (b : Fin 32) (n : Fin 512) : V m c main_v0 (ix3 b 0 n) = m ((c : Thread nD τ).loc main_arg0) (ix3 b 0 n) := by
  have e : ∃ v : FVec Ideal S_ .f32, (V m c main_v0 : FVec Ideal S32x8x512 .f32)
      = pad S32x8x512 ![0, 0, 0] ![0, 7, 0] ![0, 0, 0] (m ((c : Thread nD τ).loc main_arg0)) v pads_S32x1x512_S32x8x512_000_070_000 h_S_ := by
    refine ⟨sitofp .f32 (constantI S_ 32 0#32), ?_⟩
    unfold V V0; simp only [hostOps0, hostOps0_1, hostOps0_2, hostOps0_3, hostOps0_4, List.flatten_cons, List.flatten_nil, List.cons_append, List.nil_append, List.append_nil]; after_reads_simp; rfl
  obtain ⟨v, e⟩ := e
  rw [e]
  exact padc_apply _ v b n

/-- The weights' array is the argument. -/
theorem arr2 (c : Dev nD) : V m c main_arg2 = m ((c : Thread nD τ).loc main_arg2) := by
  unfold V V0; simp only [hostOps0, hostOps0_1, hostOps0_2, hostOps0_3, hostOps0_4, List.flatten_cons, List.flatten_nil, List.cons_append, List.nil_append, List.append_nil]; after_reads_simp

/-- From the third to the thirty-third, the rows of a point are the joined rows of its sequence. -/
theorem rows_apply (c : Dev nD) (t : Fin cfg0.N) (e : Fin 40) (h2 : 2 ≤ e.val) (h : e.val ≤ 32) (n : Fin 256) :
    ext (k0_pay3 (iblk m c 1 t)) (k0_pay4 (iblk m c 0 t)) (ix2 e n) = seq m c (bat t) (e.val - 2) n := by
  unfold seq ConvRows.seqAt
  by_cases hh : e.val < 32
  · rw [dif_pos (by omega), ext_low _ _ e ⟨e.val, hh⟩ rfl, pay3_apply, blk1, arr1 m c _ _ (by exact h2)]
  · rw [dif_neg (by omega), dif_pos (by omega), ext_high _ _ e 0 (by show e.val = 32 + 0; omega), pay4_apply]
    refine congrArg (fun f => ConvRows.glu f n) (funext fun k => ?_)
    rw [blk0, arr0]
    rfl

/-- What a point leaves in the two outputs' blocks. -/
theorem out_eq (c : Dev nD) (t : Fin cfg0.N) :
    (outsAt0 m c t).1 = yVal (ext (k0_pay3 (iblk m c 1 t)) (k0_pay4 (iblk m c 0 t))) (k0_pay4 (iblk m c 0 t)) (iblk m c 2 t) (iblk m c 3 t) (iblk m c 4 t) (iblk m c 5 t) := by
  unfold outsAt0
  exact out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t)
theorem tail_eq (c : Dev nD) (t : Fin cfg0.N) :
    (outsAt0 m c t).2 = k0_pay2 (View.ld (ext (k0_pay3 (iblk m c 1 t)) (k0_pay4 (iblk m c 0 t))) (Rect.unit ![1, 0] ![32, 256] inb_S40x256_S32x256_1_0)) := by
  unfold outsAt0
  exact out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t)

/-- The block index of the two outputs. -/
theorem idx6 : ∀ t : Fin grid0.N, win0_6.index t 0 = t.val ∧ win0_6.index t 1 = 0 ∧ win0_6.index t 2 = 0 := by decide +kernel
theorem idx7 : ∀ t : Fin grid0.N, win0_7.index t 0 = t.val ∧ win0_7.index t 1 = 0 ∧ win0_7.index t 2 = 0 := by decide +kernel

/-- Every point writes both outputs' blocks back. -/
theorem flush6 : ∀ t : Fin grid0.N, (cfg0.win 6).flush t = true := by decide +kernel
theorem flush7 : ∀ t : Fin grid0.N, (cfg0.win 7).flush t = true := by decide +kernel

/-- Two points write different blocks. -/
theorem inj6 : ∀ t t' : Fin grid0.N, win0_6.index t = win0_6.index t' → t = t' := by decide +kernel
theorem inj7 : ∀ t t' : Fin grid0.N, win0_7.index t = win0_7.index t' → t = t' := by decide +kernel

/-- So a sequence's block of a result is what its point wrote. -/
theorem blocks6 (c : Dev nD) (t : Fin cfg0.N) :
    ((cfg0.win 6).blk t).view.read (Elt Ideal) ((dats m 0 c).arrAt 6 cfg0.N) = (cfg0.win 6).cut (grid0.coords t) ((outsAt0 m c t).1) := by
  rw [← after0_6]
  exact (dats m 0 c).read_blk_arrAt_eq_flushed 6 (fun a b _ _ hne => (cfg0.win 6).disjoint_blk fun h => hne (inj6 a b h)) cfg0.N t t.isLt (flush6 t)
theorem blocks7 (c : Dev nD) (t : Fin cfg0.N) :
    ((cfg0.win 7).blk t).view.read (Elt Ideal) ((dats m 0 c).arrAt 7 cfg0.N) = (cfg0.win 7).cut (grid0.coords t) ((outsAt0 m c t).2) := by
  rw [← after0_7]
  exact (dats m 0 c).read_blk_arrAt_eq_flushed 7 (fun a b _ _ hne => (cfg0.win 7).disjoint_blk fun h => hne (inj7 a b h)) cfg0.N t t.isLt (flush7 t)

/-- The first result's array at a sequence's first row. -/
theorem arr6_apply (c : Dev nD) (t : Fin cfg0.N) (n : Fin 256) :
    ((dats m 0 c).arrAt 6 cfg0.N : Vec Ideal S32x8x256 .f32) (ix3 (bat t) 0 n)
      = ConvRows.convOut (fun j k => seq m c (bat t) (j.val + 0) k) (wt m c) (cb m c) (gain m c) (shift m c) n := by
  have h := congrFun (blocks6 m c t) (ix3 0 0 n)
  rw [View.read_apply, out_eq] at h
  have e : ((cfg0.win 6).blk t).view.emb (ix3 0 0 n) = ix3 (bat t) 0 n := by
    funext a
    apply Fin.ext
    match a with
    | ⟨0, _⟩ => show win0_6.index t 0 * 1 + 1 * 0 = t.val; rw [(idx6 t).1]; omega
    | ⟨1, _⟩ => show win0_6.index t 1 * 8 + 1 * 0 = 0; rw [(idx6 t).2.1]
    | ⟨2, _⟩ => show win0_6.index t 2 * 256 + 1 * n.val = n.val; rw [(idx6 t).2.2]; omega
  rw [e] at h
  refine h.trans ((yVal_apply _ _ (fun r k => (ext_high _ _ _ r rfl k).symm) _ _ _ _ 0 n).trans ?_)
  refine ConvRows.convOut_congr ?_ ?_ ?_ ?_ ?_ n
  · funext j k
    rw [rows_apply m c t _ (by show 2 ≤ 2 + j.val + 0; omega) (by show 2 + j.val + 0 ≤ 32; omega)]
    exact congrArg (fun q => seq m c (bat t) q k) (by show 2 + j.val + 0 - 2 = _; omega)
  · funext j k; rw [blk2, arr2]; rfl
  · funext k; rw [blk3, arr3]
  · funext k; rw [blk4, arr4]
  · funext k; rw [blk5, arr5]

/-- The second result's array at a row of a sequence, from the third row on. -/
theorem arr7_apply (c : Dev nD) (t : Fin cfg0.N) (r : Fin 30) (n : Fin 256) :
    ((dats m 0 c).arrAt 7 cfg0.N : Vec Ideal S32x32x256 .f32) (ix3 (bat t) ⟨2 + r.val, by omega⟩ n) = seq m c (bat t) (1 + r.val) n := by
  have h := congrFun (blocks7 m c t) (ix3 0 ⟨2 + r.val, by omega⟩ n)
  rw [View.read_apply, tail_eq] at h
  have e : ((cfg0.win 7).blk t).view.emb (ix3 0 ⟨2 + r.val, by omega⟩ n) = ix3 (bat t) ⟨2 + r.val, by omega⟩ n := by
    funext a
    apply Fin.ext
    match a with
    | ⟨0, _⟩ => show win0_7.index t 0 * 1 + 1 * 0 = t.val; rw [(idx7 t).1]; omega
    | ⟨1, _⟩ => show win0_7.index t 1 * 32 + 1 * (2 + r.val) = 2 + r.val; rw [(idx7 t).2.1]; omega
    | ⟨2, _⟩ => show win0_7.index t 2 * 256 + 1 * n.val = n.val; rw [(idx7 t).2.2]; omega
  rw [e] at h
  refine h.trans ((pay2_apply _ ⟨2 + r.val, by omega⟩ n).trans ?_)
  have e2 : (Rect.unit (s := S40x256) ![1, 0] ![32, 256] inb_S40x256_S32x256_1_0).emb (ix2 (⟨2 + r.val, by omega⟩ : Fin 32) n) = ix2 (⟨3 + r.val, by omega⟩ : Fin 40) n := by
    funext a; apply Fin.ext
    match a with
    | ⟨0, _⟩ => show 1 + 1 * (2 + r.val) = 3 + r.val; omega
    | ⟨1, _⟩ => show 0 + 1 * n.val = n.val; omega
  show ext _ _ ((Rect.unit (s := S40x256) ![1, 0] ![32, 256] inb_S40x256_S32x256_1_0).emb (ix2 (⟨2 + r.val, by omega⟩ : Fin 32) n)) = _
  rw [e2, rows_apply m c t _ (by show 2 ≤ 3 + r.val; omega) (by show 3 + r.val ≤ 32; omega)]
  exact congrArg (fun q => seq m c (bat t) q n) (by show 3 + r.val - 2 = _; omega)

end Cert.Proof.ConvStepArr

end
-- ==== Proof.ConvStepRef.lean ====
/-
  What the convolution reference at the sample batch's shapes computes: its run's results, read at an index.
-/
module

public import proofs.«01_k».proof.Proof.Gen.ConvStepRefIdeal.Run
public import proofs.«01_k».proof.Proof.ConvRows
public import Idealize.ShloMosaic.Lib.Pointwise

@[expose] public section

noncomputable section

namespace Cert.Proof.ConvStepRef

open Idealize.ShloMosaic Idealize.SL.Sem Cert.ConvStepRefIdeal Cert.ConvStepRefIdeal.Gen Cert.ConvStepRefIdeal.Value Idealize.ShloMosaic.TcCoe Idealize.ShloMosaic.StableHlo
open scoped BigOperators

/-- A sequence's new columns: its one new row, whichever row is asked for. -/
def cols (p : FVec Ideal S32x1x512 .f32) (b : Fin 32) : Fin 4096 → Fin 512 → EReal := fun _ n => p (ix3 b 0 n)

/-- A sequence's state, by row. -/
def state (s : FVec Ideal S32x30x256 .f32) (b : Fin 32) : Fin 30 → Fin 256 → EReal := fun e n => s (ix3 b e n)

variable (V : Valuation τ sig (Elt Ideal))

/-- The joined rows: the state, then the gated row. -/
def seq (b : Fin 32) (e : ℕ) (n : Fin 256) : EReal :=
  ConvRows.seqAt (cols (V (Proc.devRef .tc main_arg0)) b) (state (V (Proc.devRef .tc main_arg1)) b) e n

/-- The tap weights. -/
def wt (j : Fin 31) (n : Fin 256) : EReal := (V (Proc.devRef .tc main_arg2) : FVec Ideal S31x256 .f32) (ix2 j n)

/-- An array at an index. -/
def at3 (x : FVec Ideal S32x1x256 .f32) (b : Fin 32) (t : Fin 1) (n : Fin 256) : EReal := x (ix3 b t n)

/-- A row of 256 numbers, as a function. -/
def vec (g : FVec Ideal S256 .f32) (n : Fin 256) : EReal := g (ix1 n)

/-- The joined rows, at an index. -/
theorem v9_apply (b : Fin 32) (e : Fin 31) (n : Fin 256) :
    (res_main_v9 V : FVec Ideal S32x31x256 .f32) (ix3 b e n) = seq V b e.val n := by
  unfold res_main_v9 seq ConvRows.seqAt
  generalize V (Proc.devRef .tc main_arg0) = p
  generalize V (Proc.devRef .tc main_arg1) = s
  pointwise []
  by_cases h : e.val < 30
  · rw [dif_pos h, dif_pos h]; rfl
  · rw [dif_neg h]; obtain rfl : e = 30 := Fin.ext (by show e.val = 30; omega)
    rw [dif_neg h, dif_pos (by decide)]; rfl

/-- Taps 0 to 10. -/
theorem v87_apply (b : Fin 32) (t : Fin 1) (n : Fin 256) :
    at3 (res_main_v87 V) b t n = seq V b (0 + t.val) n * wt V 0 n + seq V b (1 + t.val) n * wt V 1 n + seq V b (2 + t.val) n * wt V 2 n + seq V b (3 + t.val) n * wt V 3 n + seq V b (4 + t.val) n * wt V 4 n + seq V b (5 + t.val) n * wt V 5 n + seq V b (6 + t.val) n * wt V 6 n + seq V b (7 + t.val) n * wt V 7 n + seq V b (8 + t.val) n * wt V 8 n + seq V b (9 + t.val) n * wt V 9 n + seq V b (10 + t.val) n * wt V 10 n := by
  obtain rfl : t = 0 := Subsingleton.elim _ _
  have hx : ∀ e : Fin 31, (res_main_v9 V : FVec Ideal S32x31x256 .f32) (ix3 b e n) = seq V b e.val n := fun e => v9_apply V b e n
  unfold at3 res_main_v87 wt
  revert hx
  generalize res_main_v9 V = x
  generalize seq V b = y
  generalize V (Proc.devRef .tc main_arg2) = w
  intro hx
  pointwise []
  simp only [hx]
  try rfl

/-- Taps 11 to 21. -/
theorem v164_apply (b : Fin 32) (t : Fin 1) (n : Fin 256) :
    at3 (res_main_v164 V) b t n = at3 (res_main_v87 V) b t n + seq V b (11 + t.val) n * wt V 11 n + seq V b (12 + t.val) n * wt V 12 n + seq V b (13 + t.val) n * wt V 13 n + seq V b (14 + t.val) n * wt V 14 n + seq V b (15 + t.val) n * wt V 15 n + seq V b (16 + t.val) n * wt V 16 n + seq V b (17 + t.val) n * wt V 17 n + seq V b (18 + t.val) n * wt V 18 n + seq V b (19 + t.val) n * wt V 19 n + seq V b (20 + t.val) n * wt V 20 n + seq V b (21 + t.val) n * wt V 21 n := by
  obtain rfl : t = 0 := Subsingleton.elim _ _
  have hx : ∀ e : Fin 31, (res_main_v9 V : FVec Ideal S32x31x256 .f32) (ix3 b e n) = seq V b e.val n := fun e => v9_apply V b e n
  unfold at3 res_main_v164 wt
  revert hx
  generalize res_main_v9 V = x
  generalize seq V b = y
  generalize V (Proc.devRef .tc main_arg2) = w
  generalize res_main_v87 V = a
  intro hx
  pointwise []
  simp only [hx]
  try rfl

/-- Taps 22 to 30, and the bias. -/
theorem v230_apply (b : Fin 32) (t : Fin 1) (n : Fin 256) :
    at3 (res_main_v230 V) b t n = at3 (res_main_v164 V) b t n + seq V b (22 + t.val) n * wt V 22 n + seq V b (23 + t.val) n * wt V 23 n + seq V b (24 + t.val) n * wt V 24 n + seq V b (25 + t.val) n * wt V 25 n + seq V b (26 + t.val) n * wt V 26 n + seq V b (27 + t.val) n * wt V 27 n + seq V b (28 + t.val) n * wt V 28 n + seq V b (29 + t.val) n * wt V 29 n + seq V b (30 + t.val) n * wt V 30 n + vec (V (Proc.devRef .tc main_arg3)) n := by
  obtain rfl : t = 0 := Subsingleton.elim _ _
  have hx : ∀ e : Fin 31, (res_main_v9 V : FVec Ideal S32x31x256 .f32) (ix3 b e n) = seq V b e.val n := fun e => v9_apply V b e n
  unfold at3 res_main_v230 wt
  revert hx
  generalize res_main_v9 V = x
  generalize seq V b = y
  generalize V (Proc.devRef .tc main_arg2) = w
  generalize res_main_v164 V = a
  generalize V (Proc.devRef .tc main_arg3) = c
  intro hx
  pointwise []
  simp only [hx]
  try rfl

/-- The convolved row with its bias. -/
theorem row_apply (b : Fin 32) (t : Fin 1) (n : Fin 256) :
    at3 (res_main_v230 V) b t n
      = ConvRows.convRow (fun j n => seq V b (j.val + t.val) n) (wt V) (vec (V (Proc.devRef .tc main_arg3))) n := by
  obtain rfl : t = 0 := Subsingleton.elim _ _
  rw [v230_apply, v164_apply, v87_apply]
  rfl

/-- The mean of the convolved row. -/
theorem mean_apply (b : Fin 32) (t : Fin 1) :
    (res_main_v234 V : FVec Ideal S32x1x1 .f32) (ix3 b t 0)
      = ConvRows.mean (fun n => at3 (res_main_v230 V) b t n) := by
  obtain rfl : t = 0 := Subsingleton.elim _ _
  unfold res_main_v234 ConvRows.mean at3
  generalize res_main_v230 V = h
  pointwise []

/-- The normed row. -/
theorem norm_apply (b : Fin 32) (t : Fin 1) (n : Fin 256) :
    (res_main_v254 V : FVec Ideal S32x1x256 .f32) (ix3 b t n)
      = ConvRows.lnRow (fun n => at3 (res_main_v230 V) b t n) (vec (V (Proc.devRef .tc main_arg4)))
          (vec (V (Proc.devRef .tc main_arg5))) n := by
  obtain rfl : t = 0 := Subsingleton.elim _ _
  unfold ConvRows.lnRow
  have hm := mean_apply V b 0
  rw [← hm]
  unfold res_main_v254 res_main_v236 at3
  generalize res_main_v234 V = mu
  generalize res_main_v230 V = h
  generalize V (Proc.devRef .tc main_arg4) = g
  generalize V (Proc.devRef .tc main_arg5) = s
  pointwise []
  rfl

/-- The reference's first result at an index. -/
theorem out_apply (b : Fin 32) (t : Fin 1) (n : Fin 256) :
    (mulf (res_main_v254 V) (Host.divf (broadcastInDim S32x1x256 ![] bcast_S_S32x1x256 (constant S_ .f32 0x3F800000#32)) (addf (broadcastInDim S32x1x256 ![] bcast_S_S32x1x256 (constant S_ .f32 0x3F800000#32)) (Host.exp (Host.negf (res_main_v254 V))))) : FVec Ideal S32x1x256 .f32) (ix3 b t n)
      = ConvRows.convOut (fun j n => seq V b (j.val + t.val) n) (wt V) (vec (V (Proc.devRef .tc main_arg3))) (vec (V (Proc.devRef .tc main_arg4)))
          (vec (V (Proc.devRef .tc main_arg5))) n := by
  obtain rfl : t = 0 := Subsingleton.elim _ _
  unfold ConvRows.convOut
  have h : ConvRows.convRow (fun j n => seq V b (j.val + (0 : Fin 1).val) n) (wt V) (vec (V (Proc.devRef .tc main_arg3)))
      = fun n => at3 (res_main_v230 V) b 0 n := funext fun n => (row_apply V b 0 n).symm
  rw [h, ← norm_apply]
  generalize res_main_v254 V = x
  pointwise []
  rfl

/-- The reference's second result at an index: the last rows of the joined sequence. -/
theorem tail_apply (b : Fin 32) (e : Fin 30) (n : Fin 256) :
    (extractStridedSlice S32x30x256 ![0, 1, 0] (res_main_v9 V) slices_S32x31x256_S32x30x256_0_1_0 : FVec Ideal S32x30x256 .f32) (ix3 b e n)
      = seq V b (1 + e.val) n := by
  have hx : ∀ e : Fin 31, (res_main_v9 V : FVec Ideal S32x31x256 .f32) (ix3 b e n) = seq V b e.val n := fun e => v9_apply V b e n
  revert hx
  generalize res_main_v9 V = x
  intro hx
  pointwise []
  simp only [hx]

end Cert.Proof.ConvStepRef

end
-- ==== Proof.ConvStepEq.lean ====
/-
  The convolution call at the sample batch's shapes equals its reference in both results, over the extended reals.
-/
module

public import proofs.«01_k».proof.Proof.ConvStepArr
public import proofs.«01_k».proof.Proof.ConvStepRef
public import proofs.«01_k».proof.Defs

@[expose] public section

noncomputable section

namespace Cert.Proof.ConvStepEq

open Idealize.ShloMosaic Idealize.SL.Sem Idealize.ShloMosaic.TcCoe Idealize.ShloMosaic.StableHlo

section
open Cert.ConvStepIdeal Cert.ConvStepIdeal.Gen

variable (m : (ℓ : Loc nD τ sig) → Buf (Elt Ideal) ℓ)

/-- No two windows share an array. -/
theorem arr_inj : Function.Injective (Pipeline.arrRef spec0) := by
  have h : ∀ a b, Pipeline.arrRef spec0 a = Pipeline.arrRef spec0 b → a = b := by decide
  exact fun a b => h a b

/-- The first result is the first row of the call's first array. -/
theorem tail0 (c : Dev nD) : Pipeline.afterTail₀ cfgs (dats m) 0 (V0 m) [hostOps1] c main_v6
    = extractStridedSlice S32x1x256 ![0, 0, 0] ((dats m 0 c).arrAt 6 cfg0.N : FVec Ideal S32x8x256 .f32) slices_S32x8x256_S32x1x256_0_0_0 := by
  unfold Pipeline.afterTail₀
  simp only [hostOps1, List.flatten_cons, List.flatten_nil, List.append_nil]
  after_reads_simp
  exact congrArg (fun x : FVec Ideal S32x8x256 .f32 => extractStridedSlice S32x1x256 ![0, 0, 0] x slices_S32x8x256_S32x1x256_0_0_0)
    (Pipeline.withArrays_arr spec0 arr_inj c (V0 m c) (fun w => (dats m 0 c).arrAt w cfg0.N) 6)

/-- The second result is the call's second array without its first two rows. -/
theorem tail1 (c : Dev nD) : Pipeline.afterTail₀ cfgs (dats m) 0 (V0 m) [hostOps1] c main_v7
    = extractStridedSlice S32x30x256 ![0, 2, 0] ((dats m 0 c).arrAt 7 cfg0.N : FVec Ideal S32x32x256 .f32) slices_S32x32x256_S32x30x256_0_2_0 := by
  unfold Pipeline.afterTail₀
  simp only [hostOps1, List.flatten_cons, List.flatten_nil, List.append_nil]
  after_reads_simp
  exact congrArg (fun x : FVec Ideal S32x32x256 .f32 => extractStridedSlice S32x30x256 ![0, 2, 0] x slices_S32x32x256_S32x30x256_0_2_0)
    (Pipeline.withArrays_arr spec0 arr_inj c (V0 m c) (fun w => (dats m 0 c).arrAt w cfg0.N) 7)

theorem slice0_apply (x : FVec Ideal S32x8x256 .f32) (b : Fin 32) (n : Fin 256) :
    extractStridedSlice S32x1x256 ![0, 0, 0] x slices_S32x8x256_S32x1x256_0_0_0 (ix3 b 0 n) = x (ix3 b 0 n) := by
  pointwise []
theorem slice1_apply (x : FVec Ideal S32x32x256 .f32) (b : Fin 32) (e : Fin 30) (n : Fin 256) :
    extractStridedSlice S32x30x256 ![0, 2, 0] x slices_S32x32x256_S32x30x256_0_2_0 (ix3 b e n) = x (ix3 b ⟨2 + e.val, by omega⟩ n) := by
  pointwise []

/-- The call's run, with its two results read after the host's slices. -/
theorem run_results (m : (ℓ : Loc Cert.ConvStepIdeal.nD Cert.ConvStepIdeal.τ Cert.ConvStepIdeal.sig) → Buf (Elt Ideal) ℓ) (ρ : Dev Cert.ConvStepIdeal.nD → PrngReg) :
    θ_run (Cert.ConvStepIdeal.defs (F := Ideal)) (onTc (τ := Cert.ConvStepIdeal.τ) (Cert.ConvStepIdeal.main (F := Ideal))) ⟨m, fun _ => 0, ρ⟩ (fun r => ∀ c : Dev Cert.ConvStepIdeal.nD,
      r.2.mem ((c.tc : Thread Cert.ConvStepIdeal.nD Cert.ConvStepIdeal.τ).loc Cert.ConvStepIdeal.main_v6) = Pipeline.afterTail₀ Cert.ConvStepIdeal.cfgs (Cert.ConvStepIdeal.Gen.dats m) 0 (Cert.ConvStepIdeal.Gen.V0 m) [Cert.ConvStepIdeal.Gen.hostOps1] c Cert.ConvStepIdeal.main_v6
      ∧ r.2.mem ((c.tc : Thread Cert.ConvStepIdeal.nD Cert.ConvStepIdeal.τ).loc Cert.ConvStepIdeal.main_v7) = Pipeline.afterTail₀ Cert.ConvStepIdeal.cfgs (Cert.ConvStepIdeal.Gen.dats m) 0 (Cert.ConvStepIdeal.Gen.V0 m) [Cert.ConvStepIdeal.Gen.hostOps1] c Cert.ConvStepIdeal.main_v7
      ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
      ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
      ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5)) := by
  exact (θ_run defs _ _).mono (fun _ h c => ⟨(h c).2 main_v6 (Pipeline.mem_restRefs_of main_v6 (by decide) (by decide)),
    (h c).2 main_v7 (Pipeline.mem_restRefs_of main_v7 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m ρ)

end

open Cert.ConvStepRefIdeal Cert.ConvStepRefIdeal.Gen Cert.ConvStepRefIdeal.Value

/-- The reference's joined rows are the call's, when the columns and the state agree. -/
theorem seq_eq (m : (ℓ : Loc Cert.ConvStepIdeal.nD Cert.ConvStepIdeal.τ Cert.ConvStepIdeal.sig) → Buf (Elt Ideal) ℓ) (c : Dev Cert.ConvStepIdeal.nD) (V : Valuation τ sig (Elt Ideal))
    (h0 : V (Proc.devRef .tc Cert.ConvStepRefIdeal.main_arg0) = m ((c.tc : Thread Cert.ConvStepIdeal.nD Cert.ConvStepIdeal.τ).loc Cert.ConvStepIdeal.main_arg0)) (h1 : V (Proc.devRef .tc Cert.ConvStepRefIdeal.main_arg1) = m ((c.tc : Thread Cert.ConvStepIdeal.nD Cert.ConvStepIdeal.τ).loc Cert.ConvStepIdeal.main_arg1)) (b : Fin 32) (e : ℕ) (n : Fin 256) :
    ConvStepRef.seq V b e n = ConvStepArr.seq m c b e n := by
  unfold ConvStepRef.seq ConvStepArr.seq
  rw [h0, h1]
  rfl

/-- The reference's first result is the call's. -/
theorem result0 (m : (ℓ : Loc Cert.ConvStepIdeal.nD Cert.ConvStepIdeal.τ Cert.ConvStepIdeal.sig) → Buf (Elt Ideal) ℓ) (c : Dev Cert.ConvStepIdeal.nD) (V : Valuation τ sig (Elt Ideal))
    (h0 : V (Proc.devRef .tc Cert.ConvStepRefIdeal.main_arg0) = m ((c.tc : Thread Cert.ConvStepIdeal.nD Cert.ConvStepIdeal.τ).loc Cert.ConvStepIdeal.main_arg0)) (h1 : V (Proc.devRef .tc Cert.ConvStepRefIdeal.main_arg1) = m ((c.tc : Thread Cert.ConvStepIdeal.nD Cert.ConvStepIdeal.τ).loc Cert.ConvStepIdeal.main_arg1)) (h2 : V (Proc.devRef .tc Cert.ConvStepRefIdeal.main_arg2) = m ((c.tc : Thread Cert.ConvStepIdeal.nD Cert.ConvStepIdeal.τ).loc Cert.ConvStepIdeal.main_arg2)) (h3 : V (Proc.devRef .tc Cert.ConvStepRefIdeal.main_arg3) = m ((c.tc : Thread Cert.ConvStepIdeal.nD Cert.ConvStepIdeal.τ).loc Cert.ConvStepIdeal.main_arg3)) (h4 : V (Proc.devRef .tc Cert.ConvStepRefIdeal.main_arg4) = m ((c.tc : Thread Cert.ConvStepIdeal.nD Cert.ConvStepIdeal.τ).loc Cert.ConvStepIdeal.main_arg4)) (h5 : V (Proc.devRef .tc Cert.ConvStepRefIdeal.main_arg5) = m ((c.tc : Thread Cert.ConvStepIdeal.nD Cert.ConvStepIdeal.τ).loc Cert.ConvStepIdeal.main_arg5)) :
    (mulf (res_main_v254 V) (Host.divf (broadcastInDim S32x1x256 ![] bcast_S_S32x1x256 (constant S_ .f32 0x3F800000#32)) (addf (broadcastInDim S32x1x256 ![] bcast_S_S32x1x256 (constant S_ .f32 0x3F800000#32)) (Host.exp (Host.negf (res_main_v254 V))))) : FVec Ideal S32x1x256 .f32)
      = Pipeline.afterTail₀ Cert.ConvStepIdeal.cfgs (Cert.ConvStepIdeal.Gen.dats m) 0 (Cert.ConvStepIdeal.Gen.V0 m) [Cert.ConvStepIdeal.Gen.hostOps1] c Cert.ConvStepIdeal.main_v6 := by
  rw [tail0]
  funext j
  obtain ⟨b, i, n, rfl⟩ : ∃ (b : Fin 32) (i : Fin 1) (n : Fin 256), j = ix3 b i n := ⟨j 0, j 1, j 2, by funext a; fin_cases a <;> rfl⟩
  obtain rfl : i = 0 := Subsingleton.elim _ _
  have hN : Cert.ConvStepIdeal.cfg0.N = 32 := Cert.ConvStepIdeal.Gen.N_0
  obtain ⟨t, rfl⟩ : ∃ t : Fin Cert.ConvStepIdeal.cfg0.N, b = ConvStepArr.bat t := ⟨⟨b.val, by omega⟩, rfl⟩
  refine (ConvStepRef.out_apply V _ _ n).trans (Eq.trans ?_ ((slice0_apply _ _ n).trans (ConvStepArr.arr6_apply m c t n)).symm)
  refine ConvRows.convOut_congr ?_ ?_ ?_ ?_ ?_ n
  · funext j k; exact seq_eq m c V h0 h1 _ _ k
  · funext j k; unfold ConvStepRef.wt; rw [h2]; rfl
  · funext k; rw [h3]; rfl
  · funext k; rw [h4]; rfl
  · funext k; rw [h5]; rfl

/-- The reference's second result is the call's. -/
theorem result1 (m : (ℓ : Loc Cert.ConvStepIdeal.nD Cert.ConvStepIdeal.τ Cert.ConvStepIdeal.sig) → Buf (Elt Ideal) ℓ) (c : Dev Cert.ConvStepIdeal.nD) (V : Valuation τ sig (Elt Ideal))
    (h0 : V (Proc.devRef .tc Cert.ConvStepRefIdeal.main_arg0) = m ((c.tc : Thread Cert.ConvStepIdeal.nD Cert.ConvStepIdeal.τ).loc Cert.ConvStepIdeal.main_arg0)) (h1 : V (Proc.devRef .tc Cert.ConvStepRefIdeal.main_arg1) = m ((c.tc : Thread Cert.ConvStepIdeal.nD Cert.ConvStepIdeal.τ).loc Cert.ConvStepIdeal.main_arg1)) :
    (extractStridedSlice S32x30x256 ![0, 1, 0] (res_main_v9 V) slices_S32x31x256_S32x30x256_0_1_0 : FVec Ideal S32x30x256 .f32)
      = Pipeline.afterTail₀ Cert.ConvStepIdeal.cfgs (Cert.ConvStepIdeal.Gen.dats m) 0 (Cert.ConvStepIdeal.Gen.V0 m) [Cert.ConvStepIdeal.Gen.hostOps1] c Cert.ConvStepIdeal.main_v7 := by
  rw [tail1]
  funext j
  obtain ⟨b, e, n, rfl⟩ : ∃ (b : Fin 32) (e : Fin 30) (n : Fin 256), j = ix3 b e n := ⟨j 0, j 1, j 2, by funext a; fin_cases a <;> rfl⟩
  have hN : Cert.ConvStepIdeal.cfg0.N = 32 := Cert.ConvStepIdeal.Gen.N_0
  obtain ⟨t, rfl⟩ : ∃ t : Fin Cert.ConvStepIdeal.cfg0.N, b = ConvStepArr.bat t := ⟨⟨b.val, by omega⟩, rfl⟩
  exact (ConvStepRef.tail_apply V _ e n).trans ((seq_eq m c V h0 h1 _ _ n).trans ((slice1_apply _ _ e n).trans (ConvStepArr.arr7_apply m c t e n)).symm)

/-- The two programs end with equal results. -/
theorem algebraic : Cert.algebraic_ConvStepIdeal_ConvStepRefIdeal (hConvStepIdeal := Cert.ConvStepIdeal.Gen.facts) (hConvStepRefIdeal := Cert.ConvStepRefIdeal.Gen.facts) := by
  intro m g m' g' _ hagree
  refine ⟨_, _, run_results m g, ?_⟩
  refine (θ_run _ _ _).mono (fun r h c => ?_) (Cert.ConvStepRefIdeal.Value.run (F := Ideal) m' g')
  obtain ⟨h0, h1, h2, h3, h4, h5⟩ := hagree c
  obtain ⟨r0, r1, ha⟩ := h c
  exact ⟨r0.trans (result0 m c (launchContents m' c) h0 h1 h2 h3 h4 h5), r1.trans (result1 m c (launchContents m' c) h0 h1), ha⟩

/-- The reference leaves its arguments as they were. -/
theorem frame_ref : Cert.quiescent_ConvStepRefIdeal (hConvStepRefIdeal := Cert.ConvStepRefIdeal.Gen.facts) := fun m ρ _ =>
  (θ_run _ _ _).mono (fun r h => ⟨fun c => (h c).2.2, Idealize.ShloMosaic.sem_eq_zero_of_no_sems (by decide) r.2⟩) (Cert.ConvStepRefIdeal.Value.run (F := Ideal) m ρ)

end Cert.Proof.ConvStepEq

end
-- ==== Proof.DnModel.lean ====
/-
  One step of the gated delta rule as the call computes it, for one of the eight sequences of a grid point: its operations over
  the sequence's eight rows, of which the last seven are padding.
-/
module

public import proofs.«01_k».proof.Proof.Gen.DnStepIdeal.Value
public import Idealize.ShloMosaic.Lib.Pointwise
public import Idealize.ShloMosaic.Lib.Pipeline.ValueKit
public import Idealize.ShloMosaic.Lib.Pipeline.ReadBack

@[expose] public section

noncomputable section

namespace Cert.Proof.DnModel

open Idealize.ShloMosaic Idealize.SL.Sem Cert.DnStepIdeal Cert.DnStepIdeal.Gen Idealize.ShloMosaic.TcCoe

variable {F : FTy → Type} [FloatOps F]

/-- A zero of the float format. -/
def z0 : F .f32 := Scalar.ofBits .f32 0x00000000#32

/-- The eight rows of one sequence out of the sixty-four of a grid point. -/
def sl (o : ℕ) (h : S64x256.Slices ![o, 0] S8x256) (x : FVec F S64x256 .f32) : FVec F S8x256 .f32 :=
  extractStridedSlice S8x256 ![o, 0] x h

/-- Eight rows laid out block by block, one block per head. -/
def bd (x : FVec F S8x256 .f32) : FVec F S32x256 .bf16 :=
  truncf .bf16 (select k0_pay22 (concatenate S32x256 0 [⟨S8x256, x⟩, ⟨S8x256, x⟩, ⟨S8x256, x⟩, ⟨S8x256, x⟩] concatenates_S8x256_S8x256_S8x256_S8x256_S32x256_d0) (broadcast S32x256 (z0 (F := F)))) bitsLt_bf16_f32

/-- The heads' eight-by-eight matrices laid out as one block diagonal matrix. -/
def bdT (x : FVec F S8x32 .f32) : FVec F S32x32 .bf16 :=
  truncf .bf16 (select k0_pay23 (concatenate S32x32 0 [⟨S8x32, x⟩, ⟨S8x32, x⟩, ⟨S8x32, x⟩, ⟨S8x32, x⟩] concatenates_S8x32_S8x32_S8x32_S8x32_S32x32_d0) (broadcast S32x32 (z0 (F := F)))) bitsLt_bf16_f32

/-- The lower triangle of ones. -/
def tri : FVec F S8x8 .f32 :=
  k0_pay29 (iota .tc S8x8 32 [0] iota_S8x8_d0_w32) (iota .tc S8x8 32 [1] iota_S8x8_d1_w32) k0_pay28 3#32

/-- The running sums of the log decays, from their two halves. -/
def cum (g : FVec F S8x256 .f32) : FVec F S8x256 .f32 :=
  addf (matmul dot_S8x8_S8x256_S8x256_1_0_0_1_n_n none (truncf .bf16 tri bitsLt_bf16_f32) (truncf .bf16 g bitsLt_bf16_f32) (constant S8x256 .f32 0x00000000#32))
    (matmul dot_S8x8_S8x256_S8x256_1_0_0_1_n_n none (truncf .bf16 tri bitsLt_bf16_f32) (truncf .bf16 (subf g (extf .f32 (truncf .bf16 g bitsLt_bf16_f32) bitsLt_bf16_f32)) bitsLt_bf16_f32) (constant S8x256 .f32 0x00000000#32))

/-- The matrix that the chunk's solve inverts, without its unit diagonal. -/
def mat (q k kb gc : FVec F S8x256 .f32) : FVec F S8x32 .f32 :=
  select k0_pay32 (mulf (extractStridedSlice S8x32 ![0, 0] (matmul dot_S16x256_S32x256_S16x32_1_1_0_0_n_n none (truncf .bf16 (concatenate S16x256 0 [⟨S8x256, kb⟩, ⟨S8x256, q⟩] concatenates_S8x256_S8x256_S16x256_d0) bitsLt_bf16_f32) (bd k) (constant S16x32 .f32 0x00000000#32)) slices_S16x32_o0_0_S8x32) (k0_pay84 k0_pay31 k0_pay33 gc)) (broadcast S8x32 (z0 (F := F)))

/-- A product with a block diagonal matrix. -/
def mmT (x : FVec F S8x32 .f32) (y : FVec F S32x32 .bf16) : FVec F S8x32 .f32 :=
  matmul dot_S8x32_S32x32_S8x32_1_0_0_1_n_n none (truncf .bf16 x bitsLt_bf16_f32) y (constant S8x32 .f32 0x00000000#32)

/-- The inverse of the unit lower triangular matrix, by two doublings. -/
def inv (m : FVec F S8x32 .f32) : FVec F S8x32 .f32 :=
  have p0 := select k0_pay193 (subf (broadcast S8x32 (z0 (F := F))) m) (broadcast S8x32 (z0 (F := F)))
  have d0 := addf k0_pay192 p0
  have p1 := mmT p0 (bdT p0)
  have d1 := addf d0 (mmT d0 (bdT p1))
  have p2 := mmT p1 (bdT p1)
  addf d1 (mmT d1 (bdT p2))

/-- The solve's product with eight rows. -/
def app (t : FVec F S8x32 .f32) (x : FVec F S8x256 .f32) : FVec F S8x256 .f32 :=
  matmul dot_S8x32_S32x256_S8x256_1_0_0_1_n_n none (truncf .bf16 t bitsLt_bf16_f32) (bd x) (constant S8x256 .f32 0x00000000#32)

/-- The corrected values that the step writes. -/
def vnew (t : FVec F S8x32 .f32) (q kb vb gc : FVec F S8x256 .f32) (st : FVec F S256x256 .f32) : FVec F S8x256 .f32 :=
  subf (app t vb) (extractStridedSlice S8x256 ![0, 0] (matmul dot_S16x256_S256x256_S16x256_1_0_0_1_n_n none (truncf .bf16 (concatenate S16x256 0 [⟨S8x256, app t (mulf kb (exp gc))⟩, ⟨S8x256, mulf q (exp gc)⟩] concatenates_S8x256_S8x256_S16x256_d0) bitsLt_bf16_f32) (truncf .bf16 st bitsLt_bf16_f32) (constant S16x256 .f32 0x00000000#32)) slices_S16x256_o0_0_S8x256)

/-- The last row of the running sums. -/
def last (gc : FVec F S8x256 .f32) : FVec F S1x256 .f32 := extractStridedSlice S1x256 ![7, 0] gc slices_S8x256_o7_0_S1x256

/-- The state after the step, as a block diagonal matrix. -/
def stepS (q k kb vb gc : FVec F S8x256 .f32) (st : FVec F S256x256 .f32) : FVec F S256x256 .f32 :=
  addf (mulf st (broadcastTo S256x256 (k0_pay94 (iota .tc S256x256 32 [0] iota_S256x256_d0_w32) (iota .tc S256x256 32 [1] iota_S256x256_d1_w32) (last gc)) broadcasts_S256x1_S256x256))
    (select k0_pay20 (matmul dot_S8x256_S8x256_S256x256_0_0_1_1_n_n none (truncf .bf16 (mulf k (exp (subf (broadcastTo S8x256 (last gc) broadcasts_S1x256_S8x256) gc))) bitsLt_bf16_f32)
      (truncf .bf16 (vnew (inv (mat q k kb gc)) q kb vb gc st) bitsLt_bf16_f32) (constant S256x256 .f32 0x00000000#32)) (broadcast S256x256 (z0 (F := F))))

/-- One sequence's state after the step, from the sixty-four rows of the grid point and the block diagonal state before it. -/
def step (o : ℕ) (h : S64x256.Slices ![o, 0] S8x256) (q k kb vb g : FVec F S64x256 .f32) (s : Vec F S1x256x256 .f32) : FVec F S256x256 .f32 :=
  stepS (sl o h q) (sl o h k) (sl o h kb) (sl o h vb) (cum (sl o h g)) (shapeCast S256x256 s shapeCasts_S1x256x256_S256x256)

end Cert.Proof.DnModel

end
-- ==== Proof.DnBlock.lean ====
/-
  What one grid point of the delta-rule call computes for the states it returns: each of its eight sequences takes one step.
-/
module

public import proofs.«01_k».proof.Proof.DnModel

@[expose] public section

noncomputable section

namespace Cert.Proof.DnBlock

open Idealize.ShloMosaic Idealize.SL.Sem Cert.DnStepIdeal Cert.DnStepIdeal.Gen Idealize.ShloMosaic.TcCoe Cert.Proof.DnModel

variable {F : FTy → Type} [FloatOps F]

/-- The rows of a sequence lie in the grid point's. -/
theorem slc (s : Fin 8) : S64x256.Slices ![8 * s.val, 0] S8x256 := by fin_cases s <;> decide

theorem inbX (s : Fin 8) : ∀ a, (![s.val, 0, 0] : Fin 3 → ℕ) a + S1x8x768.size a ≤ S8x8x1152.size a := by fin_cases s <;> decide

theorem inbH (s : Fin 8) : ∀ a, (![s.val, 0, 0] : Fin 3 → ℕ) a + S1x8x768.size a ≤ S8x8x768.size a := by fin_cases s <;> decide

theorem inbS (s : Fin 8) : ∀ a, (![s.val, 0, 0] : Fin 3 → ℕ) a + S1x256x64.size a ≤ S8x256x64.size a := by fin_cases s <;> decide

theorem inbW (j : Fin 4) : ∀ a, (![j.val, 0] : Fin 2 → ℕ) a + S1x768.size a ≤ S4x768.size a := by fin_cases j <;> decide

/-- A row of the convolution's weights. -/
def wrow (x3 : Vec F S4x768 .f32) (j : Fin 4) : Vec F S1x768 .f32 := View.ld x3 (Rect.unit ![j.val, 0] S1x768.size (inbW j))

/-- The rows of one sequence and the history above them, convolved. -/
def conv (x0 : Vec F S8x8x1152 .f32) (x1 : Vec F S8x8x768 .f32) (x3 : Vec F S4x768 .f32) (s : Fin 8) : FVec F S8x768 .f32 :=
  k0_pay41 (View.ld (k0_pay25 x1) (Rect.unit (s := S8x8x768) ![s.val, 0, 0] S1x8x768.size (inbH s))) (View.ld x0 (Rect.unit ![s.val, 0, 0] S1x8x768.size (inbX s)))
    (wrow x3 0) (wrow x3 1) (wrow x3 2) (wrow x3 3)

/-- The gate of a row by its own sigmoid. -/
def gate (x : FVec F S64x768 .f32) : FVec F S64x768 .f32 :=
  mulf x (divf (broadcast S64x768 (Scalar.ofBits .f32 0x3F800000#32)) (addf (broadcast S64x768 (Scalar.ofBits .f32 0x3F800000#32)) (exp (subf (broadcast S64x768 (z0 (F := F))) x))))

/-- The queries, keys and values of the grid point's rows. -/
def qkv (x0 : Vec F S8x8x1152 .f32) (x1 : Vec F S8x8x768 .f32) (x3 : Vec F S4x768 .f32) : FVec F S64x768 .f32 :=
  gate (concatenate S64x768 0 [⟨S8x768, conv x0 x1 x3 0⟩, ⟨S8x768, conv x0 x1 x3 1⟩, ⟨S8x768, conv x0 x1 x3 2⟩, ⟨S8x768, conv x0 x1 x3 3⟩, ⟨S8x768, conv x0 x1 x3 4⟩, ⟨S8x768, conv x0 x1 x3 5⟩, ⟨S8x768, conv x0 x1 x3 6⟩, ⟨S8x768, conv x0 x1 x3 7⟩] concatenates_S8x768_S8x768_S8x768_S8x768_S8x768_S8x768_S8x768_S8x768_S64x768_d0)

/-- The keys, normalized. -/
def keys (x0 : Vec F S8x8x1152 .f32) (x1 : Vec F S8x8x768 .f32) (x3 : Vec F S4x768 .f32) : FVec F S64x256 .f32 :=
  k0_pay72 k0_pay21 (extractStridedSlice S64x256 ![0, 256] (qkv x0 x1 x3) slices_S64x768_o0_256_S64x256)

/-- The last columns of the rows. -/
def ab (x0 : Vec F S8x8x1152 .f32) : FVec F S64x128 .f32 := k0_pay74 (k0_pay66 x0)

/-- The keys, zero on the padding. -/
def rowsK (x0 : Vec F S8x8x1152 .f32) (x1 : Vec F S8x8x768 .f32) (x3 : Vec F S4x768 .f32) : FVec F S64x256 .f32 := k0_pay79 (keys x0 x1 x3)

/-- The keys by the write strengths. -/
def rowsKB (x0 : Vec F S8x8x1152 .f32) (x1 : Vec F S8x8x768 .f32) (x3 : Vec F S4x768 .f32) : FVec F S64x256 .f32 := k0_pay80 k0_pay27 (keys x0 x1 x3) (ab x0)

/-- The values by the write strengths. -/
def rowsVB (x0 : Vec F S8x8x1152 .f32) (x1 : Vec F S8x8x768 .f32) (x3 : Vec F S4x768 .f32) : FVec F S64x256 .f32 :=
  k0_pay81 k0_pay27 (extractStridedSlice S64x256 ![0, 512] (qkv x0 x1 x3) slices_S64x768_o0_512_S64x256) (ab x0)

/-- The log decays. -/
def rowsG (x0 : Vec F S8x8x1152 .f32) (x4 x5 : Vec F S1x128 .f32) : FVec F S64x256 .f32 := k0_pay77 (k0_pay75 k0_pay26 (k0_pay66 x0) x4 x5)

/-- The state of a sequence, block diagonal. -/
def bdS (x2 : Vec F S8x256x64 .f32) (s : Fin 8) : Vec F S1x256x256 .f32 := k0_pay5 k0_pay20 (View.ld x2 (Rect.unit ![s.val, 0, 0] S1x256x64.size (inbS s)))

/-- The states that a grid point returns. -/
def out (q : FVec F S64x256 .f32) (x0 : Vec F S8x8x1152 .f32) (x1 : Vec F S8x8x768 .f32) (x2 : Vec F S8x256x64 .f32) (x3 : Vec F S4x768 .f32) (x4 x5 : Vec F S1x128 .f32) : Vec F S8x256x64 .f32 := fun i =>
  k0_pay15 (step (8 * (i 0).val) (slc (i 0)) q (rowsK x0 x1 x3) (rowsKB x0 x1 x3) (rowsVB x0 x1 x3) (rowsG x0 x4 x5) (bdS x2 (i 0))) (ix3 (0 : Fin 1) (i 1) (i 2))

theorem emb_slab (k : Fin 8) (inb) (b : Fin 256) (n : Fin 64) :
    (Rect.unit (s := S8x256x64) ![k.val, 0, 0] ![1, 256, 64] inb).emb (ix3 (0 : Fin 1) b n) = ix3 k b n := by
  funext a; apply Fin.ext
  match a with
  | ⟨0, _⟩ => show k.val + 1 * 0 = k.val; omega
  | ⟨1, _⟩ => show 0 + 1 * b.val = b.val; omega
  | ⟨2, _⟩ => show 0 + 1 * n.val = n.val; omega

section Rows

variable (c : Dev nD) (arg2 : Memref sig .tc .vmem S8x8x1152 .f32) (harg2 : arg2.IsWhole) (arg3 : Memref sig .tc .vmem S8x8x768 .f32) (harg3 : arg3.IsWhole) (arg4 : Memref sig .tc .vmem S8x256x64 .f32) (harg4 : arg4.IsWhole) (arg5 : Memref sig .tc .vmem S4x768 .f32) (harg5 : arg5.IsWhole) (arg6 : Memref sig .tc .vmem S1x128 .f32) (harg6 : arg6.IsWhole) (arg7 : Memref sig .tc .vmem S1x128 .f32) (harg7 : arg7.IsWhole) (arg11 : Memref sig .tc .vmem S8x256x256 .f32) (arg12 : Memref sig .tc .vmem S8x8x768 .f32)
  (x0 : Vec F S8x8x1152 .f32) (x1 : Vec F S8x8x768 .f32) (x2 : Vec F S8x256x64 .f32) (x3 : Vec F S4x768 .f32) (x4 : Vec F S1x128 .f32) (x5 : Vec F S1x128 .f32)

/-- The history that a grid point reads for each of its eight sequences: the loads before a sequence's own rows leave
    every other sequence's history as it was. -/
theorem hist_eq : kernelRun0_A.sl.v58 c arg3 harg3 arg12 x1 = View.ld (k0_pay25 x1) (Rect.unit (s := S8x8x768) ![0, 0, 0] S1x8x768.size inb_S8x8x768_S1x8x768_0_0_0) ∧
    kernelRun0_A.sl.v86 c arg2 harg2 arg3 harg3 arg12 x0 x1 = View.ld (k0_pay25 x1) (Rect.unit (s := S8x8x768) ![1, 0, 0] S1x8x768.size inb_S8x8x768_S1x8x768_1_0_0) ∧
    kernelRun0_A.sl.v114 c arg2 harg2 arg3 harg3 arg12 x0 x1 = View.ld (k0_pay25 x1) (Rect.unit (s := S8x8x768) ![2, 0, 0] S1x8x768.size inb_S8x8x768_S1x8x768_2_0_0) ∧
    kernelRun0_A.sl.v142 c arg2 harg2 arg3 harg3 arg12 x0 x1 = View.ld (k0_pay25 x1) (Rect.unit (s := S8x8x768) ![3, 0, 0] S1x8x768.size inb_S8x8x768_S1x8x768_3_0_0) ∧
    kernelRun0_A.sl.v170 c arg2 harg2 arg3 harg3 arg12 x0 x1 = View.ld (k0_pay25 x1) (Rect.unit (s := S8x8x768) ![4, 0, 0] S1x8x768.size inb_S8x8x768_S1x8x768_4_0_0) ∧
    kernelRun0_A.sl.v198 c arg2 harg2 arg3 harg3 arg12 x0 x1 = View.ld (k0_pay25 x1) (Rect.unit (s := S8x8x768) ![5, 0, 0] S1x8x768.size inb_S8x8x768_S1x8x768_5_0_0) ∧
    kernelRun0_A.sl.v226 c arg2 harg2 arg3 harg3 arg12 x0 x1 = View.ld (k0_pay25 x1) (Rect.unit (s := S8x8x768) ![6, 0, 0] S1x8x768.size inb_S8x8x768_S1x8x768_6_0_0) ∧
    kernelRun0_A.sl.v254 c arg2 harg2 arg3 harg3 arg12 x0 x1 = View.ld (k0_pay25 x1) (Rect.unit (s := S8x8x768) ![7, 0, 0] S1x8x768.size inb_S8x8x768_S1x8x768_7_0_0) := by
  refine ⟨?_, ?_, ?_, ?_, ?_, ?_, ?_, ?_⟩
  all_goals simp (disch := decide) only [kernelRun0_A.sl.v58, kernelRun0_A.sl.v86, kernelRun0_A.sl.v114, kernelRun0_A.sl.v142, kernelRun0_A.sl.v170, kernelRun0_A.sl.v198, kernelRun0_A.sl.v226, kernelRun0_A.sl.v254, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1, ↓View.readCov_skip, View.readCov_fill, View.readAt_eq_ld, Memref.IsWhole.read_unread, View.ld_unit_lit']

/-- The state that a grid point reads for each of its eight sequences, in block-diagonal form. -/
theorem st_eq : kernelRun0_A.sl.v1222 c arg4 harg4 arg11 x2 = bdS x2 0 ∧
    kernelRun0_A.sl.v1224 c arg4 harg4 arg11 x2 = bdS x2 1 ∧
    kernelRun0_A.sl.v1226 c arg4 harg4 arg11 x2 = bdS x2 2 ∧
    kernelRun0_A.sl.v1228 c arg4 harg4 arg11 x2 = bdS x2 3 ∧
    kernelRun0_A.sl.v1230 c arg4 harg4 arg11 x2 = bdS x2 4 ∧
    kernelRun0_A.sl.v1232 c arg4 harg4 arg11 x2 = bdS x2 5 ∧
    kernelRun0_A.sl.v1234 c arg4 harg4 arg11 x2 = bdS x2 6 ∧
    kernelRun0_A.sl.v1236 c arg4 harg4 arg11 x2 = bdS x2 7 := by
  refine ⟨?_, ?_, ?_, ?_, ?_, ?_, ?_, ?_⟩
  all_goals
    simp (disch := decide) only [kernelRun0_A.sl.v1222, kernelRun0_A.sl.v1224, kernelRun0_A.sl.v1226, kernelRun0_A.sl.v1228, kernelRun0_A.sl.v1230, kernelRun0_A.sl.v1232, kernelRun0_A.sl.v1234, kernelRun0_A.sl.v1236, kernelRun0_A.sl.HS0_8, kernelRun0_A.sl.r, kernelRun0_A.sl.r_1, ↓View.readCov_skip, View.readCov_cons_toLoadRect, View.readAt_eq_ld, Memref.IsWhole.read_unread]
    rfl

/-- The rows of all eight sequences: keys, keys and values times the write strength, and log decays. -/
theorem rows_eq : kernelRun0_A.sl.r_34 c arg2 harg2 arg3 harg3 arg5 harg5 arg12 x0 x1 x3 = rowsK x0 x1 x3 ∧
    kernelRun0_A.sl.r_35 c arg2 harg2 arg3 harg3 arg5 harg5 arg12 x0 x1 x3 = rowsKB x0 x1 x3 ∧
    kernelRun0_A.sl.r_36 c arg2 harg2 arg3 harg3 arg5 harg5 arg12 x0 x1 x3 = rowsVB x0 x1 x3 ∧
    kernelRun0_A.sl.r_33 c arg2 harg2 arg6 harg6 arg7 harg7 x0 x4 x5 = rowsG x0 x4 x5 := by
  obtain ⟨h0, h1, h2, h3, h4, h5, h6, h7⟩ := hist_eq c arg2 harg2 arg3 harg3 arg12 x0 x1
  refine ⟨?_, ?_, ?_, ?_⟩
  all_goals
    simp (disch := decide) only [kernelRun0_A.sl.r_34, kernelRun0_A.sl.r_35, kernelRun0_A.sl.r_36, kernelRun0_A.sl.r_29, kernelRun0_A.sl.r_25, kernelRun0_A.sl.r_26, kernelRun0_A.sl.r_31, kernelRun0_A.sl.r_33, kernelRun0_A.sl.r_32, kernelRun0_A.sl.r_24, kernelRun0_A.sl.r_5, kernelRun0_A.sl.r_3, kernelRun0_A.sl.r_4, kernelRun0_A.sl.r_6, kernelRun0_A.sl.r_9, kernelRun0_A.sl.r_7, kernelRun0_A.sl.r_13, kernelRun0_A.sl.r_10, kernelRun0_A.sl.r_11, kernelRun0_A.sl.r_12, kernelRun0_A.sl.r_16, kernelRun0_A.sl.r_14, kernelRun0_A.sl.r_15, kernelRun0_A.sl.r_17, kernelRun0_A.sl.r_20, kernelRun0_A.sl.r_18, kernelRun0_A.sl.r_19, kernelRun0_A.sl.r_21, kernelRun0_A.sl.r_22, kernelRun0_A.sl.r_23, h0, h1, h2, h3, h4, h5, h6, h7, View.readAt_eq_ld, Memref.IsWhole.read_unread, View.ld_unit_lit']
    rfl

/-- The new state of each of the eight sequences is the step over its own rows and its own state. -/
theorem step_eq : kernelRun0_A.sl.r_221 c arg2 harg2 arg3 harg3 arg4 harg4 arg5 harg5 arg6 harg6 arg7 harg7 arg11 arg12 x0 x1 x2 x3 x4 x5 = step 0 slices_S64x256_o0_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 0) ∧
    kernelRun0_A.sl.r_224 c arg2 harg2 arg3 harg3 arg4 harg4 arg5 harg5 arg6 harg6 arg7 harg7 arg11 arg12 x0 x1 x2 x3 x4 x5 = step 8 slices_S64x256_o8_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 1) ∧
    kernelRun0_A.sl.r_228 c arg2 harg2 arg3 harg3 arg4 harg4 arg5 harg5 arg6 harg6 arg7 harg7 arg11 arg12 x0 x1 x2 x3 x4 x5 = step 16 slices_S64x256_o16_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 2) ∧
    kernelRun0_A.sl.r_233 c arg2 harg2 arg3 harg3 arg4 harg4 arg5 harg5 arg6 harg6 arg7 harg7 arg11 arg12 x0 x1 x2 x3 x4 x5 = step 24 slices_S64x256_o24_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 3) ∧
    kernelRun0_A.sl.r_239 c arg2 harg2 arg3 harg3 arg4 harg4 arg5 harg5 arg6 harg6 arg7 harg7 arg11 arg12 x0 x1 x2 x3 x4 x5 = step 32 slices_S64x256_o32_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 4) ∧
    kernelRun0_A.sl.r_244 c arg2 harg2 arg3 harg3 arg4 harg4 arg5 harg5 arg6 harg6 arg7 harg7 arg11 arg12 x0 x1 x2 x3 x4 x5 = step 40 slices_S64x256_o40_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 5) ∧
    kernelRun0_A.sl.r_249 c arg2 harg2 arg3 harg3 arg4 harg4 arg5 harg5 arg6 harg6 arg7 harg7 arg11 arg12 x0 x1 x2 x3 x4 x5 = step 48 slices_S64x256_o48_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 6) ∧
    kernelRun0_A.sl.r_254 c arg2 harg2 arg3 harg3 arg4 harg4 arg5 harg5 arg6 harg6 arg7 harg7 arg11 arg12 x0 x1 x2 x3 x4 x5 = step 56 slices_S64x256_o56_0_S8x256 (kernelRun0_A.sl.r_28 c arg2 harg2 arg3 harg3 arg5 harg5 arg12 x0 x1 x3) (rowsK x0 x1 x3) (rowsKB x0 x1 x3) (rowsVB x0 x1 x3) (rowsG x0 x4 x5) (bdS x2 7) := by
  obtain ⟨s0, s1, s2, s3, s4, s5, s6, s7⟩ := st_eq c arg4 harg4 arg11 x2
  obtain ⟨hk, hkb, hvb, hg⟩ := rows_eq c arg2 harg2 arg3 harg3 arg5 harg5 arg6 harg6 arg7 harg7 arg12 x0 x1 x3 x4 x5
  rw [← hk, ← hkb, ← hvb, ← hg, ← s0, ← s1, ← s2, ← s3, ← s4, ← s5, ← s6, ← s7]
  exact ⟨rfl, rfl, rfl, rfl, rfl, rfl, rfl, rfl⟩

end Rows

/-- The states that a grid point returns, each its sequence's step. -/
theorem out0_A_8_eq (c : Dev nD) (i : grid0.Coords) (arg2 : Memref sig .tc .vmem S8x8x1152 .f32) (harg2 : arg2.IsWhole) (arg3 : Memref sig .tc .vmem S8x8x768 .f32) (harg3 : arg3.IsWhole) (arg4 : Memref sig .tc .vmem S8x256x64 .f32) (harg4 : arg4.IsWhole) (arg5 : Memref sig .tc .vmem S4x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S8x8x256 .f32) (harg9 : arg9.IsWhole) (arg10 : Memref sig .tc .vmem S8x256x64 .f32) (harg10 : arg10.IsWhole) (arg11 : Memref sig .tc .vmem S8x256x256 .f32) (harg11 : arg11.IsWhole) (arg12 : Memref sig .tc .vmem S8x8x768 .f32) (harg12 : arg12.IsWhole) (hc0 : cond0_0 i) (hc1 : cond0_1 i)     (x0 : Vec F S8x8x1152 .f32) (x1 : Vec F S8x8x768 .f32) (x2 : Vec F S8x256x64 .f32) (x3 : Vec F S4x768 .f32) (x4 : Vec F S1x128 .f32) (x5 : Vec F S1x128 .f32) (x6 : Vec F S1x256 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 = out (kernelRun0_A.sl.r_28 c arg2 harg2 arg3 harg3 arg5 harg5 arg12 x0 x1 x3) x0 x1 x2 x3 x4 x5 := by
  unfold out0_A_8 kernelRun0_A
  dsimp only
  rw [View.read_writes_junk_eq_canon]
  obtain ⟨e0, e1, e2, e3, e4, e5, e6, e7⟩ := step_eq c arg2 harg2 arg3 harg3 arg4 harg4 arg5 harg5 arg6 harg6 arg7 harg7 arg11 arg12 x0 x1 x2 x3 x4 x5
  simp only [e0, e1, e2, e3, e4, e5, e6, e7]
  funext y
  refine (congrArg (fun L => View.canon L y) (List.append_nil _).symm).trans (View.canon_append_of_piecesOf (out (kernelRun0_A.sl.r_28 c arg2 harg2 arg3 harg3 arg5 harg5 arg12 x0 x1 x3) x0 x1 x2 x3 x4 x5) [] _ ?_ y ?_)
  · have pc : ∀ (k : Fin 8) (inb) (x : S1x256x64.Idx), k0_pay15 (step (8 * k.val) (slc k) (kernelRun0_A.sl.r_28 c arg2 harg2 arg3 harg3 arg5 harg5 arg12 x0 x1 x3) (rowsK x0 x1 x3) (rowsKB x0 x1 x3) (rowsVB x0 x1 x3) (rowsG x0 x4 x5) (bdS x2 k)) x =
        out (kernelRun0_A.sl.r_28 c arg2 harg2 arg3 harg3 arg5 harg5 arg12 x0 x1 x3) x0 x1 x2 x3 x4 x5 ((Rect.unit (s := S8x256x64) ![k.val, 0, 0] ![1, 256, 64] inb).emb x) := by
      intro k inb x
      obtain ⟨a, b, n, rfl⟩ : ∃ (a : Fin 1) (b : Fin 256) (n : Fin 64), x = ix3 a b n := ⟨x 0, x 1, x 2, by funext a; fin_cases a <;> rfl⟩
      obtain rfl : a = 0 := Subsingleton.elim _ _
      rw [emb_slab]
      rfl
    exact ⟨pc 7 (inbS 7), pc 6 (inbS 6), pc 5 (inbS 5), pc 4 (inbS 4), pc 3 (inbS 3), pc 2 (inbS 2), pc 1 (inbS 1), pc 0 (inbS 0), trivial⟩
  · have h0 : (y 0).val < 8 := (y 0).isLt
    have key : ∀ k : Fin 8, (y 0).val = k.val → ∀ inb : ∀ a, (![k.val, 0, 0] : Fin 3 → Nat) a + (![1, 256, 64] : Fin 3 → Nat) a ≤ S8x256x64.size a,
        y ∈ (Rect.unit (s := S8x256x64) ![k.val, 0, 0] ![1, 256, 64] inb).set := by
      intro k hk inb
      have e : (Rect.unit (s := S8x256x64) ![k.val, 0, 0] ![1, 256, 64] inb).emb (ix3 (0 : Fin 1) (y 1) (y 2)) = y := by
        funext a; apply Fin.ext
        match a with
        | ⟨0, _⟩ => show k.val + 1 * 0 = (y 0).val; omega
        | ⟨1, _⟩ => show 0 + 1 * (y 1).val = (y 1).val; omega
        | ⟨2, _⟩ => show 0 + 1 * (y 2).val = (y 2).val; omega
      rw [← e, ← Rect.map_emb_univ]
      exact Finset.mem_map_of_mem _ (Finset.mem_univ _)
    rcases (by omega : (y 0).val = 0 ∨ (y 0).val = 1 ∨ (y 0).val = 2 ∨ (y 0).val = 3 ∨ (y 0).val = 4 ∨ (y 0).val = 5 ∨ (y 0).val = 6 ∨ (y 0).val = 7) with h | h | h | h | h | h | h | h
    · exact ⟨_, List.mem_of_getElem? (i := 7) rfl, key (0 : Fin 8) h inb_S8x256x64_S1x256x64_0_0_0⟩
    · exact ⟨_, List.mem_of_getElem? (i := 6) rfl, key (1 : Fin 8) h inb_S8x256x64_S1x256x64_1_0_0⟩
    · exact ⟨_, List.mem_of_getElem? (i := 5) rfl, key (2 : Fin 8) h inb_S8x256x64_S1x256x64_2_0_0⟩
    · exact ⟨_, List.mem_of_getElem? (i := 4) rfl, key (3 : Fin 8) h inb_S8x256x64_S1x256x64_3_0_0⟩
    · exact ⟨_, List.mem_of_getElem? (i := 3) rfl, key (4 : Fin 8) h inb_S8x256x64_S1x256x64_4_0_0⟩
    · exact ⟨_, List.mem_of_getElem? (i := 2) rfl, key (5 : Fin 8) h inb_S8x256x64_S1x256x64_5_0_0⟩
    · exact ⟨_, List.mem_of_getElem? (i := 1) rfl, key (6 : Fin 8) h inb_S8x256x64_S1x256x64_6_0_0⟩
    · exact ⟨_, List.mem_of_getElem? (i := 0) rfl, key (7 : Fin 8) h inb_S8x256x64_S1x256x64_7_0_0⟩

end Cert.Proof.DnBlock

end
-- ==== Proof.DnMask.lean ====
/-
  The masks of the delta-rule call at an index: which head a lane belongs to, which row of a head's block, and the triangle.
-/
module

public import Idealize.ShloMosaic.Lib.Pointwise
public import Idealize.ShloMosaic.Lib.WordCmp

@[expose] public section

noncomputable section

namespace Cert.Proof.DnMask

open Idealize.ShloMosaic Idealize.SL.Sem

set_option maxRecDepth 20000 in
/-- The block of eight that a number is in. -/
theorem shr3 : ∀ n : Fin 256, IntOp.shrsi ArithUnit.vector (BitVec.ofNat 32 n.val) 3#32 = BitVec.ofNat 32 (n.val / 8) := by decide

set_option maxRecDepth 20000 in
/-- The block of sixty-four that a number is in. -/
theorem shr6 : ∀ n : Fin 256, IntOp.shrsi ArithUnit.vector (BitVec.ofNat 32 n.val) 6#32 = BitVec.ofNat 32 (n.val / 64) := by decide

set_option maxRecDepth 20000 in
/-- The place of a number in its block of eight. -/
theorem and7 : ∀ n : Fin 256, IntOp.andi (BitVec.ofNat 32 n.val) 7#32 = BitVec.ofNat 32 (n.val % 8) := by decide

theorem shr3' (n : ℕ) (h : n < 256) : IntOp.shrsi ArithUnit.vector (BitVec.ofNat 32 n) 3#32 = BitVec.ofNat 32 (n / 8) := shr3 ⟨n, h⟩

theorem shr6' (n : ℕ) (h : n < 256) : IntOp.shrsi ArithUnit.vector (BitVec.ofNat 32 n) 6#32 = BitVec.ofNat 32 (n / 64) := shr6 ⟨n, h⟩

theorem and7' (n : ℕ) (h : n < 256) : IntOp.andi (BitVec.ofNat 32 n) 7#32 = BitVec.ofNat 32 (n % 8) := and7 ⟨n, h⟩

/-- A choice by the equality of two small numbers. -/
theorem sel_eq {α : Type} (a b : ℕ) (ha : a < 256) (hb : b < 256) (x y : α) :
    Scalar.select (IntOp.cmpi .eq (BitVec.ofNat 32 a) (BitVec.ofNat 32 b)) x y = if a = b then x else y := by
  rw [WordCmp.cmpi_eq_ofNat (by omega) (by omega)]
  by_cases h : a = b
  · rw [if_pos h, decide_eq_true h]; rfl
  · rw [if_neg h, decide_eq_false h]; rfl

/-- A choice by the order of two small numbers. -/
theorem sel_gt {α : Type} (a b : ℕ) (ha : a < 256) (hb : b < 256) (x y : α) :
    Scalar.select (IntOp.cmpi .sgt (BitVec.ofNat 32 a) (BitVec.ofNat 32 b)) x y = if b < a then x else y := by
  rw [WordCmp.cmpi_sgt_ofNat (by omega) (by omega)]
  by_cases h : b < a
  · rw [if_pos h, decide_eq_true h]; rfl
  · rw [if_neg h, decide_eq_false h]; rfl

theorem sel_lt {α : Type} (a b : ℕ) (ha : a < 256) (hb : b < 256) (x y : α) :
    Scalar.select (IntOp.cmpi .slt (BitVec.ofNat 32 a) (BitVec.ofNat 32 b)) x y = if a < b then x else y := by
  rw [WordCmp.cmpi_slt_ofNat (by omega) (by omega)]
  by_cases h : a < b
  · rw [if_pos h, decide_eq_true h]; rfl
  · rw [if_neg h, decide_eq_false h]; rfl

/-- A bit as a number. -/
theorem bit_one : (FloatOps.sitofp (F := Ideal) FTy.f32 (BitVec.setWidth 32 1#1) : EReal) = 1 := by
  show ((((BitVec.setWidth 32 1#1).toInt : ℤ) : ℝ) : EReal) = 1
  rw [show (BitVec.setWidth 32 1#1).toInt = 1 by decide]
  simp

theorem bit_zero : (FloatOps.sitofp (F := Ideal) FTy.f32 (BitVec.setWidth 32 0#1) : EReal) = 0 := by
  show ((((BitVec.setWidth 32 0#1).toInt : ℤ) : ℝ) : EReal) = 0
  rw [show (BitVec.setWidth 32 0#1).toInt = 0 by decide]
  simp

/-- The equality of two small numbers as a one or a zero. -/
theorem num_eq (a b : ℕ) (ha : a < 256) (hb : b < 256) :
    (FloatOps.sitofp (F := Ideal) FTy.f32 (BitVec.setWidth 32 (IntOp.cmpi .eq (BitVec.ofNat 32 a) (BitVec.ofNat 32 b))) : EReal) = if a = b then 1 else 0 := by
  rw [WordCmp.cmpi_eq_ofNat (by omega) (by omega)]
  by_cases h : a = b
  · rw [if_pos h, decide_eq_true h]; exact bit_one
  · rw [if_neg h, decide_eq_false h]; exact bit_zero

end Cert.Proof.DnMask

end
-- ==== Proof.DnEntry.lean ====
/-
  One step of the call at an index over the extended reals: with seven of the eight rows zero, the solve is the identity, the running
  sums are the one log decay, and the state changes by one outer product.
-/
module

public import proofs.«01_k».proof.Proof.DnBlock
public import proofs.«01_k».proof.Proof.DnMask

@[expose] public section

noncomputable section

namespace Cert.Proof.DnEntry

open Idealize.ShloMosaic Idealize.SL.Sem Cert.DnStepIdeal Cert.DnStepIdeal.Gen Idealize.ShloMosaic.TcCoe Cert.Proof.DnModel Cert.Proof.DnMask

/-- Eight rows laid out block by block, at an index. -/
theorem bd_apply (x : FVec Ideal S8x256 .f32) (i : Fin 32) (c : Fin 256) :
    bd x (ix2 i c) = if i.val / 8 = c.val / 64 then x (ix2 ⟨i.val % 8, by omega⟩ c) else 0 := by
  unfold bd
  pointwise [k0_pay22, z0]
  rw [shr3' _ (by omega), shr6' _ c.isLt, sel_eq _ _ (by omega) (by omega)]
  by_cases h : i.val / 8 = c.val / 64
  · rw [if_pos h, if_pos h]
    split_ifs <;> exact congrArg (fun j => x (ix2 j c)) (Fin.ext (by dsimp only; omega))
  · rw [if_neg h, if_neg h]

/-- The matrix under the solve is zero. -/
theorem mat_zero (q k kb gc : FVec Ideal S8x256 .f32) (hkb : ∀ (j : Fin 8) (c : Fin 256), j.val ≠ 0 → kb (ix2 j c) = 0) :
    mat q k kb gc = fun _ => (0 : EReal) := by
  funext y
  obtain ⟨i, c, rfl⟩ : ∃ (i : Fin 8) (c : Fin 32), y = ix2 i c := ⟨y 0, y 1, by funext a; fin_cases a <;> rfl⟩
  unfold mat
  generalize k0_pay84 (F := Ideal) k0_pay31 k0_pay33 gc = D
  generalize bd k = B
  pointwise [k0_pay32, k0_pay30, z0]
  rw [and7' _ (by omega), sel_gt _ _ (by omega) (by omega)]
  by_cases h : c.val % 8 < i.val
  · rw [if_pos h]
    rw [Finset.sum_eq_zero fun l _ => ?_, zero_mul]
    have h0 : i.val ≠ 0 := by omega
    rw [hkb i l h0]
    exact zero_mul (B (ix2 c l) : EReal)
  · rw [if_neg h]

/-- The identity pattern of the solve. -/
theorem eye_apply (i : Fin 8) (c : Fin 32) : (k0_pay192 (F := Ideal) (ix2 i c) : EReal) = if i.val = c.val % 8 then 1 else 0 := by
  pointwise [k0_pay192, k0_pay191]
  rw [and7' _ (by omega), num_eq _ _ (by omega) (by omega)]

/-- The inverse of the identity. -/
theorem inv_zero : DnModel.inv (F := Ideal) (fun _ => (0 : EReal)) = k0_pay192 := by
  have hb : bdT (F := Ideal) (fun _ => (0 : EReal)) = fun _ => (0 : EReal) := by
    funext y
    obtain ⟨i, c, rfl⟩ : ∃ (i : Fin 32) (c : Fin 32), y = ix2 i c := ⟨y 0, y 1, by funext a; fin_cases a <;> rfl⟩
    unfold bdT
    pointwise [z0]
    generalize k0_pay23 (ix2 i c) = b
    split_ifs <;> exact ite_self _
  have hm : ∀ x : FVec Ideal S8x32 .f32, mmT x (fun _ => (0 : EReal)) = fun _ => (0 : EReal) := by
    intro x
    funext y
    obtain ⟨i, c, rfl⟩ : ∃ (i : Fin 8) (c : Fin 32), y = ix2 i c := ⟨y 0, y 1, by funext a; fin_cases a <;> rfl⟩
    unfold mmT
    pointwise
    exact Finset.sum_eq_zero fun l _ => mul_zero (x (ix2 i l) : EReal)
  have hp : select k0_pay193 (subf (broadcast S8x32 (z0 (F := Ideal))) (fun _ => (0 : EReal))) (broadcast S8x32 (z0 (F := Ideal))) = fun _ => (0 : EReal) := by
    funext y
    obtain ⟨i, c, rfl⟩ : ∃ (i : Fin 8) (c : Fin 32), y = ix2 i c := ⟨y 0, y 1, by funext a; fin_cases a <;> rfl⟩
    pointwise [z0]
  have ha : ∀ x : FVec Ideal S8x32 .f32, addf x (fun _ => (0 : EReal)) = x := by
    intro x
    funext y
    exact add_zero (x y : EReal)
  unfold DnModel.inv
  dsimp only
  simp only [hp, hb, hm, ha]

/-- The solve's product keeps its rows. -/
theorem app_apply (x : FVec Ideal S8x256 .f32) (i : Fin 8) (c : Fin 256) : (app (F := Ideal) k0_pay192 x (ix2 i c) : EReal) = x (ix2 i c) := by
  unfold app
  have e := eye_apply
  have eb := bd_apply x
  generalize k0_pay192 (F := Ideal) = t at e ⊢
  generalize bd x = B at eb ⊢
  pointwise
  rw [Finset.sum_eq_single (⟨8 * (c.val / 64) + i.val, by omega⟩ : Fin 32)]
  · rw [e, eb, if_pos (by dsimp only; omega), if_pos (by dsimp only; omega)]
    refine (one_mul (x _ : EReal)).trans (congrArg (fun j => (x (ix2 j c) : EReal)) (Fin.ext ?_))
    dsimp only
    omega
  · intro b _ hb
    rw [e, eb]
    by_cases h1 : i.val = b.val % 8
    · rw [if_neg (c := b.val / 8 = c.val / 64) fun h2 => hb (Fin.ext (by dsimp only; omega))]
      exact mul_zero _
    · rw [if_neg h1]
      exact zero_mul _
  · exact fun h => absurd (Finset.mem_univ _) h

/-- The triangle's first column is ones. -/
theorem tri_apply (i : Fin 8) : (tri (F := Ideal) (ix2 i (0 : Fin 8)) : EReal) = 1 := by
  unfold tri
  pointwise [k0_pay29, k0_pay28]
  fin_cases i <;> exact bit_one

/-- The running sums are the one log decay. -/
theorem cum_apply (g : FVec Ideal S8x256 .f32) (hg : ∀ (j : Fin 8) (c : Fin 256), j.val ≠ 0 → (g (ix2 j c) : EReal) = 0)
    (i : Fin 8) (c : Fin 256) (r : ℝ) (hr : (g (ix2 (0 : Fin 8) c) : EReal) = r) : (cum g (ix2 i c) : EReal) = r := by
  unfold cum
  have e := tri_apply
  generalize tri (F := Ideal) = t at e ⊢
  pointwise
  have hz : ∀ j : Fin 8, j ≠ 0 → (g (ix2 j c) : EReal) = 0 := fun j hj => hg j c fun h => hj (Fin.ext h)
  rw [Finset.sum_eq_single (0 : Fin 8), Finset.sum_eq_single (0 : Fin 8), e, hr, one_mul, one_mul, ← EReal.coe_sub, sub_self, EReal.coe_zero, add_zero]
  · intro j _ hj
    rw [hz j hj, sub_zero, mul_zero]
  · exact fun h => absurd (Finset.mem_univ _) h
  · intro j _ hj
    rw [hz j hj, mul_zero]
  · exact fun h => absurd (Finset.mem_univ _) h

/-- The corrected value of the first row. -/
theorem vnew_apply (q kb vb gc : FVec Ideal S8x256 .f32) (st : FVec Ideal S256x256 .f32) (c : Fin 256) :
    (vnew k0_pay192 q kb vb gc st (ix2 (0 : Fin 8) c) : EReal)
      = vb (ix2 (0 : Fin 8) c) - ∑ l : Fin 256, (kb (ix2 (0 : Fin 8) l) * Ideal.exp (gc (ix2 (0 : Fin 8) l))) * st (ix2 l c) := by
  unfold vnew
  pointwise
  simp only [app_apply]
  rfl

/-- The column of decays of the state's rows. -/
theorem col_apply (x : FVec Ideal S1x256 .f32) (r : Fin 256) :
    (k0_pay94 (F := Ideal) (iota .tc S256x256 32 [0] iota_S256x256_d0_w32) (iota .tc S256x256 32 [1] iota_S256x256_d1_w32) x (ix2 r (0 : Fin 1)) : EReal) = Ideal.exp (x (ix2 (0 : Fin 1) r)) := by
  pointwise [k0_pay94]
  rw [Finset.sum_eq_single r]
  · rw [sel_eq _ _ r.isLt r.isLt, if_pos rfl]
  · intro b _ hb
    rw [sel_eq _ _ r.isLt b.isLt, if_neg fun h => hb (Fin.ext h.symm)]
  · exact fun h => absurd (Finset.mem_univ r) h

/-- The state after the step. -/
theorem stepS_apply (q k kb vb gc : FVec Ideal S8x256 .f32) (st : FVec Ideal S256x256 .f32)
    (hk : ∀ (j : Fin 8) (c : Fin 256), j.val ≠ 0 → (k (ix2 j c) : EReal) = 0) (hkb : ∀ (j : Fin 8) (c : Fin 256), j.val ≠ 0 → (kb (ix2 j c) : EReal) = 0)
    (g : Fin 256 → ℝ) (hg : ∀ (j : Fin 8) (c : Fin 256), (gc (ix2 j c) : EReal) = g c) (r c : Fin 256) :
    (stepS q k kb vb gc st (ix2 r c) : EReal) = st (ix2 r c) * Ideal.exp (g r)
      + if r.val / 64 = c.val / 64 then k (ix2 (0 : Fin 8) r) * (vb (ix2 (0 : Fin 8) c) - ∑ l : Fin 256, (kb (ix2 (0 : Fin 8) l) * Ideal.exp (g l)) * st (ix2 l c)) else 0 := by
  unfold stepS
  rw [mat_zero q k kb gc hkb, inv_zero]
  have hv := vnew_apply q kb vb gc st c
  simp only [hg] at hv
  rw [← hv]
  generalize vnew k0_pay192 q kb vb gc st = W
  have hc := col_apply (last gc)
  generalize (k0_pay94 (F := Ideal) (iota .tc S256x256 32 [0] iota_S256x256_d0_w32) (iota .tc S256x256 32 [1] iota_S256x256_d1_w32) (last gc)) = C at hc ⊢
  pointwise [k0_pay20, z0, last]
  rw [hc, shr6' _ r.isLt, shr6' _ c.isLt, sel_eq _ _ (by omega) (by omega)]
  have hl : (last gc (ix2 (0 : Fin 1) r) : EReal) = g r := by
    rw [← hg 7 r]
    pointwise [last]
  rw [hl, Finset.sum_eq_single (0 : Fin 8), hg, hg, ← EReal.coe_sub, sub_self, EReal.coe_zero]
  · rw [show Ideal.exp (0 : EReal) = 1 by rw [← EReal.coe_zero, Ideal.exp_coe, Real.exp_zero, EReal.coe_one], mul_one]
  · intro j _ hj
    rw [hk j r fun h => hj (Fin.ext h), zero_mul, zero_mul]
  · exact fun h => absurd (Finset.mem_univ _) h

/-- The diagonal blocks of a state, one under another. -/
theorem diag_apply (x : FVec Ideal S256x256 .f32) (r : Fin 256) (e : Fin 64) :
    (k0_pay15 (F := Ideal) x (ix3 (0 : Fin 1) r e) : EReal) = x (ix2 r ⟨64 * (r.val / 64) + e.val, by omega⟩) := by
  pointwise [k0_pay15]
  split_ifs <;> exact congrArg₂ (fun a b => x (ix2 a b)) (Fin.ext (by first | rfl | (dsimp only; omega))) (Fin.ext (by first | rfl | (dsimp only; omega)))

/-- The block diagonal state of a sequence. -/
theorem bdS_apply (x2 : Vec Ideal S8x256x64 .f32) (s : Fin 8) (r c : Fin 256) :
    (shapeCast S256x256 (DnBlock.bdS (F := Ideal) x2 s) shapeCasts_S1x256x256_S256x256 (ix2 r c) : EReal)
      = if r.val / 64 = c.val / 64 then x2 (ix3 s r ⟨c.val % 64, by omega⟩) else 0 := by
  unfold DnBlock.bdS
  generalize hL : View.ld x2 (Rect.unit ![s.val, 0, 0] S1x256x64.size (DnBlock.inbS s)) = L
  have e : ∀ e : Fin 64, L (ix3 (0 : Fin 1) r e) = x2 (ix3 s r e) := by
    intro e
    rw [← hL]
    exact congrArg x2 (DnBlock.emb_slab s _ r e)
  pointwise [k0_pay5, k0_pay20, z0]
  rw [shr6' _ r.isLt, shr6' _ c.isLt, sel_eq _ _ (by omega) (by omega)]
  by_cases h : r.val / 64 = c.val / 64
  · rw [if_pos h, if_pos h]
    split_ifs <;> refine (e _).trans (congrArg (fun j => x2 (ix3 s r j)) (Fin.ext ?_)) <;> dsimp only <;> omega
  · rw [if_neg h, if_neg h]

end Cert.Proof.DnEntry

end
-- ==== Proof.DnRows.lean ====
/-
  The rows of the delta-rule call at an index over the extended reals.
-/
module

public import proofs.«01_k».proof.Proof.DnEntry

@[expose] public section

noncomputable section

namespace Cert.Proof.DnRows

open Idealize.ShloMosaic Idealize.SL.Sem Cert.DnStepIdeal Cert.DnStepIdeal.Gen Idealize.ShloMosaic.TcCoe Cert.Proof.DnModel Cert.Proof.DnMask Cert.Proof.DnBlock

/-- The convolved row of a sequence. -/
def cv (x0 : Vec Ideal S8x8x1152 .f32) (x1 : Vec Ideal S8x8x768 .f32) (x3 : Vec Ideal S4x768 .f32) (s : Fin 8) (c : Fin 768) : EReal :=
  x1 (ix3 s (5 : Fin 8) c) * x3 (ix2 (0 : Fin 4) c) + x1 (ix3 s (6 : Fin 8) c) * x3 (ix2 (1 : Fin 4) c) + x1 (ix3 s (7 : Fin 8) c) * x3 (ix2 (2 : Fin 4) c)
    + x0 (ix3 s (0 : Fin 8) ⟨c.val, by omega⟩) * x3 (ix2 (3 : Fin 4) c)

/-- The head of a column, and the head's lane. -/
def head (c : Fin 256) : Fin 4 := ⟨c.val / 64, by omega⟩
def lane (c : Fin 256) : Fin 128 := ⟨c.val / 64, by omega⟩

/-- The columns of a row's keys, values, write strengths and log decays. -/
def kcol (c : Fin 256) : Fin 768 := ⟨256 + c.val, by omega⟩
def vcol (c : Fin 256) : Fin 768 := ⟨512 + c.val, by omega⟩
def bcol (c : Fin 256) : Fin 1152 := ⟨1024 + (c.val / 64 + 4), by omega⟩
def gcol (c : Fin 256) : Fin 1152 := ⟨1024 + c.val / 64, by omega⟩

/-- The value column that a row of the state meets at one of its head's columns. -/
def at' (r : Fin 256) (e : Fin 64) : Fin 256 := ⟨64 * (r.val / 64) + e.val, by omega⟩

/-- Where a sequence's rows lie in the grid point's block. -/
theorem emb3 {d n : ℕ} (s : Fin 8) (hd : n ≤ d) (inb) (t : Fin 8) (c : Fin n) :
    (Rect.unit (s := (⟨3, ![8, 8, d]⟩ : Shape)) ![s.val, 0, 0] ![1, 8, n] inb).emb (ix3 (0 : Fin 1) t c) = ix3 s t (⟨c.val, by omega⟩ : Fin d) := by
  funext a; apply Fin.ext
  match a with
  | ⟨0, _⟩ => show s.val + 1 * 0 = s.val; omega
  | ⟨1, _⟩ => show 0 + 1 * t.val = t.val; omega
  | ⟨2, _⟩ => show 0 + 1 * c.val = c.val; omega

theorem conv_apply (x0 : Vec Ideal S8x8x1152 .f32) (x1 : Vec Ideal S8x8x768 .f32) (x3 : Vec Ideal S4x768 .f32) (s : Fin 8) (c : Fin 768) :
    (conv (F := Ideal) x0 x1 x3 s (ix2 (0 : Fin 8) c) : EReal) = cv x0 x1 x3 s c := by
  unfold conv wrow
  have eH : ∀ t : Fin 8, (View.ld (k0_pay25 (F := Ideal) x1) (Rect.unit (s := S8x8x768) ![s.val, 0, 0] S1x8x768.size (inbH s)) : Vec Ideal S1x8x768 .f32) (ix3 (0 : Fin 1) t c) = x1 (ix3 s t c) := by
    intro t
    show k0_pay25 (F := Ideal) x1 ((Rect.unit (s := S8x8x768) ![s.val, 0, 0] ![1, 8, 768] (inbH s)).emb (ix3 (0 : Fin 1) t c)) = _
    rw [emb3 s (le_refl 768)]
    pointwise [k0_pay25]
  have eX : (View.ld x0 (Rect.unit (s := S8x8x1152) ![s.val, 0, 0] S1x8x768.size (inbX s))) (ix3 (0 : Fin 1) (0 : Fin 8) c) = x0 (ix3 s (0 : Fin 8) ⟨c.val, by omega⟩) :=
    congrArg x0 (emb3 (d := 1152) (n := 768) s (by omega) (inbX s) (0 : Fin 8) c)
  have eW : ∀ j : Fin 4, (View.ld x3 (Rect.unit ![j.val, 0] S1x768.size (inbW j))) (ix2 (0 : Fin 1) c) = x3 (ix2 j c) := by
    intro j
    refine congrArg x3 ?_
    funext a; apply Fin.ext
    match a with
    | ⟨0, _⟩ => show j.val + 1 * 0 = j.val; omega
    | ⟨1, _⟩ => show 0 + 1 * c.val = c.val; omega
  generalize (View.ld (k0_pay25 (F := Ideal) x1) (Rect.unit (s := S8x8x768) ![s.val, 0, 0] S1x8x768.size (inbH s)) : Vec Ideal S1x8x768 .f32) = H at eH ⊢
  generalize View.ld x0 (Rect.unit (s := S8x8x1152) ![s.val, 0, 0] S1x8x768.size (inbX s)) = X at eX ⊢
  have e0 := eW 0
  have e1 := eW 1
  have e2 := eW 2
  have e3 := eW 3
  generalize View.ld x3 (Rect.unit ![(0 : Fin 4).val, 0] S1x768.size (inbW 0)) = w0 at e0 ⊢
  generalize View.ld x3 (Rect.unit ![(1 : Fin 4).val, 0] S1x768.size (inbW 1)) = w1 at e1 ⊢
  generalize View.ld x3 (Rect.unit ![(2 : Fin 4).val, 0] S1x768.size (inbW 2)) = w2 at e2 ⊢
  generalize View.ld x3 (Rect.unit ![(3 : Fin 4).val, 0] S1x768.size (inbW 3)) = w3 at e3 ⊢
  pointwise [k0_pay41, k0_pay39]
  rw [eH, eH, eH, eX, e0, e1, e2, e3]
  rfl

/-- A number gated by its own sigmoid. -/
def gate1 (y : EReal) : EReal := y * Ideal.div 1 (1 + Ideal.exp (0 - y))

/-- The first row of a sequence among the grid point's rows. -/
abbrev row (s : Fin 8) (j : Fin 8) : Fin 64 := ⟨8 * s.val + j.val, by omega⟩

theorem qkv_apply (x0 : Vec Ideal S8x8x1152 .f32) (x1 : Vec Ideal S8x8x768 .f32) (x3 : Vec Ideal S4x768 .f32) (s : Fin 8) (c : Fin 768) :
    (qkv (F := Ideal) x0 x1 x3 (ix2 (row s 0) c) : EReal) = gate1 (cv x0 x1 x3 s c) := by
  rw [← conv_apply]
  unfold qkv gate
  generalize conv (F := Ideal) x0 x1 x3 = C
  have e : (concatenate S64x768 0 [⟨S8x768, C 0⟩, ⟨S8x768, C 1⟩, ⟨S8x768, C 2⟩, ⟨S8x768, C 3⟩, ⟨S8x768, C 4⟩, ⟨S8x768, C 5⟩, ⟨S8x768, C 6⟩, ⟨S8x768, C 7⟩] concatenates_S8x768_S8x768_S8x768_S8x768_S8x768_S8x768_S8x768_S8x768_S64x768_d0) (ix2 (row s 0) c) = C s (ix2 (0 : Fin 8) c) := by
    pointwise
    have h := s.isLt
    split_ifs <;> refine congrArg₂ (fun a b => C a (ix2 b c)) (Fin.ext ?_) (Fin.ext ?_) <;> (try simp only [row]) <;> (try omega)
  generalize (concatenate S64x768 0 [⟨S8x768, C 0⟩, ⟨S8x768, C 1⟩, ⟨S8x768, C 2⟩, ⟨S8x768, C 3⟩, ⟨S8x768, C 4⟩, ⟨S8x768, C 5⟩, ⟨S8x768, C 6⟩, ⟨S8x768, C 7⟩] concatenates_S8x768_S8x768_S8x768_S8x768_S8x768_S8x768_S8x768_S8x768_S64x768_d0) = D at e ⊢
  unfold gate1
  rw [← e]
  pointwise [z0]

/-- The ones of a head's block. -/
theorem ones_apply (l c : Fin 256) : (k0_pay21 (F := Ideal) (ix2 l c) : EReal) = if l.val / 64 = c.val / 64 then 1 else 0 := by
  pointwise [k0_pay21, k0_pay20]
  rw [shr6' _ l.isLt, shr6' _ c.isLt, num_eq _ _ (by omega) (by omega)]

theorem lanesA_apply (l : Fin 128) (c : Fin 256) : (k0_pay26 (F := Ideal) (ix2 l c) : EReal) = if l.val = c.val / 64 then 1 else 0 := by
  pointwise [k0_pay26]
  rw [shr6' _ c.isLt, num_eq _ _ (by omega) (by omega)]

theorem lanesB_apply (l : Fin 128) (c : Fin 256) : (k0_pay27 (F := Ideal) (ix2 l c) : EReal) = if l.val = c.val / 64 + 4 then 1 else 0 := by
  pointwise [k0_pay27]
  rw [shr6' _ c.isLt, show IntOp.addi (BitVec.ofNat 32 (c.val / 64)) 4#32 = BitVec.ofNat 32 (c.val / 64 + 4) from (BitVec.ofNat_add _ _).symm, num_eq _ _ (by omega) (by omega)]

/-- Which rows are not padding. -/
theorem ok_sel {α : Type} (s j : Fin 8) (x y : α) : Scalar.select (k0_pay76 (ix2 (row s j) (0 : Fin 1))) x y = if j = 0 then x else y := by
  pointwise [k0_pay76]
  rw [and7' _ (by omega), sel_lt _ _ (by omega) (by omega)]
  by_cases h : j = 0
  · rw [if_pos h, if_pos (by subst h; show (8 * s.val + 0) % 8 < 1; omega)]
  · have h' : j.val ≠ 0 := fun e => h (Fin.ext e)
    rw [if_neg h, if_neg (by omega)]

/-- A product with one lane's ones, taken in two halves, is that lane where the lane is finite. -/
theorem lane_sum (f o : Fin 128 → EReal) (k : Fin 128) (ho : ∀ l, o l = if l = k then 1 else 0) (b : ℝ) (h : f k = b) :
    (∑ l : Fin 128, f l * o l + ∑ l : Fin 128, (f l - f l) * o l) = b := by
  rw [Finset.sum_eq_single k, Finset.sum_eq_single k, ho k, if_pos rfl, h, mul_one, mul_one, ← EReal.coe_sub, sub_self, EReal.coe_zero, add_zero]
  · intro l _ hl
    rw [ho l, if_neg hl, mul_zero]
  · exact fun h => absurd (Finset.mem_univ _) h
  · intro l _ hl
    rw [ho l, if_neg hl, mul_zero]
  · exact fun h => absurd (Finset.mem_univ _) h

/-- A key's normalization over its head. -/
def keyAt (kk : Fin 256 → EReal) (c : Fin 256) : EReal :=
  kk c * Ideal.rsqrt ((∑ l : Fin 256, kk l * kk l * (if l.val / 64 = c.val / 64 then 1 else 0)) + (Scalar.ofBits (F := Ideal) .f32 0x358637BD#32 : EReal))

theorem keys_apply (y : FVec Ideal S64x256 .f32) (i : Fin 64) (kk : Fin 256 → ℝ) (h : ∀ c, (y (ix2 i c) : EReal) = kk c) (c : Fin 256) :
    (k0_pay72 (F := Ideal) k0_pay21 y (ix2 i c) : EReal) = keyAt (fun c => (kk c : EReal)) c := by
  have e := ones_apply
  generalize k0_pay21 (F := Ideal) = O at e ⊢
  pointwise [k0_pay72]
  unfold keyAt
  have hz : ∑ x : Fin 256, ((y (ix2 i x) * y (ix2 i x) - y (ix2 i x) * y (ix2 i x)) * O (ix2 x c) : EReal) = 0 := by
    refine Finset.sum_eq_zero fun x _ => ?_
    rw [h, ← EReal.coe_mul, ← EReal.coe_sub, sub_self, EReal.coe_zero, zero_mul]
  rw [hz, add_zero]
  simp only [h, e]
  rfl

/-- The sigmoid of a number. -/
def sig1 (y : EReal) : EReal := Ideal.div 1 (1 + Ideal.exp (0 - y))

/-- The log decay of a head from its column. -/
def decay1 (a d x : EReal) : EReal := (0 - Ideal.exp a) * (max (x + d) 0 + Ideal.log (1 + Ideal.exp (0 - max (x + d) (-(x + d)))))

theorem beta_apply (z : FVec Ideal S64x128 .f32) (s j : Fin 8) (c : Fin 256) (b : ℝ) (h : sig1 (z (ix2 (row s j) ⟨c.val / 64 + 4, by omega⟩)) = b) :
    (k0_pay78 (F := Ideal) k0_pay27 z (ix2 (row s j) c) : EReal) = if j = 0 then (b : EReal) else 0 := by
  have e := lanesB_apply
  generalize k0_pay27 (F := Ideal) = O at e ⊢
  pointwise [k0_pay78]
  rw [ok_sel s j]
  refine congrArg (fun v => if j = 0 then v else (0 : EReal)) ?_
  refine lane_sum (fun l => sig1 (z (ix2 (row s j) l))) (fun l => O (ix2 l c)) ⟨c.val / 64 + 4, by omega⟩ (fun l => ?_) b h
  rw [e]
  exact if_congr (⟨fun h => Fin.ext h, fun h => congrArg Fin.val h⟩) rfl rfl

theorem g_apply (x0 : Vec Ideal S8x8x1152 .f32) (x4 x5 : Vec Ideal S1x128 .f32) (s j : Fin 8) (c : Fin 256) (b : ℝ)
    (h : decay1 (x4 (ix2 (0 : Fin 1) ⟨c.val / 64, by omega⟩)) (x5 (ix2 (0 : Fin 1) ⟨c.val / 64, by omega⟩)) (x0 (ix3 s j ⟨1024 + c.val / 64, by omega⟩)) = b) :
    (rowsG (F := Ideal) x0 x4 x5 (ix2 (row s j) c) : EReal) = if j = 0 then (b : EReal) else 0 := by
  unfold rowsG
  have e := lanesA_apply
  generalize k0_pay26 (F := Ideal) = O at e ⊢
  pointwise [k0_pay77, k0_pay75, k0_pay74, k0_pay66]
  rw [ok_sel s j]
  refine congrArg (fun v => if j = 0 then v else (0 : EReal)) ?_
  refine lane_sum (fun l => decay1 (x4 (ix2 (0 : Fin 1) l)) (x5 (ix2 (0 : Fin 1) l)) (x0 (ix3 s j ⟨1024 + l.val, by omega⟩))) (fun l => O (ix2 l c)) ⟨c.val / 64, by omega⟩ (fun l => ?_) b h
  rw [e]
  exact if_congr (⟨fun h => Fin.ext h, fun h => congrArg Fin.val h⟩) rfl rfl

end Cert.Proof.DnRows

end
-- ==== Proof.DnOut.lean ====
/-
  The states that a grid point of the delta-rule call returns, entry by entry.
-/
module

public import proofs.«01_k».proof.Proof.DnRows

@[expose] public section

noncomputable section

namespace Cert.Proof.DnOut

open Idealize.ShloMosaic Idealize.SL.Sem Cert.DnStepIdeal Cert.DnStepIdeal.Gen Idealize.ShloMosaic.TcCoe Cert.Proof.DnModel Cert.Proof.DnMask Cert.Proof.DnBlock Cert.Proof.DnRows

theorem sl_apply (s : Fin 8) (x : FVec Ideal S64x256 .f32) (j : Fin 8) (c : Fin 256) :
    (sl (8 * s.val) (slc s) x (ix2 j c) : EReal) = x (ix2 (row s j) c) := by
  unfold sl
  pointwise

theorem rowsK_apply (x0 : Vec Ideal S8x8x1152 .f32) (x1 : Vec Ideal S8x8x768 .f32) (x3 : Vec Ideal S4x768 .f32) (s j : Fin 8) (c : Fin 256) :
    (rowsK (F := Ideal) x0 x1 x3 (ix2 (row s j) c) : EReal) = if j = 0 then keys (F := Ideal) x0 x1 x3 (ix2 (row s 0) c) else 0 := by
  unfold rowsK
  generalize keys (F := Ideal) x0 x1 x3 = K
  pointwise [k0_pay79]
  rw [ok_sel s j]
  by_cases h : j = 0
  · subst h; rfl
  · rw [if_neg h, if_neg h]

theorem ab_apply (x0 : Vec Ideal S8x8x1152 .f32) (s j : Fin 8) (c : Fin 128) :
    (ab (F := Ideal) x0 (ix2 (row s j) c) : EReal) = x0 (ix3 s j ⟨1024 + c.val, by omega⟩) := by
  unfold ab
  pointwise [k0_pay74, k0_pay66]

section Entry

variable (x0 : Vec Ideal S8x8x1152 .f32) (x1 : Vec Ideal S8x8x768 .f32) (x2 : Vec Ideal S8x256x64 .f32) (x3 : Vec Ideal S4x768 .f32) (x4 x5 : Vec Ideal S1x128 .f32) (s : Fin 8)
  (kk bb gg : Fin 256 → ℝ)
  (hk : ∀ c : Fin 256, gate1 (cv x0 x1 x3 s (kcol c)) = kk c)
  (hb : ∀ c : Fin 256, sig1 (x0 (ix3 s (0 : Fin 8) (bcol c))) = bb c)
  (hg : ∀ c : Fin 256, decay1 (x4 (ix2 (0 : Fin 1) (lane c))) (x5 (ix2 (0 : Fin 1) (lane c))) (x0 (ix3 s (0 : Fin 8) (gcol c))) = gg c)

include hk in
theorem keys_row (c : Fin 256) : (keys (F := Ideal) x0 x1 x3 (ix2 (row s 0) c) : EReal) = keyAt (fun c => (kk c : EReal)) c := by
  unfold keys
  refine keys_apply _ (row s 0) kk (fun c => ?_) c
  rw [← hk c, ← qkv_apply]
  generalize qkv (F := Ideal) x0 x1 x3 = Q
  pointwise
  rfl

include hb in
theorem beta_row (j : Fin 8) (c : Fin 256) : (k0_pay78 (F := Ideal) k0_pay27 (ab x0) (ix2 (row s j) c) : EReal) = if j = 0 then (bb c : EReal) else 0 := by
  by_cases h : j = 0
  · subst h
    refine beta_apply (ab x0) s 0 c (bb c) ?_
    rw [ab_apply]
    exact hb c
  · rw [if_neg h]
    generalize k0_pay27 (F := Ideal) = O
    generalize ab (F := Ideal) x0 = z
    pointwise [k0_pay78]
    rw [ok_sel s j, if_neg h]

include hg in
theorem g_row (j : Fin 8) (c : Fin 256) : (rowsG (F := Ideal) x0 x4 x5 (ix2 (row s j) c) : EReal) = if j = 0 then (gg c : EReal) else 0 := by
  by_cases h : j = 0
  · subst h
    exact g_apply x0 x4 x5 s 0 c (gg c) (hg c)
  · rw [if_neg h]
    unfold rowsG
    generalize k0_pay26 (F := Ideal) = O
    pointwise [k0_pay77, k0_pay75, k0_pay74, k0_pay66]
    rw [ok_sel s j, if_neg h]

include hk hb in
theorem kb_row (j : Fin 8) (c : Fin 256) : (rowsKB (F := Ideal) x0 x1 x3 (ix2 (row s j) c) : EReal) = if j = 0 then keyAt (fun c => (kk c : EReal)) c * bb c else 0 := by
  unfold rowsKB k0_pay80
  have e1 := rowsK_apply x0 x1 x3 s j c
  unfold rowsK at e1
  show (k0_pay79 (F := Ideal) (keys x0 x1 x3) (ix2 (row s j) c) : EReal) * k0_pay78 (F := Ideal) k0_pay27 (ab x0) (ix2 (row s j) c) = _
  rw [e1, beta_row x0 s bb hb, keys_row x0 x1 x3 s kk hk]
  by_cases h : j = 0
  · rw [if_pos h, if_pos h, if_pos h]
  · rw [if_neg h, if_neg h, if_neg h, zero_mul]

include hb in
theorem vb_row (c : Fin 256) : (rowsVB (F := Ideal) x0 x1 x3 (ix2 (row s 0) c) : EReal) = gate1 (cv x0 x1 x3 s (vcol c)) * bb c := by
  have e := beta_row x0 s bb hb 0 c
  rw [if_pos rfl] at e
  rw [← qkv_apply, ← e]
  unfold rowsVB k0_pay81
  generalize k0_pay78 (F := Ideal) k0_pay27 (ab x0) = B
  generalize qkv (F := Ideal) x0 x1 x3 = Q
  pointwise
  exact (ok_sel s 0 _ _).trans (if_pos rfl)

include hk hb hg in
/-- One entry of a sequence's new state. -/
theorem out_apply (q : FVec Ideal S64x256 .f32) (r : Fin 256) (e : Fin 64) :
    (out (F := Ideal) q x0 x1 x2 x3 x4 x5 (ix3 s r e) : EReal)
      = x2 (ix3 s r e) * Ideal.exp (gg r) + keyAt (fun c => (kk c : EReal)) r
        * (gate1 (cv x0 x1 x3 s (vcol (at' r e))) * bb (at' r e)
          - ∑ l : Fin 256, ((keyAt (fun c => (kk c : EReal)) l * bb l) * Ideal.exp (gg l)) * (if l.val / 64 = r.val / 64 then x2 (ix3 s l e) else 0)) := by
  show (k0_pay15 (step (8 * s.val) (slc s) q (rowsK x0 x1 x3) (rowsKB x0 x1 x3) (rowsVB x0 x1 x3) (rowsG x0 x4 x5) (bdS x2 s)) (ix3 (0 : Fin 1) r e) : EReal) = _
  rw [DnEntry.diag_apply]
  unfold step
  rw [DnEntry.stepS_apply _ _ _ _ _ _ (fun j c h => ?_) (fun j c h => ?_) gg (fun j c => ?_)]
  · have h0 : r.val / 64 = (64 * (r.val / 64) + e.val) / 64 := by omega
    have h1 : (64 * (r.val / 64) + e.val) % 64 = e.val := by omega
    simp only [sl_apply, DnEntry.bdS_apply, rowsK_apply, kb_row x0 x1 x3 s kk bb hk hb, vb_row x0 x1 x3 s bb hb, keys_row x0 x1 x3 s kk hk, if_true, ← h0, h1]
    rfl
  · rw [sl_apply, rowsK_apply, if_neg (fun e => h (congrArg Fin.val e))]
  · rw [sl_apply, kb_row x0 x1 x3 s kk bb hk hb, if_neg (fun e => h (congrArg Fin.val e))]
  · refine DnEntry.cum_apply _ (fun j c h => ?_) j c (gg c) ?_
    · rw [sl_apply, g_row x0 x4 x5 s gg hg, if_neg (fun e => h (congrArg Fin.val e))]
    · rw [sl_apply, g_row x0 x4 x5 s gg hg, if_pos rfl]

end Entry

end Cert.Proof.DnOut

end
-- ==== Proof.DnArr.lean ====
/-
  What the arrays of the delta-rule call at the sample batch's shapes hold at the end, over the extended reals.
-/
module

public import proofs.«01_k».proof.Proof.DnOut
public import Idealize.ShloMosaic.Lib.StableHlo.RunRead

@[expose] public section

set_option maxHeartbeats 4000000

noncomputable section

namespace Cert.Proof.DnArr

open Idealize.ShloMosaic Idealize.SL.Sem Cert.DnStepIdeal Cert.DnStepIdeal.Gen Idealize.ShloMosaic.TcCoe Cert.Proof.DnRows
open Idealize.ShloMosaic.StableHlo

variable (m : (ℓ : Loc nD τ sig) → Buf (Elt Ideal) ℓ)

/-- The sequence of a grid point's row of blocks. -/
def bat (t : Fin cfg0.N) (s : Fin 8) : Fin 32 := ⟨8 * t.val + s.val, by have e : cfg0.N = 4 := N_0; omega⟩

/-- The arguments. -/
def argP (c : Dev nD) : FVec Ideal S32x1x1152 .f32 := m ((c : Thread nD τ).loc main_arg0)
def argH (c : Dev nD) : FVec Ideal S32x3x768 .f32 := m ((c : Thread nD τ).loc main_arg1)
def argS (c : Dev nD) : FVec Ideal S32x4x64x64 .f32 := m ((c : Thread nD τ).loc main_arg2)
def argW (c : Dev nD) : FVec Ideal S4x768 .f32 := m ((c : Thread nD τ).loc main_arg3)
def argA (c : Dev nD) : FVec Ideal S4 .f32 := m ((c : Thread nD τ).loc main_arg4)
def argD (c : Dev nD) : FVec Ideal S4 .f32 := m ((c : Thread nD τ).loc main_arg5)

/-- The block index of window 0 at a point. -/
theorem idx0 : ∀ t : Fin grid0.N, win0_0.index t 0 = t.val ∧ win0_0.index t 1 = 0 ∧ win0_0.index t 2 = 0 := by decide +kernel

/-- The block of window 0, read from its array. -/
theorem blk0 (c : Dev nD) (t : Fin cfg0.N) (s : Fin 8) (r : Fin 8) (n : Fin 1152) :
    (iblk m c 0 t : Vec Ideal S8x8x1152 .f32) (ix3 s r n) = V m c main_v0 (ix3 (bat t s) r n) := by
  unfold iblk
  rw [View.read_apply]
  show V m c main_v0 _ = V m c main_v0 _
  congr 1
  funext a
  apply Fin.ext
  match a with
  | ⟨0, _⟩ => show win0_0.index t 0 * 8 + 1 * s.val = 8 * t.val + s.val; rw [(idx0 t).1]; omega
  | ⟨1, _⟩ => show win0_0.index t 1 * 8 + 1 * r.val = r.val; rw [(idx0 t).2.1]; omega
  | ⟨2, _⟩ => show win0_0.index t 2 * 1152 + 1 * n.val = n.val; rw [(idx0 t).2.2]; omega

/-- The block index of window 1 at a point. -/
theorem idx1 : ∀ t : Fin grid0.N, win0_1.index t 0 = t.val ∧ win0_1.index t 1 = 0 ∧ win0_1.index t 2 = 0 := by decide +kernel

/-- The block of window 1, read from its array. -/
theorem blk1 (c : Dev nD) (t : Fin cfg0.N) (s : Fin 8) (r : Fin 8) (n : Fin 768) :
    (iblk m c 1 t : Vec Ideal S8x8x768 .f32) (ix3 s r n) = V m c main_v1 (ix3 (bat t s) r n) := by
  unfold iblk
  rw [View.read_apply]
  show V m c main_v1 _ = V m c main_v1 _
  congr 1
  funext a
  apply Fin.ext
  match a with
  | ⟨0, _⟩ => show win0_1.index t 0 * 8 + 1 * s.val = 8 * t.val + s.val; rw [(idx1 t).1]; omega
  | ⟨1, _⟩ => show win0_1.index t 1 * 8 + 1 * r.val = r.val; rw [(idx1 t).2.1]; omega
  | ⟨2, _⟩ => show win0_1.index t 2 * 768 + 1 * n.val = n.val; rw [(idx1 t).2.2]; omega

/-- The block index of window 2 at a point. -/
theorem idx2 : ∀ t : Fin grid0.N, win0_2.index t 0 = t.val ∧ win0_2.index t 1 = 0 ∧ win0_2.index t 2 = 0 := by decide +kernel

/-- The block of window 2, read from its array. -/
theorem blk2 (c : Dev nD) (t : Fin cfg0.N) (s : Fin 8) (r : Fin 256) (n : Fin 64) :
    (iblk m c 2 t : Vec Ideal S8x256x64 .f32) (ix3 s r n) = V m c main_v2 (ix3 (bat t s) r n) := by
  unfold iblk
  rw [View.read_apply]
  show V m c main_v2 _ = V m c main_v2 _
  congr 1
  funext a
  apply Fin.ext
  match a with
  | ⟨0, _⟩ => show win0_2.index t 0 * 8 + 1 * s.val = 8 * t.val + s.val; rw [(idx2 t).1]; omega
  | ⟨1, _⟩ => show win0_2.index t 1 * 256 + 1 * r.val = r.val; rw [(idx2 t).2.1]; omega
  | ⟨2, _⟩ => show win0_2.index t 2 * 64 + 1 * n.val = n.val; rw [(idx2 t).2.2]; omega

/-- The block index of window 3 at a point. -/
theorem idx3 : ∀ t : Fin grid0.N, win0_3.index t 0 = 0 ∧ win0_3.index t 1 = 0 := by decide +kernel

/-- The block of window 3, read from its array. -/
theorem blk3 (c : Dev nD) (t : Fin cfg0.N) (s : Fin 4) (r : Fin 768) :
    (iblk m c 3 t : Vec Ideal S4x768 .f32) (ix2 s r) = V m c main_arg3 (ix2 s r) := by
  unfold iblk
  rw [View.read_apply]
  show V m c main_arg3 _ = V m c main_arg3 _
  congr 1
  funext a
  apply Fin.ext
  match a with
  | ⟨0, _⟩ => show win0_3.index t 0 * 4 + 1 * s.val = s.val; rw [(idx3 t).1]; omega
  | ⟨1, _⟩ => show win0_3.index t 1 * 768 + 1 * r.val = r.val; rw [(idx3 t).2]; omega

/-- The block index of window 4 at a point. -/
theorem idx4 : ∀ t : Fin grid0.N, win0_4.index t 0 = 0 ∧ win0_4.index t 1 = 0 := by decide +kernel

/-- The block of window 4, read from its array. -/
theorem blk4 (c : Dev nD) (t : Fin cfg0.N) (s : Fin 1) (r : Fin 128) :
    (iblk m c 4 t : Vec Ideal S1x128 .f32) (ix2 s r) = V m c main_v4 (ix2 s r) := by
  unfold iblk
  rw [View.read_apply]
  show V m c main_v4 _ = V m c main_v4 _
  congr 1
  funext a
  apply Fin.ext
  match a with
  | ⟨0, _⟩ => show win0_4.index t 0 * 1 + 1 * s.val = s.val; rw [(idx4 t).1]; omega
  | ⟨1, _⟩ => show win0_4.index t 1 * 128 + 1 * r.val = r.val; rw [(idx4 t).2]; omega

/-- The block index of window 5 at a point. -/
theorem idx5 : ∀ t : Fin grid0.N, win0_5.index t 0 = 0 ∧ win0_5.index t 1 = 0 := by decide +kernel

/-- The block of window 5, read from its array. -/
theorem blk5 (c : Dev nD) (t : Fin cfg0.N) (s : Fin 1) (r : Fin 128) :
    (iblk m c 5 t : Vec Ideal S1x128 .f32) (ix2 s r) = V m c main_v6 (ix2 s r) := by
  unfold iblk
  rw [View.read_apply]
  show V m c main_v6 _ = V m c main_v6 _
  congr 1
  funext a
  apply Fin.ext
  match a with
  | ⟨0, _⟩ => show win0_5.index t 0 * 1 + 1 * s.val = s.val; rw [(idx5 t).1]; omega
  | ⟨1, _⟩ => show win0_5.index t 1 * 128 + 1 * r.val = r.val; rw [(idx5 t).2]; omega

/-- A sequence's row, with seven rows below, at the first row. -/
theorem pad0 (x : FVec Ideal S32x1x1152 .f32) (v : FVec Ideal S_ .f32) (b : Fin 32) (n : Fin 1152) :
    pad S32x8x1152 ![0, 0, 0] ![0, 7, 0] ![0, 0, 0] x v pads_S32x1x1152_S32x8x1152_000_070_000 h_S_ (ix3 b 0 n) = x (ix3 b 0 n) := by
  pointwise []

/-- The history with five rows above. -/
theorem pad1 (x : FVec Ideal S32x3x768 .f32) (v : FVec Ideal S_ .f32) (b : Fin 32) (j : Fin 3) (n : Fin 768) :
    pad S32x8x768 ![0, 5, 0] ![0, 0, 0] ![0, 0, 0] x v pads_S32x3x768_S32x8x768_000_500_000 h_S_ (ix3 b ⟨5 + j.val, by omega⟩ n) = x (ix3 b j n) := by
  pointwise []

/-- Four lanes among 128, as one row. -/
theorem pad4 (x : FVec Ideal S4 .f32) (v : FVec Ideal S_ .f32) (j : Fin 4) :
    shapeCast S1x128 (pad S128 ![0] ![124] ![0] x v pads_S4_S128_01240 h_S_) shapeCasts_S128_S1x128 (ix2 0 ⟨j.val, by omega⟩) = x (ix1 j) := by
  pointwise []

/-- The states of the heads, one below another. -/
theorem heads (x : FVec Ideal S32x4x64x64 .f32) (b : Fin 32) (r : Fin 256) (e : Fin 64) :
    shapeCast S32x256x64 x shapeCasts_S32x4x64x64_S32x256x64 (ix3 b r e) = x (ix4 b ⟨r.val / 64, by omega⟩ ⟨r.val % 64, by omega⟩ e) := by
  pointwise []

/-- The rows' array, at its first row. -/
theorem arr0 (c : Dev nD) (b : Fin 32) (n : Fin 1152) : V m c main_v0 (ix3 b 0 n) = argP m c (ix3 b 0 n) := by
  have e : ∃ v : FVec Ideal S_ .f32, (V m c main_v0 : FVec Ideal S32x8x1152 .f32) = pad S32x8x1152 ![0, 0, 0] ![0, 7, 0] ![0, 0, 0] (argP m c) v pads_S32x1x1152_S32x8x1152_000_070_000 h_S_ := by
    refine ⟨sitofp .f32 (constantI S_ 32 0#32), ?_⟩
    unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl
  obtain ⟨v, e⟩ := e
  rw [e]
  exact pad0 _ v b n

/-- The history's array, at its last rows. -/
theorem arr1 (c : Dev nD) (b : Fin 32) (j : Fin 3) (n : Fin 768) : V m c main_v1 (ix3 b ⟨5 + j.val, by omega⟩ n) = argH m c (ix3 b j n) := by
  have e : ∃ v : FVec Ideal S_ .f32, (V m c main_v1 : FVec Ideal S32x8x768 .f32) = pad S32x8x768 ![0, 5, 0] ![0, 0, 0] ![0, 0, 0] (argH m c) v pads_S32x3x768_S32x8x768_000_500_000 h_S_ := by
    refine ⟨sitofp .f32 (constantI S_ 32 0#32), ?_⟩
    unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl
  obtain ⟨v, e⟩ := e
  rw [e]
  exact pad1 _ v b j n

/-- The states' array. -/
theorem arr2 (c : Dev nD) (b : Fin 32) (r : Fin 256) (k : Fin 64) : V m c main_v2 (ix3 b r k) = argS m c (ix4 b ⟨r.val / 64, by omega⟩ ⟨r.val % 64, by omega⟩ k) := by
  have e : (V m c main_v2 : FVec Ideal S32x256x64 .f32) = shapeCast S32x256x64 (argS m c) shapeCasts_S32x4x64x64_S32x256x64 := by
    unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl
  rw [e]
  exact heads _ b r k

/-- The decays' array, at its first lanes. -/
theorem arr4 (c : Dev nD) (j : Fin 4) : V m c main_v4 (ix2 0 ⟨j.val, by omega⟩) = argA m c (ix1 j) := by
  have e : ∃ v : FVec Ideal S_ .f32, (V m c main_v4 : FVec Ideal S1x128 .f32) = shapeCast S1x128 (pad S128 ![0] ![124] ![0] (argA m c) v pads_S4_S128_01240 h_S_) shapeCasts_S128_S1x128 := by
    refine ⟨sitofp .f32 (constantI S_ 32 0#32), ?_⟩
    unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl
  obtain ⟨v, e⟩ := e
  rw [e]
  exact pad4 _ v j

/-- The shifts' array, at its first lanes. -/
theorem arr5 (c : Dev nD) (j : Fin 4) : V m c main_v6 (ix2 0 ⟨j.val, by omega⟩) = argD m c (ix1 j) := by
  have e : ∃ v : FVec Ideal S_ .f32, (V m c main_v6 : FVec Ideal S1x128 .f32) = shapeCast S1x128 (pad S128 ![0] ![124] ![0] (argD m c) v pads_S4_S128_01240 h_S_) shapeCasts_S128_S1x128 := by
    refine ⟨sitofp .f32 (constantI S_ 32 0#32), ?_⟩
    unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl
  obtain ⟨v, e⟩ := e
  rw [e]
  exact pad4 _ v j

/-- The weights' array is the argument. -/
theorem arr3 (c : Dev nD) : V m c main_arg3 = argW m c := by
  unfold V; simp only [hostOps0, hostOps0_1, hostOps0_2, hostOps0_3, hostOps0_4, hostOps0_5, hostOps0_6, hostOps0_7, hostOps0_8, List.flatten_cons, List.flatten_nil, List.cons_append, List.nil_append, List.append_nil]; after_reads_simp; rfl

/-- The convolution of a sequence's row with the three before it. -/
def cvA (P : FVec Ideal S32x1x1152 .f32) (H : FVec Ideal S32x3x768 .f32) (W : FVec Ideal S4x768 .f32) (b : Fin 32) (n : Fin 768) : EReal :=
  H (ix3 b 0 n) * W (ix2 0 n) + H (ix3 b 1 n) * W (ix2 1 n) + H (ix3 b 2 n) * W (ix2 2 n) + P (ix3 b 0 ⟨n.val, by omega⟩) * W (ix2 3 n)

theorem cv_eq (c : Dev nD) (t : Fin cfg0.N) (s : Fin 8) (n : Fin 768) :
    cv (iblk m c 0 t) (iblk m c 1 t) (iblk m c 3 t) s n = cvA (argP m c) (argH m c) (argW m c) (bat t s) n := by
  unfold cv cvA
  rw [blk0, blk1, blk1, blk1, blk3, blk3, blk3, blk3, arr0, arr3]
  refine congrArg₂ (fun a b : EReal => a + b) (congrArg₂ (fun a b : EReal => a + b) (congrArg₂ (fun a b : EReal => a + b) ?_ ?_) ?_) rfl
  · exact congrArg (fun a : EReal => a * _) (arr1 m c (bat t s) 0 n)
  · exact congrArg (fun a : EReal => a * _) (arr1 m c (bat t s) 1 n)
  · exact congrArg (fun a : EReal => a * _) (arr1 m c (bat t s) 2 n)

/-- What a point leaves in the states' block. -/
theorem flush8 : ∀ t : Fin grid0.N, (cfg0.win 8).flush t = true := by decide +kernel

theorem idx8 : ∀ t : Fin grid0.N, win0_8.index t 0 = t.val ∧ win0_8.index t 1 = 0 ∧ win0_8.index t 2 = 0 := by decide +kernel

theorem block_eq (c : Dev nD) (t : Fin cfg0.N) : ∃ q : FVec Ideal S64x256 .f32,
    ((cfg0.win 8).blk t).view.read (Elt Ideal) ((dats m 0 c).arrAt 8 cfg0.N)
      = (cfg0.win 8).cut (grid0.coords t) (DnBlock.out q (iblk m c 0 t) (iblk m c 1 t) (iblk m c 2 t) (iblk m c 3 t) (iblk m c 4 t) (iblk m c 5 t)) :=
  ⟨_, ((Value.blocks8 m c t (flush8 t)).trans (Value.flushed8_A m c t)).trans (congrArg ((cfg0.win 8).cut (grid0.coords t)) (DnBlock.out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t)))⟩

/-- One entry of a sequence's new states, from its convolved row `v`, its keys `kk`, its write strengths `bb` and its log decays `gg`. -/
def newS (v : Fin 768 → EReal) (S : FVec Ideal S32x4x64x64 .f32) (kk bb gg : Fin 256 → ℝ) (b : Fin 32) (r : Fin 256) (e : Fin 64) : EReal :=
  S (ix4 b ⟨r.val / 64, by omega⟩ ⟨r.val % 64, by omega⟩ e) * Ideal.exp (gg r) + keyAt (fun n => (kk n : EReal)) r
    * (gate1 (v (vcol (at' r e))) * bb (at' r e)
      - ∑ l : Fin 256, ((keyAt (fun n => (kk n : EReal)) l * bb l) * Ideal.exp (gg l))
          * (if l.val / 64 = r.val / 64 then S (ix4 b ⟨l.val / 64, by omega⟩ ⟨l.val % 64, by omega⟩ e) else 0))

/-- The call's states at an index. -/
theorem arr8_apply (c : Dev nD) (b : Fin 32) (kk bb gg : Fin 256 → ℝ)
    (hk : ∀ n : Fin 256, gate1 (cvA (argP m c) (argH m c) (argW m c) b (kcol n)) = kk n)
    (hb : ∀ n : Fin 256, sig1 (argP m c (ix3 b 0 (bcol n))) = bb n)
    (hg : ∀ n : Fin 256, decay1 (argA m c (ix1 (head n))) (argD m c (ix1 (head n))) (argP m c (ix3 b 0 (gcol n))) = gg n)
    (r : Fin 256) (e : Fin 64) :
    ((dats m 0 c).arrAt 8 cfg0.N : Vec Ideal S32x256x64 .f32) (ix3 b r e)
      = newS (cvA (argP m c) (argH m c) (argW m c) b) (argS m c) kk bb gg b r e := by
  have hN : cfg0.N = 4 := N_0
  obtain ⟨t, s, rfl⟩ : ∃ (t : Fin cfg0.N) (s : Fin 8), b = bat t s := ⟨⟨b.val / 8, by omega⟩, ⟨b.val % 8, by omega⟩, Fin.ext (by show b.val = 8 * (b.val / 8) + b.val % 8; omega)⟩
  obtain ⟨q, h⟩ := block_eq m c t
  have h := congrFun h (ix3 s r e)
  rw [View.read_apply] at h
  have e8 : ((cfg0.win 8).blk t).view.emb (ix3 s r e) = ix3 (bat t s) r e := by
    funext a
    apply Fin.ext
    match a with
    | ⟨0, _⟩ => show win0_8.index t 0 * 8 + 1 * s.val = 8 * t.val + s.val; rw [(idx8 t).1]; omega
    | ⟨1, _⟩ => show win0_8.index t 1 * 256 + 1 * r.val = r.val; rw [(idx8 t).2.1]; omega
    | ⟨2, _⟩ => show win0_8.index t 2 * 64 + 1 * e.val = e.val; rw [(idx8 t).2.2]; omega
  rw [e8] at h
  refine h.trans ((DnOut.out_apply (iblk m c 0 t) (iblk m c 1 t) (iblk m c 2 t) (iblk m c 3 t) (iblk m c 4 t) (iblk m c 5 t) s kk bb gg (fun n => ?_) (fun n => ?_) (fun n => ?_) q r e).trans ?_)
  · rw [cv_eq]; exact hk n
  · rw [blk0, arr0]; exact hb n
  · rw [blk0, arr0, blk4, blk5]
    exact (congrArg₂ (fun a d : EReal => decay1 a d (argP m c (ix3 (bat t s) 0 (gcol n)))) (arr4 m c ⟨n.val / 64, by omega⟩) (arr5 m c ⟨n.val / 64, by omega⟩)).trans (hg n)
  · have e2 : ∀ k : Fin 256, (iblk m c 2 t : Vec Ideal S8x256x64 .f32) (ix3 s k e) = argS m c (ix4 (bat t s) ⟨k.val / 64, by omega⟩ ⟨k.val % 64, by omega⟩ e) := fun k => (blk2 m c t s k e).trans (arr2 m c (bat t s) k e)
    unfold newS
    simp only [cv_eq, e2]

end Cert.Proof.DnArr

end
-- ==== Proof.DnFin.lean ====
/-
  Where finite numbers stay finite: the products, the gate, the write strength and the log decay of the delta-rule step.
-/
module

public import proofs.«01_k».proof.Proof.DnArr

@[expose] public section

noncomputable section

namespace Cert.Proof.DnFin

open Idealize.ShloMosaic Cert.Proof.DnRows Cert.Proof.DnArr Cert.DnStepIdeal

/-- A finite number. -/
def Fin' (x : EReal) : Prop := ∃ r : ℝ, x = r

theorem add {x y : EReal} (hx : Fin' x) (hy : Fin' y) : Fin' (x + y) := by
  obtain ⟨a, rfl⟩ := hx; obtain ⟨b, rfl⟩ := hy
  exact ⟨a + b, (EReal.coe_add a b).symm⟩

theorem mul {x y : EReal} (hx : Fin' x) (hy : Fin' y) : Fin' (x * y) := by
  obtain ⟨a, rfl⟩ := hx; obtain ⟨b, rfl⟩ := hy
  exact ⟨a * b, (EReal.coe_mul a b).symm⟩

/-- The sigmoid's denominator is a positive number. -/
theorem one_exp {x : EReal} (hx : Fin' x) : ∃ r : ℝ, 0 < r ∧ 1 + Ideal.exp (0 - x) = r := by
  obtain ⟨a, rfl⟩ := hx
  refine ⟨1 + Real.exp (0 - a), by positivity, ?_⟩
  rw [← EReal.coe_zero, ← EReal.coe_sub, Ideal.exp_coe, EReal.coe_add, EReal.coe_one]

theorem sig {x : EReal} (hx : Fin' x) : Fin' (sig1 x) := by
  obtain ⟨r, h, e⟩ := one_exp hx
  unfold sig1
  rw [e, Ideal.div_coe h.ne', one_mul]
  exact ⟨_, rfl⟩

theorem gate {x : EReal} (hx : Fin' x) : Fin' (gate1 x) := mul hx (sig hx)

theorem decay {a d x : EReal} (ha : Fin' a) (hd : Fin' d) (hx : Fin' x) : Fin' (decay1 a d x) := by
  unfold decay1
  have hz := add hx hd
  have hn : Fin' (max (x + d) (-(x + d))) := by
    obtain ⟨z, e⟩ := hz
    rw [e, ← EReal.coe_neg]
    exact ⟨max z (-z), (EReal.coe_strictMono.monotone.map_max).symm⟩
  obtain ⟨r, h, e⟩ := one_exp hn
  rw [e, Ideal.log_coe, if_neg (not_le.mpr h)]
  refine mul ?_ (add ?_ ⟨_, rfl⟩)
  · obtain ⟨b, rfl⟩ := ha
    exact ⟨0 - Real.exp b, by rw [Ideal.exp_coe, EReal.coe_sub, EReal.coe_zero]⟩
  · obtain ⟨z, e⟩ := hz
    rw [e]
    exact ⟨max z 0, by rw [← EReal.coe_zero]; exact (EReal.coe_strictMono.monotone.map_max).symm⟩

theorem conv {P : FVec Ideal S32x1x1152 .f32} {H : FVec Ideal S32x3x768 .f32} {W : FVec Ideal S4x768 .f32} (b : Fin 32) (n : Fin 768)
    (hP : Fin' (P (ix3 b 0 ⟨n.val, by omega⟩))) (hH : ∀ j, Fin' (H (ix3 b j n))) (hW : ∀ j, Fin' (W (ix2 j n))) : Fin' (cvA P H W b n) :=
  add (add (add (mul (hH _) (hW _)) (mul (hH _) (hW _))) (mul (hH _) (hW _))) (mul hP (hW _))

/-- The bound of the precondition is infinity. -/
theorem bound_eq : Ideal.ofBits .f32 0x7F800000#32 = ⊤ := by
  simp [Ideal.ofBits, Ideal.ieee]

/-- What the precondition's test says of a number. -/
theorem of_test {x : EReal} (h : Ideal.cmp .olt (max x (-x)) (Ideal.ofBits .f32 0x7F800000#32) = 1#1) : Fin' x := by
  have h2 : max x (-x) < ⊤ := by
    by_contra hn
    rw [bound_eq, Ideal.cmp, decide_eq_false hn] at h
    exact absurd h (by decide)
  induction x using EReal.rec with
  | bot => exact absurd h2 (by simp)
  | top => exact absurd h2 (by simp)
  | coe r => exact ⟨r, rfl⟩

theorem of_test_at {ι : Type} (f : ι → EReal) {i j : ι} (e : i = j)
    (h : Ideal.cmp .olt (max (f i) (-(f i))) (Ideal.ofBits .f32 0x7F800000#32) = 1#1) : Fin' (f j) := e ▸ of_test h

end Cert.Proof.DnFin

end
-- ==== Proof.DnRef.lean ====
/-
  What the delta-rule reference at the sample batch's shapes computes: its run's result, read at an index.
-/
module

public import proofs.«01_k».proof.Proof.Gen.DnStepRefIdeal.Run
public import Idealize.ShloMosaic.Lib.Pointwise

@[expose] public section

set_option maxHeartbeats 4000000

noncomputable section

namespace Cert.Proof.DnRef

open Idealize.ShloMosaic Idealize.SL.Sem Cert.DnStepRefIdeal Cert.DnStepRefIdeal.Gen Cert.DnStepRefIdeal.Value Idealize.ShloMosaic.TcCoe Idealize.ShloMosaic.StableHlo
open scoped BigOperators

/-- The history, then the new row. -/
def ext (P : FVec Ideal S32x1x1152 .f32) (H : FVec Ideal S32x3x768 .f32) : FVec Ideal S32x4x768 .f32 :=
  (concatenate S32x4x768 1 [⟨S32x3x768, H⟩, ⟨S32x1x768, (extractStridedSlice S32x1x768 ![0, 0, 0] P slices_S32x1x1152_S32x1x768_0_0_0)⟩] concatenates_S32x3x768_S32x1x768_S32x4x768_d1)

/-- The convolution of a row with the three before it. -/
def conv (P : FVec Ideal S32x1x1152 .f32) (H : FVec Ideal S32x3x768 .f32) (W : FVec Ideal S4x768 .f32) : FVec Ideal S32x768 .f32 :=
  (addf (addf (addf (addf (broadcastInDim S32x768 ![] bcast_S_S32x768 (constant S_ .f32 0x00000000#32)) (mulf (shapeCast _ (extractStridedSlice S32x1x768 ![0, 0, 0] (ext P H) slices_S32x4x768_S32x1x768_0_0_0) shapeCasts_S32x1x768_S32x768) (broadcastInDim S32x768 ![0, 1] bcast_S1x768_S32x768_0_1 (broadcastInDim S1x768 ![1] bcast_S768_S1x768_1 (shapeCast _ (extractStridedSlice S1x768 ![0, 0] W slices_S4x768_S1x768_0_0) shapeCasts_S1x768_S768))))) (mulf (shapeCast _ (extractStridedSlice S32x1x768 ![0, 1, 0] (ext P H) slices_S32x4x768_S32x1x768_0_1_0) shapeCasts_S32x1x768_S32x768) (broadcastInDim S32x768 ![0, 1] bcast_S1x768_S32x768_0_1 (broadcastInDim S1x768 ![1] bcast_S768_S1x768_1 (shapeCast _ (extractStridedSlice S1x768 ![1, 0] W slices_S4x768_S1x768_1_0) shapeCasts_S1x768_S768))))) (mulf (shapeCast _ (extractStridedSlice S32x1x768 ![0, 2, 0] (ext P H) slices_S32x4x768_S32x1x768_0_2_0) shapeCasts_S32x1x768_S32x768) (broadcastInDim S32x768 ![0, 1] bcast_S1x768_S32x768_0_1 (broadcastInDim S1x768 ![1] bcast_S768_S1x768_1 (shapeCast _ (extractStridedSlice S1x768 ![2, 0] W slices_S4x768_S1x768_2_0) shapeCasts_S1x768_S768))))) (mulf (shapeCast _ (extractStridedSlice S32x1x768 ![0, 3, 0] (ext P H) slices_S32x4x768_S32x1x768_0_3_0) shapeCasts_S32x1x768_S32x768) (broadcastInDim S32x768 ![0, 1] bcast_S1x768_S32x768_0_1 (broadcastInDim S1x768 ![1] bcast_S768_S1x768_1 (shapeCast _ (extractStridedSlice S1x768 ![3, 0] W slices_S4x768_S1x768_3_0) shapeCasts_S1x768_S768)))))

/-- The gate of a row by its own sigmoid. -/
def silu (x : FVec Ideal S32x768 .f32) : FVec Ideal S32x768 .f32 :=
  mulf x (Host.divf (broadcastInDim S32x768 ![] bcast_S_S32x768 (constant S_ .f32 0x3F800000#32)) (addf (broadcastInDim S32x768 ![] bcast_S_S32x768 (constant S_ .f32 0x3F800000#32)) (Host.exp (Host.negf x))))

/-- A row's keys and its values, by head. -/
def keysOf (x : FVec Ideal S32x768 .f32) : FVec Ideal S32x4x64 .f32 :=
  shapeCast _ (extractStridedSlice S32x256 ![0, 256] x slices_S32x768_S32x256_0_256) shapeCasts_S32x256_S32x4x64
def valsOf (x : FVec Ideal S32x768 .f32) : FVec Ideal S32x4x64 .f32 :=
  shapeCast _ (extractStridedSlice S32x256 ![0, 512] x slices_S32x768_S32x256_0_512) shapeCasts_S32x256_S32x4x64

/-- The keys, normalized by head. -/
def norm (y : FVec Ideal S32x4x64 .f32) : FVec Ideal S32x4x64 .f32 :=
  mulf y (broadcastInDim S32x4x64 ![0, 1, 2] bcast_S32x4x1_S32x4x64_0_1_2 (Host.rsqrt (addf (broadcastInDim S32x4x1 ![0, 1] bcast_S32x4_S32x4x1_0_1 (Host.reduceAdd (mulf y y) (constant S_ .f32 0x00000000#32) reducesTo_S32x4x64_S32x4_d2 h_S_)) (broadcastInDim S32x4x1 ![] bcast_S_S32x4x1 (constant S_ .f32 0x358637BD#32)))))

/-- The last columns of a row. -/
def ab (P : FVec Ideal S32x1x1152 .f32) : FVec Ideal S32x8 .f32 :=
  shapeCast _ (extractStridedSlice S32x1x8 ![0, 0, 1024] P slices_S32x1x1152_S32x1x8_0_0_1024) shapeCasts_S32x1x8_S32x8

/-- The softplus. -/
def softp (x : FVec Ideal S32x4 .f32) : FVec Ideal S32x4 .f32 :=
  let z := broadcastInDim S32x4 ![] bcast_S_S32x4 (constant S_ .f32 0x00000000#32)
  select (cmpf .une (subf x z) (subf x z)) (addf x z) (addf (maximumf x z) (Host.log1p (Host.exp (Host.negf (Host.absf (subf x z))))))

/-- The decays' columns, shifted by the bias. -/
def shift (z : FVec Ideal S32x8 .f32) (D : FVec Ideal S4 .f32) : FVec Ideal S32x4 .f32 :=
  addf (extractStridedSlice S32x4 ![0, 0] z slices_S32x8_S32x4_0_0) (broadcastInDim S32x4 ![0, 1] bcast_S1x4_S32x4_0_1 (broadcastInDim S1x4 ![1] bcast_S4_S1x4_1 D))

/-- The decays. -/
def dec (z : FVec Ideal S32x8 .f32) (A D : FVec Ideal S4 .f32) : FVec Ideal S32x4 .f32 :=
  Host.exp (mulf (broadcastInDim S32x4 ![0, 1] bcast_S1x4_S32x4_0_1 (broadcastInDim S1x4 ![1] bcast_S4_S1x4_1 (Host.negf (Host.exp A)))) (softp (shift z D)))

/-- The write strengths, by head. -/
def beta (z : FVec Ideal S32x8 .f32) : FVec Ideal S32x4x64 .f32 :=
  broadcastInDim S32x4x64 ![0, 1, 2] bcast_S32x4x1_S32x4x64_0_1_2 (broadcastInDim S32x4x1 ![0, 1] bcast_S32x4_S32x4x1_0_1 (Host.divf (broadcastInDim S32x4 ![] bcast_S_S32x4 (constant S_ .f32 0x3F800000#32)) (addf (broadcastInDim S32x4 ![] bcast_S_S32x4 (constant S_ .f32 0x3F800000#32)) (Host.exp (Host.negf (extractStridedSlice S32x4 ![0, 4] z slices_S32x8_S32x4_0_4))))))

/-- The step of the states from the keys, the values, the write strengths and the decays. -/
def step (S : FVec Ideal S32x4x64x64 .f32) (k v b : FVec Ideal S32x4x64 .f32) (g : FVec Ideal S32x4 .f32) : FVec Ideal S32x256x64 .f32 :=
  shapeCast _ (addf (mulf S (broadcastInDim S32x4x64x64 ![0, 1, 2, 3] bcast_S32x4x1x1_S32x4x64x64_0_1_2_3 (broadcastInDim S32x4x1x1 ![0, 1] bcast_S32x4_S32x4x1x1_0_1 g))) (mulf (broadcastInDim S32x4x64x64 ![0, 1, 2, 3] bcast_S32x4x64x1_S32x4x64x64_0_1_2_3 (broadcastInDim S32x4x64x1 ![0, 1, 2] bcast_S32x4x64_S32x4x64x1_0_1_2 k)) (broadcastInDim S32x4x64x64 ![0, 1, 2, 3] bcast_S32x4x1x64_S32x4x64x64_0_1_2_3 (broadcastInDim S32x4x1x64 ![0, 1, 3] bcast_S32x4x64_S32x4x1x64_0_1_3 (subf (mulf v b) (Host.reduceAdd (mulf (broadcastInDim S32x4x64x64 ![0, 1, 2, 3] bcast_S32x4x64x1_S32x4x64x64_0_1_2_3 (broadcastInDim S32x4x64x1 ![0, 1, 2] bcast_S32x4x64_S32x4x64x1_0_1_2 (mulf (mulf k b) (broadcastInDim S32x4x64 ![0, 1, 2] bcast_S32x4x1_S32x4x64_0_1_2 (broadcastInDim S32x4x1 ![0, 1] bcast_S32x4_S32x4x1_0_1 g))))) S) (constant S_ .f32 0x00000000#32) reducesTo_S32x4x64x64_S32x4x64_d2 h_S_)))))) shapeCasts_S32x4x64x64_S32x256x64

/-- The reference's result, by its parts. -/
theorem res_eq (m : (ℓ : Loc nD τ sig) → Buf (Elt Ideal) ℓ) (c : Dev nD) :
    (res_main_v92 m c : FVec Ideal S32x256x64 .f32)
      = step (m ((c.tc : Thread nD τ).loc main_arg2))
          (norm (keysOf (silu (conv (m ((c.tc : Thread nD τ).loc main_arg0)) (m ((c.tc : Thread nD τ).loc main_arg1)) (m ((c.tc : Thread nD τ).loc main_arg3))))))
          (valsOf (silu (conv (m ((c.tc : Thread nD τ).loc main_arg0)) (m ((c.tc : Thread nD τ).loc main_arg1)) (m ((c.tc : Thread nD τ).loc main_arg3)))))
          (beta (ab (m ((c.tc : Thread nD τ).loc main_arg0))))
          (dec (ab (m ((c.tc : Thread nD τ).loc main_arg0))) (m ((c.tc : Thread nD τ).loc main_arg4)) (m ((c.tc : Thread nD τ).loc main_arg5))) := by
  unfold res_main_v92 step norm keysOf valsOf silu conv ext beta dec softp shift ab
  rfl

theorem ext_old (P : FVec Ideal S32x1x1152 .f32) (H : FVec Ideal S32x3x768 .f32) (b : Fin 32) (j : Fin 3) (n : Fin 768) :
    (ext P H (ix3 b ⟨j.val, by omega⟩ n) : EReal) = H (ix3 b j n) := by
  unfold ext
  pointwise []

theorem ext_new (P : FVec Ideal S32x1x1152 .f32) (H : FVec Ideal S32x3x768 .f32) (b : Fin 32) (n : Fin 768) :
    (ext P H (ix3 b 3 n) : EReal) = P (ix3 b 0 ⟨n.val, by omega⟩) := by
  unfold ext
  pointwise []

theorem conv_apply (P : FVec Ideal S32x1x1152 .f32) (H : FVec Ideal S32x3x768 .f32) (W : FVec Ideal S4x768 .f32) (b : Fin 32) (n : Fin 768) :
    (conv P H W (ix2 b n) : EReal) = H (ix3 b 0 n) * W (ix2 0 n) + H (ix3 b 1 n) * W (ix2 1 n) + H (ix3 b 2 n) * W (ix2 2 n) + P (ix3 b 0 ⟨n.val, by omega⟩) * W (ix2 3 n) := by
  have e0 := ext_old P H b 0 n
  have e1 := ext_old P H b 1 n
  have e2 := ext_old P H b 2 n
  have e3 := ext_new P H b n
  unfold conv
  generalize ext P H = X at e0 e1 e2 e3 ⊢
  rw [← e0, ← e1, ← e2, ← e3]
  pointwise []

theorem silu_apply (x : FVec Ideal S32x768 .f32) (b : Fin 32) (n : Fin 768) :
    (silu x (ix2 b n) : EReal) = x (ix2 b n) * Ideal.div 1 (1 + Ideal.exp (- x (ix2 b n))) := by
  unfold silu
  pointwise []

theorem keys_apply (x : FVec Ideal S32x768 .f32) (b : Fin 32) (h : Fin 4) (d : Fin 64) :
    (keysOf x (ix3 b h d) : EReal) = x (ix2 b ⟨256 + (h.val * 64 + d.val), by omega⟩) := by
  unfold keysOf
  pointwise []

theorem vals_apply (x : FVec Ideal S32x768 .f32) (b : Fin 32) (h : Fin 4) (d : Fin 64) :
    (valsOf x (ix3 b h d) : EReal) = x (ix2 b ⟨512 + (h.val * 64 + d.val), by omega⟩) := by
  unfold valsOf
  pointwise []

theorem norm_apply (y : FVec Ideal S32x4x64 .f32) (b : Fin 32) (h : Fin 4) (d : Fin 64) :
    (norm y (ix3 b h d) : EReal) = y (ix3 b h d) * Ideal.rsqrt ((∑ l : Fin 64, y (ix3 b h l) * y (ix3 b h l)) + Ideal.ofBits .f32 0x358637BD#32) := by
  unfold norm
  pointwise []

theorem ab_apply (P : FVec Ideal S32x1x1152 .f32) (b : Fin 32) (j : Fin 8) :
    (ab P (ix2 b j) : EReal) = P (ix3 b 0 ⟨1024 + j.val, by omega⟩) := by
  unfold ab
  pointwise []

theorem softp_apply (x : FVec Ideal S32x4 .f32) (b : Fin 32) (h : Fin 4) :
    (softp x (ix2 b h) : EReal) = max (x (ix2 b h)) 0 + Ideal.log (1 + Ideal.exp (-(max (x (ix2 b h)) (-(x (ix2 b h)))))) := by
  have e : ∀ y : EReal, Ideal.cmp .une y y = 0#1 := fun y => by simp [Ideal.cmp]
  unfold softp
  pointwise [Ideal.log1p, e]
  rfl

theorem shift_apply (z : FVec Ideal S32x8 .f32) (D : FVec Ideal S4 .f32) (b : Fin 32) (h : Fin 4) :
    (shift z D (ix2 b h) : EReal) = z (ix2 b ⟨h.val, by omega⟩) + D (ix1 h) := by
  unfold shift
  pointwise []

theorem dec_apply (z : FVec Ideal S32x8 .f32) (A D : FVec Ideal S4 .f32) (b : Fin 32) (h : Fin 4) :
    (dec z A D (ix2 b h) : EReal) = Ideal.exp (-(Ideal.exp (A (ix1 h))) * (max (z (ix2 b ⟨h.val, by omega⟩) + D (ix1 h)) 0
      + Ideal.log (1 + Ideal.exp (-(max (z (ix2 b ⟨h.val, by omega⟩) + D (ix1 h)) (-(z (ix2 b ⟨h.val, by omega⟩) + D (ix1 h)))))))) := by
  have e := softp_apply (shift z D) b h
  rw [shift_apply] at e
  rw [← e]
  unfold dec
  generalize softp (shift z D) = x
  pointwise []

theorem beta_apply (z : FVec Ideal S32x8 .f32) (b : Fin 32) (h : Fin 4) (d : Fin 64) :
    (beta z (ix3 b h d) : EReal) = Ideal.div 1 (1 + Ideal.exp (- z (ix2 b ⟨4 + h.val, by omega⟩))) := by
  unfold beta
  pointwise []

theorem step_apply (S : FVec Ideal S32x4x64x64 .f32) (k v w : FVec Ideal S32x4x64 .f32) (g : FVec Ideal S32x4 .f32) (b : Fin 32) (r : Fin 256) (e : Fin 64) :
    (step S k v w g (ix3 b r e) : EReal)
      = S (ix4 b ⟨r.val / 64, by omega⟩ ⟨r.val % 64, by omega⟩ e) * g (ix2 b ⟨r.val / 64, by omega⟩)
        + k (ix3 b ⟨r.val / 64, by omega⟩ ⟨r.val % 64, by omega⟩) * (v (ix3 b ⟨r.val / 64, by omega⟩ e) * w (ix3 b ⟨r.val / 64, by omega⟩ e)
          - ∑ d : Fin 64, (k (ix3 b ⟨r.val / 64, by omega⟩ d) * w (ix3 b ⟨r.val / 64, by omega⟩ d) * g (ix2 b ⟨r.val / 64, by omega⟩)) * S (ix4 b ⟨r.val / 64, by omega⟩ d e)) := by
  unfold step
  pointwise []

end Cert.Proof.DnRef

end
-- ==== Proof.DnEq.lean ====
/-
  The delta-rule call at the sample batch's shapes leaves the states that its reference does, over the extended reals.
-/
module

public import proofs.«01_k».proof.Proof.DnFin
public import proofs.«01_k».proof.Proof.DnRef
public import proofs.«01_k».proof.Proof.Gen.Pre_finite
public import proofs.«01_k».proof.Defs

@[expose] public section

set_option maxHeartbeats 4000000

noncomputable section

namespace Cert.Proof.DnEq

open Idealize.ShloMosaic Idealize.SL.Sem Idealize.ShloMosaic.TcCoe Idealize.ShloMosaic.StableHlo Cert.Proof.DnRows Cert.Proof.DnArr
open scoped BigOperators

/-- A sum over a head's columns among all heads'. -/
theorem sum_head (f : Fin 256 → EReal) (h : Fin 4) :
    ∑ l : Fin 256, (if l.val / 64 = h.val then f l else 0) = ∑ d : Fin 64, f ⟨h.val * 64 + d.val, by omega⟩ := by
  rw [← Finset.sum_filter]
  refine Finset.sum_nbij' (fun l => ⟨l.val % 64, by omega⟩) (fun d => ⟨h.val * 64 + d.val, by omega⟩) ?_ ?_ ?_ ?_ ?_
  · exact fun l _ => Finset.mem_univ _
  · exact fun d _ => Finset.mem_filter.mpr ⟨Finset.mem_univ _, by show (h.val * 64 + d.val) / 64 = h.val; omega⟩
  · intro l hl
    have := (Finset.mem_filter.mp hl).2
    exact Fin.ext (by show h.val * 64 + l.val % 64 = l.val; omega)
  · exact fun d _ => Fin.ext (by show (h.val * 64 + d.val) % 64 = d.val; omega)
  · intro l hl
    have := (Finset.mem_filter.mp hl).2
    exact congrArg f (Fin.ext (by show l.val = h.val * 64 + l.val % 64; omega))

theorem zero_sub' (x : EReal) : 0 - x = -x := by rw [sub_eq_add_neg, zero_add]

section Entry

open Cert.DnStepIdeal

variable (P : FVec Ideal S32x1x1152 .f32) (H : FVec Ideal S32x3x768 .f32) (S : FVec Ideal S32x4x64x64 .f32) (W : FVec Ideal S4x768 .f32) (A D : FVec Ideal S4 .f32) (b : Fin 32)

/-- The reference's gated convolution is the call's. -/
theorem silu_eq (n : Fin 768) : (DnRef.silu (DnRef.conv P H W) (ix2 b n) : EReal) = gate1 (cvA P H W b n) := by
  rw [DnRef.silu_apply, DnRef.conv_apply]
  unfold gate1
  rw [zero_sub']
  rfl

theorem keys_eq (kk : Fin 256 → ℝ) (hk : ∀ n : Fin 256, gate1 (cvA P H W b (kcol n)) = kk n) (h : Fin 4) (d : Fin 64) :
    (DnRef.norm (DnRef.keysOf (DnRef.silu (DnRef.conv P H W))) (ix3 b h d) : EReal) = keyAt (fun n => (kk n : EReal)) ⟨h.val * 64 + d.val, by omega⟩ := by
  have e : ∀ d : Fin 64, (DnRef.keysOf (DnRef.silu (DnRef.conv P H W)) (ix3 b h d) : EReal) = kk ⟨h.val * 64 + d.val, by omega⟩ := by
    intro d
    rw [DnRef.keys_apply, silu_eq, ← hk]
    rfl
  have hh : (h.val * 64 + d.val) / 64 = h.val := by omega
  rw [DnRef.norm_apply]
  unfold keyAt
  simp only [e, mul_ite, mul_one, mul_zero, hh]
  rw [sum_head (fun l => (kk l : EReal) * kk l) h]
  rfl

theorem beta_eq (bb : Fin 256 → ℝ) (hb : ∀ n : Fin 256, sig1 (P (ix3 b 0 (bcol n))) = bb n) (h : Fin 4) (d : Fin 64) :
    (DnRef.beta (DnRef.ab P) (ix3 b h d) : EReal) = bb ⟨h.val * 64 + d.val, by omega⟩ := by
  rw [DnRef.beta_apply, DnRef.ab_apply, ← hb]
  unfold sig1
  rw [zero_sub']
  refine congrArg (fun k => Ideal.div 1 (1 + Ideal.exp (-P (ix3 b 0 k)))) (Fin.ext ?_)
  show 1024 + (4 + h.val) = 1024 + ((h.val * 64 + d.val) / 64 + 4)
  omega

theorem dec_eq (gg : Fin 256 → ℝ) (hg : ∀ n : Fin 256, decay1 (A (ix1 (head n))) (D (ix1 (head n))) (P (ix3 b 0 (gcol n))) = gg n) (h : Fin 4) (n : Fin 256) (hn : n.val / 64 = h.val) :
    (DnRef.dec (DnRef.ab P) A D (ix2 b h) : EReal) = Ideal.exp (gg n) := by
  have e : head n = h := Fin.ext hn
  have e' : gcol n = ⟨1024 + h.val, by omega⟩ := Fin.ext (by show 1024 + n.val / 64 = _; rw [hn])
  rw [DnRef.dec_apply, DnRef.ab_apply, ← hg, e, e']
  unfold decay1
  rw [zero_sub', zero_sub']

/-- One entry of the reference's states. -/
theorem step_eq (kk bb gg : Fin 256 → ℝ)
    (hk : ∀ n : Fin 256, gate1 (cvA P H W b (kcol n)) = kk n)
    (hb : ∀ n : Fin 256, sig1 (P (ix3 b 0 (bcol n))) = bb n)
    (hg : ∀ n : Fin 256, decay1 (A (ix1 (head n))) (D (ix1 (head n))) (P (ix3 b 0 (gcol n))) = gg n)
    (r : Fin 256) (e : Fin 64) :
    (DnRef.step S (DnRef.norm (DnRef.keysOf (DnRef.silu (DnRef.conv P H W)))) (DnRef.valsOf (DnRef.silu (DnRef.conv P H W))) (DnRef.beta (DnRef.ab P)) (DnRef.dec (DnRef.ab P) A D) (ix3 b r e) : EReal)
      = newS (cvA P H W b) S kk bb gg b r e := by
  rw [DnRef.step_apply, DnRef.vals_apply, silu_eq, keys_eq P H W b kk hk, beta_eq P b bb hb, dec_eq P A D b gg hg _ r rfl]
  unfold newS
  have hr : (⟨(⟨r.val / 64, by omega⟩ : Fin 4).val * 64 + (⟨r.val % 64, by omega⟩ : Fin 64).val, by omega⟩ : Fin 256) = r := Fin.ext (by show r.val / 64 * 64 + r.val % 64 = r.val; omega)
  have ha : (⟨(⟨r.val / 64, by omega⟩ : Fin 4).val * 64 + e.val, by omega⟩ : Fin 256) = at' r e := Fin.ext (by show r.val / 64 * 64 + e.val = 64 * (r.val / 64) + e.val; omega)
  have hv : (⟨512 + ((⟨r.val / 64, by omega⟩ : Fin 4).val * 64 + e.val), by omega⟩ : Fin 768) = vcol (at' r e) := Fin.ext (by show 512 + (r.val / 64 * 64 + e.val) = 512 + (64 * (r.val / 64) + e.val); omega)
  rw [hr, ha, hv]
  refine congrArg₂ (fun x y : EReal => x + y) rfl (congrArg₂ (fun x y : EReal => x * y) rfl (congrArg₂ (fun x y : EReal => x - y) rfl ?_))
  simp only [mul_ite, mul_zero]
  rw [sum_head (fun l => keyAt (fun n => (kk n : EReal)) l * bb l * Ideal.exp (gg l) * S (ix4 b ⟨l.val / 64, by omega⟩ ⟨l.val % 64, by omega⟩ e)) ⟨r.val / 64, by omega⟩]
  refine Finset.sum_congr rfl fun d _ => ?_
  rw [keys_eq P H W b kk hk, beta_eq P b bb hb, ← dec_eq P A D b gg hg ⟨r.val / 64, by omega⟩ r rfl,
    dec_eq P A D b gg hg ⟨r.val / 64, by omega⟩ ⟨r.val / 64 * 64 + d.val, by omega⟩ (by show (r.val / 64 * 64 + d.val) / 64 = r.val / 64; omega)]
  refine congrArg₂ (fun x y : EReal => x * y) rfl (congrArg₂ (fun i j => S (ix4 b i j e)) (Fin.ext ?_) (Fin.ext ?_))
  · show r.val / 64 = (r.val / 64 * 64 + d.val) / 64; omega
  · show d.val = (r.val / 64 * 64 + d.val) % 64; omega

end Entry

/-- What the precondition says of the arguments. -/
theorem finite_args (m : (ℓ : Loc Cert.DnStepIdeal.nD Cert.DnStepIdeal.τ Cert.DnStepIdeal.sig) → Buf (Elt Ideal) ℓ)
    (hp : Cert.Pre_DnStepIdeal_finite (hPre_finite := Cert.Pre_finite.Gen.facts) m) (c : Dev Cert.DnStepIdeal.nD) :
    (∀ b n, DnFin.Fin' (argP m c (ix3 b 0 ⟨(kcol n).val, by omega⟩))) ∧ (∀ (b : Fin 32) (n : Fin 8), DnFin.Fin' (argP m c (ix3 b 0 ⟨1024 + n.val, by omega⟩))) ∧
    (∀ b j n, DnFin.Fin' (argH m c (ix3 b j (kcol n)))) ∧ (∀ j n, DnFin.Fin' (argW m c (ix2 j (kcol n)))) ∧
    (∀ i, DnFin.Fin' (argA m c i)) ∧ (∀ i, DnFin.Fin' (argD m c i)) := by
  obtain ⟨h0, h1, h2, h3, h4, h5⟩ := hp c
  refine ⟨fun b n => DnFin.of_test_at (argP m c) ?_ (congrFun h0 (ix3 b 0 n)), fun b n => DnFin.of_test_at (argP m c) ?_ (congrFun h1 (ix3 b 0 n)),
    fun b j n => DnFin.of_test_at (argH m c) ?_ (congrFun h2 (ix3 b j n)), fun j n => DnFin.of_test_at (argW m c) ?_ (congrFun h3 (ix2 j n)),
    fun i => DnFin.of_test (congrFun h4 i), fun i => DnFin.of_test (congrFun h5 i)⟩
  all_goals
    funext a; apply Fin.ext
    fin_cases a <;> simp [kcol, ix3, ix2]

/-- The two programs end with equal states. -/
theorem algebraic : Cert.algebraic_DnStepIdeal_DnStepRefIdeal_pre_finite (hDnStepIdeal := Cert.DnStepIdeal.Gen.facts) (hDnStepRefIdeal := Cert.DnStepRefIdeal.Gen.facts) (hPre_finite := Cert.Pre_finite.Gen.facts) := by
  intro m g m' g' hp hagree
  refine ⟨_, (θ_run _ _ _).mono (fun r h c => (h c).2) (Cert.DnStepIdeal.Value.run_blocks (F := Ideal) m g), ?_⟩
  refine (θ_run _ _ _).mono (fun r h c => ?_) (Cert.DnStepRefIdeal.Value.run (F := Ideal) m' g')
  obtain ⟨h0, h1, h2, h3, h4, h5, h6⟩ := hagree c
  obtain ⟨r0, ha⟩ := h c
  refine ⟨r0.trans ?_, ha⟩
  obtain ⟨fK, fB, fH, fW, fA, fD⟩ := finite_args m hp c
  refine (DnRef.res_eq m' c).trans ?_
  rw [h0, h1, h2, h3, h4, h5]
  funext j
  obtain ⟨b, r, e, rfl⟩ : ∃ (b : Fin 32) (r : Fin 256) (e : Fin 64), j = ix3 b r e := ⟨j 0, j 1, j 2, by funext a; fin_cases a <;> rfl⟩
  choose kk hk using fun n : Fin 256 => DnFin.gate (DnFin.conv b (kcol n) (fK b n) (fun j => fH b j n) (fun j => fW j n))
  choose bb hb using fun n : Fin 256 => DnFin.sig (fB b ⟨n.val / 64 + 4, by omega⟩)
  choose gg hg using fun n : Fin 256 => DnFin.decay (fA (ix1 (head n))) (fD (ix1 (head n))) (fB b ⟨n.val / 64, by omega⟩)
  exact (step_eq (argP m c) (argH m c) (argS m c) (argW m c) (argA m c) (argD m c) b kk bb gg hk hb hg r e).trans (arr8_apply m c b kk bb gg hk hb hg r e).symm

/-- The reference leaves its arguments as they were. -/
theorem frame_ref : Cert.quiescent_DnStepRefIdeal (hDnStepRefIdeal := Cert.DnStepRefIdeal.Gen.facts) := fun m ρ _ =>
  (θ_run _ _ _).mono (fun r h => ⟨fun c => (h c).2, Idealize.ShloMosaic.sem_eq_zero_of_no_sems (by decide) r.2⟩) (Cert.DnStepRefIdeal.Value.run (F := Ideal) m ρ)

end Cert.Proof.DnEq

end
-- ==== Proof.FfnStepBlock.lean ====
/-
  What one block of the mixing-and-feed-forward call computes: the output block as one term of the twelve input blocks,
  and that term at a row and a feature.
-/
module

public import proofs.«01_k».proof.Proof.Gen.FfnStepIdeal.Value
public import proofs.«01_k».proof.Proof.Rows
public import Idealize.ShloMosaic.Lib.Pointwise
public import Idealize.ShloMosaic.Lib.Pipeline.ValueKit

@[expose] public section

noncomputable section

namespace Cert.Proof.FfnStepBlock

open Idealize.ShloMosaic Idealize.SL.Sem Cert.FfnStepIdeal Cert.FfnStepIdeal.Gen Idealize.ShloMosaic.TcCoe

variable {F : FTy → Type} [FloatOps F]

/-- The zero offsets, as a function. -/
theorem hz : (![0, 0] : Fin 2 → Nat) = fun _ => 0 := funext fun a => by fin_cases a <;> rfl

/-- Rows `o … o + 255` of the output projection. -/
abbrev rowsOf (x5 : Vec F S1024x1024 .bf16) (o : Nat) (h : ∀ a, (![o, 0] : Fin 2 → Nat) a + S256x1024.size a ≤ S1024x1024.size a) :
    Vec F S256x1024 .bf16 := View.ld x5 (Rect.unit (s := S1024x1024) ![o, 0] S256x1024.size h)

/-- The mixed block: the sum of the four mixers' products. -/
def mixB (x1 x2 x3 x4 : Vec F S32x256 .f32) (x5 : Vec F S1024x1024 .bf16) : FVec F S32x1024 .f32 :=
  k0_pay7 x1 (rowsOf x5 0 inb_S1024x1024_S256x1024_0_0) x2 (rowsOf x5 256 inb_S1024x1024_S256x1024_256_0)
    x3 (rowsOf x5 512 inb_S1024x1024_S256x1024_512_0) x4 (rowsOf x5 768 inb_S1024x1024_S256x1024_768_0)

/-- The sums of squares of the mixed block's rows. -/
def sqB (x1 x2 x3 x4 : Vec F S32x256 .f32) (x5 : Vec F S1024x1024 .bf16) : FVec F S32x1 .f32 :=
  k0_pay10 x1 (rowsOf x5 0 inb_S1024x1024_S256x1024_0_0) x2 (rowsOf x5 256 inb_S1024x1024_S256x1024_256_0)
    x3 (rowsOf x5 512 inb_S1024x1024_S256x1024_512_0) x4 (rowsOf x5 768 inb_S1024x1024_S256x1024_768_0)

/-- The whole output block, from the input blocks. -/
def outB (x0 : Vec F S32x1024 .f32) (x1 x2 x3 x4 : Vec F S32x256 .f32) (x5 : Vec F S1024x1024 .bf16)
    (x6 x7 : Vec F S1x1024 .f32) (x8 x9 : Vec F S1024x2816 .bf16) (x10 : Vec F S2816x1024 .bf16) (x11 : Vec F S1x1024 .f32) :
    FVec F S32x1024 .f32 :=
  k0_pay6 (k0_pay2 (mixB x1 x2 x3 x4 x5) (k0_pay8 x0) (k0_pay9 x6) (sqB x1 x2 x3 x4 x5) (Scalar.ofBits .f32 0x44800000#32))
    (k0_pay5 (k0_pay3 (mixB x1 x2 x3 x4 x5) (k0_pay8 x0) (k0_pay9 x6) (sqB x1 x2 x3 x4 x5) (Scalar.ofBits .f32 0x44800000#32) x7)
      x8 x9 k0_pay4 x10) x11

set_option maxHeartbeats 1000000 in
/-- What the body leaves in the output's staging buffer is `outB` of the input blocks. -/
theorem out_eq (c : Dev nD) (i : grid0.Coords) (arg2 : Memref sig .tc .vmem S32x1024 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S32x1024 .f32) (harg14 : arg14.IsWhole) (arg15 : Memref sig .tc .vmem S32x1024 .f32) (harg15 : arg15.IsWhole) (arg16 : Memref sig .tc .vmem S32x1024 .bf16) (harg16 : arg16.IsWhole) (arg17 : Memref sig .tc .vmem S32x1024 .f32) (harg17 : arg17.IsWhole) (hc0 : cond0_0 i) (hc1 : cond0_1 i)
    (x0 : Vec F S32x1024 .f32) (x1 : Vec F S32x256 .f32) (x2 : Vec F S32x256 .f32) (x3 : Vec F S32x256 .f32) (x4 : Vec F S32x256 .f32) (x5 : Vec F S1024x1024 .bf16) (x6 : Vec F S1x1024 .f32) (x7 : Vec F S1x1024 .f32) (x8 : Vec F S1024x2816 .bf16) (x9 : Vec F S1024x2816 .bf16) (x10 : Vec F S2816x1024 .bf16) (x11 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 = outB x0 x1 x2 x3 x4 x5 x6 x7 x8 x9 x10 x11 := by
  frame_out
  rfl

/-- The mixed block at row `r` and feature `n`. -/
theorem mixB_apply (x1 x2 x3 x4 : Vec Ideal S32x256 .f32) (x5 : Vec Ideal S1024x1024 .bf16) (r : Fin 32) (n : Fin 1024) :
    mixB x1 x2 x3 x4 x5 (ix2 r n)
      = (∑ k : Fin 256, x1 (ix2 r k) * x5 (ix2 ⟨k.val, by omega⟩ n)) + (∑ k : Fin 256, x2 (ix2 r k) * x5 (ix2 ⟨256 + k.val, by omega⟩ n))
        + (∑ k : Fin 256, x3 (ix2 r k) * x5 (ix2 ⟨512 + k.val, by omega⟩ n)) + ∑ k : Fin 256, x4 (ix2 r k) * x5 (ix2 ⟨768 + k.val, by omega⟩ n) := by
  unfold mixB rowsOf
  unfold_payloads
  pointwise

/-- Its rows' sums of squares. -/
theorem sqB_apply (x1 x2 x3 x4 : Vec Ideal S32x256 .f32) (x5 : Vec Ideal S1024x1024 .bf16) (r : Fin 32) :
    sqB x1 x2 x3 x4 x5 (ix2 r 0) = ∑ k : Fin 1024, mixB x1 x2 x3 x4 x5 (ix2 r k) * mixB x1 x2 x3 x4 x5 (ix2 r k) := by
  unfold sqB k0_pay10
  rw [← mixB]
  generalize mixB x1 x2 x3 x4 x5 = M
  pointwise

/-- The output block at row `r` and feature `n`: the row formula, at the mixed block's row and the input blocks' rows. -/
theorem outB_apply (x0 : Vec Ideal S32x1024 .f32) (x1 x2 x3 x4 : Vec Ideal S32x256 .f32) (x5 : Vec Ideal S1024x1024 .bf16)
    (x6 x7 : Vec Ideal S1x1024 .f32) (x8 x9 : Vec Ideal S1024x2816 .bf16) (x10 : Vec Ideal S2816x1024 .bf16)
    (x11 : Vec Ideal S1x1024 .f32) (r : Fin 32) (n : Fin 1024) :
    outB x0 x1 x2 x3 x4 x5 x6 x7 x8 x9 x10 x11 (ix2 r n)
      = Rows.ffnRow (fun k => mixB x1 x2 x3 x4 x5 (ix2 r k)) (fun k => x0 (ix2 r k)) (fun k => x6 (ix2 0 k)) (fun k => x7 (ix2 0 k))
          (fun k => x11 (ix2 0 k)) (fun k f => x8 (ix2 k f)) (fun k f => x9 (ix2 k f)) (fun f k => x10 (ix2 f k)) n := by
  unfold outB
  have hs := sqB_apply x1 x2 x3 x4 x5
  revert hs
  generalize mixB x1 x2 x3 x4 x5 = M
  generalize sqB x1 x2 x3 x4 x5 = Q
  intro hs
  unfold_payloads
  pointwise
  simp only [hs]
  unfold Rows.ffnRow Rows.resid Rows.rmsn Rows.gate
  rfl

end Cert.Proof.FfnStepBlock

end
-- ==== Proof.FfnStepArr.lean ====
/-
  The result array of the mixing-and-feed-forward call, at every row and feature: the twelve input blocks of a grid
  point read from the arguments, and the block the point writes back.
-/
module

public import proofs.«01_k».proof.Proof.FfnStepBlock
public import Idealize.ShloMosaic.Lib.StableHlo.RunRead

@[expose] public section

noncomputable section

namespace Cert.Proof.FfnStepArr

open Idealize.ShloMosaic Idealize.SL.Sem Cert.FfnStepIdeal Cert.FfnStepIdeal.Gen Idealize.ShloMosaic.TcCoe

variable (m : (ℓ : Loc nD τ sig) → Buf (Elt Ideal) ℓ)

/-- The flat row of a grid point and a row of its block. -/
def row (t : Fin cfg0.N) (r : Fin 32) : Fin 32 := ⟨32 * t.val + r.val, by have h := t.isLt; have e : cfg0.N = 1 := N_0; omega⟩

/-- A flattened array at a row. -/
theorem cast1024_apply (x : FVec Ideal S32x1x1024 .f32) (i : Fin 32) (n : Fin 1024) :
    shapeCast S32x1024 x shapeCasts_S32x1x1024_S32x1024 (ix2 i n) = x (ix3 ⟨i.val / 1, by omega⟩ ⟨i.val % 1, by omega⟩ n) := by
  pointwise

/-- A flattened array of 256 columns at a row. -/
theorem cast256_apply (x : FVec Ideal S32x1x256 .f32) (i : Fin 32) (n : Fin 256) :
    shapeCast S32x256 x shapeCasts_S32x1x256_S32x256 (ix2 i n) = x (ix3 ⟨i.val / 1, by omega⟩ ⟨i.val % 1, by omega⟩ n) := by
  pointwise

/-- A gain as one row. -/
theorem gain_apply (x : FVec Ideal S1024 .f32) (n : Fin 1024) : shapeCast S1x1024 x shapeCasts_S1024_S1x1024 (ix2 0 n) = x (ix1 n) := by
  pointwise

/-- The block index of window 0 at a point. -/
theorem idx0 : ∀ t : Fin grid0.N, win0_0.index t 0 = t.val ∧ win0_0.index t 1 = 0 := by decide +kernel

/-- The block of window 0, read from its array. -/
theorem blk0 (c : Dev nD) (t : Fin cfg0.N) (r : Fin 32) (n : Fin 1024) :
    (iblk m c 0 t : Vec Ideal S32x1024 .f32) (ix2 r n) = V m c main_v0 (ix2 (row t r) n) := by
  unfold iblk
  rw [View.read_apply]
  show V m c main_v0 _ = V m c main_v0 _
  congr 1
  funext a
  apply Fin.ext
  match a with
  | ⟨0, _⟩ => show win0_0.index t 0 * 32 + 1 * r.val = 32 * t.val + r.val; rw [(idx0 t).1]; omega
  | ⟨1, _⟩ => show win0_0.index t 1 * 1024 + 1 * n.val = n.val; rw [(idx0 t).2]; omega

/-- That array is the reshaped argument. -/
theorem arr0 (c : Dev nD) (i : Fin 32) (n : Fin 1024) :
    V m c main_v0 (ix2 i n) = m ((c : Thread nD τ).loc main_arg0) (ix3 ⟨i.val / 1, by omega⟩ ⟨i.val % 1, by omega⟩ n) := by
  have e : (V m c main_v0 : FVec Ideal S32x1024 .f32) = shapeCast S32x1024 (m ((c : Thread nD τ).loc main_arg0)) shapeCasts_S32x1x1024_S32x1024 := by
    unfold V; simp only [hostOps0]; after_reads_simp; rfl
  rw [e]
  exact cast1024_apply _ i n

/-- The block index of window 1 at a point. -/
theorem idx1 : ∀ t : Fin grid0.N, win0_1.index t 0 = t.val ∧ win0_1.index t 1 = 0 := by decide +kernel

/-- The block of window 1, read from its array. -/
theorem blk1 (c : Dev nD) (t : Fin cfg0.N) (r : Fin 32) (n : Fin 256) :
    (iblk m c 1 t : Vec Ideal S32x256 .f32) (ix2 r n) = V m c main_v1 (ix2 (row t r) n) := by
  unfold iblk
  rw [View.read_apply]
  show V m c main_v1 _ = V m c main_v1 _
  congr 1
  funext a
  apply Fin.ext
  match a with
  | ⟨0, _⟩ => show win0_1.index t 0 * 32 + 1 * r.val = 32 * t.val + r.val; rw [(idx1 t).1]; omega
  | ⟨1, _⟩ => show win0_1.index t 1 * 256 + 1 * n.val = n.val; rw [(idx1 t).2]; omega

/-- That array is the reshaped argument. -/
theorem arr1 (c : Dev nD) (i : Fin 32) (n : Fin 256) :
    V m c main_v1 (ix2 i n) = m ((c : Thread nD τ).loc main_arg1) (ix3 ⟨i.val / 1, by omega⟩ ⟨i.val % 1, by omega⟩ n) := by
  have e : (V m c main_v1 : FVec Ideal S32x256 .f32) = shapeCast S32x256 (m ((c : Thread nD τ).loc main_arg1)) shapeCasts_S32x1x256_S32x256 := by
    unfold V; simp only [hostOps0]; after_reads_simp; rfl
  rw [e]
  exact cast256_apply _ i n

/-- The block index of window 2 at a point. -/
theorem idx2 : ∀ t : Fin grid0.N, win0_2.index t 0 = t.val ∧ win0_2.index t 1 = 0 := by decide +kernel

/-- The block of window 2, read from its array. -/
theorem blk2 (c : Dev nD) (t : Fin cfg0.N) (r : Fin 32) (n : Fin 256) :
    (iblk m c 2 t : Vec Ideal S32x256 .f32) (ix2 r n) = V m c main_v2 (ix2 (row t r) n) := by
  unfold iblk
  rw [View.read_apply]
  show V m c main_v2 _ = V m c main_v2 _
  congr 1
  funext a
  apply Fin.ext
  match a with
  | ⟨0, _⟩ => show win0_2.index t 0 * 32 + 1 * r.val = 32 * t.val + r.val; rw [(idx2 t).1]; omega
  | ⟨1, _⟩ => show win0_2.index t 1 * 256 + 1 * n.val = n.val; rw [(idx2 t).2]; omega

/-- That array is the reshaped argument. -/
theorem arr2 (c : Dev nD) (i : Fin 32) (n : Fin 256) :
    V m c main_v2 (ix2 i n) = m ((c : Thread nD τ).loc main_arg2) (ix3 ⟨i.val / 1, by omega⟩ ⟨i.val % 1, by omega⟩ n) := by
  have e : (V m c main_v2 : FVec Ideal S32x256 .f32) = shapeCast S32x256 (m ((c : Thread nD τ).loc main_arg2)) shapeCasts_S32x1x256_S32x256 := by
    unfold V; simp only [hostOps0]; after_reads_simp; rfl
  rw [e]
  exact cast256_apply _ i n

/-- The block index of window 3 at a point. -/
theorem idx3 : ∀ t : Fin grid0.N, win0_3.index t 0 = t.val ∧ win0_3.index t 1 = 0 := by decide +kernel

/-- The block of window 3, read from its array. -/
theorem blk3 (c : Dev nD) (t : Fin cfg0.N) (r : Fin 32) (n : Fin 256) :
    (iblk m c 3 t : Vec Ideal S32x256 .f32) (ix2 r n) = V m c main_v3 (ix2 (row t r) n) := by
  unfold iblk
  rw [View.read_apply]
  show V m c main_v3 _ = V m c main_v3 _
  congr 1
  funext a
  apply Fin.ext
  match a with
  | ⟨0, _⟩ => show win0_3.index t 0 * 32 + 1 * r.val = 32 * t.val + r.val; rw [(idx3 t).1]; omega
  | ⟨1, _⟩ => show win0_3.index t 1 * 256 + 1 * n.val = n.val; rw [(idx3 t).2]; omega

/-- That array is the reshaped argument. -/
theorem arr3 (c : Dev nD) (i : Fin 32) (n : Fin 256) :
    V m c main_v3 (ix2 i n) = m ((c : Thread nD τ).loc main_arg3) (ix3 ⟨i.val / 1, by omega⟩ ⟨i.val % 1, by omega⟩ n) := by
  have e : (V m c main_v3 : FVec Ideal S32x256 .f32) = shapeCast S32x256 (m ((c : Thread nD τ).loc main_arg3)) shapeCasts_S32x1x256_S32x256 := by
    unfold V; simp only [hostOps0]; after_reads_simp; rfl
  rw [e]
  exact cast256_apply _ i n

/-- The block index of window 4 at a point. -/
theorem idx4 : ∀ t : Fin grid0.N, win0_4.index t 0 = t.val ∧ win0_4.index t 1 = 0 := by decide +kernel

/-- The block of window 4, read from its array. -/
theorem blk4 (c : Dev nD) (t : Fin cfg0.N) (r : Fin 32) (n : Fin 256) :
    (iblk m c 4 t : Vec Ideal S32x256 .f32) (ix2 r n) = V m c main_v4 (ix2 (row t r) n) := by
  unfold iblk
  rw [View.read_apply]
  show V m c main_v4 _ = V m c main_v4 _
  congr 1
  funext a
  apply Fin.ext
  match a with
  | ⟨0, _⟩ => show win0_4.index t 0 * 32 + 1 * r.val = 32 * t.val + r.val; rw [(idx4 t).1]; omega
  | ⟨1, _⟩ => show win0_4.index t 1 * 256 + 1 * n.val = n.val; rw [(idx4 t).2]; omega

/-- That array is the reshaped argument. -/
theorem arr4 (c : Dev nD) (i : Fin 32) (n : Fin 256) :
    V m c main_v4 (ix2 i n) = m ((c : Thread nD τ).loc main_arg4) (ix3 ⟨i.val / 1, by omega⟩ ⟨i.val % 1, by omega⟩ n) := by
  have e : (V m c main_v4 : FVec Ideal S32x256 .f32) = shapeCast S32x256 (m ((c : Thread nD τ).loc main_arg4)) shapeCasts_S32x1x256_S32x256 := by
    unfold V; simp only [hostOps0]; after_reads_simp; rfl
  rw [e]
  exact cast256_apply _ i n

/-- The block index of window 5 at a point. -/
theorem idx5 : ∀ t : Fin grid0.N, win0_5.index t 0 = 0 ∧ win0_5.index t 1 = 0 := by decide +kernel

/-- The block of window 5, read from its array. -/
theorem blk5 (c : Dev nD) (t : Fin cfg0.N) (r : Fin 1024) (n : Fin 1024) :
    (iblk m c 5 t : Vec Ideal S1024x1024 .bf16) (ix2 r n) = V m c main_v5 (ix2 (r) n) := by
  unfold iblk
  rw [View.read_apply]
  show V m c main_v5 _ = V m c main_v5 _
  congr 1
  funext a
  apply Fin.ext
  match a with
  | ⟨0, _⟩ => show win0_5.index t 0 * 1024 + 1 * r.val = r.val; rw [(idx5 t).1]; omega
  | ⟨1, _⟩ => show win0_5.index t 1 * 1024 + 1 * n.val = n.val; rw [(idx5 t).2]; omega

/-- That array is the argument. -/
theorem arr5 (c : Dev nD) (i : Fin 1024) (n : Fin 1024) : V m c main_v5 (ix2 i n) = m ((c : Thread nD τ).loc main_arg5) (ix2 i n) := by
  have e : V m c main_v5 = (truncf .bf16 · bitsLt_bf16_f32 : FVec Ideal S1024x1024 .f32 → FVec Ideal S1024x1024 .bf16) (m ((c : Thread nD τ).loc main_arg5)) := by
    unfold V; simp only [hostOps0]; after_reads_simp
  rw [e]
  rfl

/-- The block index of window 6 at a point. -/
theorem idx6 : ∀ t : Fin grid0.N, win0_6.index t 0 = 0 ∧ win0_6.index t 1 = 0 := by decide +kernel

/-- The block of window 6, read from its array. -/
theorem blk6 (c : Dev nD) (t : Fin cfg0.N) (r : Fin 1) (n : Fin 1024) :
    (iblk m c 6 t : Vec Ideal S1x1024 .f32) (ix2 r n) = V m c main_v9 (ix2 (r) n) := by
  unfold iblk
  rw [View.read_apply]
  show V m c main_v9 _ = V m c main_v9 _
  congr 1
  funext a
  apply Fin.ext
  match a with
  | ⟨0, _⟩ => show win0_6.index t 0 * 1 + 1 * r.val = r.val; rw [(idx6 t).1]; omega
  | ⟨1, _⟩ => show win0_6.index t 1 * 1024 + 1 * n.val = n.val; rw [(idx6 t).2]; omega

/-- That array is the gain, as one row. -/
theorem arr6 (c : Dev nD) (n : Fin 1024) : V m c main_v9 (ix2 0 n) = m ((c : Thread nD τ).loc main_arg6) (ix1 n) := by
  have e : (V m c main_v9 : FVec Ideal S1x1024 .f32) = shapeCast S1x1024 (m ((c : Thread nD τ).loc main_arg6)) shapeCasts_S1024_S1x1024 := by
    unfold V; simp only [hostOps0]; after_reads_simp; rfl
  rw [e]
  exact gain_apply _ n

/-- The block index of window 7 at a point. -/
theorem idx7 : ∀ t : Fin grid0.N, win0_7.index t 0 = 0 ∧ win0_7.index t 1 = 0 := by decide +kernel

/-- The block of window 7, read from its array. -/
theorem blk7 (c : Dev nD) (t : Fin cfg0.N) (r : Fin 1) (n : Fin 1024) :
    (iblk m c 7 t : Vec Ideal S1x1024 .f32) (ix2 r n) = V m c main_v10 (ix2 (r) n) := by
  unfold iblk
  rw [View.read_apply]
  show V m c main_v10 _ = V m c main_v10 _
  congr 1
  funext a
  apply Fin.ext
  match a with
  | ⟨0, _⟩ => show win0_7.index t 0 * 1 + 1 * r.val = r.val; rw [(idx7 t).1]; omega
  | ⟨1, _⟩ => show win0_7.index t 1 * 1024 + 1 * n.val = n.val; rw [(idx7 t).2]; omega

/-- That array is the gain, as one row. -/
theorem arr7 (c : Dev nD) (n : Fin 1024) : V m c main_v10 (ix2 0 n) = m ((c : Thread nD τ).loc main_arg7) (ix1 n) := by
  have e : (V m c main_v10 : FVec Ideal S1x1024 .f32) = shapeCast S1x1024 (m ((c : Thread nD τ).loc main_arg7)) shapeCasts_S1024_S1x1024 := by
    unfold V; simp only [hostOps0]; after_reads_simp; rfl
  rw [e]
  exact gain_apply _ n

/-- The block index of window 8 at a point. -/
theorem idx8 : ∀ t : Fin grid0.N, win0_8.index t 0 = 0 ∧ win0_8.index t 1 = 0 := by decide +kernel

/-- The block of window 8, read from its array. -/
theorem blk8 (c : Dev nD) (t : Fin cfg0.N) (r : Fin 1024) (n : Fin 2816) :
    (iblk m c 8 t : Vec Ideal S1024x2816 .bf16) (ix2 r n) = V m c main_v6 (ix2 (r) n) := by
  unfold iblk
  rw [View.read_apply]
  show V m c main_v6 _ = V m c main_v6 _
  congr 1
  funext a
  apply Fin.ext
  match a with
  | ⟨0, _⟩ => show win0_8.index t 0 * 1024 + 1 * r.val = r.val; rw [(idx8 t).1]; omega
  | ⟨1, _⟩ => show win0_8.index t 1 * 2816 + 1 * n.val = n.val; rw [(idx8 t).2]; omega

/-- That array is the argument. -/
theorem arr8 (c : Dev nD) (i : Fin 1024) (n : Fin 2816) : V m c main_v6 (ix2 i n) = m ((c : Thread nD τ).loc main_arg8) (ix2 i n) := by
  have e : V m c main_v6 = (truncf .bf16 · bitsLt_bf16_f32 : FVec Ideal S1024x2816 .f32 → FVec Ideal S1024x2816 .bf16) (m ((c : Thread nD τ).loc main_arg8)) := by
    unfold V; simp only [hostOps0]; after_reads_simp
  rw [e]
  rfl

/-- The block index of window 9 at a point. -/
theorem idx9 : ∀ t : Fin grid0.N, win0_9.index t 0 = 0 ∧ win0_9.index t 1 = 0 := by decide +kernel

/-- The block of window 9, read from its array. -/
theorem blk9 (c : Dev nD) (t : Fin cfg0.N) (r : Fin 1024) (n : Fin 2816) :
    (iblk m c 9 t : Vec Ideal S1024x2816 .bf16) (ix2 r n) = V m c main_v7 (ix2 (r) n) := by
  unfold iblk
  rw [View.read_apply]
  show V m c main_v7 _ = V m c main_v7 _
  congr 1
  funext a
  apply Fin.ext
  match a with
  | ⟨0, _⟩ => show win0_9.index t 0 * 1024 + 1 * r.val = r.val; rw [(idx9 t).1]; omega
  | ⟨1, _⟩ => show win0_9.index t 1 * 2816 + 1 * n.val = n.val; rw [(idx9 t).2]; omega

/-- That array is the argument. -/
theorem arr9 (c : Dev nD) (i : Fin 1024) (n : Fin 2816) : V m c main_v7 (ix2 i n) = m ((c : Thread nD τ).loc main_arg9) (ix2 i n) := by
  have e : V m c main_v7 = (truncf .bf16 · bitsLt_bf16_f32 : FVec Ideal S1024x2816 .f32 → FVec Ideal S1024x2816 .bf16) (m ((c : Thread nD τ).loc main_arg9)) := by
    unfold V; simp only [hostOps0]; after_reads_simp
  rw [e]
  rfl

/-- The block index of window 10 at a point. -/
theorem idx10 : ∀ t : Fin grid0.N, win0_10.index t 0 = 0 ∧ win0_10.index t 1 = 0 := by decide +kernel

/-- The block of window 10, read from its array. -/
theorem blk10 (c : Dev nD) (t : Fin cfg0.N) (r : Fin 2816) (n : Fin 1024) :
    (iblk m c 10 t : Vec Ideal S2816x1024 .bf16) (ix2 r n) = V m c main_v8 (ix2 (r) n) := by
  unfold iblk
  rw [View.read_apply]
  show V m c main_v8 _ = V m c main_v8 _
  congr 1
  funext a
  apply Fin.ext
  match a with
  | ⟨0, _⟩ => show win0_10.index t 0 * 2816 + 1 * r.val = r.val; rw [(idx10 t).1]; omega
  | ⟨1, _⟩ => show win0_10.index t 1 * 1024 + 1 * n.val = n.val; rw [(idx10 t).2]; omega

/-- That array is the argument. -/
theorem arr10 (c : Dev nD) (i : Fin 2816) (n : Fin 1024) : V m c main_v8 (ix2 i n) = m ((c : Thread nD τ).loc main_arg10) (ix2 i n) := by
  have e : V m c main_v8 = (truncf .bf16 · bitsLt_bf16_f32 : FVec Ideal S2816x1024 .f32 → FVec Ideal S2816x1024 .bf16) (m ((c : Thread nD τ).loc main_arg10)) := by
    unfold V; simp only [hostOps0]; after_reads_simp
  rw [e]
  rfl

/-- The block index of window 11 at a point. -/
theorem idx11 : ∀ t : Fin grid0.N, win0_11.index t 0 = 0 ∧ win0_11.index t 1 = 0 := by decide +kernel

/-- The block of window 11, read from its array. -/
theorem blk11 (c : Dev nD) (t : Fin cfg0.N) (r : Fin 1) (n : Fin 1024) :
    (iblk m c 11 t : Vec Ideal S1x1024 .f32) (ix2 r n) = V m c main_v11 (ix2 (r) n) := by
  unfold iblk
  rw [View.read_apply]
  show V m c main_v11 _ = V m c main_v11 _
  congr 1
  funext a
  apply Fin.ext
  match a with
  | ⟨0, _⟩ => show win0_11.index t 0 * 1 + 1 * r.val = r.val; rw [(idx11 t).1]; omega
  | ⟨1, _⟩ => show win0_11.index t 1 * 1024 + 1 * n.val = n.val; rw [(idx11 t).2]; omega

/-- That array is the gain, as one row. -/
theorem arr11 (c : Dev nD) (n : Fin 1024) : V m c main_v11 (ix2 0 n) = m ((c : Thread nD τ).loc main_arg11) (ix1 n) := by
  have e : (V m c main_v11 : FVec Ideal S1x1024 .f32) = shapeCast S1x1024 (m ((c : Thread nD τ).loc main_arg11)) shapeCasts_S1024_S1x1024 := by
    unfold V; simp only [hostOps0]; after_reads_simp; rfl
  rw [e]
  exact gain_apply _ n

/-- The mixed row `i` at feature `n`: one sum per mixer. -/
def mixAt (c : Dev nD) (i : Fin 32) : Fin 1024 → EReal :=
  Rows.mix4 (fun k => m ((c : Thread nD τ).loc main_arg1) (ix3 ⟨i.val / 1, by omega⟩ ⟨i.val % 1, by omega⟩ k)) (fun k => m ((c : Thread nD τ).loc main_arg2) (ix3 ⟨i.val / 1, by omega⟩ ⟨i.val % 1, by omega⟩ k))
    (fun k => m ((c : Thread nD τ).loc main_arg3) (ix3 ⟨i.val / 1, by omega⟩ ⟨i.val % 1, by omega⟩ k)) (fun k => m ((c : Thread nD τ).loc main_arg4) (ix3 ⟨i.val / 1, by omega⟩ ⟨i.val % 1, by omega⟩ k)) (fun k n => m ((c : Thread nD τ).loc main_arg5) (ix2 k n))

/-- The block index of the output window. -/
theorem idx12 : ∀ t : Fin grid0.N, win0_12.index t 0 = t.val ∧ win0_12.index t 1 = 0 := by decide +kernel

/-- Every point writes its block back. -/
theorem flush12 : ∀ t : Fin grid0.N, (cfg0.win 12).flush t = true := by decide +kernel

/-- The result array at a row of a grid point. -/
theorem arr_apply (c : Dev nD) (t : Fin cfg0.N) (r : Fin 32) (n : Fin 1024) :
    ((dats m 0 c).arrAt 12 cfg0.N : Vec Ideal S32x1024 .f32) (ix2 (row t r) n)
      = Rows.ffnRow (fun k => mixAt m c (row t r) k) (fun k => m ((c : Thread nD τ).loc main_arg0) (ix3 ⟨(row t r).val / 1, by omega⟩ ⟨(row t r).val % 1, by omega⟩ k))
        (fun k => m ((c : Thread nD τ).loc main_arg6) (ix1 k)) (fun k => m ((c : Thread nD τ).loc main_arg7) (ix1 k)) (fun k => m ((c : Thread nD τ).loc main_arg11) (ix1 k))
        (fun k f => m ((c : Thread nD τ).loc main_arg8) (ix2 k f)) (fun k f => m ((c : Thread nD τ).loc main_arg9) (ix2 k f)) (fun f k => m ((c : Thread nD τ).loc main_arg10) (ix2 f k)) n := by
  have h := congrFun (Cert.FfnStepIdeal.Value.blocks12 m c t (flush12 t)) (ix2 r n)
  rw [Cert.FfnStepIdeal.Value.flushed12_A, FfnStepBlock.out_eq, View.read_apply] at h
  have e : ((cfg0.win 12).blk t).view.emb (ix2 r n) = ix2 (row t r) n := by
    funext a
    apply Fin.ext
    match a with
    | ⟨0, _⟩ => show win0_12.index t 0 * 32 + 1 * r.val = 32 * t.val + r.val; rw [(idx12 t).1]; omega
    | ⟨1, _⟩ => show win0_12.index t 1 * 1024 + 1 * n.val = n.val; rw [(idx12 t).2]; omega
  rw [e] at h
  refine h.trans ?_
  refine (FfnStepBlock.outB_apply _ _ _ _ _ _ _ _ _ _ _ _ r n).trans ?_
  exact Rows.ffnRow_congr
    (funext fun k => (FfnStepBlock.mixB_apply _ _ _ _ _ r k).trans (Rows.mix4_congr
      (funext fun k => (blk1 m c t r k).trans (arr1 m c _ k)) (funext fun k => (blk2 m c t r k).trans (arr2 m c _ k))
      (funext fun k => (blk3 m c t r k).trans (arr3 m c _ k)) (funext fun k => (blk4 m c t r k).trans (arr4 m c _ k))
      (funext fun k => funext fun n => (blk5 m c t k n).trans (arr5 m c k n)) k))
    (funext fun k => (blk0 m c t r k).trans (arr0 m c _ k))
    (funext fun k => (blk6 m c t 0 k).trans (arr6 m c k)) (funext fun k => (blk7 m c t 0 k).trans (arr7 m c k))
    (funext fun k => (blk11 m c t 0 k).trans (arr11 m c k))
    (funext fun k => funext fun f => (blk8 m c t k f).trans (arr8 m c k f))
    (funext fun k => funext fun f => (blk9 m c t k f).trans (arr9 m c k f))
    (funext fun f => funext fun k => (blk10 m c t f k).trans (arr10 m c f k)) n

end Cert.Proof.FfnStepArr

end
-- ==== Proof.FfnStepRef.lean ====
/-
  The reference of the mixing-and-feed-forward call: its run, read in five stretches (the mixed rows, the first residual,
  the norm, the gated layer, the second residual), and its result at a row and a feature.
-/
module

public import proofs.«01_k».proof.Proof.Gen.FfnStepRefIdeal
public import proofs.«01_k».proof.Proof.Rows
public import Idealize.ShloMosaic.Lib.Pointwise
public import Idealize.ShloMosaic.Lib.StableHlo.RunRead
public import Idealize.ShloMosaic.Lib.StableHlo.Run
public import Idealize.ShloMosaic.Lib.Pipeline.Frame
public import Idealize.ShloMosaic.Lib.Claim

@[expose] public section

noncomputable section

namespace Cert.Proof.FfnStepRef

open Cert.FfnStepRefIdeal Cert.FfnStepRefIdeal.Gen Idealize.ShloMosaic Idealize.ShloMosaic.TcCoe Idealize.SL.Sem Idealize.ShloMosaic.StableHlo

variable {F : FTy → Type} [FloatOps F]

/-- The four mixers' outputs side by side. -/
def joinF (u0 u1 u2 u3 : (⟨S32x1x256, .f32⟩ : BufTy).Contents (Elt F)) : (⟨S32x1x1024, .f32⟩ : BufTy).Contents (Elt F) :=
  concatenate S32x1x1024 2 [⟨S32x1x256, u0⟩, ⟨S32x1x256, u1⟩, ⟨S32x1x256, u2⟩, ⟨S32x1x256, u3⟩] concatenates_S32x1x256_S32x1x256_S32x1x256_S32x1x256_S32x1x1024_d2

/-- The mixed rows: the joined outputs times the output projection. -/
def mixF (u0 u1 u2 u3 : (⟨S32x1x256, .f32⟩ : BufTy).Contents (Elt F)) (w : (⟨S1024x1024, .f32⟩ : BufTy).Contents (Elt F)) : (⟨S32x1x1024, .f32⟩ : BufTy).Contents (Elt F) :=
  Host.dotGeneral dot_S32x1x1024_S1024x1024_S32x1x1024_2_0_01_1_n_n none (joinF u0 u1 u2 u3) w

/-- The RMS norm of every row, scaled by the gain. -/
def rmsF (y : (⟨S32x1x1024, .f32⟩ : BufTy).Contents (Elt F)) (g : (⟨S1024, .f32⟩ : BufTy).Contents (Elt F)) : (⟨S32x1x1024, .f32⟩ : BufTy).Contents (Elt F) :=
  mulf (mulf y (broadcastInDim S32x1x1024 ![0, 1, 2] bcast_S32x1x1_S32x1x1024_0_1_2
      (Host.rsqrt (addf (Host.divf (broadcastInDim S32x1x1 ![0, 1] bcast_S32x1_S32x1x1_0_1
            (Host.reduceAdd (mulf y y) (constant S_ .f32 0x00000000#32) reducesTo_S32x1x1024_S32x1_d2 h_S_))
          (broadcastInDim S32x1x1 ![] bcast_S_S32x1x1 (constant S_ .f32 0x44800000#32)))
        (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))

/-- The hidden activations: `a · σ(a) · u` of the two projections. -/
def gateF (a u : (⟨S32x1x2816, .f32⟩ : BufTy).Contents (Elt F)) : (⟨S32x1x2816, .f32⟩ : BufTy).Contents (Elt F) :=
  mulf (mulf a (Host.divf (broadcastInDim S32x1x2816 ![] bcast_S_S32x1x2816 (constant S_ .f32 0x3F800000#32))
      (addf (broadcastInDim S32x1x2816 ![] bcast_S_S32x1x2816 (constant S_ .f32 0x3F800000#32)) (Host.exp (Host.negf a))))) u

/-- The gated feed-forward layer of every row. -/
def layerF (h : (⟨S32x1x1024, .f32⟩ : BufTy).Contents (Elt F)) (wg wu : (⟨S1024x2816, .f32⟩ : BufTy).Contents (Elt F)) (wd : (⟨S2816x1024, .f32⟩ : BufTy).Contents (Elt F)) : (⟨S32x1x1024, .f32⟩ : BufTy).Contents (Elt F) :=
  Host.dotGeneral dot_S32x1x2816_S2816x1024_S32x1x1024_2_0_01_1_n_n none
    (gateF (Host.dotGeneral dot_S32x1x1024_S1024x2816_S32x1x2816_2_0_01_1_n_n none h wg)
      (Host.dotGeneral dot_S32x1x1024_S1024x2816_S32x1x2816_2_0_01_1_n_n none h wu)) wd

/-- Stretch 1: the mixed rows. -/
abbrev ops1 : List (HloOp τ sig (Elt F)) :=
  [ nary ![main_arg1, main_arg2, main_arg3, main_arg4] main_v0 (fun u => joinF (F := F) (u 0) (u 1) (u 2) (u 3)),
    binary main_v0 main_arg5 main_v1 ((fun l r => Host.dotGeneral dot_S32x1x1024_S1024x1024_S32x1x1024_2_0_01_1_n_n none l r) : (⟨S32x1x1024, .f32⟩ : BufTy).Contents (Elt F) → (⟨S1024x1024, .f32⟩ : BufTy).Contents (Elt F) → (⟨S32x1x1024, .f32⟩ : BufTy).Contents (Elt F)) ]

/-- Stretch 2: the first residual. -/
abbrev ops2 : List (HloOp τ sig (Elt F)) :=
  [ binary main_v1 main_v1 main_v2 (mulf : (⟨S32x1x1024, .f32⟩ : BufTy).Contents (Elt F) → (⟨S32x1x1024, .f32⟩ : BufTy).Contents (Elt F) → (⟨S32x1x1024, .f32⟩ : BufTy).Contents (Elt F)),
    nullary main_cst (constant S_ .f32 0x00000000#32),
    binary main_v2 main_cst main_v3 ((fun x v => Host.reduceAdd x v reducesTo_S32x1x1024_S32x1_d2 h_S_) : (⟨S32x1x1024, .f32⟩ : BufTy).Contents (Elt F) → (⟨S_, .f32⟩ : BufTy).Contents (Elt F) → (⟨S32x1, .f32⟩ : BufTy).Contents (Elt F)),
    unary main_v3 main_v4 (broadcastInDim S32x1x1 ![0, 1] bcast_S32x1_S32x1x1_0_1 : (⟨S32x1, .f32⟩ : BufTy).Contents (Elt F) → (⟨S32x1x1, .f32⟩ : BufTy).Contents (Elt F)),
    nullary main_cst_0 (constant S_ .f32 0x44800000#32),
    unary main_cst_0 main_v5 (broadcastInDim S32x1x1 ![] bcast_S_S32x1x1 : (⟨S_, .f32⟩ : BufTy).Contents (Elt F) → (⟨S32x1x1, .f32⟩ : BufTy).Contents (Elt F)),
    binary main_v4 main_v5 main_v6 (Host.divf : (⟨S32x1x1, .f32⟩ : BufTy).Contents (Elt F) → (⟨S32x1x1, .f32⟩ : BufTy).Contents (Elt F) → (⟨S32x1x1, .f32⟩ : BufTy).Contents (Elt F)),
    nullary main_cst_1 (constant S_ .f32 0x358637BD#32),
    unary main_cst_1 main_v7 (broadcastInDim S32x1x1 ![] bcast_S_S32x1x1 : (⟨S_, .f32⟩ : BufTy).Contents (Elt F) → (⟨S32x1x1, .f32⟩ : BufTy).Contents (Elt F)),
    binary main_v6 main_v7 main_v8 (addf : (⟨S32x1x1, .f32⟩ : BufTy).Contents (Elt F) → (⟨S32x1x1, .f32⟩ : BufTy).Contents (Elt F) → (⟨S32x1x1, .f32⟩ : BufTy).Contents (Elt F)),
    unary main_v8 main_v9 (Host.rsqrt : (⟨S32x1x1, .f32⟩ : BufTy).Contents (Elt F) → (⟨S32x1x1, .f32⟩ : BufTy).Contents (Elt F)),
    unary main_v9 main_v10 (broadcastInDim S32x1x1024 ![0, 1, 2] bcast_S32x1x1_S32x1x1024_0_1_2 : (⟨S32x1x1, .f32⟩ : BufTy).Contents (Elt F) → (⟨S32x1x1024, .f32⟩ : BufTy).Contents (Elt F)),
    binary main_v1 main_v10 main_v11 (mulf : (⟨S32x1x1024, .f32⟩ : BufTy).Contents (Elt F) → (⟨S32x1x1024, .f32⟩ : BufTy).Contents (Elt F) → (⟨S32x1x1024, .f32⟩ : BufTy).Contents (Elt F)),
    unary main_arg6 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S32x1x1024 ![0, 1, 2] bcast_S1x1x1024_S32x1x1024_0_1_2 : (⟨S1x1x1024, .f32⟩ : BufTy).Contents (Elt F) → (⟨S32x1x1024, .f32⟩ : BufTy).Contents (Elt F)),
    binary main_v11 main_v13 main_v14 (mulf : (⟨S32x1x1024, .f32⟩ : BufTy).Contents (Elt F) → (⟨S32x1x1024, .f32⟩ : BufTy).Contents (Elt F) → (⟨S32x1x1024, .f32⟩ : BufTy).Contents (Elt F)),
    binary main_arg0 main_v14 main_v15 (addf : (⟨S32x1x1024, .f32⟩ : BufTy).Contents (Elt F) → (⟨S32x1x1024, .f32⟩ : BufTy).Contents (Elt F) → (⟨S32x1x1024, .f32⟩ : BufTy).Contents (Elt F)) ]

/-- Stretch 3: the norm of the residual. -/
abbrev ops3 : List (HloOp τ sig (Elt F)) :=
  [ binary main_v15 main_v15 main_v16 (mulf : (⟨S32x1x1024, .f32⟩ : BufTy).Contents (Elt F) → (⟨S32x1x1024, .f32⟩ : BufTy).Contents (Elt F) → (⟨S32x1x1024, .f32⟩ : BufTy).Contents (Elt F)),
    nullary main_cst_2 (constant S_ .f32 0x00000000#32),
    binary main_v16 main_cst_2 main_v17 ((fun x v => Host.reduceAdd x v reducesTo_S32x1x1024_S32x1_d2 h_S_) : (⟨S32x1x1024, .f32⟩ : BufTy).Contents (Elt F) → (⟨S_, .f32⟩ : BufTy).Contents (Elt F) → (⟨S32x1, .f32⟩ : BufTy).Contents (Elt F)),
    unary main_v17 main_v18 (broadcastInDim S32x1x1 ![0, 1] bcast_S32x1_S32x1x1_0_1 : (⟨S32x1, .f32⟩ : BufTy).Contents (Elt F) → (⟨S32x1x1, .f32⟩ : BufTy).Contents (Elt F)),
    nullary main_cst_3 (constant S_ .f32 0x44800000#32),
    unary main_cst_3 main_v19 (broadcastInDim S32x1x1 ![] bcast_S_S32x1x1 : (⟨S_, .f32⟩ : BufTy).Contents (Elt F) → (⟨S32x1x1, .f32⟩ : BufTy).Contents (Elt F)),
    binary main_v18 main_v19 main_v20 (Host.divf : (⟨S32x1x1, .f32⟩ : BufTy).Contents (Elt F) → (⟨S32x1x1, .f32⟩ : BufTy).Contents (Elt F) → (⟨S32x1x1, .f32⟩ : BufTy).Contents (Elt F)),
    nullary main_cst_4 (constant S_ .f32 0x358637BD#32),
    unary main_cst_4 main_v21 (broadcastInDim S32x1x1 ![] bcast_S_S32x1x1 : (⟨S_, .f32⟩ : BufTy).Contents (Elt F) → (⟨S32x1x1, .f32⟩ : BufTy).Contents (Elt F)),
    binary main_v20 main_v21 main_v22 (addf : (⟨S32x1x1, .f32⟩ : BufTy).Contents (Elt F) → (⟨S32x1x1, .f32⟩ : BufTy).Contents (Elt F) → (⟨S32x1x1, .f32⟩ : BufTy).Contents (Elt F)),
    unary main_v22 main_v23 (Host.rsqrt : (⟨S32x1x1, .f32⟩ : BufTy).Contents (Elt F) → (⟨S32x1x1, .f32⟩ : BufTy).Contents (Elt F)),
    unary main_v23 main_v24 (broadcastInDim S32x1x1024 ![0, 1, 2] bcast_S32x1x1_S32x1x1024_0_1_2 : (⟨S32x1x1, .f32⟩ : BufTy).Contents (Elt F) → (⟨S32x1x1024, .f32⟩ : BufTy).Contents (Elt F)),
    binary main_v15 main_v24 main_v25 (mulf : (⟨S32x1x1024, .f32⟩ : BufTy).Contents (Elt F) → (⟨S32x1x1024, .f32⟩ : BufTy).Contents (Elt F) → (⟨S32x1x1024, .f32⟩ : BufTy).Contents (Elt F)),
    unary main_arg7 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S32x1x1024 ![0, 1, 2] bcast_S1x1x1024_S32x1x1024_0_1_2 : (⟨S1x1x1024, .f32⟩ : BufTy).Contents (Elt F) → (⟨S32x1x1024, .f32⟩ : BufTy).Contents (Elt F)),
    binary main_v25 main_v27 main_v28 (mulf : (⟨S32x1x1024, .f32⟩ : BufTy).Contents (Elt F) → (⟨S32x1x1024, .f32⟩ : BufTy).Contents (Elt F) → (⟨S32x1x1024, .f32⟩ : BufTy).Contents (Elt F)) ]

/-- Stretch 4: the gated layer. -/
abbrev ops4 : List (HloOp τ sig (Elt F)) :=
  [ binary main_v28 main_arg8 main_v29 ((fun l r => Host.dotGeneral dot_S32x1x1024_S1024x2816_S32x1x2816_2_0_01_1_n_n none l r) : (⟨S32x1x1024, .f32⟩ : BufTy).Contents (Elt F) → (⟨S1024x2816, .f32⟩ : BufTy).Contents (Elt F) → (⟨S32x1x2816, .f32⟩ : BufTy).Contents (Elt F)),
    TRef.unary (TRef.of (T := ⟨S32x1x2816, .f32⟩) main_v29) (TRef.of (T := ⟨S32x1x2816, .f32⟩) main_call0_v0) Host.negf,
    TRef.unary (TRef.of (T := ⟨S32x1x2816, .f32⟩) main_call0_v0) (TRef.of (T := ⟨S32x1x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32x1x2816, .f32⟩) main_call0_v2) (broadcastInDim S32x1x2816 ![] bcast_S_S32x1x2816),
    TRef.binary (TRef.of (T := ⟨S32x1x2816, .f32⟩) main_call0_v2) (TRef.of (T := ⟨S32x1x2816, .f32⟩) main_call0_v1) (TRef.of (T := ⟨S32x1x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32x1x2816, .f32⟩) main_call0_v4) (broadcastInDim S32x1x2816 ![] bcast_S_S32x1x2816),
    TRef.binary (TRef.of (T := ⟨S32x1x2816, .f32⟩) main_call0_v4) (TRef.of (T := ⟨S32x1x2816, .f32⟩) main_call0_v3) (TRef.of (T := ⟨S32x1x2816, .f32⟩) main_call0_v5) Host.divf,
    TRef.binary (TRef.of (T := ⟨S32x1x2816, .f32⟩) main_v29) (TRef.of (T := ⟨S32x1x2816, .f32⟩) main_call0_v5) (TRef.of (T := ⟨S32x1x2816, .f32⟩) main_v30) mulf,
    binary main_v28 main_arg9 main_v31 ((fun l r => Host.dotGeneral dot_S32x1x1024_S1024x2816_S32x1x2816_2_0_01_1_n_n none l r) : (⟨S32x1x1024, .f32⟩ : BufTy).Contents (Elt F) → (⟨S1024x2816, .f32⟩ : BufTy).Contents (Elt F) → (⟨S32x1x2816, .f32⟩ : BufTy).Contents (Elt F)),
    binary main_v30 main_v31 main_v32 (mulf : (⟨S32x1x2816, .f32⟩ : BufTy).Contents (Elt F) → (⟨S32x1x2816, .f32⟩ : BufTy).Contents (Elt F) → (⟨S32x1x2816, .f32⟩ : BufTy).Contents (Elt F)),
    binary main_v32 main_arg10 main_v33 ((fun l r => Host.dotGeneral dot_S32x1x2816_S2816x1024_S32x1x1024_2_0_01_1_n_n none l r) : (⟨S32x1x2816, .f32⟩ : BufTy).Contents (Elt F) → (⟨S2816x1024, .f32⟩ : BufTy).Contents (Elt F) → (⟨S32x1x1024, .f32⟩ : BufTy).Contents (Elt F)) ]

/-- Stretch 5: the second residual, as rows. -/
abbrev ops5 : List (HloOp τ sig (Elt F)) :=
  [ binary main_v33 main_v33 main_v34 (mulf : (⟨S32x1x1024, .f32⟩ : BufTy).Contents (Elt F) → (⟨S32x1x1024, .f32⟩ : BufTy).Contents (Elt F) → (⟨S32x1x1024, .f32⟩ : BufTy).Contents (Elt F)),
    nullary main_cst_5 (constant S_ .f32 0x00000000#32),
    binary main_v34 main_cst_5 main_v35 ((fun x v => Host.reduceAdd x v reducesTo_S32x1x1024_S32x1_d2 h_S_) : (⟨S32x1x1024, .f32⟩ : BufTy).Contents (Elt F) → (⟨S_, .f32⟩ : BufTy).Contents (Elt F) → (⟨S32x1, .f32⟩ : BufTy).Contents (Elt F)),
    unary main_v35 main_v36 (broadcastInDim S32x1x1 ![0, 1] bcast_S32x1_S32x1x1_0_1 : (⟨S32x1, .f32⟩ : BufTy).Contents (Elt F) → (⟨S32x1x1, .f32⟩ : BufTy).Contents (Elt F)),
    nullary main_cst_6 (constant S_ .f32 0x44800000#32),
    unary main_cst_6 main_v37 (broadcastInDim S32x1x1 ![] bcast_S_S32x1x1 : (⟨S_, .f32⟩ : BufTy).Contents (Elt F) → (⟨S32x1x1, .f32⟩ : BufTy).Contents (Elt F)),
    binary main_v36 main_v37 main_v38 (Host.divf : (⟨S32x1x1, .f32⟩ : BufTy).Contents (Elt F) → (⟨S32x1x1, .f32⟩ : BufTy).Contents (Elt F) → (⟨S32x1x1, .f32⟩ : BufTy).Contents (Elt F)),
    nullary main_cst_7 (constant S_ .f32 0x358637BD#32),
    unary main_cst_7 main_v39 (broadcastInDim S32x1x1 ![] bcast_S_S32x1x1 : (⟨S_, .f32⟩ : BufTy).Contents (Elt F) → (⟨S32x1x1, .f32⟩ : BufTy).Contents (Elt F)),
    binary main_v38 main_v39 main_v40 (addf : (⟨S32x1x1, .f32⟩ : BufTy).Contents (Elt F) → (⟨S32x1x1, .f32⟩ : BufTy).Contents (Elt F) → (⟨S32x1x1, .f32⟩ : BufTy).Contents (Elt F)),
    unary main_v40 main_v41 (Host.rsqrt : (⟨S32x1x1, .f32⟩ : BufTy).Contents (Elt F) → (⟨S32x1x1, .f32⟩ : BufTy).Contents (Elt F)),
    unary main_v41 main_v42 (broadcastInDim S32x1x1024 ![0, 1, 2] bcast_S32x1x1_S32x1x1024_0_1_2 : (⟨S32x1x1, .f32⟩ : BufTy).Contents (Elt F) → (⟨S32x1x1024, .f32⟩ : BufTy).Contents (Elt F)),
    binary main_v33 main_v42 main_v43 (mulf : (⟨S32x1x1024, .f32⟩ : BufTy).Contents (Elt F) → (⟨S32x1x1024, .f32⟩ : BufTy).Contents (Elt F) → (⟨S32x1x1024, .f32⟩ : BufTy).Contents (Elt F)),
    unary main_arg11 main_v44 (broadcastInDim S1x1x1024 ![2] bcast_S1024_S1x1x1024_2 : (⟨S1024, .f32⟩ : BufTy).Contents (Elt F) → (⟨S1x1x1024, .f32⟩ : BufTy).Contents (Elt F)),
    unary main_v44 main_v45 (broadcastInDim S32x1x1024 ![0, 1, 2] bcast_S1x1x1024_S32x1x1024_0_1_2 : (⟨S1x1x1024, .f32⟩ : BufTy).Contents (Elt F) → (⟨S32x1x1024, .f32⟩ : BufTy).Contents (Elt F)),
    binary main_v43 main_v45 main_v46 (mulf : (⟨S32x1x1024, .f32⟩ : BufTy).Contents (Elt F) → (⟨S32x1x1024, .f32⟩ : BufTy).Contents (Elt F) → (⟨S32x1x1024, .f32⟩ : BufTy).Contents (Elt F)),
    binary main_v15 main_v46 main_v47 (addf : (⟨S32x1x1024, .f32⟩ : BufTy).Contents (Elt F) → (⟨S32x1x1024, .f32⟩ : BufTy).Contents (Elt F) → (⟨S32x1x1024, .f32⟩ : BufTy).Contents (Elt F)),
    reshape main_v47 main_v48 (rfl : (.f32 : EltTy) = .f32) shapeCasts_S32x1x1024_S32x1024 ]

/-- The program's operations, in order. -/
abbrev ops : List (HloOp τ sig (Elt F)) := ops1 ++ (ops2 ++ (ops3 ++ (ops4 ++ ops5)))

/-- Stretch 1 leaves the mixed rows, from any contents before it. -/
theorem read1 (V : Valuation τ sig (Elt F)) : after ops1 V (no_index (Proc.devRef .tc main_v1)) = mixF (V (Proc.devRef .tc main_arg1)) (V (Proc.devRef .tc main_arg2)) (V (Proc.devRef .tc main_arg3)) (V (Proc.devRef .tc main_arg4)) (V (Proc.devRef .tc main_arg5)) := by
  simp only [ops1, TRef.binary, TRef.nullary, TRef.unary, TRef.toBuf, TRef.ofBuf, cast_eq]
  after_reads_simp
  rfl

/-- Stretch 1 leaves every other buffer as it was. -/
theorem keep1 (V : Valuation τ sig (Elt F)) (r : Ref sig .tc) (hr : r ∉ ([main_v0, main_v1] : List (Ref sig .tc))) :
    after ops1 V (no_index (Proc.devRef .tc r)) = V (Proc.devRef .tc r) :=
  after_unwritten [main_v0, main_v1] rfl hr V

/-- Stretch 2 leaves the first residual, from any contents before it. -/
theorem read2 (V : Valuation τ sig (Elt F)) : after ops2 V (no_index (Proc.devRef .tc main_v15)) = addf (V (Proc.devRef .tc main_arg0)) (rmsF (V (Proc.devRef .tc main_v1)) (V (Proc.devRef .tc main_arg6))) := by
  simp only [ops2, TRef.binary, TRef.nullary, TRef.unary, TRef.toBuf, TRef.ofBuf, cast_eq]
  after_reads_simp
  rfl

/-- Stretch 2 leaves every other buffer as it was. -/
theorem keep2 (V : Valuation τ sig (Elt F)) (r : Ref sig .tc) (hr : r ∉ ([main_v2, main_cst, main_v3, main_v4, main_cst_0, main_v5, main_v6, main_cst_1, main_v7, main_v8, main_v9, main_v10, main_v11, main_v12, main_v13, main_v14, main_v15] : List (Ref sig .tc))) :
    after ops2 V (no_index (Proc.devRef .tc r)) = V (Proc.devRef .tc r) :=
  after_unwritten [main_v2, main_cst, main_v3, main_v4, main_cst_0, main_v5, main_v6, main_cst_1, main_v7, main_v8, main_v9, main_v10, main_v11, main_v12, main_v13, main_v14, main_v15] rfl hr V

/-- Stretch 3 leaves the norm of the residual, from any contents before it. -/
theorem read3 (V : Valuation τ sig (Elt F)) : after ops3 V (no_index (Proc.devRef .tc main_v28)) = rmsF (V (Proc.devRef .tc main_v15)) (V (Proc.devRef .tc main_arg7)) := by
  simp only [ops3, TRef.binary, TRef.nullary, TRef.unary, TRef.toBuf, TRef.ofBuf, cast_eq]
  after_reads_simp
  rfl

/-- Stretch 3 leaves every other buffer as it was. -/
theorem keep3 (V : Valuation τ sig (Elt F)) (r : Ref sig .tc) (hr : r ∉ ([main_v16, main_cst_2, main_v17, main_v18, main_cst_3, main_v19, main_v20, main_cst_4, main_v21, main_v22, main_v23, main_v24, main_v25, main_v26, main_v27, main_v28] : List (Ref sig .tc))) :
    after ops3 V (no_index (Proc.devRef .tc r)) = V (Proc.devRef .tc r) :=
  after_unwritten [main_v16, main_cst_2, main_v17, main_v18, main_cst_3, main_v19, main_v20, main_cst_4, main_v21, main_v22, main_v23, main_v24, main_v25, main_v26, main_v27, main_v28] rfl hr V

/-- Stretch 4 leaves the gated layer, from any contents before it. -/
theorem read4 (V : Valuation τ sig (Elt F)) : after ops4 V (no_index (Proc.devRef .tc main_v33)) = layerF (V (Proc.devRef .tc main_v28)) (V (Proc.devRef .tc main_arg8)) (V (Proc.devRef .tc main_arg9)) (V (Proc.devRef .tc main_arg10)) := by
  simp only [ops4, TRef.binary, TRef.nullary, TRef.unary, TRef.toBuf, TRef.ofBuf, cast_eq]
  after_reads_simp
  rfl

/-- Stretch 4 leaves every other buffer as it was. -/
theorem keep4 (V : Valuation τ sig (Elt F)) (r : Ref sig .tc) (hr : r ∉ ([main_v29, main_call0_v0, main_call0_v1, main_call0_cst, main_call0_v2, main_call0_v3, main_call0_cst_0, main_call0_v4, main_call0_v5, main_v30, main_v31, main_v32, main_v33] : List (Ref sig .tc))) :
    after ops4 V (no_index (Proc.devRef .tc r)) = V (Proc.devRef .tc r) :=
  after_unwritten [main_v29, main_call0_v0, main_call0_v1, main_call0_cst, main_call0_v2, main_call0_v3, main_call0_cst_0, main_call0_v4, main_call0_v5, main_v30, main_v31, main_v32, main_v33] rfl hr V

/-- Stretch 5 leaves the second residual, as rows, from any contents before it. -/
theorem read5 (V : Valuation τ sig (Elt F)) : after ops5 V (no_index (Proc.devRef .tc main_v48)) = shapeCast S32x1024 (addf (V (Proc.devRef .tc main_v15)) (rmsF (V (Proc.devRef .tc main_v33)) (V (Proc.devRef .tc main_arg11)))) shapeCasts_S32x1x1024_S32x1024 := by
  simp only [ops5, TRef.binary, TRef.nullary, TRef.unary, TRef.toBuf, TRef.ofBuf, cast_eq]
  after_reads_simp
  rfl

/-- Stretch 5 leaves every other buffer as it was. -/
theorem keep5 (V : Valuation τ sig (Elt F)) (r : Ref sig .tc) (hr : r ∉ ([main_v34, main_cst_5, main_v35, main_v36, main_cst_6, main_v37, main_v38, main_cst_7, main_v39, main_v40, main_v41, main_v42, main_v43, main_v44, main_v45, main_v46, main_v47, main_v48] : List (Ref sig .tc))) :
    after ops5 V (no_index (Proc.devRef .tc r)) = V (Proc.devRef .tc r) :=
  after_unwritten [main_v34, main_cst_5, main_v35, main_v36, main_cst_6, main_v37, main_v38, main_cst_7, main_v39, main_v40, main_v41, main_v42, main_v43, main_v44, main_v45, main_v46, main_v47, main_v48] rfl hr V

/-- The result, as one term of the arguments. -/
def res (x0 : (⟨S32x1x1024, .f32⟩ : BufTy).Contents (Elt F)) (x1 x2 x3 x4 : (⟨S32x1x256, .f32⟩ : BufTy).Contents (Elt F)) (x5 : (⟨S1024x1024, .f32⟩ : BufTy).Contents (Elt F)) (x6 x7 : (⟨S1024, .f32⟩ : BufTy).Contents (Elt F))
    (x8 x9 : (⟨S1024x2816, .f32⟩ : BufTy).Contents (Elt F)) (x10 : (⟨S2816x1024, .f32⟩ : BufTy).Contents (Elt F)) (x11 : (⟨S1024, .f32⟩ : BufTy).Contents (Elt F)) :
    (⟨S32x1024, .f32⟩ : BufTy).Contents (Elt F) :=
  shapeCast S32x1024 (addf (addf x0 (rmsF (mixF x1 x2 x3 x4 x5) x6))
    (rmsF (layerF (rmsF (addf x0 (rmsF (mixF x1 x2 x3 x4 x5) x6)) x7) x8 x9 x10) x11)) shapeCasts_S32x1x1024_S32x1024

/-- The whole line leaves the result's buffer at that term. -/
theorem read (V : Valuation τ sig (Elt F)) : after ops V (Proc.devRef .tc main_v48)
    = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold ops res
  simp only [after_append]
  rw [read5, read4, keep4 _ main_v15 (by decide), keep4 _ main_arg11 (by decide), read3, keep3 _ main_v15 (by decide), keep3 _ main_arg8 (by decide),
    keep3 _ main_arg9 (by decide), keep3 _ main_arg10 (by decide), keep3 _ main_arg11 (by decide), read2,
    keep2 _ main_arg7 (by decide), keep2 _ main_arg8 (by decide), keep2 _ main_arg9 (by decide), keep2 _ main_arg10 (by decide), keep2 _ main_arg11 (by decide),
    read1, keep1 _ main_arg0 (by decide), keep1 _ main_arg6 (by decide), keep1 _ main_arg7 (by decide), keep1 _ main_arg8 (by decide), keep1 _ main_arg9 (by decide),
    keep1 _ main_arg10 (by decide), keep1 _ main_arg11 (by decide)]

/-- The arguments stand through the line. -/
theorem keep (V : Valuation τ sig (Elt F)) (r : Ref sig .tc) (hr : r ∈ ([main_arg0, main_arg1, main_arg2, main_arg3, main_arg4, main_arg5, main_arg6, main_arg7, main_arg8, main_arg9, main_arg10, main_arg11] : List (Ref sig .tc))) :
    after ops V (Proc.devRef .tc r) = V (Proc.devRef .tc r) := by
  unfold ops
  simp only [after_append]
  rw [keep5 _ r (by revert r; decide), keep4 _ r (by revert r; decide), keep3 _ r (by revert r; decide), keep2 _ r (by revert r; decide), keep1 _ r (by revert r; decide)]

set_option maxRecDepth 8192 in
set_option maxHeartbeats 4000000 in
/-- The printed program is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation stays within the program's buffers. -/
theorem ops_sub : (ops : List (HloOp τ sig (Elt F))).Forall fun op => op.bufs ⊆ tcRefs τ sig :=
  ⟨nary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub ..⟩

set_option maxRecDepth 8192 in
/-- The run: the result at its term, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v48).trans (read _),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide))⟩)
    (run_seq scopedRefs_eq scopedSems_eq defs main (fun _ => ops) main_eq (fun _ => ops_sub) m ρ)

end Cert.Proof.FfnStepRef

end
-- ==== Proof.FfnStepRefAt.lean ====
/-
  The reference of the mixing-and-feed-forward call, read at one row and one feature.
-/
module

public import proofs.«01_k».proof.Proof.FfnStepRef
public import proofs.«01_k».proof.Proof.FfnRefAt

@[expose] public section

noncomputable section

namespace Cert.Proof.FfnStepRef

open Cert.FfnStepRefIdeal Cert.FfnStepRefIdeal.Gen Idealize.ShloMosaic Idealize.ShloMosaic.TcCoe Idealize.SL.Sem Idealize.ShloMosaic.StableHlo

/-- The norm of one row, read at a feature. -/
theorem rmsF_apply (y : (⟨S32x1x1024, .f32⟩ : BufTy).Contents (Elt Ideal)) (g : (⟨S1024, .f32⟩ : BufTy).Contents (Elt Ideal)) (b : Fin 32) (s : Fin 1) (n : Fin 1024) :
    rmsF (F := Ideal) y g (ix3 b s n) = Rows.rmsn (fun k => y (ix3 b s k)) (fun k => g (ix1 k)) n := by
  obtain rfl : s = 0 := Subsingleton.elim _ _
  unfold Rows.rmsn
  pointwise [rmsF]

/-- The gated layer of one row, read at a feature. -/
theorem layerF_apply (h : (⟨S32x1x1024, .f32⟩ : BufTy).Contents (Elt Ideal)) (wg wu : (⟨S1024x2816, .f32⟩ : BufTy).Contents (Elt Ideal))
    (wd : (⟨S2816x1024, .f32⟩ : BufTy).Contents (Elt Ideal)) (b : Fin 32) (s : Fin 1) (n : Fin 1024) :
    layerF (F := Ideal) h wg wu wd (ix3 b s n)
      = ∑ f : Fin 2816, Rows.gate (fun k => h (ix3 b s k)) (fun k f => wg (ix2 k f)) (fun k f => wu (ix2 k f)) f * wd (ix2 f n) := by
  obtain rfl : s = 0 := Subsingleton.elim _ _
  unfold Rows.gate
  pointwise [layerF, gateF]
  rfl

/-- The mixed row at a feature: one sum per mixer. -/
theorem mixF_apply (u0 u1 u2 u3 : (⟨S32x1x256, .f32⟩ : BufTy).Contents (Elt Ideal)) (w : (⟨S1024x1024, .f32⟩ : BufTy).Contents (Elt Ideal)) (b : Fin 32) (s : Fin 1) (n : Fin 1024) :
    mixF (F := Ideal) u0 u1 u2 u3 w (ix3 b s n)
      = (∑ k : Fin 256, u0 (ix3 b s k) * w (ix2 ⟨k.val, by omega⟩ n)) + (∑ k : Fin 256, u1 (ix3 b s k) * w (ix2 ⟨256 + k.val, by omega⟩ n))
        + (∑ k : Fin 256, u2 (ix3 b s k) * w (ix2 ⟨512 + k.val, by omega⟩ n)) + ∑ k : Fin 256, u3 (ix3 b s k) * w (ix2 ⟨768 + k.val, by omega⟩ n) := by
  obtain rfl : s = 0 := Subsingleton.elim _ _
  pointwise [mixF, joinF]
  rw [FfnRef.sum_four]
  refine congr_arg₂ _ (congr_arg₂ _ (congr_arg₂ _ ?_ ?_) ?_) ?_ <;> refine Finset.sum_congr rfl fun k _ => ?_
  · rw [dif_pos (show k.val < 256 from k.isLt)]
  · rw [dif_neg (show ¬ (256 + k.val < 256) by omega), dif_pos (show 256 + k.val - 256 < 256 by omega)]
    congr 2; congr 1; apply Fin.ext; dsimp only; omega
  · rw [dif_neg (show ¬ (512 + k.val < 256) by omega), dif_neg (show ¬ (512 + k.val - 256 < 256) by omega), dif_pos (show 512 + k.val - 256 - 256 < 256 by omega)]
    congr 2; congr 1; apply Fin.ext; dsimp only; omega
  · rw [dif_neg (show ¬ (768 + k.val < 256) by omega), dif_neg (show ¬ (768 + k.val - 256 < 256) by omega), dif_neg (show ¬ (768 + k.val - 256 - 256 < 256) by omega)]
    congr 2; congr 1; apply Fin.ext; dsimp only; omega

/-- The flat row of a sequence and a position. -/
def flat (b : Fin 32) (s : Fin 1) : Fin 32 := ⟨1 * b.val + s.val, by omega⟩

/-- The result at a row and a feature. -/
theorem res_apply (x0 : (⟨S32x1x1024, .f32⟩ : BufTy).Contents (Elt Ideal)) (x1 x2 x3 x4 : (⟨S32x1x256, .f32⟩ : BufTy).Contents (Elt Ideal))
    (x5 : (⟨S1024x1024, .f32⟩ : BufTy).Contents (Elt Ideal)) (x6 x7 : (⟨S1024, .f32⟩ : BufTy).Contents (Elt Ideal))
    (x8 x9 : (⟨S1024x2816, .f32⟩ : BufTy).Contents (Elt Ideal)) (x10 : (⟨S2816x1024, .f32⟩ : BufTy).Contents (Elt Ideal)) (x11 : (⟨S1024, .f32⟩ : BufTy).Contents (Elt Ideal))
    (b : Fin 32) (s : Fin 1) (n : Fin 1024) :
    res (F := Ideal) x0 x1 x2 x3 x4 x5 x6 x7 x8 x9 x10 x11 (ix2 (flat b s) n)
      = Rows.ffnRow (fun k => mixF (F := Ideal) x1 x2 x3 x4 x5 (ix3 b s k)) (fun k => x0 (ix3 b s k)) (fun k => x6 (ix1 k)) (fun k => x7 (ix1 k)) (fun k => x11 (ix1 k))
          (fun k f => x8 (ix2 k f)) (fun k f => x9 (ix2 k f)) (fun f k => x10 (ix2 f k)) n := by
  have e : ∀ y : (⟨S32x1x1024, .f32⟩ : BufTy).Contents (Elt Ideal), shapeCast S32x1024 y shapeCasts_S32x1x1024_S32x1024 (ix2 (flat b s) n) = y (ix3 b s n) := by
    intro y
    obtain rfl : s = 0 := Subsingleton.elim _ _
    pointwise [flat]
  unfold res
  rw [e]
  simp only [addf, rmsF_apply, layerF_apply]
  rfl

end Cert.Proof.FfnStepRef

end
-- ==== Proof.FfnStepEq.lean ====
/-
  The mixing-and-feed-forward call equals its reference, over the extended reals.
-/
module

public import proofs.«01_k».proof.Proof.FfnStepArr
public import proofs.«01_k».proof.Proof.FfnStepRefAt
public import proofs.«01_k».proof.Defs

@[expose] public section

noncomputable section

namespace Cert.Proof.FfnStepEq

open Idealize.ShloMosaic Idealize.SL.Sem Idealize.ShloMosaic.TcCoe

/-- Every flat row is a row of a grid point's block. -/
theorem row_cover (i : Fin 32) : ∃ (t : Fin Cert.FfnStepIdeal.cfg0.N) (r : Fin 32), i = FfnStepArr.row t r := by
  have e : Cert.FfnStepIdeal.cfg0.N = 1 := Cert.FfnStepIdeal.Gen.N_0
  refine ⟨⟨i.val / 32, by omega⟩, ⟨i.val % 32, by omega⟩, ?_⟩
  apply Fin.ext
  show i.val = 32 * (i.val / 32) + i.val % 32
  omega

/-- Every flat row is a sequence and a position. -/
theorem flat_eq (i : Fin 32) : i = FfnStepRef.flat ⟨i.val / 1, by omega⟩ ⟨i.val % 1, by omega⟩ := by
  apply Fin.ext
  show i.val = 1 * (i.val / 1) + i.val % 1
  omega

/-- The reference's result is the kernel's array. -/
theorem result_eq (m : (ℓ : Loc Cert.FfnStepIdeal.nD Cert.FfnStepIdeal.τ Cert.FfnStepIdeal.sig) → Buf (Elt Ideal) ℓ) (c : Dev Cert.FfnStepIdeal.nD) :
    FfnStepRef.res (F := Ideal) (m ((c.tc : Thread Cert.FfnStepIdeal.nD Cert.FfnStepIdeal.τ).loc Cert.FfnStepIdeal.main_arg0)) (m ((c.tc : Thread Cert.FfnStepIdeal.nD Cert.FfnStepIdeal.τ).loc Cert.FfnStepIdeal.main_arg1)) (m ((c.tc : Thread Cert.FfnStepIdeal.nD Cert.FfnStepIdeal.τ).loc Cert.FfnStepIdeal.main_arg2)) (m ((c.tc : Thread Cert.FfnStepIdeal.nD Cert.FfnStepIdeal.τ).loc Cert.FfnStepIdeal.main_arg3)) (m ((c.tc : Thread Cert.FfnStepIdeal.nD Cert.FfnStepIdeal.τ).loc Cert.FfnStepIdeal.main_arg4)) (m ((c.tc : Thread Cert.FfnStepIdeal.nD Cert.FfnStepIdeal.τ).loc Cert.FfnStepIdeal.main_arg5)) (m ((c.tc : Thread Cert.FfnStepIdeal.nD Cert.FfnStepIdeal.τ).loc Cert.FfnStepIdeal.main_arg6)) (m ((c.tc : Thread Cert.FfnStepIdeal.nD Cert.FfnStepIdeal.τ).loc Cert.FfnStepIdeal.main_arg7)) (m ((c.tc : Thread Cert.FfnStepIdeal.nD Cert.FfnStepIdeal.τ).loc Cert.FfnStepIdeal.main_arg8)) (m ((c.tc : Thread Cert.FfnStepIdeal.nD Cert.FfnStepIdeal.τ).loc Cert.FfnStepIdeal.main_arg9)) (m ((c.tc : Thread Cert.FfnStepIdeal.nD Cert.FfnStepIdeal.τ).loc Cert.FfnStepIdeal.main_arg10)) (m ((c.tc : Thread Cert.FfnStepIdeal.nD Cert.FfnStepIdeal.τ).loc Cert.FfnStepIdeal.main_arg11)) = ((Cert.FfnStepIdeal.Gen.dats m 0 c).arrAt 12 Cert.FfnStepIdeal.cfg0.N : Vec Ideal Cert.FfnStepIdeal.S32x1024 .f32) := by
  funext j
  obtain ⟨i, n, rfl⟩ : ∃ (i : Fin 32) (n : Fin 1024), j = ix2 i n := ⟨j 0, j 1, by funext a; fin_cases a <;> rfl⟩
  obtain ⟨t, r, rfl⟩ := row_cover i
  refine Eq.trans ?_ (FfnStepArr.arr_apply m c t r n).symm
  refine (congrArg (fun i => FfnStepRef.res (F := Ideal) (m ((c.tc : Thread Cert.FfnStepIdeal.nD Cert.FfnStepIdeal.τ).loc Cert.FfnStepIdeal.main_arg0)) (m ((c.tc : Thread Cert.FfnStepIdeal.nD Cert.FfnStepIdeal.τ).loc Cert.FfnStepIdeal.main_arg1)) (m ((c.tc : Thread Cert.FfnStepIdeal.nD Cert.FfnStepIdeal.τ).loc Cert.FfnStepIdeal.main_arg2)) (m ((c.tc : Thread Cert.FfnStepIdeal.nD Cert.FfnStepIdeal.τ).loc Cert.FfnStepIdeal.main_arg3)) (m ((c.tc : Thread Cert.FfnStepIdeal.nD Cert.FfnStepIdeal.τ).loc Cert.FfnStepIdeal.main_arg4)) (m ((c.tc : Thread Cert.FfnStepIdeal.nD Cert.FfnStepIdeal.τ).loc Cert.FfnStepIdeal.main_arg5)) (m ((c.tc : Thread Cert.FfnStepIdeal.nD Cert.FfnStepIdeal.τ).loc Cert.FfnStepIdeal.main_arg6)) (m ((c.tc : Thread Cert.FfnStepIdeal.nD Cert.FfnStepIdeal.τ).loc Cert.FfnStepIdeal.main_arg7)) (m ((c.tc : Thread Cert.FfnStepIdeal.nD Cert.FfnStepIdeal.τ).loc Cert.FfnStepIdeal.main_arg8)) (m ((c.tc : Thread Cert.FfnStepIdeal.nD Cert.FfnStepIdeal.τ).loc Cert.FfnStepIdeal.main_arg9)) (m ((c.tc : Thread Cert.FfnStepIdeal.nD Cert.FfnStepIdeal.τ).loc Cert.FfnStepIdeal.main_arg10)) (m ((c.tc : Thread Cert.FfnStepIdeal.nD Cert.FfnStepIdeal.τ).loc Cert.FfnStepIdeal.main_arg11)) (ix2 i n)) (flat_eq (FfnStepArr.row t r))).trans ?_
  refine (FfnStepRef.res_apply _ _ _ _ _ _ _ _ _ _ _ _ _ _ n).trans ?_
  exact Rows.ffnRow_congr (funext fun k => (FfnStepRef.mixF_apply _ _ _ _ _ _ _ k).trans rfl) rfl rfl rfl rfl rfl rfl rfl n

/-- The two programs end with equal results. -/
theorem algebraic : Cert.algebraic_FfnStepIdeal_FfnStepRefIdeal (hFfnStepIdeal := Cert.FfnStepIdeal.Gen.facts) (hFfnStepRefIdeal := Cert.FfnStepRefIdeal.Gen.facts) := by
  intro m g m' g' _ hagree
  refine ⟨fun c => (Cert.FfnStepIdeal.Gen.dats m 0 c).arrAt 12 Cert.FfnStepIdeal.cfg0.N, Cert.FfnStepIdeal.Value.run_blocks m g, ?_⟩
  refine (θ_run _ _ _).mono (fun r h c => ⟨(h c).1.trans ?_, (h c).2⟩) (FfnStepRef.run m' g')
  obtain ⟨h0, h1, h2, h3, h4, h5, h6, h7, h8, h9, h10, h11⟩ := hagree c
  refine Eq.trans ?_ (result_eq m c)
  rw [h0, h1, h2, h3, h4, h5, h6, h7, h8, h9, h10, h11]

/-- The reference leaves its arguments as they were. -/
theorem frame_ref : Cert.quiescent_FfnStepRefIdeal (hFfnStepRefIdeal := Cert.FfnStepRefIdeal.Gen.facts) := fun m ρ _ =>
  (θ_run _ _ _).mono (fun r h => ⟨fun c => (h c).2, Idealize.ShloMosaic.sem_eq_zero_of_no_sems (by decide) r.2⟩) (FfnStepRef.run (F := Ideal) m ρ)

end Cert.Proof.FfnStepEq

end
-- ==== Proof.lean ====
/-
  The certificate: the frames of the three calls (traced, idealized, reference), at the prompt's shapes and at the
  sample batch's, and the equality of each call with its reference over the extended reals.
-/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.FfnIdeal.Value
public import proofs.«01_k».proof.Proof.Gen.InprojIdeal.Value
public import proofs.«01_k».proof.Proof.Gen.ConvIdeal.Value
public import proofs.«01_k».proof.Proof.FfnEq
public import proofs.«01_k».proof.Proof.InEq
public import proofs.«01_k».proof.Proof.ConvEq
public import proofs.«01_k».proof.Proof.InStepEq
public import proofs.«01_k».proof.Proof.Gen.InprojStep.Frame
public import proofs.«01_k».proof.Proof.Gen.FfnStep.Frame
public import proofs.«01_k».proof.Proof.Gen.FfnStepIdeal.Value
public import proofs.«01_k».proof.Proof.Gen.FfnStepRefIdeal
public import proofs.«01_k».proof.Proof.Gen.ConvStep.Frame
public import proofs.«01_k».proof.Proof.Gen.ConvStepIdeal.Frame
public import proofs.«01_k».proof.Proof.Gen.ConvStepRefIdeal
public import proofs.«01_k».proof.Proof.Gen.ConvStepRefIdeal.Run
public import proofs.«01_k».proof.Proof.Gen.InprojStepIdeal.Value
public import proofs.«01_k».proof.Proof.ConvStepEq
public import proofs.«01_k».proof.Proof.Gen.DnStep.Frame
public import proofs.«01_k».proof.Proof.Gen.DnStepIdeal.Value
public import proofs.«01_k».proof.Proof.Gen.DnStepIdeal.Frame
public import proofs.«01_k».proof.Proof.Gen.DnStepRefIdeal.Run
public import proofs.«01_k».proof.Proof.Gen.Pre_finite
public import proofs.«01_k».proof.Proof.DnEq
public import proofs.«01_k».proof.Proof.FfnStepEq
public import Idealize.ShloMosaic.Adequacy
public import Idealize.ShloMosaic.Init

@[expose] public section

noncomputable section

namespace Cert.Proof

open Idealize.ShloMosaic Idealize.SL.Sem Cert.Conv

/-- Every claim of the certificate. -/
theorem claim : Cert.Claim := ⟨Cert.Conv.Gen.facts, Cert.ConvIdeal.Gen.facts, Cert.ConvRefIdeal.Gen.facts, Cert.Ffn.Gen.facts, Cert.FfnIdeal.Gen.facts, Cert.FfnRefIdeal.Gen.facts, Cert.Inproj.Gen.facts, Cert.InprojIdeal.Gen.facts, Cert.InprojRefIdeal.Gen.facts, Cert.ConvStep.Gen.facts, Cert.ConvStepIdeal.Gen.facts, Cert.ConvStepRefIdeal.Gen.facts, Cert.FfnStep.Gen.facts, Cert.FfnStepIdeal.Gen.facts, Cert.FfnStepRefIdeal.Gen.facts, Cert.InprojStep.Gen.facts, Cert.InprojStepIdeal.Gen.facts, Cert.InprojStepRefIdeal.Gen.facts, Cert.DnStep.Gen.facts, Cert.DnStepIdeal.Gen.facts, Cert.DnStepRefIdeal.Gen.facts, Cert.Pre_finite.Gen.facts,
  fun m ρ _ => Cert.Conv.Gen.frame m ρ,
  fun m ρ _ => Cert.ConvIdeal.Gen.frame m ρ,
  ConvEq.frame_ref,
  fun m ρ _ => Cert.Ffn.Gen.frame m ρ,
  fun m ρ _ => Cert.FfnIdeal.Gen.frame m ρ,
  FfnEq.frame_ref,
  fun m ρ _ => Cert.Inproj.Gen.frame m ρ,
  fun m ρ _ => Cert.InprojIdeal.Gen.frame m ρ,
  InEq.frame_ref,
  fun m ρ _ => Cert.ConvStep.Gen.frame m ρ,
  fun m ρ _ => Cert.ConvStepIdeal.Gen.frame m ρ,
  ConvStepEq.frame_ref,
  fun m ρ _ => Cert.FfnStep.Gen.frame m ρ,
  fun m ρ _ => Cert.FfnStepIdeal.Gen.frame m ρ,
  FfnStepEq.frame_ref,
  fun m ρ _ => Cert.InprojStep.Gen.frame m ρ,
  fun m ρ _ => Cert.InprojStepIdeal.Gen.frame m ρ,
  InStepEq.frame_ref,
  fun m ρ _ => Cert.DnStep.Gen.frame m ρ,
  fun m ρ _ => Cert.DnStepIdeal.Gen.frame m ρ,
  fun m ρ _ => Cert.DnStepIdeal.Gen.frame m ρ,
  DnEq.frame_ref,
  fun m ρ _ => DnEq.frame_ref m ρ trivial,
  by trivial,
  ConvEq.algebraic,
  by trivial,
  FfnEq.algebraic,
  by trivial,
  InEq.algebraic,
  by trivial,
  ConvStepEq.algebraic,
  by trivial,
  FfnStepEq.algebraic,
  by trivial,
  InStepEq.algebraic,
  by trivial,
  DnEq.algebraic⟩

end Cert.Proof

end
